-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7)
      ∧ r.2.mem ((c.tc : Thread Cert.Kernel12.nD Cert.Kernel12.τ).loc Cert.Kernel12.main_arg8) = m ((c.tc : Thread Cert.Kernel12.nD Cert.Kernel12.τ).loc Cert.Kernel12.main_arg8))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
      ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7)
      ∧ r.2.mem ((c.tc : Thread Cert.Reference12Ideal.nD Cert.Reference12Ideal.τ).loc Cert.Reference12Ideal.main_arg8) = m ((c.tc : Thread Cert.Reference12Ideal.nD Cert.Reference12Ideal.τ).loc Cert.Reference12Ideal.main_arg8))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5))
      ∧ r.2.sem = fun _ => 0)

def preserves_Kernel_KernelIdeal : Prop :=
  True

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v0) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v102) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v26) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v23) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v13) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v7_0)) (v1 : (c : Dev Cert.Kernel8Ideal.nD) → Buf (Elt Ideal) ((c.tc : Thread Cert.Kernel8Ideal.nD Cert.Kernel8Ideal.τ).loc Cert.Kernel8Ideal.main_v7_1)) (v2 : (c : Dev Cert.Kernel8Ideal.nD) → Buf (Elt Ideal) ((c.tc : Thread Cert.Kernel8Ideal.nD Cert.Kernel8Ideal.τ).loc Cert.Kernel8Ideal.main_v7_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v7_0) = v0 c
          ∧ r.2.mem ((c.tc : Thread Cert.Kernel8Ideal.nD Cert.Kernel8Ideal.τ).loc Cert.Kernel8Ideal.main_v7_1) = v1 c
          ∧ r.2.mem ((c.tc : Thread Cert.Kernel8Ideal.nD Cert.Kernel8Ideal.τ).loc Cert.Kernel8Ideal.main_v7_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v43) = v0 c
          ∧ r.2.mem ((c.tc : Thread Cert.Reference8Ideal.nD Cert.Reference8Ideal.τ).loc Cert.Reference8Ideal.main_v46) = v1 c
          ∧ r.2.mem ((c.tc : Thread Cert.Reference8Ideal.nD Cert.Reference8Ideal.τ).loc Cert.Reference8Ideal.main_v49) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v27) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v23) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)) →
    ∃ (v0 : (c : Dev Cert.Kernel11Ideal.nD) → Buf (Elt Ideal) ((c.tc : Thread Cert.Kernel11Ideal.nD Cert.Kernel11Ideal.τ).loc Cert.Kernel11Ideal.main_v32)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v32) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v62) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)
      ∧ m' ((c.tc : Thread Cert.Reference12Ideal.nD Cert.Reference12Ideal.τ).loc Cert.Reference12Ideal.main_arg8) = m ((c.tc : Thread Cert.Kernel12Ideal.nD Cert.Kernel12Ideal.τ).loc Cert.Kernel12Ideal.main_arg8)) →
    ∃ (v0 : (c : Dev Cert.Kernel12Ideal.nD) → Buf (Elt Ideal) ((c.tc : Thread Cert.Kernel12Ideal.nD Cert.Kernel12Ideal.τ).loc Cert.Kernel12Ideal.main_v33)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v33) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
          ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v61) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7)
          ∧ r.2.mem ((c.tc : Thread Cert.Reference12Ideal.nD Cert.Reference12Ideal.τ).loc Cert.Reference12Ideal.main_arg8) = m' ((c.tc : Thread Cert.Reference12Ideal.nD Cert.Reference12Ideal.τ).loc Cert.Reference12Ideal.main_arg8))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)) →
    ∃ (v0 : (c : Dev Cert.Kernel13Ideal.nD) → Buf (Elt Ideal) ((c.tc : Thread Cert.Kernel13Ideal.nD Cert.Kernel13Ideal.τ).loc Cert.Kernel13Ideal.main_v8_0)) (v1 : (c : Dev Cert.Kernel13Ideal.nD) → Buf (Elt Ideal) ((c.tc : Thread Cert.Kernel13Ideal.nD Cert.Kernel13Ideal.τ).loc Cert.Kernel13Ideal.main_v8_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v8_0) = v0 c
          ∧ r.2.mem ((c.tc : Thread Cert.Kernel13Ideal.nD Cert.Kernel13Ideal.τ).loc Cert.Kernel13Ideal.main_v8_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v36) = v0 c
          ∧ r.2.mem ((c.tc : Thread Cert.Reference13Ideal.nD Cert.Reference13Ideal.τ).loc Cert.Reference13Ideal.main_v45) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite_args : Cert.Pre_finite_args.Facts),
    quiescent_Kernel (hKernel := hKernel)
    ∧ quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal_pre_finite_args (hKernelIdeal := hKernelIdeal) (hReferenceIdeal := hReferenceIdeal) (hPre_finite_args := hPre_finite_args)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Pre_finite_args.lean ====
abbrev S4x4x8192x128 : Shape := ⟨4, ![4, 4, 8192, 128]⟩
abbrev S4x64 : Shape := ⟨2, ![4, 64]⟩
abbrev S128 : Shape := ⟨1, ![128]⟩
abbrev S_ : Shape := ⟨0, ![]⟩

class Facts : Prop where
  bitsLt_bf16_f32 : FTy.bits .bf16 < FTy.bits .f32
  bcast_S_S4x4x8192x128 : S_.BroadcastsInDim S4x4x8192x128 (![] : Fin 0 → Fin S4x4x8192x128.rank)
  reducesTo_S4x4x8192x128_S_d0_1_2_3 : S4x4x8192x128.ReducesTo [0, 1, 2, 3] S_
  h_S_ : 0 < S_.numel
  bcast_S_S4x64 : S_.BroadcastsInDim S4x64 (![] : Fin 0 → Fin S4x64.rank)
  reducesTo_S4x64_S_d0_1 : S4x64.ReducesTo [0, 1] S_

variable [Facts]

def fn_part1 {F : FTy → Type} [FloatOps F] (main_v16 : IVec S_ 1) (main_v17 : FVec F S4x64 .f32) : IVec S_ 1 :=
  let main_cst_4 : FVec F S_ .f32 := constant S_ .f32 0x7F800000#32
  let main_v18 : FVec F S4x64 .f32 := broadcastInDim S4x64 ![] bcast_S_S4x64 main_cst_4
  let main_v19 : IVec S4x64 1 := cmpf .olt main_v17 main_v18
  let main_c_5 : IVec S_ 1 := constantI S_ 1 1#1
  let main_v20 : IVec S_ 1 := (fun x v => Host.reduce IntOp.andi x v reducesTo_S4x64_S_d0_1 h_S_) main_v19 main_c_5
  let main_v21 : IVec S_ 1 := andi main_v16 main_v20
  main_v21

def fn {F : FTy → Type} [FloatOps F] (main_arg0 : FVec F S4x4x8192x128 .bf16) (main_arg1 : FVec F S4x4x8192x128 .bf16) (main_arg2 : FVec F S4x4x8192x128 .bf16) (main_arg3 : FVec F S4x64 .f32) (main_arg4 : FVec F S128 .f32) : IVec S_ 1 :=
  let main_v0 : FVec F S4x4x8192x128 .f32 := (extf .f32 · bitsLt_bf16_f32) main_arg0
  let main_v1 : FVec F S4x4x8192x128 .f32 := Host.absf main_v0
  let main_cst : FVec F S_ .f32 := constant S_ .f32 0x7F800000#32
  let main_v2 : FVec F S4x4x8192x128 .f32 := broadcastInDim S4x4x8192x128 ![] bcast_S_S4x4x8192x128 main_cst
  let main_v3 : IVec S4x4x8192x128 1 := cmpf .olt main_v1 main_v2
  let main_c : IVec S_ 1 := constantI S_ 1 1#1
  let main_v4 : IVec S_ 1 := (fun x v => Host.reduce IntOp.andi x v reducesTo_S4x4x8192x128_S_d0_1_2_3 h_S_) main_v3 main_c
  let main_v5 : FVec F S4x4x8192x128 .f32 := (extf .f32 · bitsLt_bf16_f32) main_arg1
  let main_v6 : FVec F S4x4x8192x128 .f32 := Host.absf main_v5
  let main_cst_0 : FVec F S_ .f32 := constant S_ .f32 0x7F800000#32
  let main_v7 : FVec F S4x4x8192x128 .f32 := broadcastInDim S4x4x8192x128 ![] bcast_S_S4x4x8192x128 main_cst_0
  let main_v8 : IVec S4x4x8192x128 1 := cmpf .olt main_v6 main_v7
  let main_c_1 : IVec S_ 1 := constantI S_ 1 1#1
  let main_v9 : IVec S_ 1 := (fun x v => Host.reduce IntOp.andi x v reducesTo_S4x4x8192x128_S_d0_1_2_3 h_S_) main_v8 main_c_1
  let main_v10 : IVec S_ 1 := andi main_v4 main_v9
  let main_v11 : FVec F S4x4x8192x128 .f32 := (extf .f32 · bitsLt_bf16_f32) main_arg2
  let main_v12 : FVec F S4x4x8192x128 .f32 := Host.absf main_v11
  let main_cst_2 : FVec F S_ .f32 := constant S_ .f32 0x7F800000#32
  let main_v13 : FVec F S4x4x8192x128 .f32 := broadcastInDim S4x4x8192x128 ![] bcast_S_S4x4x8192x128 main_cst_2
  let main_v14 : IVec S4x4x8192x128 1 := cmpf .olt main_v12 main_v13
  let main_c_3 : IVec S_ 1 := constantI S_ 1 1#1
  let main_v15 : IVec S_ 1 := (fun x v => Host.reduce IntOp.andi x v reducesTo_S4x4x8192x128_S_d0_1_2_3 h_S_) main_v14 main_c_3
  let main_v16 : IVec S_ 1 := andi main_v10 main_v15
  let main_v17 : FVec F S4x64 .f32 := Host.absf main_arg3
  fn_part1 (F := F) main_v16 main_v17
-- ==== Kernel.lean ====
abbrev S4x4x8192x128 : Shape := ⟨4, ![4, 4, 8192, 128]⟩
abbrev S4x64 : Shape := ⟨2, ![4, 64]⟩
abbrev S128 : Shape := ⟨1, ![128]⟩
abbrev S1x128 : Shape := ⟨2, ![1, 128]⟩
abbrev S32768x512 : Shape := ⟨2, ![32768, 512]⟩
abbrev S1x1x1024x128 : Shape := ⟨4, ![1, 1, 1024, 128]⟩
abbrev S1x1x8192x128 : Shape := ⟨4, ![1, 1, 8192, 128]⟩
abbrev S1024x128 : Shape := ⟨2, ![1024, 128]⟩
abbrev S1024x64 : Shape := ⟨2, ![1024, 64]⟩
abbrev S1024x1 : Shape := ⟨2, ![1024, 1]⟩
abbrev S8192x128 : Shape := ⟨2, ![8192, 128]⟩
abbrev S8192x64 : Shape := ⟨2, ![8192, 64]⟩
abbrev S1024x8192 : Shape := ⟨2, ![1024, 8192]⟩
abbrev S1024 : Shape := ⟨1, ![1024]⟩
abbrev S1x64 : Shape := ⟨2, ![1, 64]⟩
abbrev S1 : Shape := ⟨1, ![1]⟩
abbrev S1x1 : Shape := ⟨2, ![1, 1]⟩

abbrev nBuf : Space → Nat
  | .hbm => 7
  | .vmem => 10
  | .smem => 0
  | _ => 0

abbrev bufTy : (tb : Table) → Fin (tcTables nBuf tb) → BufTy
  | .hbm, ⟨0, _⟩ => ⟨S4x4x8192x128, .bf16⟩
  | .hbm, ⟨1, _⟩ => ⟨S4x4x8192x128, .bf16⟩
  | .hbm, ⟨2, _⟩ => ⟨S4x4x8192x128, .bf16⟩
  | .hbm, ⟨3, _⟩ => ⟨S4x64, .f32⟩
  | .hbm, ⟨4, _⟩ => ⟨S128, .f32⟩
  | .hbm, ⟨5, _⟩ => ⟨S1x128, .f32⟩
  | .hbm, ⟨6, _⟩ => ⟨S32768x512, .f32⟩
  | .local _ .vmem, ⟨0, _⟩ => ⟨S4x64, .f32⟩
  | .local _ .vmem, ⟨1, _⟩ => ⟨S1x128, .f32⟩
  | .local _ .vmem, ⟨2, _⟩ => ⟨S1x1x1024x128, .bf16⟩
  | .local _ .vmem, ⟨3, _⟩ => ⟨S1x1x1024x128, .bf16⟩
  | .local _ .vmem, ⟨4, _⟩ => ⟨S1x1x8192x128, .bf16⟩
  | .local _ .vmem, ⟨5, _⟩ => ⟨S1x1x8192x128, .bf16⟩
  | .local _ .vmem, ⟨6, _⟩ => ⟨S1x1x8192x128, .bf16⟩
  | .local _ .vmem, ⟨7, _⟩ => ⟨S1x1x8192x128, .bf16⟩
  | .local _ .vmem, ⟨8, _⟩ => ⟨S1024x128, .f32⟩
  | .local _ .vmem, ⟨9, _⟩ => ⟨S1024x128, .f32⟩
  | _, _ => ⟨S4x4x8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 4, 8], ![false, false, false]⟩

def k0_mult1 : BitVec 32 :=
  let c0_i32 : BitVec 32 := 0#32
  let c8192_i32 : BitVec 32 := 8192#32
  let v10 : BitVec 32 := Scalar.muli c0_i32 c8192_i32
  v10
def k0_off1 : Fin 4 → Nat :=
  let c0_8 : Index := 0#32
  let c0_9 : Index := 0#32
  let c0_i32 : BitVec 32 := 0#32
  let c8192_i32 : BitVec 32 := 8192#32
  let v10 : BitVec 32 := Scalar.muli c0_i32 c8192_i32
  let v11 : BitVec 32 := v10
  let v12 : Index := Scalar.indexCast v11
  let c0_10 : Index := 0#32
  ![0, 0, v12.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S4x4x8192x128 : Shape := ⟨4, ![4, 4, 8192, 128]⟩
abbrev S4x64 : Shape := ⟨2, ![4, 64]⟩
abbrev S128 : Shape := ⟨1, ![128]⟩
abbrev S4x4x8192x2x64 : Shape := ⟨5, ![4, 4, 8192, 2, 64]⟩
abbrev S1x64 : Shape := ⟨2, ![1, 64]⟩
abbrev S64 : Shape := ⟨1, ![64]⟩
abbrev S_ : Shape := ⟨0, ![]⟩
abbrev S4x4x2x8192x8192 : Shape := ⟨5, ![4, 4, 2, 8192, 8192]⟩
abbrev S4x4x2x8192 : Shape := ⟨4, ![4, 4, 2, 8192]⟩
abbrev S4x4x2x8192x1 : Shape := ⟨5, ![4, 4, 2, 8192, 1]⟩
abbrev S4x4x1x8192x8192 : Shape := ⟨5, ![4, 4, 1, 8192, 8192]⟩
abbrev S4x4x8192x8192 : Shape := ⟨4, ![4, 4, 8192, 8192]⟩
abbrev S4x8192x4x128 : Shape := ⟨4, ![4, 8192, 4, 128]⟩
abbrev S4x8192x4 : Shape := ⟨3, ![4, 8192, 4]⟩
abbrev S4x8192x4x1 : Shape := ⟨4, ![4, 8192, 4, 1]⟩
abbrev S1x1x1x128 : Shape := ⟨4, ![1, 1, 1, 128]⟩
abbrev S32768x512 : Shape := ⟨2, ![32768, 512]⟩

abbrev nBuf : Space → Nat
  | .hbm => 73
  | .vmem => 0
  | .smem => 0
  | _ => 0

abbrev bufTy : (tb : Table) → Fin (tcTables nBuf tb) → BufTy
  | .hbm, ⟨0, _⟩ => ⟨S4x4x8192x128, .bf16⟩
  | .hbm, ⟨1, _⟩ => ⟨S4x4x8192x128, .bf16⟩
  | .hbm, ⟨2, _⟩ => ⟨S4x4x8192x128, .bf16⟩
  | .hbm, ⟨3, _⟩ => ⟨S4x64, .f32⟩
  | .hbm, ⟨4, _⟩ => ⟨S128, .f32⟩
  | .hbm, ⟨5, _⟩ => ⟨S4x4x8192x128, .f32⟩
  | .hbm, ⟨6, _⟩ => ⟨S4x4x8192x2x64, .f32⟩
  | .hbm, ⟨7, _⟩ => ⟨S4x4x8192x128, .f32⟩
  | .hbm, ⟨8, _⟩ => ⟨S4x4x8192x2x64, .f32⟩
  | .hbm, ⟨9, _⟩ => ⟨S4x4x8192x128, .f32⟩
  | .hbm, ⟨10, _⟩ => ⟨S1x64, .f32⟩
  | .hbm, ⟨11, _⟩ => ⟨S64, .f32⟩
  | .hbm, ⟨12, _⟩ => ⟨S1x64, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S1x64, .f32⟩
  | .hbm, ⟨19, _⟩ => ⟨S64, .f32⟩
  | .hbm, ⟨20, _⟩ => ⟨S1x64, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S4x4x2x8192x8192, .f32⟩
  | .hbm, ⟨30, _⟩ => ⟨S_, .f32⟩
  | .hbm, ⟨31, _⟩ => ⟨S4x4x2x8192, .f32⟩
  | .hbm, ⟨32, _⟩ => ⟨S_, .f32⟩
  | .hbm, ⟨33, _⟩ => ⟨S4x4x2x8192, .f32⟩
  | .hbm, ⟨34, _⟩ => ⟨S4x4x2x8192, .f32⟩
  | .hbm, ⟨35, _⟩ => ⟨S4x4x2x8192x1, .f32⟩
  | .hbm, ⟨36, _⟩ => ⟨S4x4x2x8192x8192, .f32⟩
  | .hbm, ⟨37, _⟩ => ⟨S4x4x2x8192x8192, .f32⟩
  | .hbm, ⟨38, _⟩ => ⟨S4x4x2x8192x8192, .f32⟩
  | .hbm, ⟨39, _⟩ => ⟨S_, .f32⟩
  | .hbm, ⟨40, _⟩ => ⟨S4x4x2x8192, .f32⟩
  | .hbm, ⟨41, _⟩ => ⟨S4x4x2x8192x1, .f32⟩
  | .hbm, ⟨42, _⟩ => ⟨S4x4x2x8192x8192, .f32⟩
  | .hbm, ⟨43, _⟩ => ⟨S4x4x2x8192x8192, .f32⟩
  | .hbm, ⟨44, _⟩ => ⟨S4x4x1x8192x8192, .f32⟩
  | .hbm, ⟨45, _⟩ => ⟨S4x4x8192x8192, .f32⟩
  | .hbm, ⟨46, _⟩ => ⟨S4x4x1x8192x8192, .f32⟩
  | .hbm, ⟨47, _⟩ => ⟨S4x4x8192x8192, .f32⟩
  | .hbm, ⟨48, _⟩ => ⟨S4x4x8192x8192, .f32⟩
  | .hbm, ⟨49, _⟩ => ⟨S4x4x8192x8192, .f32⟩
  | .hbm, ⟨50, _⟩ => ⟨S4x4x8192x8192, .f32⟩
  | .hbm, ⟨51, _⟩ => ⟨S4x4x8192x128, .f32⟩
  | .hbm, ⟨52, _⟩ => ⟨S4x8192x4x128, .f32⟩
  | .hbm, ⟨53, _⟩ => ⟨S4x8192x4x128, .f32⟩
  | .hbm, ⟨54, _⟩ => ⟨S_, .f32⟩
  | .hbm, ⟨55, _⟩ => ⟨S4x8192x4, .f32⟩
  | .hbm, ⟨56, _⟩ => ⟨S4x8192x4x1, .f32⟩
  | .hbm, ⟨57, _⟩ => ⟨S_, .f32⟩
  | .hbm, ⟨58, _⟩ => ⟨S4x8192x4x1, .f32⟩
  | .hbm, ⟨59, _⟩ => ⟨S4x8192x4x1, .f32⟩
  | .hbm, ⟨60, _⟩ => ⟨S_, .f32⟩
  | .hbm, ⟨61, _⟩ => ⟨S4x8192x4x1, .f32⟩
  | .hbm, ⟨62, _⟩ => ⟨S4x8192x4x1, .f32⟩
  | .hbm, ⟨63, _⟩ => ⟨S4x8192x4x1, .f32⟩
  | .hbm, ⟨64, _⟩ => ⟨S4x8192x4x128, .f32⟩
  | .hbm, ⟨65, _⟩ => ⟨S4x8192x4x128, .f32⟩
  | .hbm, ⟨66, _⟩ => ⟨S1x1x1x128, .f32⟩
  | .hbm, ⟨67, _⟩ => ⟨S4x8192x4x128, .f32⟩
  | .hbm, ⟨68, _⟩ => ⟨S4x8192x4x128, .f32⟩
  | .hbm, ⟨69, _⟩ => ⟨S_, .f32⟩
  | .hbm, ⟨70, _⟩ => ⟨S4x8192x4x128, .f32⟩
  | .hbm, ⟨71, _⟩ => ⟨S4x8192x4x128, .f32⟩
  | .hbm, ⟨72, _⟩ => ⟨S32768x512, .f32⟩
  | _, _ => ⟨S4x4x8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_5 : Ref sig .tc := ⟨.hbm, 54, rfl⟩
abbrev main_v43 : Ref sig .tc := ⟨.hbm, 55, rfl⟩
abbrev main_v44 : Ref sig .tc := ⟨.hbm, 56, rfl⟩
abbrev main_cst_6 : Ref sig .tc := ⟨.hbm, 57, rfl⟩
abbrev main_v45 : Ref sig .tc := ⟨.hbm, 58, rfl⟩
abbrev main_v46 : Ref sig .tc := ⟨.hbm, 59, rfl⟩
abbrev main_cst_7 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_8 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩

abbrev nD : Nat := 1
abbrev τ : Topo := Topo.v7x

variable {F : FTy → Type} [FloatOps F]
-- ==== Kernel2.lean ====
abbrev S32768x2048 : Shape := ⟨2, ![32768, 2048]⟩
abbrev S2048x6144 : Shape := ⟨2, ![2048, 6144]⟩
abbrev S32768x6144 : Shape := ⟨2, ![32768, 6144]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S32768x2048, .f32⟩
  | .hbm, ⟨1, _⟩ => ⟨S2048x6144, .f32⟩
  | .hbm, ⟨2, _⟩ => ⟨S2048x6144, .bf16⟩
  | .hbm, ⟨3, _⟩ => ⟨S32768x6144, .f32⟩
  | .local _ .vmem, ⟨0, _⟩ => ⟨S1024x2048, .f32⟩
  | .local _ .vmem, ⟨1, _⟩ => ⟨S1024x2048, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S32768x2048 : Shape := ⟨2, ![32768, 2048]⟩
abbrev S2048x6144 : Shape := ⟨2, ![2048, 6144]⟩
abbrev S32768x6144 : Shape := ⟨2, ![32768, 6144]⟩

abbrev nBuf : Space → Nat
  | .hbm => 3
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048x6144, .f32⟩
  | .hbm, ⟨2, _⟩ => ⟨S32768x6144, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel3.lean ====
abbrev S16x4096x2048 : Shape := ⟨3, ![16, 4096, 2048]⟩
abbrev S16x4096 : Shape := ⟨2, ![16, 4096]⟩
abbrev S16x2048x2048 : Shape := ⟨3, ![16, 2048, 2048]⟩
abbrev S16x4096x1 : Shape := ⟨3, ![16, 4096, 1]⟩
abbrev S1x512x2048 : Shape := ⟨3, ![1, 512, 2048]⟩
abbrev S1x512x1 : Shape := ⟨3, ![1, 512, 1]⟩
abbrev S1x2048x1024 : Shape := ⟨3, ![1, 2048, 1024]⟩
abbrev S1x1024x2048 : Shape := ⟨3, ![1, 1024, 2048]⟩
abbrev S512x2048 : Shape := ⟨2, ![512, 2048]⟩
abbrev S2048x1024 : Shape := ⟨2, ![2048, 1024]⟩
abbrev S512x1024 : Shape := ⟨2, ![512, 1024]⟩
abbrev S1024x2048 : Shape := ⟨2, ![1024, 2048]⟩
abbrev S512x1 : Shape := ⟨2, ![512, 1]⟩

abbrev nBuf : Space → Nat
  | .hbm => 10
  | .vmem => 12
  | .smem => 0
  | _ => 0

abbrev bufTy : (tb : Table) → Fin (tcTables nBuf tb) → BufTy
  | .hbm, ⟨0, _⟩ => ⟨S16x4096x2048, .bf16⟩
  | .hbm, ⟨1, _⟩ => ⟨S16x4096, .f32⟩
  | .hbm, ⟨2, _⟩ => ⟨S16x2048x2048, .f32⟩
  | .hbm, ⟨3, _⟩ => ⟨S16x2048x2048, .f32⟩
  | .hbm, ⟨4, _⟩ => ⟨S16x2048x2048, .f32⟩
  | .hbm, ⟨5, _⟩ => ⟨S16x4096x1, .f32⟩
  | .hbm, ⟨6, _⟩ => ⟨S16x2048x2048, .bf16⟩
  | .hbm, ⟨7, _⟩ => ⟨S16x2048x2048, .bf16⟩
  | .hbm, ⟨8, _⟩ => ⟨S16x2048x2048, .bf16⟩
  | .hbm, ⟨9, _⟩ => ⟨S16x4096x2048, .f32⟩
  | .local _ .vmem, ⟨0, _⟩ => ⟨S1x512x2048, .bf16⟩
  | .local _ .vmem, ⟨1, _⟩ => ⟨S1x512x2048, .bf16⟩
  | .local _ .vmem, ⟨2, _⟩ => ⟨S1x512x1, .f32⟩
  | .local _ .vmem, ⟨3, _⟩ => ⟨S1x512x1, .f32⟩
  | .local _ .vmem, ⟨4, _⟩ => ⟨S1x2048x1024, .bf16⟩
  | .local _ .vmem, ⟨5, _⟩ => ⟨S1x2048x1024, .bf16⟩
  | .local _ .vmem, ⟨6, _⟩ => ⟨S1x2048x1024, .bf16⟩
  | .local _ .vmem, ⟨7, _⟩ => ⟨S1x2048x1024, .bf16⟩
  | .local _ .vmem, ⟨8, _⟩ => ⟨S1x1024x2048, .bf16⟩
  | .local _ .vmem, ⟨9, _⟩ => ⟨S1x1024x2048, .bf16⟩
  | .local _ .vmem, ⟨10, _⟩ => ⟨S1x512x2048, .f32⟩
  | .local _ .vmem, ⟨11, _⟩ => ⟨S1x512x2048, .f32⟩
  | _, _ => ⟨S16x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 8, 2], ![false, false, false]⟩

def k0_cond1 (i : grid0.Coords) : BitVec 1 :=
  let arg2 : BitVec 32 := BitVec.ofNat 32 (i 2).val
  let c0_i32 : BitVec 32 := 0#32
  let v15 : BitVec 1 := Scalar.cmpi .eq arg2 c0_i32
  let v16 : BitVec 32 := Scalar.extui v15
  let c0_i32_13 : BitVec 32 := 0#32
  let v17 : BitVec 1 := Scalar.cmpi .ne v16 c0_i32_13
  v17

def k0_cond2 (i : grid0.Coords) : BitVec 1 :=
  let arg2 : BitVec 32 := BitVec.ofNat 32 (i 2).val
  let c0_i32_14 : BitVec 32 := 0#32
  let v18 : BitVec 1 := Scalar.cmpi .ne arg2 c0_i32_14
  let v19 : BitVec 32 := Scalar.extui v18
  let c0_i32_15 : BitVec 32 := 0#32
  let v20 : BitVec 1 := Scalar.cmpi .ne v19 c0_i32_15
  v20

def k0_cond3 (i : grid0.Coords) : BitVec 1 :=
  let arg2 : BitVec 32 := BitVec.ofNat 32 (i 2).val
  let c1_i32 : BitVec 32 := 1#32
  let v21 : BitVec 1 := Scalar.cmpi .eq arg2 c1_i32
  let v22 : BitVec 32 := Scalar.extui v21
  let c0_i32_16 : BitVec 32 := 0#32
  let v23 : BitVec 1 := Scalar.cmpi .ne v22 c0_i32_16
  v23

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference3Ideal.lean ====
abbrev S16x4096x2048 : Shape := ⟨3, ![16, 4096, 2048]⟩
abbrev S16x4096 : Shape := ⟨2, ![16, 4096]⟩
abbrev S16x2048x2048 : Shape := ⟨3, ![16, 2048, 2048]⟩
abbrev S_ : Shape := ⟨0, ![]⟩
abbrev S16x4096x1 : Shape := ⟨3, ![16, 4096, 1]⟩

abbrev nBuf : Space → Nat
  | .hbm => 22
  | .vmem => 0
  | .smem => 0
  | _ => 0

abbrev bufTy : (tb : Table) → Fin (tcTables nBuf tb) → BufTy
  | .hbm, ⟨0, _⟩ => ⟨S16x4096x2048, .bf16⟩
  | .hbm, ⟨1, _⟩ => ⟨S16x4096, .f32⟩
  | .hbm, ⟨2, _⟩ => ⟨S16x2048x2048, .f32⟩
  | .hbm, ⟨3, _⟩ => ⟨S16x2048x2048, .f32⟩
  | .hbm, ⟨4, _⟩ => ⟨S16x2048x2048, .f32⟩
  | .hbm, ⟨5, _⟩ => ⟨S16x4096x2048, .f32⟩
  | .hbm, ⟨6, _⟩ => ⟨S16x4096x2048, .f32⟩
  | .hbm, ⟨7, _⟩ => ⟨S16x4096x2048, .f32⟩
  | .hbm, ⟨8, _⟩ => ⟨S16x4096x2048, .f32⟩
  | .hbm, ⟨9, _⟩ => ⟨S_, .f32⟩
  | .hbm, ⟨10, _⟩ => ⟨S16x4096x2048, .f32⟩
  | .hbm, ⟨11, _⟩ => ⟨S16x4096x2048, .f32⟩
  | .hbm, ⟨12, _⟩ => ⟨S_, .f32⟩
  | .hbm, ⟨13, _⟩ => ⟨S16x4096x2048, .f32⟩
  | .hbm, ⟨14, _⟩ => ⟨S16x4096x2048, .f32⟩
  | .hbm, ⟨15, _⟩ => ⟨S16x4096x2048, .f32⟩
  | .hbm, ⟨16, _⟩ => ⟨S16x4096x2048, .f32⟩
  | .hbm, ⟨17, _⟩ => ⟨S16x4096x2048, .f32⟩
  | .hbm, ⟨18, _⟩ => ⟨S16x4096x2048, .f32⟩
  | .hbm, ⟨19, _⟩ => ⟨S16x4096x1, .f32⟩
  | .hbm, ⟨20, _⟩ => ⟨S16x4096x2048, .f32⟩
  | .hbm, ⟨21, _⟩ => ⟨S16x4096x2048, .f32⟩
  | _, _ => ⟨S16x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩

abbrev nD : Nat := 1
abbrev τ : Topo := Topo.v7x

variable {F : FTy → Type} [FloatOps F]
-- ==== Kernel4.lean ====
abbrev S32768x2048 : Shape := ⟨2, ![32768, 2048]⟩
abbrev S32768x512 : Shape := ⟨2, ![32768, 512]⟩
abbrev S4x2048x2048 : Shape := ⟨3, ![4, 2048, 2048]⟩
abbrev S4x2048 : Shape := ⟨2, ![4, 2048]⟩
abbrev S4x512x2048 : Shape := ⟨3, ![4, 512, 2048]⟩
abbrev S2048x2048 : Shape := ⟨2, ![2048, 2048]⟩
abbrev S2048 : Shape := ⟨1, ![2048]⟩
abbrev S4x1x2048 : Shape := ⟨3, ![4, 1, 2048]⟩
abbrev S1x2048 : Shape := ⟨2, ![1, 2048]⟩
abbrev S512x2048 : Shape := ⟨2, ![512, 2048]⟩
abbrev S512x512 : Shape := ⟨2, ![512, 512]⟩
abbrev S4x2048x256 : Shape := ⟨3, ![4, 2048, 256]⟩
abbrev S4x1x256 : Shape := ⟨3, ![4, 1, 256]⟩
abbrev S4x512x256 : Shape := ⟨3, ![4, 512, 256]⟩
abbrev S256x2048 : Shape := ⟨2, ![256, 2048]⟩
abbrev S4x512x512 : Shape := ⟨3, ![4, 512, 512]⟩
abbrev S1x512x512 : Shape := ⟨3, ![1, 512, 512]⟩
abbrev S1x2048x256 : Shape := ⟨3, ![1, 2048, 256]⟩
abbrev S2048x256 : Shape := ⟨2, ![2048, 256]⟩
abbrev S512x256 : Shape := ⟨2, ![512, 256]⟩
abbrev S1x1x256 : Shape := ⟨3, ![1, 1, 256]⟩
abbrev S1x256 : Shape := ⟨2, ![1, 256]⟩
abbrev S1x512x256 : Shape := ⟨3, ![1, 512, 256]⟩
abbrev S512 : Shape := ⟨1, ![512]⟩
abbrev S512x1 : Shape := ⟨2, ![512, 1]⟩

abbrev nBuf : Space → Nat
  | .hbm => 18
  | .vmem => 25
  | .smem => 0
  | _ => 0

abbrev bufTy : (tb : Table) → Fin (tcTables nBuf tb) → BufTy
  | .hbm, ⟨0, _⟩ => ⟨S32768x2048, .f32⟩
  | .hbm, ⟨1, _⟩ => ⟨S32768x512, .f32⟩
  | .hbm, ⟨2, _⟩ => ⟨S32768x512, .f32⟩
  | .hbm, ⟨3, _⟩ => ⟨S32768x512, .f32⟩
  | .hbm, ⟨4, _⟩ => ⟨S32768x512, .f32⟩
  | .hbm, ⟨5, _⟩ => ⟨S4x2048x2048, .f32⟩
  | .hbm, ⟨6, _⟩ => ⟨S4x2048, .f32⟩
  | .hbm, ⟨7, _⟩ => ⟨S4x512x2048, .f32⟩
  | .hbm, ⟨8, _⟩ => ⟨S2048x2048, .f32⟩
  | .hbm, ⟨9, _⟩ => ⟨S2048, .f32⟩
  | .hbm, ⟨10, _⟩ => ⟨S2048, .f32⟩
  | .hbm, ⟨11, _⟩ => ⟨S4x2048x2048, .bf16⟩
  | .hbm, ⟨12, _⟩ => ⟨S4x512x2048, .bf16⟩
  | .hbm, ⟨13, _⟩ => ⟨S2048x2048, .bf16⟩
  | .hbm, ⟨14, _⟩ => ⟨S4x1x2048, .f32⟩
  | .hbm, ⟨15, _⟩ => ⟨S1x2048, .f32⟩
  | .hbm, ⟨16, _⟩ => ⟨S1x2048, .f32⟩
  | .hbm, ⟨17, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S4x2048x256, .bf16⟩
  | .local _ .vmem, ⟨11, _⟩ => ⟨S4x2048x256, .bf16⟩
  | .local _ .vmem, ⟨12, _⟩ => ⟨S4x1x256, .f32⟩
  | .local _ .vmem, ⟨13, _⟩ => ⟨S4x1x256, .f32⟩
  | .local _ .vmem, ⟨14, _⟩ => ⟨S4x512x256, .bf16⟩
  | .local _ .vmem, ⟨15, _⟩ => ⟨S4x512x256, .bf16⟩
  | .local _ .vmem, ⟨16, _⟩ => ⟨S256x2048, .bf16⟩
  | .local _ .vmem, ⟨17, _⟩ => ⟨S256x2048, .bf16⟩
  | .local _ .vmem, ⟨18, _⟩ => ⟨S1x2048, .f32⟩
  | .local _ .vmem, ⟨19, _⟩ => ⟨S1x2048, .f32⟩
  | .local _ .vmem, ⟨20, _⟩ => ⟨S512x2048, .f32⟩
  | .local _ .vmem, ⟨21, _⟩ => ⟨S512x2048, .f32⟩
  | .local _ .vmem, ⟨22, _⟩ => ⟨S512x2048, .f32⟩
  | .local _ .vmem, ⟨23, _⟩ => ⟨S512x2048, .bf16⟩
  | .local _ .vmem, ⟨24, _⟩ => ⟨S4x512x512, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![64, 8], ![false, false]⟩

def k0_cond2 (i : grid0.Coords) : BitVec 1 :=
  let arg1 : BitVec 32 := BitVec.ofNat 32 (i 1).val
  let c7_i32 : BitVec 32 := 7#32
  let v72 : BitVec 1 := Scalar.cmpi .eq arg1 c7_i32
  let v73 : BitVec 32 := Scalar.extui v72
  let c0_i32_61 : BitVec 32 := 0#32
  let v74 : BitVec 1 := Scalar.cmpi .ne v73 c0_i32_61
  v74

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4x2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S4x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S4x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Reference4Ideal.lean ====
abbrev S32768x2048 : Shape := ⟨2, ![32768, 2048]⟩
abbrev S32768x512 : Shape := ⟨2, ![32768, 512]⟩
abbrev S4x2048x2048 : Shape := ⟨3, ![4, 2048, 2048]⟩
abbrev S4x2048 : Shape := ⟨2, ![4, 2048]⟩
abbrev S4x512x2048 : Shape := ⟨3, ![4, 512, 2048]⟩
abbrev S2048x2048 : Shape := ⟨2, ![2048, 2048]⟩
abbrev S2048 : Shape := ⟨1, ![2048]⟩
abbrev S1x2048x2048 : Shape := ⟨3, ![1, 2048, 2048]⟩
abbrev S1x2048 : Shape := ⟨2, ![1, 2048]⟩
abbrev S_ : Shape := ⟨0, ![]⟩
abbrev S1x512x2048 : Shape := ⟨3, ![1, 512, 2048]⟩
abbrev S512x2048 : Shape := ⟨2, ![512, 2048]⟩
abbrev S32768 : Shape := ⟨1, ![32768]⟩
abbrev S32768x1 : Shape := ⟨2, ![32768, 1]⟩

abbrev nBuf : Space → Nat
  | .hbm => 128
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x512, .f32⟩
  | .hbm, ⟨2, _⟩ => ⟨S32768x512, .f32⟩
  | .hbm, ⟨3, _⟩ => ⟨S32768x512, .f32⟩
  | .hbm, ⟨4, _⟩ => ⟨S32768x512, .f32⟩
  | .hbm, ⟨5, _⟩ => ⟨S4x2048x2048, .f32⟩
  | .hbm, ⟨6, _⟩ => ⟨S4x2048, .f32⟩
  | .hbm, ⟨7, _⟩ => ⟨S4x512x2048, .f32⟩
  | .hbm, ⟨8, _⟩ => ⟨S2048x2048, .f32⟩
  | .hbm, ⟨9, _⟩ => ⟨S2048, .f32⟩
  | .hbm, ⟨10, _⟩ => ⟨S2048, .f32⟩
  | .hbm, ⟨11, _⟩ => ⟨S1x2048x2048, .f32⟩
  | .hbm, ⟨12, _⟩ => ⟨S2048x2048, .f32⟩
  | .hbm, ⟨13, _⟩ => ⟨S32768x2048, .f32⟩
  | .hbm, ⟨14, _⟩ => ⟨S1x2048, .f32⟩
  | .hbm, ⟨15, _⟩ => ⟨S2048, .f32⟩
  | .hbm, ⟨16, _⟩ => ⟨S1x2048, .f32⟩
  | .hbm, ⟨17, _⟩ => ⟨S32768x2048, .f32⟩
  | .hbm, ⟨18, _⟩ => ⟨S32768x2048, .f32⟩
  | .hbm, ⟨19, _⟩ => ⟨S32768x2048, .f32⟩
  | .hbm, ⟨20, _⟩ => ⟨S32768x2048, .f32⟩
  | .hbm, ⟨21, _⟩ => ⟨S_, .f32⟩
  | .hbm, ⟨22, _⟩ => ⟨S32768x2048, .f32⟩
  | .hbm, ⟨23, _⟩ => ⟨S32768x2048, .f32⟩
  | .hbm, ⟨24, _⟩ => ⟨S_, .f32⟩
  | .hbm, ⟨25, _⟩ => ⟨S32768x2048, .f32⟩
  | .hbm, ⟨26, _⟩ => ⟨S32768x2048, .f32⟩
  | .hbm, ⟨27, _⟩ => ⟨S1x512x2048, .f32⟩
  | .hbm, ⟨28, _⟩ => ⟨S512x2048, .f32⟩
  | .hbm, ⟨29, _⟩ => ⟨S32768x2048, .f32⟩
  | .hbm, ⟨30, _⟩ => ⟨S32768x2048, .f32⟩
  | .hbm, ⟨31, _⟩ => ⟨S1x2048x2048, .f32⟩
  | .hbm, ⟨32, _⟩ => ⟨S2048x2048, .f32⟩
  | .hbm, ⟨33, _⟩ => ⟨S32768x2048, .f32⟩
  | .hbm, ⟨34, _⟩ => ⟨S1x2048, .f32⟩
  | .hbm, ⟨35, _⟩ => ⟨S2048, .f32⟩
  | .hbm, ⟨36, _⟩ => ⟨S1x2048, .f32⟩
  | .hbm, ⟨37, _⟩ => ⟨S32768x2048, .f32⟩
  | .hbm, ⟨38, _⟩ => ⟨S32768x2048, .f32⟩
  | .hbm, ⟨39, _⟩ => ⟨S32768x2048, .f32⟩
  | .hbm, ⟨40, _⟩ => ⟨S32768x2048, .f32⟩
  | .hbm, ⟨41, _⟩ => ⟨S_, .f32⟩
  | .hbm, ⟨42, _⟩ => ⟨S32768x2048, .f32⟩
  | .hbm, ⟨43, _⟩ => ⟨S32768x2048, .f32⟩
  | .hbm, ⟨44, _⟩ => ⟨S_, .f32⟩
  | .hbm, ⟨45, _⟩ => ⟨S32768x2048, .f32⟩
  | .hbm, ⟨46, _⟩ => ⟨S32768x2048, .f32⟩
  | .hbm, ⟨47, _⟩ => ⟨S1x512x2048, .f32⟩
  | .hbm, ⟨48, _⟩ => ⟨S512x2048, .f32⟩
  | .hbm, ⟨49, _⟩ => ⟨S32768x2048, .f32⟩
  | .hbm, ⟨50, _⟩ => ⟨S32768x2048, .f32⟩
  | .hbm, ⟨51, _⟩ => ⟨S32768x2048, .f32⟩
  | .hbm, ⟨52, _⟩ => ⟨S1x2048x2048, .f32⟩
  | .hbm, ⟨53, _⟩ => ⟨S2048x2048, .f32⟩
  | .hbm, ⟨54, _⟩ => ⟨S32768x2048, .f32⟩
  | .hbm, ⟨55, _⟩ => ⟨S1x2048, .f32⟩
  | .hbm, ⟨56, _⟩ => ⟨S2048, .f32⟩
  | .hbm, ⟨57, _⟩ => ⟨S1x2048, .f32⟩
  | .hbm, ⟨58, _⟩ => ⟨S32768x2048, .f32⟩
  | .hbm, ⟨59, _⟩ => ⟨S32768x2048, .f32⟩
  | .hbm, ⟨60, _⟩ => ⟨S32768x2048, .f32⟩
  | .hbm, ⟨61, _⟩ => ⟨S32768x2048, .f32⟩
  | .hbm, ⟨62, _⟩ => ⟨S_, .f32⟩
  | .hbm, ⟨63, _⟩ => ⟨S32768x2048, .f32⟩
  | .hbm, ⟨64, _⟩ => ⟨S32768x2048, .f32⟩
  | .hbm, ⟨65, _⟩ => ⟨S_, .f32⟩
  | .hbm, ⟨66, _⟩ => ⟨S32768x2048, .f32⟩
  | .hbm, ⟨67, _⟩ => ⟨S32768x2048, .f32⟩
  | .hbm, ⟨68, _⟩ => ⟨S1x512x2048, .f32⟩
  | .hbm, ⟨69, _⟩ => ⟨S512x2048, .f32⟩
  | .hbm, ⟨70, _⟩ => ⟨S32768x2048, .f32⟩
  | .hbm, ⟨71, _⟩ => ⟨S32768x2048, .f32⟩
  | .hbm, ⟨72, _⟩ => ⟨S32768x2048, .f32⟩
  | .hbm, ⟨73, _⟩ => ⟨S1x2048x2048, .f32⟩
  | .hbm, ⟨74, _⟩ => ⟨S2048x2048, .f32⟩
  | .hbm, ⟨75, _⟩ => ⟨S32768x2048, .f32⟩
  | .hbm, ⟨76, _⟩ => ⟨S1x2048, .f32⟩
  | .hbm, ⟨77, _⟩ => ⟨S2048, .f32⟩
  | .hbm, ⟨78, _⟩ => ⟨S1x2048, .f32⟩
  | .hbm, ⟨79, _⟩ => ⟨S32768x2048, .f32⟩
  | .hbm, ⟨80, _⟩ => ⟨S32768x2048, .f32⟩
  | .hbm, ⟨81, _⟩ => ⟨S32768x2048, .f32⟩
  | .hbm, ⟨82, _⟩ => ⟨S32768x2048, .f32⟩
  | .hbm, ⟨83, _⟩ => ⟨S_, .f32⟩
  | .hbm, ⟨84, _⟩ => ⟨S32768x2048, .f32⟩
  | .hbm, ⟨85, _⟩ => ⟨S32768x2048, .f32⟩
  | .hbm, ⟨86, _⟩ => ⟨S_, .f32⟩
  | .hbm, ⟨87, _⟩ => ⟨S32768x2048, .f32⟩
  | .hbm, ⟨88, _⟩ => ⟨S32768x2048, .f32⟩
  | .hbm, ⟨89, _⟩ => ⟨S1x512x2048, .f32⟩
  | .hbm, ⟨90, _⟩ => ⟨S512x2048, .f32⟩
  | .hbm, ⟨91, _⟩ => ⟨S32768x2048, .f32⟩
  | .hbm, ⟨92, _⟩ => ⟨S32768x2048, .f32⟩
  | .hbm, ⟨93, _⟩ => ⟨S32768x2048, .f32⟩
  | .hbm, ⟨94, _⟩ => ⟨S_, .f32⟩
  | .hbm, ⟨95, _⟩ => ⟨S32768x2048, .f32⟩
  | .hbm, ⟨96, _⟩ => ⟨S32768x2048, .f32⟩
  | .hbm, ⟨97, _⟩ => ⟨S32768x2048, .f32⟩
  | .hbm, ⟨98, _⟩ => ⟨S32768x2048, .f32⟩
  | .hbm, ⟨99, _⟩ => ⟨S_, .f32⟩
  | .hbm, ⟨100, _⟩ => ⟨S32768, .f32⟩
  | .hbm, ⟨101, _⟩ => ⟨S32768x1, .f32⟩
  | .hbm, ⟨102, _⟩ => ⟨S_, .f32⟩
  | .hbm, ⟨103, _⟩ => ⟨S32768x1, .f32⟩
  | .hbm, ⟨104, _⟩ => ⟨S32768x1, .f32⟩
  | .hbm, ⟨105, _⟩ => ⟨S32768x2048, .f32⟩
  | .hbm, ⟨106, _⟩ => ⟨S32768x2048, .f32⟩
  | .hbm, ⟨107, _⟩ => ⟨S32768x2048, .f32⟩
  | .hbm, ⟨108, _⟩ => ⟨S_, .f32⟩
  | .hbm, ⟨109, _⟩ => ⟨S32768, .f32⟩
  | .hbm, ⟨110, _⟩ => ⟨S32768x1, .f32⟩
  | .hbm, ⟨111, _⟩ => ⟨S_, .f32⟩
  | .hbm, ⟨112, _⟩ => ⟨S32768x1, .f32⟩
  | .hbm, ⟨113, _⟩ => ⟨S32768x1, .f32⟩
  | .hbm, ⟨114, _⟩ => ⟨S32768x2048, .f32⟩
  | .hbm, ⟨115, _⟩ => ⟨S32768x2048, .f32⟩
  | .hbm, ⟨116, _⟩ => ⟨S_, .f32⟩
  | .hbm, ⟨117, _⟩ => ⟨S32768x1, .f32⟩
  | .hbm, ⟨118, _⟩ => ⟨S32768x1, .f32⟩
  | .hbm, ⟨119, _⟩ => ⟨S32768x1, .f32⟩
  | .hbm, ⟨120, _⟩ => ⟨S32768x2048, .f32⟩
  | .hbm, ⟨121, _⟩ => ⟨S32768x2048, .f32⟩
  | .hbm, ⟨122, _⟩ => ⟨S1x2048, .f32⟩
  | .hbm, ⟨123, _⟩ => ⟨S32768x2048, .f32⟩
  | .hbm, ⟨124, _⟩ => ⟨S32768x2048, .f32⟩
  | .hbm, ⟨125, _⟩ => ⟨S1x2048, .f32⟩
  | .hbm, ⟨126, _⟩ => ⟨S32768x2048, .f32⟩
  | .hbm, ⟨127, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_1 : Ref sig .tc := ⟨.hbm, 41, rfl⟩
abbrev main_v28 : Ref sig .tc := ⟨.hbm, 42, rfl⟩
abbrev main_v29 : Ref sig .tc := ⟨.hbm, 43, rfl⟩
abbrev main_cst_2 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_3 : Ref sig .tc := ⟨.hbm, 62, rfl⟩
abbrev main_v47 : Ref sig .tc := ⟨.hbm, 63, rfl⟩
abbrev main_v48 : Ref sig .tc := ⟨.hbm, 64, rfl⟩
abbrev main_cst_4 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_5 : Ref sig .tc := ⟨.hbm, 83, rfl⟩
abbrev main_v66 : Ref sig .tc := ⟨.hbm, 84, rfl⟩
abbrev main_v67 : Ref sig .tc := ⟨.hbm, 85, rfl⟩
abbrev main_cst_6 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_cst_7 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_cst_8 : Ref sig .tc := ⟨.hbm, 99, rfl⟩
abbrev main_v79 : Ref sig .tc := ⟨.hbm, 100, rfl⟩
abbrev main_v80 : Ref sig .tc := ⟨.hbm, 101, rfl⟩
abbrev main_cst_9 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_cst_10 : Ref sig .tc := ⟨.hbm, 108, rfl⟩
abbrev main_v86 : Ref sig .tc := ⟨.hbm, 109, rfl⟩
abbrev main_v87 : Ref sig .tc := ⟨.hbm, 110, rfl⟩
abbrev main_cst_11 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_cst_12 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩

abbrev nD : Nat := 1
abbrev τ : Topo := Topo.v7x

variable {F : FTy → Type} [FloatOps F]
-- ==== Kernel5.lean ====
abbrev S32768x2048 : Shape := ⟨2, ![32768, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048, .f32⟩
  | .hbm, ⟨3, _⟩ => ⟨S32768x2048, .f32⟩
  | .hbm, ⟨4, _⟩ => ⟨S1x2048, .f32⟩
  | .hbm, ⟨5, _⟩ => ⟨S1x2048, .f32⟩
  | .hbm, ⟨6, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S32768x2048 : Shape := ⟨2, ![32768, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 37
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048, .f32⟩
  | .hbm, ⟨3, _⟩ => ⟨S32768x2048, .f32⟩
  | .hbm, ⟨4, _⟩ => ⟨S_, .f32⟩
  | .hbm, ⟨5, _⟩ => ⟨S32768x2048, .f32⟩
  | .hbm, ⟨6, _⟩ => ⟨S32768x2048, .f32⟩
  | .hbm, ⟨7, _⟩ => ⟨S32768x2048, .f32⟩
  | .hbm, ⟨8, _⟩ => ⟨S_, .f32⟩
  | .hbm, ⟨9, _⟩ => ⟨S32768, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x2048, .f32⟩
  | .hbm, ⟨15, _⟩ => ⟨S32768x2048, .f32⟩
  | .hbm, ⟨16, _⟩ => ⟨S32768x2048, .f32⟩
  | .hbm, ⟨17, _⟩ => ⟨S_, .f32⟩
  | .hbm, ⟨18, _⟩ => ⟨S32768, .f32⟩
  | .hbm, ⟨19, _⟩ => ⟨S32768x1, .f32⟩
  | .hbm, ⟨20, _⟩ => ⟨S_, .f32⟩
  | .hbm, ⟨21, _⟩ => ⟨S32768x1, .f32⟩
  | .hbm, ⟨22, _⟩ => ⟨S32768x1, .f32⟩
  | .hbm, ⟨23, _⟩ => ⟨S32768x2048, .f32⟩
  | .hbm, ⟨24, _⟩ => ⟨S32768x2048, .f32⟩
  | .hbm, ⟨25, _⟩ => ⟨S_, .f32⟩
  | .hbm, ⟨26, _⟩ => ⟨S32768x1, .f32⟩
  | .hbm, ⟨27, _⟩ => ⟨S32768x1, .f32⟩
  | .hbm, ⟨28, _⟩ => ⟨S32768x1, .f32⟩
  | .hbm, ⟨29, _⟩ => ⟨S32768x2048, .f32⟩
  | .hbm, ⟨30, _⟩ => ⟨S32768x2048, .f32⟩
  | .hbm, ⟨31, _⟩ => ⟨S1x2048, .f32⟩
  | .hbm, ⟨32, _⟩ => ⟨S32768x2048, .f32⟩
  | .hbm, ⟨33, _⟩ => ⟨S32768x2048, .f32⟩
  | .hbm, ⟨34, _⟩ => ⟨S1x2048, .f32⟩
  | .hbm, ⟨35, _⟩ => ⟨S32768x2048, .f32⟩
  | .hbm, ⟨36, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== Kernel6.lean ====
abbrev S32768x6144 : Shape := ⟨2, ![32768, 6144]⟩
abbrev S4x256x2048 : Shape := ⟨3, ![4, 256, 2048]⟩
abbrev S2048x1024 : Shape := ⟨2, ![2048, 1024]⟩
abbrev S1024x2048 : Shape := ⟨2, ![1024, 2048]⟩
abbrev S1024x1024 : Shape := ⟨2, ![1024, 1024]⟩
abbrev S512x2048 : Shape := ⟨2, ![512, 2048]⟩
abbrev S2048x512 : Shape := ⟨2, ![2048, 512]⟩
abbrev S512x512 : Shape := ⟨2, ![512, 512]⟩
abbrev S4x256x1024 : Shape := ⟨3, ![4, 256, 1024]⟩
abbrev S32768x512 : Shape := ⟨2, ![32768, 512]⟩
abbrev S1x256x1024 : Shape := ⟨3, ![1, 256, 1024]⟩
abbrev S256x1024 : Shape := ⟨2, ![256, 1024]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S32768x6144, .f32⟩
  | .hbm, ⟨1, _⟩ => ⟨S4x256x2048, .f32⟩
  | .hbm, ⟨2, _⟩ => ⟨S2048x1024, .f32⟩
  | .hbm, ⟨3, _⟩ => ⟨S1024x2048, .f32⟩
  | .hbm, ⟨4, _⟩ => ⟨S2048x1024, .bf16⟩
  | .hbm, ⟨5, _⟩ => ⟨S1024x1024, .f32⟩
  | .hbm, ⟨6, _⟩ => ⟨S4x256x1024, .f32⟩
  | .hbm, ⟨7, _⟩ => ⟨S32768x512, .f32⟩
  | .local _ .vmem, ⟨0, _⟩ => ⟨S512x2048, .f32⟩
  | .local _ .vmem, ⟨1, _⟩ => ⟨S512x2048, .f32⟩
  | .local _ .vmem, ⟨2, _⟩ => ⟨S2048x512, .bf16⟩
  | .local _ .vmem, ⟨3, _⟩ => ⟨S2048x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1x256x1024, .f32⟩
  | .local _ .vmem, ⟨9, _⟩ => ⟨S1x256x1024, .f32⟩
  | .local _ .vmem, ⟨10, _⟩ => ⟨S512x512, .f32⟩
  | .local _ .vmem, ⟨11, _⟩ => ⟨S512x512, .f32⟩
  | _, _ => ⟨S32768x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 16], ![false, false]⟩

def cc1_transform_0 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c11_i32 : BitVec 32 := 11#32
  let c0_i32 : BitVec 32 := 0#32
  ![v1.toNat, c11_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== Reference6Ideal.lean ====
abbrev S32768x6144 : Shape := ⟨2, ![32768, 6144]⟩
abbrev S4x256x2048 : Shape := ⟨3, ![4, 256, 2048]⟩
abbrev S2048x1024 : Shape := ⟨2, ![2048, 1024]⟩
abbrev S32768x512 : Shape := ⟨2, ![32768, 512]⟩
abbrev S4x8192x4x128 : Shape := ⟨4, ![4, 8192, 4, 128]⟩
abbrev S4x256x1024 : Shape := ⟨3, ![4, 256, 1024]⟩
abbrev S4x256x512 : Shape := ⟨3, ![4, 256, 512]⟩
abbrev S4x256x4x128 : Shape := ⟨4, ![4, 256, 4, 128]⟩
abbrev S4x4x8192x256 : Shape := ⟨4, ![4, 4, 8192, 256]⟩
abbrev S_ : Shape := ⟨0, ![]⟩
abbrev S4x4x8192 : Shape := ⟨3, ![4, 4, 8192]⟩
abbrev S4x4x8192x1 : Shape := ⟨4, ![4, 4, 8192, 1]⟩
abbrev S4x4x128x8192 : Shape := ⟨4, ![4, 4, 128, 8192]⟩

abbrev nBuf : Space → Nat
  | .hbm => 31
  | .vmem => 0
  | .smem => 0
  | _ => 0

abbrev bufTy : (tb : Table) → Fin (tcTables nBuf tb) → BufTy
  | .hbm, ⟨0, _⟩ => ⟨S32768x6144, .f32⟩
  | .hbm, ⟨1, _⟩ => ⟨S4x256x2048, .f32⟩
  | .hbm, ⟨2, _⟩ => ⟨S2048x1024, .f32⟩
  | .hbm, ⟨3, _⟩ => ⟨S32768x512, .f32⟩
  | .hbm, ⟨4, _⟩ => ⟨S4x8192x4x128, .f32⟩
  | .hbm, ⟨5, _⟩ => ⟨S4x256x1024, .f32⟩
  | .hbm, ⟨6, _⟩ => ⟨S4x256x512, .f32⟩
  | .hbm, ⟨7, _⟩ => ⟨S4x256x512, .f32⟩
  | .hbm, ⟨8, _⟩ => ⟨S4x256x4x128, .f32⟩
  | .hbm, ⟨9, _⟩ => ⟨S4x256x4x128, .f32⟩
  | .hbm, ⟨10, _⟩ => ⟨S4x4x8192x256, .f32⟩
  | .hbm, ⟨11, _⟩ => ⟨S_, .f32⟩
  | .hbm, ⟨12, _⟩ => ⟨S4x4x8192x256, .f32⟩
  | .hbm, ⟨13, _⟩ => ⟨S4x4x8192x256, .f32⟩
  | .hbm, ⟨14, _⟩ => ⟨S_, .f32⟩
  | .hbm, ⟨15, _⟩ => ⟨S4x4x8192, .f32⟩
  | .hbm, ⟨16, _⟩ => ⟨S_, .f32⟩
  | .hbm, ⟨17, _⟩ => ⟨S4x4x8192, .f32⟩
  | .hbm, ⟨18, _⟩ => ⟨S4x4x8192, .f32⟩
  | .hbm, ⟨19, _⟩ => ⟨S4x4x8192x1, .f32⟩
  | .hbm, ⟨20, _⟩ => ⟨S4x4x8192x256, .f32⟩
  | .hbm, ⟨21, _⟩ => ⟨S4x4x8192x256, .f32⟩
  | .hbm, ⟨22, _⟩ => ⟨S4x4x8192x256, .f32⟩
  | .hbm, ⟨23, _⟩ => ⟨S_, .f32⟩
  | .hbm, ⟨24, _⟩ => ⟨S4x4x8192, .f32⟩
  | .hbm, ⟨25, _⟩ => ⟨S4x4x8192x1, .f32⟩
  | .hbm, ⟨26, _⟩ => ⟨S4x4x8192x256, .f32⟩
  | .hbm, ⟨27, _⟩ => ⟨S4x4x8192x256, .f32⟩
  | .hbm, ⟨28, _⟩ => ⟨S4x4x128x8192, .f32⟩
  | .hbm, ⟨29, _⟩ => ⟨S4x8192x4x128, .f32⟩
  | .hbm, ⟨30, _⟩ => ⟨S32768x512, .f32⟩
  | _, _ => ⟨S32768x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Kernel7.lean ====
abbrev S32768x2048 : Shape := ⟨2, ![32768, 2048]⟩
abbrev S2048x16 : Shape := ⟨2, ![2048, 16]⟩
abbrev S16x2048 : Shape := ⟨2, ![16, 2048]⟩
abbrev S16x256x128 : Shape := ⟨3, ![16, 256, 128]⟩
abbrev S1024x2048 : Shape := ⟨2, ![1024, 2048]⟩
abbrev S16x8x128 : Shape := ⟨3, ![16, 8, 128]⟩
abbrev S16x1024 : Shape := ⟨2, ![16, 1024]⟩
abbrev S1024 : Shape := ⟨1, ![1024]⟩
abbrev S1x1024 : Shape := ⟨2, ![1, 1024]⟩
abbrev S16x128 : Shape := ⟨2, ![16, 128]⟩
abbrev S16x1x128 : Shape := ⟨3, ![16, 1, 128]⟩

abbrev nBuf : Space → Nat
  | .hbm => 5
  | .vmem => 5
  | .smem => 0
  | _ => 0

abbrev bufTy : (tb : Table) → Fin (tcTables nBuf tb) → BufTy
  | .hbm, ⟨0, _⟩ => ⟨S32768x2048, .f32⟩
  | .hbm, ⟨1, _⟩ => ⟨S2048x16, .f32⟩
  | .hbm, ⟨2, _⟩ => ⟨S16x2048, .f32⟩
  | .hbm, ⟨3, _⟩ => ⟨S16x2048, .bf16⟩
  | .hbm, ⟨4, _⟩ => ⟨S16x256x128, .f32⟩
  | .local _ .vmem, ⟨0, _⟩ => ⟨S1024x2048, .f32⟩
  | .local _ .vmem, ⟨1, _⟩ => ⟨S1024x2048, .f32⟩
  | .local _ .vmem, ⟨2, _⟩ => ⟨S16x2048, .bf16⟩
  | .local _ .vmem, ⟨3, _⟩ => ⟨S16x8x128, .f32⟩
  | .local _ .vmem, ⟨4, _⟩ => ⟨S16x8x128, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S32768x2048 : Shape := ⟨2, ![32768, 2048]⟩
abbrev S2048x16 : Shape := ⟨2, ![2048, 16]⟩
abbrev S32768x16 : Shape := ⟨2, ![32768, 16]⟩
abbrev S_ : Shape := ⟨0, ![]⟩
abbrev S32768 : Shape := ⟨1, ![32768]⟩
abbrev S32768x1 : Shape := ⟨2, ![32768, 1]⟩
abbrev S16x32768 : Shape := ⟨2, ![16, 32768]⟩
abbrev S16x256x128 : Shape := ⟨3, ![16, 256, 128]⟩

abbrev nBuf : Space → Nat
  | .hbm => 19
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048x16, .f32⟩
  | .hbm, ⟨2, _⟩ => ⟨S32768x16, .f32⟩
  | .hbm, ⟨3, _⟩ => ⟨S_, .f32⟩
  | .hbm, ⟨4, _⟩ => ⟨S32768, .f32⟩
  | .hbm, ⟨5, _⟩ => ⟨S_, .f32⟩
  | .hbm, ⟨6, _⟩ => ⟨S32768, .f32⟩
  | .hbm, ⟨7, _⟩ => ⟨S32768, .f32⟩
  | .hbm, ⟨8, _⟩ => ⟨S32768x1, .f32⟩
  | .hbm, ⟨9, _⟩ => ⟨S32768x16, .f32⟩
  | .hbm, ⟨10, _⟩ => ⟨S32768x16, .f32⟩
  | .hbm, ⟨11, _⟩ => ⟨S32768x16, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S32768x16, .f32⟩
  | .hbm, ⟨16, _⟩ => ⟨S32768x16, .f32⟩
  | .hbm, ⟨17, _⟩ => ⟨S16x32768, .f32⟩
  | .hbm, ⟨18, _⟩ => ⟨S16x256x128, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel8.lean ====
abbrev S32768x6144 : Shape := ⟨2, ![32768, 6144]⟩
abbrev S8192x8 : Shape := ⟨2, ![8192, 8]⟩
abbrev S_ : Shape := ⟨0, ![]⟩
abbrev S8192x48 : Shape := ⟨2, ![8192, 48]⟩
abbrev S8192x64 : Shape := ⟨2, ![8192, 64]⟩
abbrev S8192x128 : Shape := ⟨2, ![8192, 128]⟩
abbrev S4x4x8192x128 : Shape := ⟨4, ![4, 4, 8192, 128]⟩
abbrev S1024x128 : Shape := ⟨2, ![1024, 128]⟩
abbrev S1x1x1024x128 : Shape := ⟨4, ![1, 1, 1024, 128]⟩
abbrev S1x128 : Shape := ⟨2, ![1, 128]⟩

abbrev nBuf : Space → Nat
  | .hbm => 15
  | .vmem => 16
  | .smem => 0
  | _ => 0

abbrev bufTy : (tb : Table) → Fin (tcTables nBuf tb) → BufTy
  | .hbm, ⟨0, _⟩ => ⟨S32768x6144, .f32⟩
  | .hbm, ⟨1, _⟩ => ⟨S8192x8, .f32⟩
  | .hbm, ⟨2, _⟩ => ⟨S8192x8, .f32⟩
  | .hbm, ⟨3, _⟩ => ⟨S_, .f32⟩
  | .hbm, ⟨4, _⟩ => ⟨S8192x48, .f32⟩
  | .hbm, ⟨5, _⟩ => ⟨S8192x64, .f32⟩
  | .hbm, ⟨6, _⟩ => ⟨S8192x8, .f32⟩
  | .hbm, ⟨7, _⟩ => ⟨S_, .f32⟩
  | .hbm, ⟨8, _⟩ => ⟨S8192x48, .f32⟩
  | .hbm, ⟨9, _⟩ => ⟨S8192x64, .f32⟩
  | .hbm, ⟨10, _⟩ => ⟨S8192x128, .f32⟩
  | .hbm, ⟨11, _⟩ => ⟨S8192x128, .f32⟩
  | .hbm, ⟨12, _⟩ => ⟨S4x4x8192x128, .bf16⟩
  | .hbm, ⟨13, _⟩ => ⟨S4x4x8192x128, .bf16⟩
  | .hbm, ⟨14, _⟩ => ⟨S4x4x8192x128, .bf16⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1x1x1024x128, .bf16⟩
  | .local _ .vmem, ⟨11, _⟩ => ⟨S1x1x1024x128, .bf16⟩
  | .local _ .vmem, ⟨12, _⟩ => ⟨S1x1x1024x128, .bf16⟩
  | .local _ .vmem, ⟨13, _⟩ => ⟨S1x1x1024x128, .bf16⟩
  | .local _ .vmem, ⟨14, _⟩ => ⟨S1x1x1024x128, .bf16⟩
  | .local _ .vmem, ⟨15, _⟩ => ⟨S1x1x1024x128, .bf16⟩
  | _, _ => ⟨S32768x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c32_i32 : BitVec 32 := 32#32
  let v2 : BitVec 32 := Scalar.addi c32_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c36_i32 : BitVec 32 := 36#32
  let v2 : BitVec 32 := Scalar.addi c36_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c40_i32 : BitVec 32 := 40#32
  let v2 : BitVec 32 := Scalar.addi c40_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== Reference8Ideal.lean ====
abbrev S32768x6144 : Shape := ⟨2, ![32768, 6144]⟩
abbrev S8192x8 : Shape := ⟨2, ![8192, 8]⟩
abbrev S32768x1536 : Shape := ⟨2, ![32768, 1536]⟩
abbrev S4x8192x1536 : Shape := ⟨3, ![4, 8192, 1536]⟩
abbrev S4x8192x512 : Shape := ⟨3, ![4, 8192, 512]⟩
abbrev S4x8192x4x2x64 : Shape := ⟨5, ![4, 8192, 4, 2, 64]⟩
abbrev S1x8192x1x1x8 : Shape := ⟨5, ![1, 8192, 1, 1, 8]⟩
abbrev S4x8192x4x2x8 : Shape := ⟨5, ![4, 8192, 4, 2, 8]⟩
abbrev S4x8192x4x2x48 : Shape := ⟨5, ![4, 8192, 4, 2, 48]⟩
abbrev S_ : Shape := ⟨0, ![]⟩
abbrev S4x8192x4x128 : Shape := ⟨4, ![4, 8192, 4, 128]⟩
abbrev S4x4x8192x128 : Shape := ⟨4, ![4, 4, 8192, 128]⟩

abbrev nBuf : Space → Nat
  | .hbm => 54
  | .vmem => 0
  | .smem => 0
  | _ => 0

abbrev bufTy : (tb : Table) → Fin (tcTables nBuf tb) → BufTy
  | .hbm, ⟨0, _⟩ => ⟨S32768x6144, .f32⟩
  | .hbm, ⟨1, _⟩ => ⟨S8192x8, .f32⟩
  | .hbm, ⟨2, _⟩ => ⟨S8192x8, .f32⟩
  | .hbm, ⟨3, _⟩ => ⟨S32768x1536, .f32⟩
  | .hbm, ⟨4, _⟩ => ⟨S4x8192x1536, .f32⟩
  | .hbm, ⟨5, _⟩ => ⟨S4x8192x512, .f32⟩
  | .hbm, ⟨6, _⟩ => ⟨S4x8192x512, .f32⟩
  | .hbm, ⟨7, _⟩ => ⟨S4x8192x512, .f32⟩
  | .hbm, ⟨8, _⟩ => ⟨S4x8192x4x2x64, .f32⟩
  | .hbm, ⟨9, _⟩ => ⟨S1x8192x1x1x8, .f32⟩
  | .hbm, ⟨10, _⟩ => ⟨S1x8192x1x1x8, .f32⟩
  | .hbm, ⟨11, _⟩ => ⟨S4x8192x4x2x8, .f32⟩
  | .hbm, ⟨12, _⟩ => ⟨S4x8192x4x2x8, .f32⟩
  | .hbm, ⟨13, _⟩ => ⟨S4x8192x4x2x48, .f32⟩
  | .hbm, ⟨14, _⟩ => ⟨S4x8192x4x2x8, .f32⟩
  | .hbm, ⟨15, _⟩ => ⟨S4x8192x4x2x8, .f32⟩
  | .hbm, ⟨16, _⟩ => ⟨S4x8192x4x2x8, .f32⟩
  | .hbm, ⟨17, _⟩ => ⟨S4x8192x4x2x8, .f32⟩
  | .hbm, ⟨18, _⟩ => ⟨S4x8192x4x2x8, .f32⟩
  | .hbm, ⟨19, _⟩ => ⟨S4x8192x4x2x8, .f32⟩
  | .hbm, ⟨20, _⟩ => ⟨S4x8192x4x2x8, .f32⟩
  | .hbm, ⟨21, _⟩ => ⟨S4x8192x4x2x8, .f32⟩
  | .hbm, ⟨22, _⟩ => ⟨S4x8192x4x2x8, .f32⟩
  | .hbm, ⟨23, _⟩ => ⟨S4x8192x4x2x8, .f32⟩
  | .hbm, ⟨24, _⟩ => ⟨S4x8192x4x2x64, .f32⟩
  | .hbm, ⟨25, _⟩ => ⟨S_, .f32⟩
  | .hbm, ⟨26, _⟩ => ⟨S4x8192x4x2x64, .f32⟩
  | .hbm, ⟨27, _⟩ => ⟨S4x8192x4x2x64, .f32⟩
  | .hbm, ⟨28, _⟩ => ⟨S4x8192x4x2x64, .f32⟩
  | .hbm, ⟨29, _⟩ => ⟨S1x8192x1x1x8, .f32⟩
  | .hbm, ⟨30, _⟩ => ⟨S1x8192x1x1x8, .f32⟩
  | .hbm, ⟨31, _⟩ => ⟨S4x8192x4x2x8, .f32⟩
  | .hbm, ⟨32, _⟩ => ⟨S4x8192x4x2x8, .f32⟩
  | .hbm, ⟨33, _⟩ => ⟨S4x8192x4x2x48, .f32⟩
  | .hbm, ⟨34, _⟩ => ⟨S4x8192x4x2x8, .f32⟩
  | .hbm, ⟨35, _⟩ => ⟨S4x8192x4x2x8, .f32⟩
  | .hbm, ⟨36, _⟩ => ⟨S4x8192x4x2x8, .f32⟩
  | .hbm, ⟨37, _⟩ => ⟨S4x8192x4x2x8, .f32⟩
  | .hbm, ⟨38, _⟩ => ⟨S4x8192x4x2x8, .f32⟩
  | .hbm, ⟨39, _⟩ => ⟨S4x8192x4x2x8, .f32⟩
  | .hbm, ⟨40, _⟩ => ⟨S4x8192x4x2x8, .f32⟩
  | .hbm, ⟨41, _⟩ => ⟨S4x8192x4x2x8, .f32⟩
  | .hbm, ⟨42, _⟩ => ⟨S4x8192x4x2x8, .f32⟩
  | .hbm, ⟨43, _⟩ => ⟨S4x8192x4x2x8, .f32⟩
  | .hbm, ⟨44, _⟩ => ⟨S4x8192x4x2x64, .f32⟩
  | .hbm, ⟨45, _⟩ => ⟨S4x8192x4x128, .f32⟩
  | .hbm, ⟨46, _⟩ => ⟨S4x4x8192x128, .f32⟩
  | .hbm, ⟨47, _⟩ => ⟨S4x4x8192x128, .bf16⟩
  | .hbm, ⟨48, _⟩ => ⟨S4x8192x4x128, .f32⟩
  | .hbm, ⟨49, _⟩ => ⟨S4x4x8192x128, .f32⟩
  | .hbm, ⟨50, _⟩ => ⟨S4x4x8192x128, .bf16⟩
  | .hbm, ⟨51, _⟩ => ⟨S4x8192x4x128, .f32⟩
  | .hbm, ⟨52, _⟩ => ⟨S4x4x8192x128, .f32⟩
  | .hbm, ⟨53, _⟩ => ⟨S4x4x8192x128, .bf16⟩
  | _, _ => ⟨S32768x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_cst : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩

abbrev nD : Nat := 1
abbrev τ : Topo := Topo.v7x

variable {F : FTy → Type} [FloatOps F]
-- ==== Kernel9.lean ====
abbrev S32768x6144 : Shape := ⟨2, ![32768, 6144]⟩
abbrev S3x1536 : Shape := ⟨2, ![3, 1536]⟩
abbrev S1536 : Shape := ⟨1, ![1536]⟩
abbrev S1x1536 : Shape := ⟨2, ![1, 1536]⟩
abbrev S3x32768x512 : Shape := ⟨3, ![3, 32768, 512]⟩
abbrev S8192x128 : Shape := ⟨2, ![8192, 128]⟩
abbrev S3x128 : Shape := ⟨2, ![3, 128]⟩
abbrev S1x128 : Shape := ⟨2, ![1, 128]⟩
abbrev S1x8192x128 : Shape := ⟨3, ![1, 8192, 128]⟩
abbrev S8192x1 : Shape := ⟨2, ![8192, 1]⟩

abbrev nBuf : Space → Nat
  | .hbm => 5
  | .vmem => 8
  | .smem => 0
  | _ => 0

abbrev bufTy : (tb : Table) → Fin (tcTables nBuf tb) → BufTy
  | .hbm, ⟨0, _⟩ => ⟨S32768x6144, .f32⟩
  | .hbm, ⟨1, _⟩ => ⟨S3x1536, .f32⟩
  | .hbm, ⟨2, _⟩ => ⟨S1536, .f32⟩
  | .hbm, ⟨3, _⟩ => ⟨S1x1536, .f32⟩
  | .hbm, ⟨4, _⟩ => ⟨S3x32768x512, .f32⟩
  | .local _ .vmem, ⟨0, _⟩ => ⟨S8192x128, .f32⟩
  | .local _ .vmem, ⟨1, _⟩ => ⟨S8192x128, .f32⟩
  | .local _ .vmem, ⟨2, _⟩ => ⟨S3x128, .f32⟩
  | .local _ .vmem, ⟨3, _⟩ => ⟨S3x128, .f32⟩
  | .local _ .vmem, ⟨4, _⟩ => ⟨S1x128, .f32⟩
  | .local _ .vmem, ⟨5, _⟩ => ⟨S1x128, .f32⟩
  | .local _ .vmem, ⟨6, _⟩ => ⟨S1x8192x128, .f32⟩
  | .local _ .vmem, ⟨7, _⟩ => ⟨S1x8192x128, .f32⟩
  | _, _ => ⟨S32768x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 3, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  ![arg0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![c0_i32.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat, arg2.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S3x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference9Ideal.lean ====
abbrev S32768x6144 : Shape := ⟨2, ![32768, 6144]⟩
abbrev S3x1536 : Shape := ⟨2, ![3, 1536]⟩
abbrev S1536 : Shape := ⟨1, ![1536]⟩
abbrev S32768x1536 : Shape := ⟨2, ![32768, 1536]⟩
abbrev S4x8192x1536 : Shape := ⟨3, ![4, 8192, 1536]⟩
abbrev S_ : Shape := ⟨0, ![]⟩
abbrev S4x8194x1536 : Shape := ⟨3, ![4, 8194, 1536]⟩
abbrev S1x1536 : Shape := ⟨2, ![1, 1536]⟩
abbrev S1x1x1536 : Shape := ⟨3, ![1, 1, 1536]⟩
abbrev S32768x3x512 : Shape := ⟨3, ![32768, 3, 512]⟩
abbrev S3x32768x512 : Shape := ⟨3, ![3, 32768, 512]⟩

abbrev nBuf : Space → Nat
  | .hbm => 33
  | .vmem => 0
  | .smem => 0
  | _ => 0

abbrev bufTy : (tb : Table) → Fin (tcTables nBuf tb) → BufTy
  | .hbm, ⟨0, _⟩ => ⟨S32768x6144, .f32⟩
  | .hbm, ⟨1, _⟩ => ⟨S3x1536, .f32⟩
  | .hbm, ⟨2, _⟩ => ⟨S1536, .f32⟩
  | .hbm, ⟨3, _⟩ => ⟨S32768x1536, .f32⟩
  | .hbm, ⟨4, _⟩ => ⟨S4x8192x1536, .f32⟩
  | .hbm, ⟨5, _⟩ => ⟨S_, .i32⟩
  | .hbm, ⟨6, _⟩ => ⟨S_, .f32⟩
  | .hbm, ⟨7, _⟩ => ⟨S4x8194x1536, .f32⟩
  | .hbm, ⟨8, _⟩ => ⟨S4x8192x1536, .f32⟩
  | .hbm, ⟨9, _⟩ => ⟨S1x1536, .f32⟩
  | .hbm, ⟨10, _⟩ => ⟨S1536, .f32⟩
  | .hbm, ⟨11, _⟩ => ⟨S1x1x1536, .f32⟩
  | .hbm, ⟨12, _⟩ => ⟨S4x8192x1536, .f32⟩
  | .hbm, ⟨13, _⟩ => ⟨S4x8192x1536, .f32⟩
  | .hbm, ⟨14, _⟩ => ⟨S4x8192x1536, .f32⟩
  | .hbm, ⟨15, _⟩ => ⟨S1x1536, .f32⟩
  | .hbm, ⟨16, _⟩ => ⟨S1536, .f32⟩
  | .hbm, ⟨17, _⟩ => ⟨S1x1x1536, .f32⟩
  | .hbm, ⟨18, _⟩ => ⟨S4x8192x1536, .f32⟩
  | .hbm, ⟨19, _⟩ => ⟨S4x8192x1536, .f32⟩
  | .hbm, ⟨20, _⟩ => ⟨S4x8192x1536, .f32⟩
  | .hbm, ⟨21, _⟩ => ⟨S4x8192x1536, .f32⟩
  | .hbm, ⟨22, _⟩ => ⟨S1x1536, .f32⟩
  | .hbm, ⟨23, _⟩ => ⟨S1536, .f32⟩
  | .hbm, ⟨24, _⟩ => ⟨S1x1x1536, .f32⟩
  | .hbm, ⟨25, _⟩ => ⟨S4x8192x1536, .f32⟩
  | .hbm, ⟨26, _⟩ => ⟨S4x8192x1536, .f32⟩
  | .hbm, ⟨27, _⟩ => ⟨S4x8192x1536, .f32⟩
  | .hbm, ⟨28, _⟩ => ⟨S1x1x1536, .f32⟩
  | .hbm, ⟨29, _⟩ => ⟨S4x8192x1536, .f32⟩
  | .hbm, ⟨30, _⟩ => ⟨S4x8192x1536, .f32⟩
  | .hbm, ⟨31, _⟩ => ⟨S32768x3x512, .f32⟩
  | .hbm, ⟨32, _⟩ => ⟨S3x32768x512, .f32⟩
  | _, _ => ⟨S32768x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩

abbrev nD : Nat := 1
abbrev τ : Topo := Topo.v7x

variable {F : FTy → Type} [FloatOps F]
-- ==== Kernel10.lean ====
abbrev S32768x2048 : Shape := ⟨2, ![32768, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 6
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048, .f32⟩
  | .hbm, ⟨3, _⟩ => ⟨S1x2048, .f32⟩
  | .hbm, ⟨4, _⟩ => ⟨S1x2048, .f32⟩
  | .hbm, ⟨5, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference10Ideal.lean ====
abbrev S32768x2048 : Shape := ⟨2, ![32768, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 32
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048, .f32⟩
  | .hbm, ⟨3, _⟩ => ⟨S_, .f32⟩
  | .hbm, ⟨4, _⟩ => ⟨S32768, .f32⟩
  | .hbm, ⟨5, _⟩ => ⟨S32768x1, .f32⟩
  | .hbm, ⟨6, _⟩ => ⟨S_, .f32⟩
  | .hbm, ⟨7, _⟩ => ⟨S32768x1, .f32⟩
  | .hbm, ⟨8, _⟩ => ⟨S32768x1, .f32⟩
  | .hbm, ⟨9, _⟩ => ⟨S32768x2048, .f32⟩
  | .hbm, ⟨10, _⟩ => ⟨S32768x2048, .f32⟩
  | .hbm, ⟨11, _⟩ => ⟨S32768x2048, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S32768x2048, .f32⟩
  | .hbm, ⟨19, _⟩ => ⟨S32768x2048, .f32⟩
  | .hbm, ⟨20, _⟩ => ⟨S_, .f32⟩
  | .hbm, ⟨21, _⟩ => ⟨S32768x1, .f32⟩
  | .hbm, ⟨22, _⟩ => ⟨S32768x1, .f32⟩
  | .hbm, ⟨23, _⟩ => ⟨S32768x1, .f32⟩
  | .hbm, ⟨24, _⟩ => ⟨S32768x2048, .f32⟩
  | .hbm, ⟨25, _⟩ => ⟨S32768x2048, .f32⟩
  | .hbm, ⟨26, _⟩ => ⟨S1x2048, .f32⟩
  | .hbm, ⟨27, _⟩ => ⟨S32768x2048, .f32⟩
  | .hbm, ⟨28, _⟩ => ⟨S32768x2048, .f32⟩
  | .hbm, ⟨29, _⟩ => ⟨S1x2048, .f32⟩
  | .hbm, ⟨30, _⟩ => ⟨S32768x2048, .f32⟩
  | .hbm, ⟨31, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Kernel11.lean ====
abbrev S3x32768x512 : Shape := ⟨3, ![3, 32768, 512]⟩
abbrev S128x128x512 : Shape := ⟨3, ![128, 128, 512]⟩
abbrev S512 : Shape := ⟨1, ![512]⟩
abbrev S128x128 : Shape := ⟨2, ![128, 128]⟩
abbrev S128x128x128 : Shape := ⟨3, ![128, 128, 128]⟩
abbrev S128x64 : Shape := ⟨2, ![128, 64]⟩
abbrev S256x64 : Shape := ⟨2, ![256, 64]⟩
abbrev S128x256x128 : Shape := ⟨3, ![128, 256, 128]⟩
abbrev S64x128 : Shape := ⟨2, ![64, 128]⟩
abbrev S_ : Shape := ⟨0, ![]⟩
abbrev S3x4x64x65536 : Shape := ⟨4, ![3, 4, 64, 65536]⟩
abbrev S4x128x65536 : Shape := ⟨3, ![4, 128, 65536]⟩
abbrev S1x1x64x4096 : Shape := ⟨4, ![1, 1, 64, 4096]⟩
abbrev S1x128x4096 : Shape := ⟨3, ![1, 128, 4096]⟩
abbrev S64x4096 : Shape := ⟨2, ![64, 4096]⟩
abbrev S256x4096 : Shape := ⟨2, ![256, 4096]⟩
abbrev S128x4096 : Shape := ⟨2, ![128, 4096]⟩
abbrev S4x128x128x512 : Shape := ⟨4, ![4, 128, 128, 512]⟩
abbrev S1x8x128x512 : Shape := ⟨4, ![1, 8, 128, 512]⟩
abbrev S8x256x128 : Shape := ⟨3, ![8, 256, 128]⟩
abbrev S8x128x512 : Shape := ⟨3, ![8, 128, 512]⟩
abbrev S1x256x128 : Shape := ⟨3, ![1, 256, 128]⟩
abbrev S256x128 : Shape := ⟨2, ![256, 128]⟩
abbrev S1x1x128x512 : Shape := ⟨4, ![1, 1, 128, 512]⟩
abbrev S128x512 : Shape := ⟨2, ![128, 512]⟩
abbrev S256x512 : Shape := ⟨2, ![256, 512]⟩
abbrev S1x128x512 : Shape := ⟨3, ![1, 128, 512]⟩
abbrev S1x512 : Shape := ⟨2, ![1, 512]⟩
abbrev S8x512 : Shape := ⟨2, ![8, 512]⟩
abbrev S4096 : Shape := ⟨1, ![4096]⟩
abbrev S1x4096 : Shape := ⟨2, ![1, 4096]⟩
abbrev S4x64x65536 : Shape := ⟨3, ![4, 64, 65536]⟩
abbrev S1x64x4096 : Shape := ⟨3, ![1, 64, 4096]⟩

abbrev nBuf : Space → Nat
  | .hbm => 45
  | .vmem => 36
  | .smem => 0
  | _ => 0

abbrev bufTy : (tb : Table) → Fin (tcTables nBuf tb) → BufTy
  | .hbm, ⟨0, _⟩ => ⟨S3x32768x512, .f32⟩
  | .hbm, ⟨1, _⟩ => ⟨S128x128x512, .f32⟩
  | .hbm, ⟨2, _⟩ => ⟨S128x128x512, .f32⟩
  | .hbm, ⟨3, _⟩ => ⟨S512, .f32⟩
  | .hbm, ⟨4, _⟩ => ⟨S128x128, .f32⟩
  | .hbm, ⟨5, _⟩ => ⟨S128x128, .f32⟩
  | .hbm, ⟨6, _⟩ => ⟨S128x128x128, .f32⟩
  | .hbm, ⟨7, _⟩ => ⟨S128x128x128, .f32⟩
  | .hbm, ⟨8, _⟩ => ⟨S128x64, .f32⟩
  | .hbm, ⟨9, _⟩ => ⟨S128x64, .f32⟩
  | .hbm, ⟨10, _⟩ => ⟨S128x64, .f32⟩
  | .hbm, ⟨11, _⟩ => ⟨S256x64, .f32⟩
  | .hbm, ⟨12, _⟩ => ⟨S256x64, .bf16⟩
  | .hbm, ⟨13, _⟩ => ⟨S128x256x128, .f32⟩
  | .hbm, ⟨14, _⟩ => ⟨S128x256x128, .bf16⟩
  | .hbm, ⟨15, _⟩ => ⟨S128x128x128, .f32⟩
  | .hbm, ⟨16, _⟩ => ⟨S128x128x128, .f32⟩
  | .hbm, ⟨17, _⟩ => ⟨S128x256x128, .f32⟩
  | .hbm, ⟨18, _⟩ => ⟨S128x256x128, .bf16⟩
  | .hbm, ⟨19, _⟩ => ⟨S128x128, .f32⟩
  | .hbm, ⟨20, _⟩ => ⟨S64x128, .f32⟩
  | .hbm, ⟨21, _⟩ => ⟨S_, .f32⟩
  | .hbm, ⟨22, _⟩ => ⟨S64x128, .f32⟩
  | .hbm, ⟨23, _⟩ => ⟨S64x128, .f32⟩
  | .hbm, ⟨24, _⟩ => ⟨S64x128, .bf16⟩
  | .hbm, ⟨25, _⟩ => ⟨S128x128, .f32⟩
  | .hbm, ⟨26, _⟩ => ⟨S64x128, .f32⟩
  | .hbm, ⟨27, _⟩ => ⟨S_, .f32⟩
  | .hbm, ⟨28, _⟩ => ⟨S64x128, .f32⟩
  | .hbm, ⟨29, _⟩ => ⟨S64x128, .f32⟩
  | .hbm, ⟨30, _⟩ => ⟨S64x128, .bf16⟩
  | .hbm, ⟨31, _⟩ => ⟨S3x4x64x65536, .f32⟩
  | .hbm, ⟨32, _⟩ => ⟨S4x128x65536, .bf16⟩
  | .hbm, ⟨33, _⟩ => ⟨S4x128x65536, .bf16⟩
  | .hbm, ⟨34, _⟩ => ⟨S4x128x128x512, .bf16⟩
  | .hbm, ⟨35, _⟩ => ⟨S4x128x128x512, .bf16⟩
  | .hbm, ⟨36, _⟩ => ⟨S4x128x128x512, .bf16⟩
  | .hbm, ⟨37, _⟩ => ⟨S4x128x128x512, .bf16⟩
  | .hbm, ⟨38, _⟩ => ⟨S1x512, .f32⟩
  | .hbm, ⟨39, _⟩ => ⟨S8x512, .f32⟩
  | .hbm, ⟨40, _⟩ => ⟨S4096, .f32⟩
  | .hbm, ⟨41, _⟩ => ⟨S1x4096, .f32⟩
  | .hbm, ⟨42, _⟩ => ⟨S4x128x65536, .bf16⟩
  | .hbm, ⟨43, _⟩ => ⟨S4x128x65536, .bf16⟩
  | .hbm, ⟨44, _⟩ => ⟨S4x64x65536, .f32⟩
  | .local _ .vmem, ⟨0, _⟩ => ⟨S1x1x64x4096, .f32⟩
  | .local _ .vmem, ⟨1, _⟩ => ⟨S1x1x64x4096, .f32⟩
  | .local _ .vmem, ⟨2, _⟩ => ⟨S256x64, .bf16⟩
  | .local _ .vmem, ⟨3, _⟩ => ⟨S1x128x4096, .bf16⟩
  | .local _ .vmem, ⟨4, _⟩ => ⟨S1x128x4096, .bf16⟩
  | .local _ .vmem, ⟨5, _⟩ => ⟨S1x128x4096, .bf16⟩
  | .local _ .vmem, ⟨6, _⟩ => ⟨S1x128x4096, .bf16⟩
  | .local _ .vmem, ⟨7, _⟩ => ⟨S1x8x128x512, .bf16⟩
  | .local _ .vmem, ⟨8, _⟩ => ⟨S1x8x128x512, .bf16⟩
  | .local _ .vmem, ⟨9, _⟩ => ⟨S1x8x128x512, .bf16⟩
  | .local _ .vmem, ⟨10, _⟩ => ⟨S1x8x128x512, .bf16⟩
  | .local _ .vmem, ⟨11, _⟩ => ⟨S8x256x128, .bf16⟩
  | .local _ .vmem, ⟨12, _⟩ => ⟨S8x256x128, .bf16⟩
  | .local _ .vmem, ⟨13, _⟩ => ⟨S8x256x128, .bf16⟩
  | .local _ .vmem, ⟨14, _⟩ => ⟨S8x256x128, .bf16⟩
  | .local _ .vmem, ⟨15, _⟩ => ⟨S8x128x512, .f32⟩
  | .local _ .vmem, ⟨16, _⟩ => ⟨S8x128x512, .f32⟩
  | .local _ .vmem, ⟨17, _⟩ => ⟨S8x128x512, .f32⟩
  | .local _ .vmem, ⟨18, _⟩ => ⟨S8x128x512, .f32⟩
  | .local _ .vmem, ⟨19, _⟩ => ⟨S1x8x128x512, .bf16⟩
  | .local _ .vmem, ⟨20, _⟩ => ⟨S1x8x128x512, .bf16⟩
  | .local _ .vmem, ⟨21, _⟩ => ⟨S1x8x128x512, .bf16⟩
  | .local _ .vmem, ⟨22, _⟩ => ⟨S1x8x128x512, .bf16⟩
  | .local _ .vmem, ⟨23, _⟩ => ⟨S1x128x4096, .bf16⟩
  | .local _ .vmem, ⟨24, _⟩ => ⟨S1x128x4096, .bf16⟩
  | .local _ .vmem, ⟨25, _⟩ => ⟨S1x128x4096, .bf16⟩
  | .local _ .vmem, ⟨26, _⟩ => ⟨S1x128x4096, .bf16⟩
  | .local _ .vmem, ⟨27, _⟩ => ⟨S64x128, .bf16⟩
  | .local _ .vmem, ⟨28, _⟩ => ⟨S64x128, .bf16⟩
  | .local _ .vmem, ⟨29, _⟩ => ⟨S1x1x64x4096, .f32⟩
  | .local _ .vmem, ⟨30, _⟩ => ⟨S1x1x64x4096, .f32⟩
  | .local _ .vmem, ⟨31, _⟩ => ⟨S1x1x64x4096, .f32⟩
  | .local _ .vmem, ⟨32, _⟩ => ⟨S1x1x64x4096, .f32⟩
  | .local _ .vmem, ⟨33, _⟩ => ⟨S1x4096, .f32⟩
  | .local _ .vmem, ⟨34, _⟩ => ⟨S1x64x4096, .f32⟩
  | .local _ .vmem, ⟨35, _⟩ => ⟨S1x64x4096, .f32⟩
  | _, _ => ⟨S3x32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22_0 : Ref sig .tc := ⟨.hbm, 32, rfl⟩
abbrev main_v22_1 : Ref sig .tc := ⟨.hbm, 33, rfl⟩
abbrev main_v23 : Ref sig .tc := ⟨.hbm, 34, rfl⟩
abbrev main_v24 : Ref sig .tc := ⟨.hbm, 35, rfl⟩
abbrev main_v25_0 : Ref sig .tc := ⟨.hbm, 36, rfl⟩
abbrev main_v25_1 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc1_stg7_0 : Ref sig .tc := ⟨.vmem, 21, rfl⟩
abbrev cc1_stg7_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg4_1 : Ref sig .tc := ⟨.vmem, 30, rfl⟩
abbrev cc2_stg5_0 : Ref sig .tc := ⟨.vmem, 31, rfl⟩
abbrev cc2_stg5_1 : Ref sig .tc := ⟨.vmem, 32, rfl⟩
abbrev cc2_stg6_0 : Ref sig .tc := ⟨.vmem, 33, rfl⟩
abbrev cc2_stg7_0 : Ref sig .tc := ⟨.vmem, 34, rfl⟩
abbrev cc2_stg7_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem5_1 : DmaSem sig := 18
abbrev cc1_sem6_0 : DmaSem sig := 19
abbrev cc1_sem6_1 : DmaSem sig := 20
abbrev cc1_sem7_0 : DmaSem sig := 21
abbrev cc1_sem7_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem3_0 : DmaSem sig := 28
abbrev cc2_sem4_0 : DmaSem sig := 29
abbrev cc2_sem4_1 : DmaSem sig := 30
abbrev cc2_sem5_0 : DmaSem sig := 31
abbrev cc2_sem5_1 : DmaSem sig := 32
abbrev cc2_sem6_0 : DmaSem sig := 33
abbrev cc2_sem7_0 : DmaSem sig := 34
abbrev cc2_sem7_1 : DmaSem sig := 35

abbrev nD : Nat := 1
abbrev τ : Topo := Topo.v7x

variable {F : FTy → Type} [FloatOps F]

abbrev grid0 : Pipeline.Grid := ⟨2, ![4, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1x64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![16, 4], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc1_transform_7 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage1_0 : Fin 2 → Memref sig .tc .vmem S1x8x128x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x8x128x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S8x256x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S8x256x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S8x128x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S8x128x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x8x128x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x8x128x512 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev grid2 : Pipeline.Grid := ⟨2, ![4, 16], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc2_transform_5 (i : grid2.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat, arg1.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage2_0 : Fin 2 → Memref sig .tc .vmem S1x128x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x128x4096 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S64x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S64x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1x1x64x4096 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1x1x64x4096 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 1 → Memref sig .tc .vmem S1x4096 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 2 → Memref sig .tc .vmem S1x64x4096 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]
-- ==== Reference11Ideal.lean ====
abbrev S3x32768x512 : Shape := ⟨3, ![3, 32768, 512]⟩
abbrev S128x128x512 : Shape := ⟨3, ![128, 128, 512]⟩
abbrev S512 : Shape := ⟨1, ![512]⟩
abbrev S128x128 : Shape := ⟨2, ![128, 128]⟩
abbrev S128x128x128 : Shape := ⟨3, ![128, 128, 128]⟩
abbrev S3x4x64x128x512 : Shape := ⟨5, ![3, 4, 64, 128, 512]⟩
abbrev S1x4x64x128x512 : Shape := ⟨5, ![1, 4, 64, 128, 512]⟩
abbrev S4x64x128x512 : Shape := ⟨4, ![4, 64, 128, 512]⟩
abbrev S128x64 : Shape := ⟨2, ![128, 64]⟩
abbrev S4x128x512x128 : Shape := ⟨4, ![4, 128, 512, 128]⟩
abbrev S4x128x128x512 : Shape := ⟨4, ![4, 128, 128, 512]⟩
abbrev S128x4x512x128 : Shape := ⟨4, ![128, 4, 512, 128]⟩
abbrev S1x128x128x512 : Shape := ⟨4, ![1, 128, 128, 512]⟩
abbrev S_ : Shape := ⟨0, ![]⟩
abbrev S4x128x512x64 : Shape := ⟨4, ![4, 128, 512, 64]⟩
abbrev S1x1x1x512 : Shape := ⟨4, ![1, 1, 1, 512]⟩
abbrev S4x64x65536 : Shape := ⟨3, ![4, 64, 65536]⟩

abbrev nBuf : Space → Nat
  | .hbm => 73
  | .vmem => 0
  | .smem => 0
  | _ => 0

abbrev bufTy : (tb : Table) → Fin (tcTables nBuf tb) → BufTy
  | .hbm, ⟨0, _⟩ => ⟨S3x32768x512, .f32⟩
  | .hbm, ⟨1, _⟩ => ⟨S128x128x512, .f32⟩
  | .hbm, ⟨2, _⟩ => ⟨S128x128x512, .f32⟩
  | .hbm, ⟨3, _⟩ => ⟨S512, .f32⟩
  | .hbm, ⟨4, _⟩ => ⟨S128x128, .f32⟩
  | .hbm, ⟨5, _⟩ => ⟨S128x128, .f32⟩
  | .hbm, ⟨6, _⟩ => ⟨S128x128x128, .f32⟩
  | .hbm, ⟨7, _⟩ => ⟨S128x128x128, .f32⟩
  | .hbm, ⟨8, _⟩ => ⟨S3x4x64x128x512, .f32⟩
  | .hbm, ⟨9, _⟩ => ⟨S1x4x64x128x512, .f32⟩
  | .hbm, ⟨10, _⟩ => ⟨S4x64x128x512, .f32⟩
  | .hbm, ⟨11, _⟩ => ⟨S1x4x64x128x512, .f32⟩
  | .hbm, ⟨12, _⟩ => ⟨S4x64x128x512, .f32⟩
  | .hbm, ⟨13, _⟩ => ⟨S128x64, .f32⟩
  | .hbm, ⟨14, _⟩ => ⟨S4x128x512x128, .f32⟩
  | .hbm, ⟨15, _⟩ => ⟨S4x128x128x512, .f32⟩
  | .hbm, ⟨16, _⟩ => ⟨S128x64, .f32⟩
  | .hbm, ⟨17, _⟩ => ⟨S128x64, .f32⟩
  | .hbm, ⟨18, _⟩ => ⟨S4x128x512x128, .f32⟩
  | .hbm, ⟨19, _⟩ => ⟨S4x128x128x512, .f32⟩
  | .hbm, ⟨20, _⟩ => ⟨S128x4x512x128, .f32⟩
  | .hbm, ⟨21, _⟩ => ⟨S4x128x128x512, .f32⟩
  | .hbm, ⟨22, _⟩ => ⟨S128x4x512x128, .f32⟩
  | .hbm, ⟨23, _⟩ => ⟨S4x128x128x512, .f32⟩
  | .hbm, ⟨24, _⟩ => ⟨S4x128x128x512, .f32⟩
  | .hbm, ⟨25, _⟩ => ⟨S128x4x512x128, .f32⟩
  | .hbm, ⟨26, _⟩ => ⟨S4x128x128x512, .f32⟩
  | .hbm, ⟨27, _⟩ => ⟨S128x4x512x128, .f32⟩
  | .hbm, ⟨28, _⟩ => ⟨S4x128x128x512, .f32⟩
  | .hbm, ⟨29, _⟩ => ⟨S4x128x128x512, .f32⟩
  | .hbm, ⟨30, _⟩ => ⟨S1x128x128x512, .f32⟩
  | .hbm, ⟨31, _⟩ => ⟨S4x128x128x512, .f32⟩
  | .hbm, ⟨32, _⟩ => ⟨S4x128x128x512, .f32⟩
  | .hbm, ⟨33, _⟩ => ⟨S1x128x128x512, .f32⟩
  | .hbm, ⟨34, _⟩ => ⟨S4x128x128x512, .f32⟩
  | .hbm, ⟨35, _⟩ => ⟨S4x128x128x512, .f32⟩
  | .hbm, ⟨36, _⟩ => ⟨S4x128x128x512, .f32⟩
  | .hbm, ⟨37, _⟩ => ⟨S1x128x128x512, .f32⟩
  | .hbm, ⟨38, _⟩ => ⟨S4x128x128x512, .f32⟩
  | .hbm, ⟨39, _⟩ => ⟨S4x128x128x512, .f32⟩
  | .hbm, ⟨40, _⟩ => ⟨S1x128x128x512, .f32⟩
  | .hbm, ⟨41, _⟩ => ⟨S4x128x128x512, .f32⟩
  | .hbm, ⟨42, _⟩ => ⟨S4x128x128x512, .f32⟩
  | .hbm, ⟨43, _⟩ => ⟨S4x128x128x512, .f32⟩
  | .hbm, ⟨44, _⟩ => ⟨S128x4x512x128, .f32⟩
  | .hbm, ⟨45, _⟩ => ⟨S4x128x128x512, .f32⟩
  | .hbm, ⟨46, _⟩ => ⟨S128x4x512x128, .f32⟩
  | .hbm, ⟨47, _⟩ => ⟨S4x128x128x512, .f32⟩
  | .hbm, ⟨48, _⟩ => ⟨S4x128x128x512, .f32⟩
  | .hbm, ⟨49, _⟩ => ⟨S128x4x512x128, .f32⟩
  | .hbm, ⟨50, _⟩ => ⟨S4x128x128x512, .f32⟩
  | .hbm, ⟨51, _⟩ => ⟨S128x4x512x128, .f32⟩
  | .hbm, ⟨52, _⟩ => ⟨S4x128x128x512, .f32⟩
  | .hbm, ⟨53, _⟩ => ⟨S4x128x128x512, .f32⟩
  | .hbm, ⟨54, _⟩ => ⟨S128x64, .f32⟩
  | .hbm, ⟨55, _⟩ => ⟨S_, .f32⟩
  | .hbm, ⟨56, _⟩ => ⟨S128x64, .f32⟩
  | .hbm, ⟨57, _⟩ => ⟨S128x64, .f32⟩
  | .hbm, ⟨58, _⟩ => ⟨S4x128x512x64, .f32⟩
  | .hbm, ⟨59, _⟩ => ⟨S4x64x128x512, .f32⟩
  | .hbm, ⟨60, _⟩ => ⟨S128x64, .f32⟩
  | .hbm, ⟨61, _⟩ => ⟨S_, .f32⟩
  | .hbm, ⟨62, _⟩ => ⟨S128x64, .f32⟩
  | .hbm, ⟨63, _⟩ => ⟨S128x64, .f32⟩
  | .hbm, ⟨64, _⟩ => ⟨S4x128x512x64, .f32⟩
  | .hbm, ⟨65, _⟩ => ⟨S4x64x128x512, .f32⟩
  | .hbm, ⟨66, _⟩ => ⟨S4x64x128x512, .f32⟩
  | .hbm, ⟨67, _⟩ => ⟨S1x1x1x512, .f32⟩
  | .hbm, ⟨68, _⟩ => ⟨S4x64x128x512, .f32⟩
  | .hbm, ⟨69, _⟩ => ⟨S4x64x128x512, .f32⟩
  | .hbm, ⟨70, _⟩ => ⟨S4x64x128x512, .f32⟩
  | .hbm, ⟨71, _⟩ => ⟨S4x64x128x512, .f32⟩
  | .hbm, ⟨72, _⟩ => ⟨S4x64x65536, .f32⟩
  | _, _ => ⟨S3x32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_cst : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_cst_0 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩

abbrev nD : Nat := 1
abbrev τ : Topo := Topo.v7x

variable {F : FTy → Type} [FloatOps F]
-- ==== Kernel12.lean ====
abbrev S3x32768x512 : Shape := ⟨3, ![3, 32768, 512]⟩
abbrev S4x64x65536 : Shape := ⟨3, ![4, 64, 65536]⟩
abbrev S128x128x512 : Shape := ⟨3, ![128, 128, 512]⟩
abbrev S512 : Shape := ⟨1, ![512]⟩
abbrev S128x128 : Shape := ⟨2, ![128, 128]⟩
abbrev S128x128x128 : Shape := ⟨3, ![128, 128, 128]⟩
abbrev S128x64 : Shape := ⟨2, ![128, 64]⟩
abbrev S256x64 : Shape := ⟨2, ![256, 64]⟩
abbrev S128x256x128 : Shape := ⟨3, ![128, 256, 128]⟩
abbrev S64x128 : Shape := ⟨2, ![64, 128]⟩
abbrev S_ : Shape := ⟨0, ![]⟩
abbrev S3x4x64x65536 : Shape := ⟨4, ![3, 4, 64, 65536]⟩
abbrev S1x4x64x65536 : Shape := ⟨4, ![1, 4, 64, 65536]⟩
abbrev S4x128x65536 : Shape := ⟨3, ![4, 128, 65536]⟩
abbrev S1x1x64x4096 : Shape := ⟨4, ![1, 1, 64, 4096]⟩
abbrev S1x128x4096 : Shape := ⟨3, ![1, 128, 4096]⟩
abbrev S64x4096 : Shape := ⟨2, ![64, 4096]⟩
abbrev S256x4096 : Shape := ⟨2, ![256, 4096]⟩
abbrev S128x4096 : Shape := ⟨2, ![128, 4096]⟩
abbrev S4x128x128x512 : Shape := ⟨4, ![4, 128, 128, 512]⟩
abbrev S1x8x128x512 : Shape := ⟨4, ![1, 8, 128, 512]⟩
abbrev S8x256x128 : Shape := ⟨3, ![8, 256, 128]⟩
abbrev S8x128x512 : Shape := ⟨3, ![8, 128, 512]⟩
abbrev S1x256x128 : Shape := ⟨3, ![1, 256, 128]⟩
abbrev S256x128 : Shape := ⟨2, ![256, 128]⟩
abbrev S1x1x128x512 : Shape := ⟨4, ![1, 1, 128, 512]⟩
abbrev S128x512 : Shape := ⟨2, ![128, 512]⟩
abbrev S256x512 : Shape := ⟨2, ![256, 512]⟩
abbrev S1x128x512 : Shape := ⟨3, ![1, 128, 512]⟩
abbrev S1x512 : Shape := ⟨2, ![1, 512]⟩
abbrev S8x512 : Shape := ⟨2, ![8, 512]⟩
abbrev S4096 : Shape := ⟨1, ![4096]⟩
abbrev S1x4096 : Shape := ⟨2, ![1, 4096]⟩
abbrev S1x64x4096 : Shape := ⟨3, ![1, 64, 4096]⟩

abbrev nBuf : Space → Nat
  | .hbm => 47
  | .vmem => 36
  | .smem => 0
  | _ => 0

abbrev bufTy : (tb : Table) → Fin (tcTables nBuf tb) → BufTy
  | .hbm, ⟨0, _⟩ => ⟨S3x32768x512, .f32⟩
  | .hbm, ⟨1, _⟩ => ⟨S4x64x65536, .f32⟩
  | .hbm, ⟨2, _⟩ => ⟨S128x128x512, .f32⟩
  | .hbm, ⟨3, _⟩ => ⟨S128x128x512, .f32⟩
  | .hbm, ⟨4, _⟩ => ⟨S512, .f32⟩
  | .hbm, ⟨5, _⟩ => ⟨S128x128, .f32⟩
  | .hbm, ⟨6, _⟩ => ⟨S128x128, .f32⟩
  | .hbm, ⟨7, _⟩ => ⟨S128x128x128, .f32⟩
  | .hbm, ⟨8, _⟩ => ⟨S128x128x128, .f32⟩
  | .hbm, ⟨9, _⟩ => ⟨S128x64, .f32⟩
  | .hbm, ⟨10, _⟩ => ⟨S128x64, .f32⟩
  | .hbm, ⟨11, _⟩ => ⟨S128x64, .f32⟩
  | .hbm, ⟨12, _⟩ => ⟨S256x64, .f32⟩
  | .hbm, ⟨13, _⟩ => ⟨S256x64, .bf16⟩
  | .hbm, ⟨14, _⟩ => ⟨S128x256x128, .f32⟩
  | .hbm, ⟨15, _⟩ => ⟨S128x256x128, .bf16⟩
  | .hbm, ⟨16, _⟩ => ⟨S128x128x128, .f32⟩
  | .hbm, ⟨17, _⟩ => ⟨S128x128x128, .f32⟩
  | .hbm, ⟨18, _⟩ => ⟨S128x256x128, .f32⟩
  | .hbm, ⟨19, _⟩ => ⟨S128x256x128, .bf16⟩
  | .hbm, ⟨20, _⟩ => ⟨S128x128, .f32⟩
  | .hbm, ⟨21, _⟩ => ⟨S64x128, .f32⟩
  | .hbm, ⟨22, _⟩ => ⟨S_, .f32⟩
  | .hbm, ⟨23, _⟩ => ⟨S64x128, .f32⟩
  | .hbm, ⟨24, _⟩ => ⟨S64x128, .f32⟩
  | .hbm, ⟨25, _⟩ => ⟨S64x128, .bf16⟩
  | .hbm, ⟨26, _⟩ => ⟨S128x128, .f32⟩
  | .hbm, ⟨27, _⟩ => ⟨S64x128, .f32⟩
  | .hbm, ⟨28, _⟩ => ⟨S_, .f32⟩
  | .hbm, ⟨29, _⟩ => ⟨S64x128, .f32⟩
  | .hbm, ⟨30, _⟩ => ⟨S64x128, .f32⟩
  | .hbm, ⟨31, _⟩ => ⟨S64x128, .bf16⟩
  | .hbm, ⟨32, _⟩ => ⟨S3x4x64x65536, .f32⟩
  | .hbm, ⟨33, _⟩ => ⟨S1x4x64x65536, .f32⟩
  | .hbm, ⟨34, _⟩ => ⟨S4x128x65536, .bf16⟩
  | .hbm, ⟨35, _⟩ => ⟨S4x128x65536, .bf16⟩
  | .hbm, ⟨36, _⟩ => ⟨S4x128x128x512, .bf16⟩
  | .hbm, ⟨37, _⟩ => ⟨S4x128x128x512, .bf16⟩
  | .hbm, ⟨38, _⟩ => ⟨S4x128x128x512, .bf16⟩
  | .hbm, ⟨39, _⟩ => ⟨S4x128x128x512, .bf16⟩
  | .hbm, ⟨40, _⟩ => ⟨S1x512, .f32⟩
  | .hbm, ⟨41, _⟩ => ⟨S8x512, .f32⟩
  | .hbm, ⟨42, _⟩ => ⟨S4096, .f32⟩
  | .hbm, ⟨43, _⟩ => ⟨S1x4096, .f32⟩
  | .hbm, ⟨44, _⟩ => ⟨S4x128x65536, .bf16⟩
  | .hbm, ⟨45, _⟩ => ⟨S4x128x65536, .bf16⟩
  | .hbm, ⟨46, _⟩ => ⟨S4x64x65536, .f32⟩
  | .local _ .vmem, ⟨0, _⟩ => ⟨S1x1x64x4096, .f32⟩
  | .local _ .vmem, ⟨1, _⟩ => ⟨S1x1x64x4096, .f32⟩
  | .local _ .vmem, ⟨2, _⟩ => ⟨S256x64, .bf16⟩
  | .local _ .vmem, ⟨3, _⟩ => ⟨S1x128x4096, .bf16⟩
  | .local _ .vmem, ⟨4, _⟩ => ⟨S1x128x4096, .bf16⟩
  | .local _ .vmem, ⟨5, _⟩ => ⟨S1x128x4096, .bf16⟩
  | .local _ .vmem, ⟨6, _⟩ => ⟨S1x128x4096, .bf16⟩
  | .local _ .vmem, ⟨7, _⟩ => ⟨S1x8x128x512, .bf16⟩
  | .local _ .vmem, ⟨8, _⟩ => ⟨S1x8x128x512, .bf16⟩
  | .local _ .vmem, ⟨9, _⟩ => ⟨S1x8x128x512, .bf16⟩
  | .local _ .vmem, ⟨10, _⟩ => ⟨S1x8x128x512, .bf16⟩
  | .local _ .vmem, ⟨11, _⟩ => ⟨S8x256x128, .bf16⟩
  | .local _ .vmem, ⟨12, _⟩ => ⟨S8x256x128, .bf16⟩
  | .local _ .vmem, ⟨13, _⟩ => ⟨S8x256x128, .bf16⟩
  | .local _ .vmem, ⟨14, _⟩ => ⟨S8x256x128, .bf16⟩
  | .local _ .vmem, ⟨15, _⟩ => ⟨S8x128x512, .f32⟩
  | .local _ .vmem, ⟨16, _⟩ => ⟨S8x128x512, .f32⟩
  | .local _ .vmem, ⟨17, _⟩ => ⟨S8x128x512, .f32⟩
  | .local _ .vmem, ⟨18, _⟩ => ⟨S8x128x512, .f32⟩
  | .local _ .vmem, ⟨19, _⟩ => ⟨S1x8x128x512, .bf16⟩
  | .local _ .vmem, ⟨20, _⟩ => ⟨S1x8x128x512, .bf16⟩
  | .local _ .vmem, ⟨21, _⟩ => ⟨S1x8x128x512, .bf16⟩
  | .local _ .vmem, ⟨22, _⟩ => ⟨S1x8x128x512, .bf16⟩
  | .local _ .vmem, ⟨23, _⟩ => ⟨S1x128x4096, .bf16⟩
  | .local _ .vmem, ⟨24, _⟩ => ⟨S1x128x4096, .bf16⟩
  | .local _ .vmem, ⟨25, _⟩ => ⟨S1x128x4096, .bf16⟩
  | .local _ .vmem, ⟨26, _⟩ => ⟨S1x128x4096, .bf16⟩
  | .local _ .vmem, ⟨27, _⟩ => ⟨S64x128, .bf16⟩
  | .local _ .vmem, ⟨28, _⟩ => ⟨S64x128, .bf16⟩
  | .local _ .vmem, ⟨29, _⟩ => ⟨S1x1x64x4096, .f32⟩
  | .local _ .vmem, ⟨30, _⟩ => ⟨S1x1x64x4096, .f32⟩
  | .local _ .vmem, ⟨31, _⟩ => ⟨S1x1x64x4096, .f32⟩
  | .local _ .vmem, ⟨32, _⟩ => ⟨S1x1x64x4096, .f32⟩
  | .local _ .vmem, ⟨33, _⟩ => ⟨S1x4096, .f32⟩
  | .local _ .vmem, ⟨34, _⟩ => ⟨S1x64x4096, .f32⟩
  | .local _ .vmem, ⟨35, _⟩ => ⟨S1x64x4096, .f32⟩
  | _, _ => ⟨S3x32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23_0 : Ref sig .tc := ⟨.hbm, 34, rfl⟩
abbrev main_v23_1 : Ref sig .tc := ⟨.hbm, 35, rfl⟩
abbrev main_v24 : Ref sig .tc := ⟨.hbm, 36, rfl⟩
abbrev main_v25 : Ref sig .tc := ⟨.hbm, 37, rfl⟩
abbrev main_v26_0 : Ref sig .tc := ⟨.hbm, 38, rfl⟩
abbrev main_v26_1 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc1_stg7_0 : Ref sig .tc := ⟨.vmem, 21, rfl⟩
abbrev cc1_stg7_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg4_1 : Ref sig .tc := ⟨.vmem, 30, rfl⟩
abbrev cc2_stg5_0 : Ref sig .tc := ⟨.vmem, 31, rfl⟩
abbrev cc2_stg5_1 : Ref sig .tc := ⟨.vmem, 32, rfl⟩
abbrev cc2_stg6_0 : Ref sig .tc := ⟨.vmem, 33, rfl⟩
abbrev cc2_stg7_0 : Ref sig .tc := ⟨.vmem, 34, rfl⟩
abbrev cc2_stg7_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem5_1 : DmaSem sig := 18
abbrev cc1_sem6_0 : DmaSem sig := 19
abbrev cc1_sem6_1 : DmaSem sig := 20
abbrev cc1_sem7_0 : DmaSem sig := 21
abbrev cc1_sem7_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem3_0 : DmaSem sig := 28
abbrev cc2_sem4_0 : DmaSem sig := 29
abbrev cc2_sem4_1 : DmaSem sig := 30
abbrev cc2_sem5_0 : DmaSem sig := 31
abbrev cc2_sem5_1 : DmaSem sig := 32
abbrev cc2_sem6_0 : DmaSem sig := 33
abbrev cc2_sem7_0 : DmaSem sig := 34
abbrev cc2_sem7_1 : DmaSem sig := 35

abbrev nD : Nat := 1
abbrev τ : Topo := Topo.v7x

variable {F : FTy → Type} [FloatOps F]

abbrev grid0 : Pipeline.Grid := ⟨2, ![4, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1x64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![16, 4], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc1_transform_7 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage1_0 : Fin 2 → Memref sig .tc .vmem S1x8x128x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x8x128x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S8x256x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S8x256x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S8x128x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S8x128x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x8x128x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x8x128x512 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev grid2 : Pipeline.Grid := ⟨2, ![4, 16], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc2_transform_5 (i : grid2.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg0.toNat, c0_i32.toNat, arg1.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage2_0 : Fin 2 → Memref sig .tc .vmem S1x128x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x128x4096 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S64x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S64x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1x1x64x4096 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1x1x64x4096 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 1 → Memref sig .tc .vmem S1x4096 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 2 → Memref sig .tc .vmem S1x64x4096 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]
-- ==== Reference12Ideal.lean ====
abbrev S3x32768x512 : Shape := ⟨3, ![3, 32768, 512]⟩
abbrev S4x64x65536 : Shape := ⟨3, ![4, 64, 65536]⟩
abbrev S128x128x512 : Shape := ⟨3, ![128, 128, 512]⟩
abbrev S512 : Shape := ⟨1, ![512]⟩
abbrev S128x128 : Shape := ⟨2, ![128, 128]⟩
abbrev S128x128x128 : Shape := ⟨3, ![128, 128, 128]⟩
abbrev S3x4x64x128x512 : Shape := ⟨5, ![3, 4, 64, 128, 512]⟩
abbrev S1x4x64x128x512 : Shape := ⟨5, ![1, 4, 64, 128, 512]⟩
abbrev S4x64x128x512 : Shape := ⟨4, ![4, 64, 128, 512]⟩
abbrev S128x64 : Shape := ⟨2, ![128, 64]⟩
abbrev S4x128x512x128 : Shape := ⟨4, ![4, 128, 512, 128]⟩
abbrev S4x128x128x512 : Shape := ⟨4, ![4, 128, 128, 512]⟩
abbrev S128x4x512x128 : Shape := ⟨4, ![128, 4, 512, 128]⟩
abbrev S1x128x128x512 : Shape := ⟨4, ![1, 128, 128, 512]⟩
abbrev S_ : Shape := ⟨0, ![]⟩
abbrev S4x128x512x64 : Shape := ⟨4, ![4, 128, 512, 64]⟩
abbrev S1x1x1x512 : Shape := ⟨4, ![1, 1, 1, 512]⟩

abbrev nBuf : Space → Nat
  | .hbm => 73
  | .vmem => 0
  | .smem => 0
  | _ => 0

abbrev bufTy : (tb : Table) → Fin (tcTables nBuf tb) → BufTy
  | .hbm, ⟨0, _⟩ => ⟨S3x32768x512, .f32⟩
  | .hbm, ⟨1, _⟩ => ⟨S4x64x65536, .f32⟩
  | .hbm, ⟨2, _⟩ => ⟨S128x128x512, .f32⟩
  | .hbm, ⟨3, _⟩ => ⟨S128x128x512, .f32⟩
  | .hbm, ⟨4, _⟩ => ⟨S512, .f32⟩
  | .hbm, ⟨5, _⟩ => ⟨S128x128, .f32⟩
  | .hbm, ⟨6, _⟩ => ⟨S128x128, .f32⟩
  | .hbm, ⟨7, _⟩ => ⟨S128x128x128, .f32⟩
  | .hbm, ⟨8, _⟩ => ⟨S128x128x128, .f32⟩
  | .hbm, ⟨9, _⟩ => ⟨S3x4x64x128x512, .f32⟩
  | .hbm, ⟨10, _⟩ => ⟨S1x4x64x128x512, .f32⟩
  | .hbm, ⟨11, _⟩ => ⟨S4x64x128x512, .f32⟩
  | .hbm, ⟨12, _⟩ => ⟨S4x64x128x512, .f32⟩
  | .hbm, ⟨13, _⟩ => ⟨S128x64, .f32⟩
  | .hbm, ⟨14, _⟩ => ⟨S4x128x512x128, .f32⟩
  | .hbm, ⟨15, _⟩ => ⟨S4x128x128x512, .f32⟩
  | .hbm, ⟨16, _⟩ => ⟨S128x64, .f32⟩
  | .hbm, ⟨17, _⟩ => ⟨S128x64, .f32⟩
  | .hbm, ⟨18, _⟩ => ⟨S4x128x512x128, .f32⟩
  | .hbm, ⟨19, _⟩ => ⟨S4x128x128x512, .f32⟩
  | .hbm, ⟨20, _⟩ => ⟨S128x4x512x128, .f32⟩
  | .hbm, ⟨21, _⟩ => ⟨S4x128x128x512, .f32⟩
  | .hbm, ⟨22, _⟩ => ⟨S128x4x512x128, .f32⟩
  | .hbm, ⟨23, _⟩ => ⟨S4x128x128x512, .f32⟩
  | .hbm, ⟨24, _⟩ => ⟨S4x128x128x512, .f32⟩
  | .hbm, ⟨25, _⟩ => ⟨S128x4x512x128, .f32⟩
  | .hbm, ⟨26, _⟩ => ⟨S4x128x128x512, .f32⟩
  | .hbm, ⟨27, _⟩ => ⟨S128x4x512x128, .f32⟩
  | .hbm, ⟨28, _⟩ => ⟨S4x128x128x512, .f32⟩
  | .hbm, ⟨29, _⟩ => ⟨S4x128x128x512, .f32⟩
  | .hbm, ⟨30, _⟩ => ⟨S1x128x128x512, .f32⟩
  | .hbm, ⟨31, _⟩ => ⟨S4x128x128x512, .f32⟩
  | .hbm, ⟨32, _⟩ => ⟨S4x128x128x512, .f32⟩
  | .hbm, ⟨33, _⟩ => ⟨S1x128x128x512, .f32⟩
  | .hbm, ⟨34, _⟩ => ⟨S4x128x128x512, .f32⟩
  | .hbm, ⟨35, _⟩ => ⟨S4x128x128x512, .f32⟩
  | .hbm, ⟨36, _⟩ => ⟨S4x128x128x512, .f32⟩
  | .hbm, ⟨37, _⟩ => ⟨S1x128x128x512, .f32⟩
  | .hbm, ⟨38, _⟩ => ⟨S4x128x128x512, .f32⟩
  | .hbm, ⟨39, _⟩ => ⟨S4x128x128x512, .f32⟩
  | .hbm, ⟨40, _⟩ => ⟨S1x128x128x512, .f32⟩
  | .hbm, ⟨41, _⟩ => ⟨S4x128x128x512, .f32⟩
  | .hbm, ⟨42, _⟩ => ⟨S4x128x128x512, .f32⟩
  | .hbm, ⟨43, _⟩ => ⟨S4x128x128x512, .f32⟩
  | .hbm, ⟨44, _⟩ => ⟨S128x4x512x128, .f32⟩
  | .hbm, ⟨45, _⟩ => ⟨S4x128x128x512, .f32⟩
  | .hbm, ⟨46, _⟩ => ⟨S128x4x512x128, .f32⟩
  | .hbm, ⟨47, _⟩ => ⟨S4x128x128x512, .f32⟩
  | .hbm, ⟨48, _⟩ => ⟨S4x128x128x512, .f32⟩
  | .hbm, ⟨49, _⟩ => ⟨S128x4x512x128, .f32⟩
  | .hbm, ⟨50, _⟩ => ⟨S4x128x128x512, .f32⟩
  | .hbm, ⟨51, _⟩ => ⟨S128x4x512x128, .f32⟩
  | .hbm, ⟨52, _⟩ => ⟨S4x128x128x512, .f32⟩
  | .hbm, ⟨53, _⟩ => ⟨S4x128x128x512, .f32⟩
  | .hbm, ⟨54, _⟩ => ⟨S128x64, .f32⟩
  | .hbm, ⟨55, _⟩ => ⟨S_, .f32⟩
  | .hbm, ⟨56, _⟩ => ⟨S128x64, .f32⟩
  | .hbm, ⟨57, _⟩ => ⟨S128x64, .f32⟩
  | .hbm, ⟨58, _⟩ => ⟨S4x128x512x64, .f32⟩
  | .hbm, ⟨59, _⟩ => ⟨S4x64x128x512, .f32⟩
  | .hbm, ⟨60, _⟩ => ⟨S128x64, .f32⟩
  | .hbm, ⟨61, _⟩ => ⟨S_, .f32⟩
  | .hbm, ⟨62, _⟩ => ⟨S128x64, .f32⟩
  | .hbm, ⟨63, _⟩ => ⟨S128x64, .f32⟩
  | .hbm, ⟨64, _⟩ => ⟨S4x128x512x64, .f32⟩
  | .hbm, ⟨65, _⟩ => ⟨S4x64x128x512, .f32⟩
  | .hbm, ⟨66, _⟩ => ⟨S4x64x128x512, .f32⟩
  | .hbm, ⟨67, _⟩ => ⟨S1x1x1x512, .f32⟩
  | .hbm, ⟨68, _⟩ => ⟨S4x64x128x512, .f32⟩
  | .hbm, ⟨69, _⟩ => ⟨S4x64x128x512, .f32⟩
  | .hbm, ⟨70, _⟩ => ⟨S4x64x128x512, .f32⟩
  | .hbm, ⟨71, _⟩ => ⟨S4x64x128x512, .f32⟩
  | .hbm, ⟨72, _⟩ => ⟨S4x64x65536, .f32⟩
  | _, _ => ⟨S3x32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_cst : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_cst_0 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩

abbrev nD : Nat := 1
abbrev τ : Topo := Topo.v7x

variable {F : FTy → Type} [FloatOps F]
-- ==== Kernel13.lean ====
abbrev S8192x2048 : Shape := ⟨2, ![8192, 2048]⟩
abbrev S1x2048 : Shape := ⟨2, ![1, 2048]⟩
abbrev S128x128 : Shape := ⟨2, ![128, 128]⟩
abbrev S128x128x128 : Shape := ⟨3, ![128, 128, 128]⟩
abbrev S128x64 : Shape := ⟨2, ![128, 64]⟩
abbrev S256x64 : Shape := ⟨2, ![256, 64]⟩
abbrev S1x1x64x262144 : Shape := ⟨4, ![1, 1, 64, 262144]⟩
abbrev S1x128x262144 : Shape := ⟨3, ![1, 128, 262144]⟩
abbrev S1x1x64x4096 : Shape := ⟨4, ![1, 1, 64, 4096]⟩
abbrev S1x128x4096 : Shape := ⟨3, ![1, 128, 4096]⟩
abbrev S64x4096 : Shape := ⟨2, ![64, 4096]⟩
abbrev S256x4096 : Shape := ⟨2, ![256, 4096]⟩
abbrev S128x4096 : Shape := ⟨2, ![128, 4096]⟩
abbrev S128x128x2048 : Shape := ⟨3, ![128, 128, 2048]⟩
abbrev S2x128x128x512 : Shape := ⟨4, ![2, 128, 128, 512]⟩
abbrev S4x128x256 : Shape := ⟨3, ![4, 128, 256]⟩
abbrev S4x128x128 : Shape := ⟨3, ![4, 128, 128]⟩
abbrev S1x256 : Shape := ⟨2, ![1, 256]⟩
abbrev S1x4x128x256 : Shape := ⟨4, ![1, 4, 128, 256]⟩
abbrev S1x128x128 : Shape := ⟨3, ![1, 128, 128]⟩
abbrev S1x128x256 : Shape := ⟨3, ![1, 128, 256]⟩
abbrev S128x256 : Shape := ⟨2, ![128, 256]⟩
abbrev S1x1x128x256 : Shape := ⟨4, ![1, 1, 128, 256]⟩

abbrev nBuf : Space → Nat
  | .hbm => 17
  | .vmem => 27
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S128x128, .f32⟩
  | .hbm, ⟨3, _⟩ => ⟨S128x128, .f32⟩
  | .hbm, ⟨4, _⟩ => ⟨S128x128x128, .f32⟩
  | .hbm, ⟨5, _⟩ => ⟨S128x128x128, .f32⟩
  | .hbm, ⟨6, _⟩ => ⟨S128x64, .f32⟩
  | .hbm, ⟨7, _⟩ => ⟨S128x64, .f32⟩
  | .hbm, ⟨8, _⟩ => ⟨S128x64, .f32⟩
  | .hbm, ⟨9, _⟩ => ⟨S256x64, .f32⟩
  | .hbm, ⟨10, _⟩ => ⟨S1x1x64x262144, .f32⟩
  | .hbm, ⟨11, _⟩ => ⟨S1x128x262144, .f32⟩
  | .hbm, ⟨12, _⟩ => ⟨S1x128x262144, .f32⟩
  | .hbm, ⟨13, _⟩ => ⟨S128x128x2048, .f32⟩
  | .hbm, ⟨14, _⟩ => ⟨S128x128x2048, .f32⟩
  | .hbm, ⟨15, _⟩ => ⟨S2x128x128x512, .f32⟩
  | .hbm, ⟨16, _⟩ => ⟨S2x128x128x512, .f32⟩
  | .local _ .vmem, ⟨0, _⟩ => ⟨S1x1x64x4096, .f32⟩
  | .local _ .vmem, ⟨1, _⟩ => ⟨S1x1x64x4096, .f32⟩
  | .local _ .vmem, ⟨2, _⟩ => ⟨S256x64, .f32⟩
  | .local _ .vmem, ⟨3, _⟩ => ⟨S1x128x4096, .f32⟩
  | .local _ .vmem, ⟨4, _⟩ => ⟨S1x128x4096, .f32⟩
  | .local _ .vmem, ⟨5, _⟩ => ⟨S1x128x4096, .f32⟩
  | .local _ .vmem, ⟨6, _⟩ => ⟨S1x128x4096, .f32⟩
  | .local _ .vmem, ⟨7, _⟩ => ⟨S4x128x256, .f32⟩
  | .local _ .vmem, ⟨8, _⟩ => ⟨S4x128x256, .f32⟩
  | .local _ .vmem, ⟨9, _⟩ => ⟨S4x128x256, .f32⟩
  | .local _ .vmem, ⟨10, _⟩ => ⟨S4x128x256, .f32⟩
  | .local _ .vmem, ⟨11, _⟩ => ⟨S4x128x256, .f32⟩
  | .local _ .vmem, ⟨12, _⟩ => ⟨S4x128x256, .f32⟩
  | .local _ .vmem, ⟨13, _⟩ => ⟨S4x128x256, .f32⟩
  | .local _ .vmem, ⟨14, _⟩ => ⟨S4x128x256, .f32⟩
  | .local _ .vmem, ⟨15, _⟩ => ⟨S4x128x128, .f32⟩
  | .local _ .vmem, ⟨16, _⟩ => ⟨S4x128x128, .f32⟩
  | .local _ .vmem, ⟨17, _⟩ => ⟨S4x128x128, .f32⟩
  | .local _ .vmem, ⟨18, _⟩ => ⟨S4x128x128, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S1x4x128x256, .f32⟩
  | .local _ .vmem, ⟨24, _⟩ => ⟨S1x4x128x256, .f32⟩
  | .local _ .vmem, ⟨25, _⟩ => ⟨S1x4x128x256, .f32⟩
  | .local _ .vmem, ⟨26, _⟩ => ⟨S1x4x128x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc1_stg7_0 : Ref sig .tc := ⟨.vmem, 21, rfl⟩
abbrev cc1_stg7_1 : Ref sig .tc := ⟨.vmem, 22, rfl⟩
abbrev cc1_stg8_0 : Ref sig .tc := ⟨.vmem, 23, rfl⟩
abbrev cc1_stg8_1 : Ref sig .tc := ⟨.vmem, 24, rfl⟩
abbrev cc1_stg9_0 : Ref sig .tc := ⟨.vmem, 25, rfl⟩
abbrev cc1_stg9_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem5_1 : DmaSem sig := 18
abbrev cc1_sem6_0 : DmaSem sig := 19
abbrev cc1_sem6_1 : DmaSem sig := 20
abbrev cc1_sem7_0 : DmaSem sig := 21
abbrev cc1_sem7_1 : DmaSem sig := 22
abbrev cc1_sem8_0 : DmaSem sig := 23
abbrev cc1_sem8_1 : DmaSem sig := 24
abbrev cc1_sem9_0 : DmaSem sig := 25
abbrev cc1_sem9_1 : DmaSem sig := 26

abbrev nD : Nat := 1
abbrev τ : Topo := Topo.v7x

variable {F : FTy → Type} [FloatOps F]

abbrev grid0 : Pipeline.Grid := ⟨2, ![1, 64], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1x64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![2, 32, 2], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let c0_i32 : BitVec 32 := 0#32
  let v1 : BitVec 32 := Scalar.addi v0 c0_i32
  let c2_i32_0 : BitVec 32 := 2#32
  let v2 : BitVec 32 := Scalar.muli v1 c2_i32_0
  let v3 : BitVec 32 := Scalar.addi v2 arg2
  let c0_i32_1 : BitVec 32 := 0#32
  let c0_i32_2 : BitVec 32 := 0#32
  ![arg1.toNat, c0_i32_1.toNat, v3.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let c0_i32 : BitVec 32 := 0#32
  let v1 : BitVec 32 := Scalar.addi v0 c0_i32
  let c2_i32_0 : BitVec 32 := 2#32
  let v2 : BitVec 32 := Scalar.muli v1 c2_i32_0
  let v3 : BitVec 32 := Scalar.addi v2 arg2
  let c0_i32_1 : BitVec 32 := 0#32
  let c0_i32_2 : BitVec 32 := 0#32
  ![arg1.toNat, c0_i32_1.toNat, v3.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let c1_i32 : BitVec 32 := 1#32
  let v1 : BitVec 32 := Scalar.addi v0 c1_i32
  let c2_i32_0 : BitVec 32 := 2#32
  let v2 : BitVec 32 := Scalar.muli v1 c2_i32_0
  let v3 : BitVec 32 := Scalar.addi v2 arg2
  let c0_i32 : BitVec 32 := 0#32
  let c0_i32_1 : BitVec 32 := 0#32
  ![arg1.toNat, c0_i32.toNat, v3.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let c1_i32 : BitVec 32 := 1#32
  let v1 : BitVec 32 := Scalar.addi v0 c1_i32
  let c2_i32_0 : BitVec 32 := 2#32
  let v2 : BitVec 32 := Scalar.muli v1 c2_i32_0
  let v3 : BitVec 32 := Scalar.addi v2 arg2
  let c0_i32 : BitVec 32 := 0#32
  let c0_i32_1 : BitVec 32 := 0#32
  ![arg1.toNat, c0_i32.toNat, v3.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let c0_i32 : BitVec 32 := 0#32
  let v1 : BitVec 32 := Scalar.addi v0 c0_i32
  let c2_i32_0 : BitVec 32 := 2#32
  let v2 : BitVec 32 := Scalar.muli v1 c2_i32_0
  let v3 : BitVec 32 := Scalar.addi v2 arg2
  let c0_i32_1 : BitVec 32 := 0#32
  let c0_i32_2 : BitVec 32 := 0#32
  ![c0_i32_1.toNat, v3.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let c1_i32 : BitVec 32 := 1#32
  let v1 : BitVec 32 := Scalar.addi v0 c1_i32
  let c2_i32_0 : BitVec 32 := 2#32
  let v2 : BitVec 32 := Scalar.muli v1 c2_i32_0
  let v3 : BitVec 32 := Scalar.addi v2 arg2
  let c0_i32 : BitVec 32 := 0#32
  let c0_i32_1 : BitVec 32 := 0#32
  ![c0_i32.toNat, v3.toNat]

def cc1_transform_8 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc1_transform_9 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

abbrev stage1_0 : Fin 2 → Memref sig .tc .vmem S4x128x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S4x128x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S4x128x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S4x128x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S4x128x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true, false]

abbrev stage1_5 : Fin 2 → Memref sig .tc .vmem S4x128x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true, false]

abbrev stage1_6 : Fin 2 → Memref sig .tc .vmem S1x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false, true]

abbrev stage1_7 : Fin 2 → Memref sig .tc .vmem S1x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false, true]

abbrev stage1_8 : Fin 2 → Memref sig .tc .vmem S1x4x128x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true, true]

abbrev stage1_9 : Fin 2 → Memref sig .tc .vmem S1x4x128x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true, true]
-- ==== Reference13Ideal.lean ====
abbrev S8192x2048 : Shape := ⟨2, ![8192, 2048]⟩
abbrev S1x2048 : Shape := ⟨2, ![1, 2048]⟩
abbrev S128x128 : Shape := ⟨2, ![128, 128]⟩
abbrev S128x128x128 : Shape := ⟨3, ![128, 128, 128]⟩
abbrev S64x128x2x2x512 : Shape := ⟨5, ![64, 128, 2, 2, 512]⟩
abbrev S64x128x2x1x512 : Shape := ⟨5, ![64, 128, 2, 1, 512]⟩
abbrev S64x128x2x512 : Shape := ⟨4, ![64, 128, 2, 512]⟩
abbrev S2x2x512 : Shape := ⟨3, ![2, 2, 512]⟩
abbrev S2x1x512 : Shape := ⟨3, ![2, 1, 512]⟩
abbrev S2x512 : Shape := ⟨2, ![2, 512]⟩
abbrev S_ : Shape := ⟨0, ![]⟩
abbrev S2x1x1x512 : Shape := ⟨4, ![2, 1, 1, 512]⟩
abbrev S128x64 : Shape := ⟨2, ![128, 64]⟩
abbrev S128x2x512x128 : Shape := ⟨4, ![128, 2, 512, 128]⟩
abbrev S2x128x128x512 : Shape := ⟨4, ![2, 128, 128, 512]⟩

abbrev nBuf : Space → Nat
  | .hbm => 53
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S128x128, .f32⟩
  | .hbm, ⟨3, _⟩ => ⟨S128x128, .f32⟩
  | .hbm, ⟨4, _⟩ => ⟨S128x128x128, .f32⟩
  | .hbm, ⟨5, _⟩ => ⟨S128x128x128, .f32⟩
  | .hbm, ⟨6, _⟩ => ⟨S64x128x2x2x512, .f32⟩
  | .hbm, ⟨7, _⟩ => ⟨S64x128x2x1x512, .f32⟩
  | .hbm, ⟨8, _⟩ => ⟨S64x128x2x512, .f32⟩
  | .hbm, ⟨9, _⟩ => ⟨S64x128x2x1x512, .f32⟩
  | .hbm, ⟨10, _⟩ => ⟨S64x128x2x512, .f32⟩
  | .hbm, ⟨11, _⟩ => ⟨S2x2x512, .f32⟩
  | .hbm, ⟨12, _⟩ => ⟨S2x1x512, .f32⟩
  | .hbm, ⟨13, _⟩ => ⟨S2x512, .f32⟩
  | .hbm, ⟨14, _⟩ => ⟨S2x1x512, .f32⟩
  | .hbm, ⟨15, _⟩ => ⟨S2x512, .f32⟩
  | .hbm, ⟨16, _⟩ => ⟨S2x512, .f32⟩
  | .hbm, ⟨17, _⟩ => ⟨S_, .f32⟩
  | .hbm, ⟨18, _⟩ => ⟨S2x512, .f32⟩
  | .hbm, ⟨19, _⟩ => ⟨S2x512, .f32⟩
  | .hbm, ⟨20, _⟩ => ⟨S2x1x1x512, .f32⟩
  | .hbm, ⟨21, _⟩ => ⟨S128x64, .f32⟩
  | .hbm, ⟨22, _⟩ => ⟨S128x2x512x128, .f32⟩
  | .hbm, ⟨23, _⟩ => ⟨S2x128x128x512, .f32⟩
  | .hbm, ⟨24, _⟩ => ⟨S128x128, .f32⟩
  | .hbm, ⟨25, _⟩ => ⟨S128x64, .f32⟩
  | .hbm, ⟨26, _⟩ => ⟨S128x2x512x128, .f32⟩
  | .hbm, ⟨27, _⟩ => ⟨S2x128x128x512, .f32⟩
  | .hbm, ⟨28, _⟩ => ⟨S128x64, .f32⟩
  | .hbm, ⟨29, _⟩ => ⟨S128x2x512x128, .f32⟩
  | .hbm, ⟨30, _⟩ => ⟨S2x128x128x512, .f32⟩
  | .hbm, ⟨31, _⟩ => ⟨S128x128, .f32⟩
  | .hbm, ⟨32, _⟩ => ⟨S128x64, .f32⟩
  | .hbm, ⟨33, _⟩ => ⟨S128x2x512x128, .f32⟩
  | .hbm, ⟨34, _⟩ => ⟨S2x128x128x512, .f32⟩
  | .hbm, ⟨35, _⟩ => ⟨S2x128x128x512, .f32⟩
  | .hbm, ⟨36, _⟩ => ⟨S128x2x512x128, .f32⟩
  | .hbm, ⟨37, _⟩ => ⟨S2x128x128x512, .f32⟩
  | .hbm, ⟨38, _⟩ => ⟨S2x128x128x512, .f32⟩
  | .hbm, ⟨39, _⟩ => ⟨S128x2x512x128, .f32⟩
  | .hbm, ⟨40, _⟩ => ⟨S2x128x128x512, .f32⟩
  | .hbm, ⟨41, _⟩ => ⟨S2x128x128x512, .f32⟩
  | .hbm, ⟨42, _⟩ => ⟨S2x128x128x512, .f32⟩
  | .hbm, ⟨43, _⟩ => ⟨S2x128x128x512, .f32⟩
  | .hbm, ⟨44, _⟩ => ⟨S2x128x128x512, .f32⟩
  | .hbm, ⟨45, _⟩ => ⟨S128x2x512x128, .f32⟩
  | .hbm, ⟨46, _⟩ => ⟨S2x128x128x512, .f32⟩
  | .hbm, ⟨47, _⟩ => ⟨S2x128x128x512, .f32⟩
  | .hbm, ⟨48, _⟩ => ⟨S128x2x512x128, .f32⟩
  | .hbm, ⟨49, _⟩ => ⟨S2x128x128x512, .f32⟩
  | .hbm, ⟨50, _⟩ => ⟨S2x128x128x512, .f32⟩
  | .hbm, ⟨51, _⟩ => ⟨S2x128x128x512, .f32⟩
  | .hbm, ⟨52, _⟩ => ⟨S2x128x128x512, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩

abbrev nD : Nat := 1
abbrev τ : Topo := Topo.v7x

variable {F : FTy → Type} [FloatOps F]
-- ==== Proof.Attn.Spec.lean ====
/- The formulas of one output row of differential attention, over the extended reals: scores, the shifted
   exponentials, their sum, and the two normalised averages, as the kernel and as the reference group them. -/
module

public import Idealize.ShloMosaic.PureOps.Ideal
public import Idealize.ShloMosaic.PureOps.Ideal.Laws

noncomputable section
@[expose] public section
namespace Cert.Attn
open Idealize.ShloMosaic

/-- The row maximum, started from minus infinity and compared once more with it. -/
def rowMax (s : Fin 8192 → EReal) : EReal := max ⊥ (Finset.univ.fold max ⊥ s)

/-- The exponential of a score below its row's maximum. -/
def wt (s : Fin 8192 → EReal) (k : Fin 8192) : EReal := Ideal.exp (s k - rowMax s)

/-- The kernel's running sum after its one step, started from zero. -/
def lsum (s : Fin 8192 → EReal) : EReal := Ideal.exp (⊥ - rowMax s) * 0 + ∑ k, wt s k

/-- The kernel's running weighted sum of values after its one step, started from zero. -/
def accv (s v : Fin 8192 → EReal) : EReal := Ideal.exp (⊥ - rowMax s) * 0 + ∑ k, wt s k * v k

/-- The factor of the second softmax: the difference of two exponentials plus the layer's constant. -/
def lam (lp : Fin 4 → Fin 64 → EReal) : EReal :=
  Ideal.exp (∑ x, lp 0 x * lp 1 x) - Ideal.exp (∑ x, lp 2 x * lp 3 x) + Ideal.ofBits .f32 0x3E4CCCCD#32

/-- One entry before the norm, as the kernel groups it: each softmax divided after its product with the values. -/
def mixK (s0 s1 v : Fin 8192 → EReal) (l : EReal) : EReal :=
  Ideal.div (accv s0 v) (lsum s0) - l * Ideal.div (accv s1 v) (lsum s1)

/-- The same entry as the reference groups it: the difference of the softmaxes, then the product with the values. -/
def mixR (s0 s1 v : Fin 8192 → EReal) (l : EReal) : EReal :=
  ∑ k, (Ideal.div (wt s0 k) (∑ j, wt s0 j) - l * Ideal.div (wt s1 k) (∑ j, wt s1 j)) * v k

/-- The root-mean-square norm of a row, its gain and the last constant. -/
def normed (o : Fin 128 → EReal) (g : EReal) (d : Fin 128) : EReal :=
  o d * Ideal.rsqrt (Ideal.div (∑ e, o e * o e) (Ideal.ofBits .f32 0x43000000#32) + Ideal.ofBits .f32 0x358637BD#32) * g
    * Ideal.ofBits .f32 0x3F4CCCCD#32

/-- Head half `c` of the score of query row `q` and key row `k`. -/
def score0 (q k : Fin 128 → EReal) : EReal := ∑ x : Fin 64, q ⟨x.val, by omega⟩ * k ⟨x.val, by omega⟩
/-- The second head half of the score. -/
def score1 (q k : Fin 128 → EReal) : EReal := ∑ x : Fin 64, q ⟨64 + x.val, by omega⟩ * k ⟨64 + x.val, by omega⟩

theorem ofBits_negInf : Ideal.ofBits .f32 0xFF800000#32 = ⊥ := by simp [Ideal.ofBits, Ideal.ieee]

end Cert.Attn
-- ==== Proof.Attn.Body.lean ====
/- What the attention kernel's body leaves at one entry of its output block, as a formula of the blocks it reads. -/
module

public import proofs.«01_k».proof.Proof.Gen.KernelIdeal.Frame
public import proofs.«01_k».proof.Proof.Attn.Spec
public import Idealize.ShloMosaic.Lib.Pointwise

set_option maxRecDepth 16384
noncomputable section
@[expose] public section
namespace Cert.Attn
open Cert.KernelIdeal Cert.KernelIdeal.Gen Idealize.ShloMosaic

abbrev QB := Vec Ideal S1x1x1024x128 .bf16
abbrev KB := Vec Ideal S1x1x8192x128 .bf16

/-- Row `r` of a block of queries. -/
def qrow (q : QB) (r : Fin 1024) : Fin 128 → EReal := fun x => q (ix4 0 0 r x)
/-- Row `j` of a block of keys or values. -/
def krow (k : KB) (j : Fin 8192) : Fin 128 → EReal := fun x => k (ix4 0 0 j x)

/-- A column of row values read at its row. -/
theorem col_apply (x : FVec Ideal S1024 .f32) (r : Fin 1024) :
    shapeCast S1024x1 x shapeCasts_S1024_S1024x1 (ix2 r 0) = x (ix1 r) := by
  pointwise

/-- The maximum along the lanes, read at a row. -/
theorem max_apply (S : FVec Ideal S1024x8192 .f32) (r : Fin 1024) :
    (multiReduction .maximumf [1] S1024 S 0xFF800000#32 reduces_S1024x8192_S1024 (.inl rfl) rfl : FVec Ideal S1024 .f32) (ix1 r)
      = Finset.univ.fold max (Ideal.ofBits .f32 0xFF800000#32) fun x => S (ix2 r x) := by
  pointwise

/-- The first half's scores. -/
theorem pay10_apply (q : QB) (k : KB) (r : Fin 1024) (j : Fin 8192) :
    k0_pay10 q k (ix2 r j) = score0 (qrow q r) (krow k j) := by
  pointwise [k0_pay10, k0_pay2, k0_pay8]
  rfl

theorem pay4_apply (r : Fin 1024) : k0_pay4 (F := Ideal) (ix2 r 0) = ⊥ := by
  pointwise [k0_pay4]
  exact ofBits_negInf
theorem pay5_apply (r : Fin 1024) : k0_pay5 (F := Ideal) (ix2 r 0) = ⊥ := by
  pointwise [k0_pay5]
  exact ofBits_negInf
theorem pay6_apply (r : Fin 1024) : k0_pay6 (F := Ideal) (ix2 r 0) = 0 := by
  pointwise [k0_pay6]
theorem pay7_apply (r : Fin 1024) (d : Fin 128) : k0_pay7 (F := Ideal) (ix2 r d) = 0 := by
  pointwise [k0_pay7]

/-- The first half's row maximum. -/
theorem pay11_apply (q : QB) (k : KB) (r : Fin 1024) :
    k0_pay11 q k (ix2 r 0) = rowMax fun j => score0 (qrow q r) (krow k j) := by
  unfold k0_pay11
  rw [maximumf_apply, pay4_apply, col_apply, max_apply, ofBits_negInf]
  simp only [pay10_apply]
  rfl

theorem pay12_apply (q : QB) (k : KB) (r : Fin 1024) :
    k0_pay12 q k (ix2 r 0) = Ideal.exp (⊥ - rowMax fun j => score0 (qrow q r) (krow k j)) := by
  pointwise [k0_pay12]
  rw [pay11_apply, pay4_apply]

/-- The first half's exponentials. -/
theorem pay13_apply (q : QB) (k : KB) (r : Fin 1024) (j : Fin 8192) :
    k0_pay13 q k (ix2 r j) = wt (fun j => score0 (qrow q r) (krow k j)) j := by
  pointwise [k0_pay13]
  rw [pay11_apply, pay10_apply]
  rfl

/-- A sum along the lanes of the scores, read at a row. -/
theorem add_apply (S : FVec Ideal S1024x8192 .f32) (r : Fin 1024) :
    (multiReduction .add [1] S1024 S 0x00000000#32 reduces_S1024x8192_S1024 (.inl rfl) rfl : FVec Ideal S1024 .f32) (ix1 r)
      = ∑ x, S (ix2 r x) := by
  pointwise

/-- The first half's sum of exponentials. -/
theorem pay14_apply (q : QB) (k : KB) (r : Fin 1024) :
    k0_pay14 q k (ix2 r 0) = lsum fun j => score0 (qrow q r) (krow k j) := by
  unfold k0_pay14
  rw [addf_apply, col_apply, add_apply]
  simp only [pay13_apply]
  pointwise
  rw [pay12_apply]
  rfl

theorem pay15_apply (q : QB) (k : KB) (r : Fin 1024) (d : Fin 128) :
    k0_pay15 q k (ix2 r d) = Ideal.exp (⊥ - rowMax fun j => score0 (qrow q r) (krow k j)) * 0 := by
  pointwise [k0_pay15]
  rw [pay12_apply]

theorem pay16_apply (q : QB) (k : KB) (r : Fin 1024) (j : Fin 8192) :
    k0_pay16 q k (ix2 r j) = wt (fun j => score0 (qrow q r) (krow k j)) j := by
  pointwise [k0_pay16]
  rw [pay13_apply]

end Cert.Attn
-- ==== Proof.Attn.Block.lean ====
/- The whole output block of the attention kernel's body at one entry. -/
module

public import proofs.«01_k».proof.Proof.Attn.Body

set_option maxRecDepth 16384
noncomputable section
@[expose] public section
namespace Cert.Attn
open Cert.KernelIdeal Cert.KernelIdeal.Gen Idealize.ShloMosaic

/-- The four lambda vectors of the parameter block. -/
def lprow (p : Vec Ideal S4x64 .f32) : Fin 4 → Fin 64 → EReal := fun a x => p (ix2 a x)

/-- Both halves' averages and their difference, from what the pieces of the first half are at the row. -/
theorem pay17_of (v3 : FVec Ideal S1024x64 .bf16) (v7 v8 : FVec Ideal S1024x1 .f32) (v9 : FVec Ideal S1024x128 .f32)
    (v14 v17 : FVec Ideal S8192x128 .bf16) (v31 : FVec Ideal S1024x1 .f32) (v33 : FVec Ideal S1024x128 .f32)
    (v34 : FVec Ideal S1024x8192 .bf16) (p : Vec Ideal S4x64 .f32) (r : Fin 1024) (d : Fin 128)
    (q : Fin 128 → EReal) (k v : Fin 8192 → Fin 128 → EReal)
    (h3 : ∀ x : Fin 64, v3 (ix2 r x) = q ⟨64 + x.val, by omega⟩) (h7 : v7 (ix2 r 0) = ⊥) (h8 : v8 (ix2 r 0) = 0)
    (h9 : v9 (ix2 r d) = 0) (h14 : ∀ j x, v14 (ix2 j x) = k j x) (h17 : ∀ j x, v17 (ix2 j x) = v j x)
    (h31 : v31 (ix2 r 0) = lsum fun j => score0 q (k j))
    (h33 : v33 (ix2 r d) = Ideal.exp (⊥ - rowMax fun j => score0 q (k j)) * 0)
    (h34 : ∀ j, v34 (ix2 r j) = wt (fun j => score0 q (k j)) j) :
    k0_pay17 v3 v7 v8 v9 v14 v17 v31 v33 v34 (constant S1024x128 .f32 0x00000000#32) p (ix2 r d)
      = mixK (fun j => score0 q (k j)) (fun j => score1 q (k j)) (fun j => v j d) (lam (lprow p)) := by
  pointwise [k0_pay17]
  simp only [h3, h7, h8, h9, h14, h17, h31, h33, h34, ofBits_negInf]
  unfold mixK accv lsum lam lprow wt rowMax score1
  beta_reduce
  rfl

/-- The same at the body's own pieces. -/
theorem pay17_apply (q : QB) (k v : KB) (p : Vec Ideal S4x64 .f32) (r : Fin 1024) (d : Fin 128) :
    k0_pay17 (k0_pay3 q) (k0_pay5 (F := Ideal)) (k0_pay6 (F := Ideal)) (k0_pay7 (F := Ideal)) (k0_pay8 k) (k0_pay9 v)
        (k0_pay14 q k) (k0_pay15 q k) (k0_pay16 q k) (constant S1024x128 .f32 0x00000000#32) p (ix2 r d)
      = mixK (fun j => score0 (qrow q r) (krow k j)) (fun j => score1 (qrow q r) (krow k j)) (fun j => krow v j d)
          (lam (lprow p)) :=
  pay17_of _ _ _ _ _ _ _ _ _ p r d (qrow q r) (krow k) (krow v)
    (by intro x; pointwise [k0_pay3, k0_pay2]; rfl) (pay5_apply r) (pay6_apply r) (pay7_apply r d)
    (by intro j x; pointwise [k0_pay8]; rfl) (by intro j x; pointwise [k0_pay9]; rfl)
    (pay14_apply q k r) (pay15_apply q k r d) (pay16_apply q k r)

/-- A sum along the lanes of the row of averages, read at a row. -/
theorem add128_apply (S : FVec Ideal S1024x128 .f32) (r : Fin 1024) :
    (multiReduction .add [1] S1024 S 0x00000000#32 reduces_S1024x128_S1024 (.inl rfl) rfl : FVec Ideal S1024 .f32) (ix1 r)
      = ∑ x, S (ix2 r x) := by
  pointwise

/-- The norm, its gain and the last constant. -/
theorem pay1_apply (o : FVec Ideal S1024x128 .f32) (ss c : FVec Ideal S1024x1 .f32) (g : Vec Ideal S1x128 .f32)
    (r : Fin 1024) (d : Fin 128) :
    k0_pay1 o ss c g (ix2 r d)
      = o (ix2 r d) * Ideal.rsqrt (Ideal.div (ss (ix2 r 0)) (c (ix2 r 0)) + Ideal.ofBits .f32 0x358637BD#32)
          * g (ix2 0 d) * Ideal.ofBits .f32 0x3F4CCCCD#32 := by
  pointwise [k0_pay1]

theorem pay19_apply (r : Fin 1024) : k0_pay19 (F := Ideal) (ix2 r 0) = Ideal.ofBits .f32 0x43000000#32 := by
  pointwise [k0_pay19]

/-- The body's output block at row `r`, lane `d`. -/
theorem out_apply (x0 : Vec Ideal S4x64 .f32) (x1 : Vec Ideal S1x128 .f32) (x2 : QB) (x3 x4 : KB) (r : Fin 1024) (d : Fin 128) :
    out0_5 x0 x1 x2 x3 x4 (ix2 r d)
      = normed (fun e => mixK (fun j => score0 (qrow x2 r) (krow x3 j)) (fun j => score1 (qrow x2 r) (krow x3 j))
          (fun j => krow x4 j e) (lam (lprow x0))) (x1 (ix2 0 d)) d := by
  unfold_out out0_5
  rw [View.canon_unit_zero (by decide), View.ld_unit_zero (X := x0) (by decide), View.ld_unit_zero (X := x1) (by decide),
    View.ld_unit_zero (X := x2) (by decide), View.ld_unit_zero (X := x3) (by decide), View.ld_unit_zero (X := x4) (by decide)]
  rw [pay1_apply, pay17_apply, pay19_apply]
  unfold k0_pay18
  rw [col_apply, add128_apply]
  simp only [mulf_apply, pay17_apply]
  rfl

end Cert.Attn
-- ==== Proof.Attn.Array.lean ====
/- From the blocks of differential attention to its result array: the run leaves, at row `s` of batch `b` and lane `d`
   of head `h`, the entry of `Cert.Attn.kval` at the argument arrays. -/
module

public import proofs.«01_k».proof.Proof.Attn.Block
public import proofs.«01_k».proof.Proof.Gen.KernelIdeal.Value
public import Idealize.ShloMosaic.Lib.Pipeline.ValueKit

set_option maxRecDepth 16384
noncomputable section
@[expose] public section
namespace Cert.Attn
open Cert.KernelIdeal Cert.KernelIdeal.Gen Idealize.ShloMosaic Idealize.ShloMosaic.TcCoe Idealize.SL.Sem
open Idealize.ShloMosaic.Pipeline (Dat)

/-- Queries, keys or values: four batches, four heads, 8192 rows of 128 lanes. -/
abbrev HB := FVec Ideal S4x4x8192x128 .bf16

/-- Row `s` of batch `b` and head `h`. -/
def hrow (x : HB) (b h : Fin 4) (s : Fin 8192) (e : Fin 128) : EReal := x (ix4 b h s e)

/-- The kernel's entry for batch `b`, head `h`, row `s` and lane `d`. -/
def kval (q k v : HB) (p : FVec Ideal S4x64 .f32) (g : FVec Ideal S128 .f32) (b h : Fin 4) (s : Fin 8192) (d : Fin 128) : EReal :=
  normed (fun e => mixK (fun j => score0 (hrow q b h s) (hrow k b h j)) (fun j => score1 (hrow q b h s) (hrow k b h j))
    (fun j => hrow v b h j e) (lam fun r x => p (ix2 r x))) (g (ix1 d)) d

/-- The result array the kernel leaves. -/
def karr (q k v : HB) (p : FVec Ideal S4x64 .f32) (g : FVec Ideal S128 .f32) : FVec Ideal S32768x512 .f32 := fun i =>
  kval q k v p g ⟨(i 0).val / 8192, by have : (i 0).val < 32768 := (i 0).isLt; omega⟩
    ⟨(i 1).val / 128, by have : (i 1).val < 512 := (i 1).isLt; omega⟩
    ⟨(i 0).val % 8192, by omega⟩ ⟨(i 1).val % 128, by omega⟩

/-- The blocks of every grid point. -/
theorem idx : ∀ t : Fin cfg0.N, win0_0.index t = ![0, 0] ∧ win0_1.index t = ![0, 0]
    ∧ win0_2.index t = ![t.val / 32, t.val / 8 % 4, t.val % 8, 0] ∧ win0_3.index t = ![t.val / 32, t.val / 8 % 4, 0, 0]
    ∧ win0_4.index t = ![t.val / 32, t.val / 8 % 4, 0, 0]
    ∧ win0_5.index t = ![t.val / 32 * 8 + t.val % 8, t.val / 8 % 4] :=
  (by decide +kernel : ∀ t : Fin grid0.N, _)

variable (m : (ℓ : Loc nD τ sig) → Buf (Elt Ideal) ℓ)

/-- The array at the place of a given batch, head, row and lane. -/
theorem karr_at (q k v : HB) (p : FVec Ideal S4x64 .f32) (g : FVec Ideal S128 .f32) (i : S32768x512.Idx) (b h : Fin 4)
    (s : Fin 8192) (d : Fin 128) (h0 : (i 0).val = b.val * 8192 + s.val) (h1 : (i 1).val = h.val * 128 + d.val) :
    karr q k v p g i = kval q k v p g b h s d := by
  have e0 : (⟨(i 0).val / 8192, by have : (i 0).val < 32768 := (i 0).isLt; omega⟩ : Fin 4) = b := Fin.ext (by
    show (i 0).val / 8192 = b.val; omega)
  have e1 : (⟨(i 1).val / 128, by have : (i 1).val < 512 := (i 1).isLt; omega⟩ : Fin 4) = h := Fin.ext (by
    show (i 1).val / 128 = h.val; omega)
  have e2 : (⟨(i 0).val % 8192, by omega⟩ : Fin 8192) = s := Fin.ext (by
    show (i 0).val % 8192 = s.val; omega)
  have e3 : (⟨(i 1).val % 128, by omega⟩ : Fin 128) = d := Fin.ext (by
    show (i 1).val % 128 = d.val; omega)
  unfold karr
  rw [e0, e1, e2, e3]

variable (c : Dev nD) (t : Fin cfg0.N)

/-- Batch of a grid point. -/
def tb (t : Fin cfg0.N) : Fin 4 := ⟨t.val / 32, by have : t.val < 128 := t.isLt; omega⟩
/-- Head of a grid point. -/
def th (t : Fin cfg0.N) : Fin 4 := ⟨t.val / 8 % 4, by omega⟩
/-- Row of a grid point's block. -/
def ts (t : Fin cfg0.N) (r : Fin 1024) : Fin 8192 := ⟨t.val % 8 * 1024 + r.val, by omega⟩

theorem read0 : lprow (iblk m c 0 t) = fun r x => m ((c : Thread nD τ).loc main_arg3) (ix2 r x) := by
  funext r x; unfold lprow; blk_ext [iblk, V, idx t]
theorem read1 (d : Fin 128) : iblk m c 1 t (ix2 0 d) = m ((c : Thread nD τ).loc main_arg4) (ix1 d) := by
  blk_ext! [iblk, idx t]
theorem read2 (r : Fin 1024) : qrow (iblk m c 2 t) r = hrow (m ((c : Thread nD τ).loc main_arg0)) (tb t) (th t) (ts t r) := by
  funext e; unfold qrow hrow tb th ts; blk_ext [iblk, V, idx t]
theorem read3 (j : Fin 8192) : krow (iblk m c 3 t) j = hrow (m ((c : Thread nD τ).loc main_arg1)) (tb t) (th t) j := by
  funext e; unfold krow hrow tb th; blk_ext [iblk, V, idx t]
theorem read4 (j : Fin 8192) : krow (iblk m c 4 t) j = hrow (m ((c : Thread nD τ).loc main_arg2)) (tb t) (th t) j := by
  funext e; unfold krow hrow tb th; blk_ext [iblk, V, idx t]

/-- The result array after the run. -/
theorem final (c : Dev nD) : (dats m 0 c).arrAt 5 (cfgs 0).N
    = karr (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5]
  idx_vars y
  rw [out_apply, read0, read1, read2]
  simp only [read3, read4]
  refine Eq.trans ?_ (karr_at _ _ _ _ _ _ (tb t) (th t) (ts t y0) y1 ?_ ?_).symm
  · rfl
  · unfold tb ts; blk_simp [idx t]
    have : t.val < 128 := t.isLt
    show _ = t.val / 32 * 8192 + (t.val % 8 * 1024 + y0.val); omega
  · unfold th; blk_simp [idx t]
end Cert.Attn
-- ==== Proof.Attn.Ref.lean ====
/- The reference's attention read at an entry: the same row formulas, the softmaxes divided before the product with the
   values. -/
module

public import proofs.«01_k».proof.Proof.Attn.Spec
public import proofs.«01_k».proof.Proof.Gen.ReferenceIdeal.Read
public import Idealize.ShloMosaic.Lib.Pointwise

set_option maxRecDepth 16384
noncomputable section
@[expose] public section
namespace Cert.Attn.Ref
open Cert.ReferenceIdeal Cert.ReferenceIdeal.Gen Cert.ReferenceIdeal.Read Idealize.ShloMosaic

/-- Queries, keys or values as the reference takes them. -/
abbrev RB := FVec Ideal S4x4x8192x128 .bf16
abbrev RP := FVec Ideal S4x64 .f32
abbrev RG := FVec Ideal S128 .f32

variable (q k v : RB) (p : RP) (g : RG)

/-- The score of half `c`, row `s` against row `j`. -/
def sc (b h : Fin 4) (c : Fin 2) (s : Fin 8192) (j : Fin 8192) : EReal :=
  ∑ x : Fin 64, q (ix4 b h s ⟨c.val * 64 + x.val, by omega⟩) * k (ix4 b h j ⟨c.val * 64 + x.val, by omega⟩)

theorem r21 (b h : Fin 4) (c : Fin 2) (s j : Fin 8192) : val_main_v21 (F := Ideal) q k (ix5 b h c s j) = sc q k b h c s j := by
  pointwise [val_main_v21, val_main_v1, val_main_v3, val_main_v0, val_main_v2]
  rfl

/-- A maximum along the last axis, read at a row. -/
theorem max_apply (X : FVec Ideal S4x4x2x8192x8192 .f32) (b h : Fin 4) (c : Fin 2) (s : Fin 8192) :
    (Host.reduce FloatOps.maximumf X (val_main_cst_2 (F := Ideal)) reducesTo_S4x4x2x8192x8192_S4x4x2x8192_d4 h_S_ : FVec Ideal S4x4x2x8192 .f32) (ix4 b h c s)
      = Finset.univ.fold max ⊥ fun j => X (ix5 b h c s j) := by
  pointwise [val_main_cst_2]
  rw [ofBits_negInf]

/-- The maximum of a row of scores. -/
theorem r22 (b h : Fin 4) (c : Fin 2) (s : Fin 8192) :
    val_main_v22 (F := Ideal) q k (ix4 b h c s) = Finset.univ.fold max ⊥ (sc q k b h c s) := by
  unfold val_main_v22
  rw [max_apply]
  simp only [r21]

/-- The maximum as the softmax takes it. -/
theorem r24 (b h : Fin 4) (c : Fin 2) (s : Fin 8192) :
    val_main_v24 (F := Ideal) q k (ix4 b h c s) = rowMax (sc q k b h c s) := by
  rw [val_main_v24_apply, r22, val_main_v23_apply, val_main_cst_3_apply]
  show max (Ideal.ofBits .f32 0xFF800000#32) _ = _
  rw [ofBits_negInf]
  unfold rowMax
  rfl

/-- The shifted exponentials. -/
theorem r28 (b h : Fin 4) (c : Fin 2) (s j : Fin 8192) :
    val_main_v28 (F := Ideal) q k (ix5 b h c s j) = wt (sc q k b h c s) j := by
  pointwise [val_main_v28, val_main_v27, val_main_v26, val_main_v25]
  rw [r21, r24]
  unfold wt
  rfl

/-- Their sum. -/
theorem r29 (b h : Fin 4) (c : Fin 2) (s : Fin 8192) :
    val_main_v29 (F := Ideal) q k (ix4 b h c s) = ∑ j, wt (sc q k b h c s) j := by
  pointwise [val_main_v29, val_main_cst_4]
  simp only [r28]

/-- The softmax. -/
theorem r32 (b h : Fin 4) (c : Fin 2) (s j : Fin 8192) :
    val_main_v32 (F := Ideal) q k (ix5 b h c s j)
      = Ideal.div (wt (sc q k b h c s) j) (∑ i, wt (sc q k b h c s) i) := by
  pointwise [val_main_v32, val_main_v31, val_main_v30]
  rw [r28, r29]

/-- The factor of the second softmax. -/
theorem r20 (i : S_.Idx) : val_main_v20 (F := Ideal) p i = lam fun r x => p (ix2 r x) := by
  pointwise [val_main_v20, val_main_v19, val_main_v18, val_main_v17, val_main_v16, val_main_v15, val_main_v14, val_main_v13,
    val_main_v12, val_main_v11, val_main_v10, val_main_v9, val_main_v8, val_main_v7, val_main_v6, val_main_v5, val_main_cst,
    val_main_cst_0, val_main_cst_1]
  unfold lam
  rfl

theorem r34 (b h : Fin 4) (s j : Fin 8192) : val_main_v34 (F := Ideal) q k (ix4 b h s j) = val_main_v32 (F := Ideal) q k (ix5 b h 0 s j) := by
  pointwise [val_main_v34, val_main_v33]
theorem r36 (b h : Fin 4) (s j : Fin 8192) : val_main_v36 (F := Ideal) q k (ix4 b h s j) = val_main_v32 (F := Ideal) q k (ix5 b h 1 s j) := by
  pointwise [val_main_v36, val_main_v35]
/-- The difference of the softmaxes. -/
theorem r39 (b h : Fin 4) (s j : Fin 8192) : val_main_v39 (F := Ideal) q k p (ix4 b h s j)
    = Ideal.div (wt (sc q k b h 0 s) j) (∑ i, wt (sc q k b h 0 s) i)
      - (lam fun r x => p (ix2 r x)) * Ideal.div (wt (sc q k b h 1 s) j) (∑ i, wt (sc q k b h 1 s) i) := by
  rw [val_main_v39_apply, val_main_v38_apply, r34, r36, r32, r32, val_main_v37_apply, r20]
  unfold lam
  rfl

/-- One entry before the norm. -/
def omix (b h : Fin 4) (s : Fin 8192) (d : Fin 128) : EReal :=
  mixR (sc q k b h 0 s) (sc q k b h 1 s) (fun j => v (ix4 b h j d)) (lam fun r x => p (ix2 r x))

theorem r40 (b h : Fin 4) (s : Fin 8192) (d : Fin 128) :
    val_main_v40 (F := Ideal) q k v p (ix4 b h s d) = omix q k v p b h s d := by
  pointwise [val_main_v40, val_main_v4]
  simp only [r39]
  unfold omix mixR
  rfl

theorem r41 (b h : Fin 4) (s : Fin 8192) (d : Fin 128) :
    val_main_v41 (F := Ideal) q k v p (ix4 b s h d) = omix q k v p b h s d := by
  pointwise [val_main_v41]
  rw [r40]
theorem r43 (b h : Fin 4) (s : Fin 8192) :
    val_main_v43 (F := Ideal) q k v p (ix3 b s h) = ∑ e, omix q k v p b h s e * omix q k v p b h s e := by
  rw [val_main_v43_apply, val_main_cst_5_apply]
  have e : ∀ x : Fin 128, idx_main_v43 (ix3 b s h) x = ix4 b s h x := fun x => by
    funext a; fin_cases a <;> rfl
  have z : (FloatOps.ofBits .f32 0x00000000#32 : Ideal .f32) = (0 : EReal) := Ideal.ofBits_zero .f32
  rw [z, zero_add]
  refine Finset.sum_congr rfl fun x _ => ?_
  rw [e, val_main_v42_apply, r41]
  rfl
theorem r49 (b h : Fin 4) (s : Fin 8192) :
    val_main_v49 (F := Ideal) q k v p (ix4 b s h 0) = Ideal.rsqrt (Ideal.div (∑ e, omix q k v p b h s e * omix q k v p b h s e)
      (Ideal.ofBits .f32 0x43000000#32) + Ideal.ofBits .f32 0x358637BD#32) := by
  pointwise [val_main_v49, val_main_v48, val_main_v47, val_main_v46, val_main_v45, val_main_v44, val_main_cst_6, val_main_cst_7]
  rw [r43]

theorem r50 (b h : Fin 4) (s : Fin 8192) (d : Fin 128) :
    val_main_v50 (F := Ideal) q k v p (ix4 b s h d) = Ideal.rsqrt (Ideal.div (∑ e, omix q k v p b h s e * omix q k v p b h s e)
      (Ideal.ofBits .f32 0x43000000#32) + Ideal.ofBits .f32 0x358637BD#32) := by
  pointwise [val_main_v50]
  rw [r49]
theorem r53 (b h : Fin 4) (s : Fin 8192) (d : Fin 128) : val_main_v53 (F := Ideal) g (ix4 b s h d) = g (ix1 d) := by
  pointwise [val_main_v53, val_main_v52]
theorem r55 (b h : Fin 4) (s : Fin 8192) (d : Fin 128) :
    val_main_v55 (F := Ideal) (ix4 b s h d) = Ideal.ofBits .f32 0x3F4CCCCD#32 := by
  pointwise [val_main_v55, val_main_cst_8]

/-- One entry after the norm. -/
theorem r56 (b h : Fin 4) (s : Fin 8192) (d : Fin 128) :
    val_main_v56 (F := Ideal) q k v p g (ix4 b s h d) = normed (omix q k v p b h s) (g (ix1 d)) d := by
  rw [val_main_v56_apply, val_main_v54_apply, val_main_v51_apply, r41, r50, r53, r55]
  unfold normed
  rfl
/-- The result at row `s` of batch `b` and lane `d` of head `h`. -/
theorem r57 (i : S32768x512.Idx) (b h : Fin 4) (s : Fin 8192) (d : Fin 128) (h0 : (i 0).val = b.val * 8192 + s.val)
    (h1 : (i 1).val = h.val * 128 + d.val) :
    val_main_v57 (F := Ideal) q k v p g i = normed (omix q k v p b h s) (g (ix1 d)) d := by
  rw [val_main_v57_apply, ← r56]
  congr 1
  funext a
  apply Fin.ext
  fin_cases a
  · show ((i 0).val * 512 + (i 1).val) / 4194304 = b.val; omega
  · show ((i 0).val * 512 + (i 1).val) / 512 % 8192 = s.val; omega
  · show ((i 0).val * 512 + (i 1).val) / 128 % 4 = h.val; omega
  · show ((i 0).val * 512 + (i 1).val) % 128 = d.val; omega

end Cert.Attn.Ref
-- ==== Proof.Attn.Algebra.lean ====
/- On real scores, values and factor the kernel's grouping of a row and the reference's are the same number. -/
module

public import proofs.«01_k».proof.Proof.Attn.Spec

set_option maxRecDepth 16384
noncomputable section
@[expose] public section
namespace Cert.Attn
open Idealize.ShloMosaic

/-- A finite sum of reals is the real sum. -/
theorem coe_sum {ι : Type} [Fintype ι] (f : ι → ℝ) : (∑ j, ((f j : ℝ) : EReal)) = ((∑ j, f j : ℝ) : EReal) :=
  (map_sum (⟨⟨Real.toEReal, rfl⟩, fun _ _ => rfl⟩ : ℝ →+ EReal) f Finset.univ).symm

/-- An extended real that is neither infinity is a real. -/
def Tame (x : EReal) : Prop := ∃ r : ℝ, x = r

theorem Tame.mul {x y : EReal} (hx : Tame x) (hy : Tame y) : Tame (x * y) := by
  obtain ⟨a, rfl⟩ := hx; obtain ⟨b, rfl⟩ := hy; exact ⟨a * b, (EReal.coe_mul a b).symm⟩
theorem Tame.add {x y : EReal} (hx : Tame x) (hy : Tame y) : Tame (x + y) := by
  obtain ⟨a, rfl⟩ := hx; obtain ⟨b, rfl⟩ := hy; exact ⟨a + b, (EReal.coe_add a b).symm⟩
theorem Tame.sub {x y : EReal} (hx : Tame x) (hy : Tame y) : Tame (x - y) := by
  obtain ⟨a, rfl⟩ := hx; obtain ⟨b, rfl⟩ := hy; exact ⟨a - b, (EReal.coe_sub a b).symm⟩
theorem Tame.exp {x : EReal} (hx : Tame x) : Tame (Ideal.exp x) := by
  obtain ⟨a, rfl⟩ := hx; exact ⟨Real.exp a, rfl⟩
theorem Tame.sum {ι : Type} [Fintype ι] {f : ι → EReal} (h : ∀ j, Tame (f j)) : Tame (∑ j, f j) := by
  choose r hr using h
  exact ⟨∑ j, r j, by simp only [hr, coe_sum]⟩

/-- The maximum of a row of reals is a real. -/
theorem rowMax_tame (s : Fin 8192 → EReal) (h : ∀ j, Tame (s j)) : Tame (rowMax s) := by
  have e : rowMax s = Finset.univ.sup s := max_eq_right bot_le
  obtain ⟨i, -, hi⟩ := Finset.exists_mem_eq_sup Finset.univ ⟨(0 : Fin 8192), Finset.mem_univ _⟩ s
  rw [e, hi]; exact h i

/-- On real scores a row's weights are positive reals. -/
theorem wt_real (s : Fin 8192 → EReal) (h : ∀ j, Tame (s j)) : ∃ p : Fin 8192 → ℝ, (∀ j, 0 < p j) ∧ ∀ j, wt s j = p j := by
  obtain ⟨M, hM⟩ := rowMax_tame s h
  choose r hr using h
  refine ⟨fun j => Real.exp (r j - M), fun j => Real.exp_pos _, fun j => ?_⟩
  unfold wt; rw [hM, hr, ← EReal.coe_sub]; rfl

/-- What the running sums started from vanishes. -/
theorem start_zero (s : Fin 8192 → EReal) : Ideal.exp (⊥ - rowMax s) * 0 = 0 := mul_zero _

theorem mix_eq (s0 s1 v : Fin 8192 → EReal) (l : EReal) (h0 : ∀ j, Tame (s0 j)) (h1 : ∀ j, Tame (s1 j))
    (hv : ∀ j, Tame (v j)) (hl : Tame l) : mixK s0 s1 v l = mixR s0 s1 v l := by
  obtain ⟨p0, pos0, e0⟩ := wt_real s0 h0
  obtain ⟨p1, pos1, e1⟩ := wt_real s1 h1
  choose w hw using hv
  obtain ⟨l, rfl⟩ := hl
  have n0 : (∑ j, p0 j) ≠ 0 := (Finset.sum_pos (fun j _ => pos0 j) ⟨0, Finset.mem_univ _⟩).ne'
  have n1 : (∑ j, p1 j) ≠ 0 := (Finset.sum_pos (fun j _ => pos1 j) ⟨0, Finset.mem_univ _⟩).ne'
  unfold mixK mixR accv lsum
  simp only [start_zero, zero_add, e0, e1, hw, ← EReal.coe_mul, coe_sum, Ideal.div_coe n0, Ideal.div_coe n1, ← EReal.coe_sub]
  congr 1
  rw [Finset.sum_mul, Finset.sum_mul, Finset.mul_sum, ← Finset.sum_sub_distrib]
  exact Finset.sum_congr rfl fun j _ => by ring

end Cert.Attn
-- ==== Proof.Attn.Pre.lean ====
/- The precondition read entry by entry: queries, keys, values and the lambda vectors are reals. -/
module

public import proofs.«01_k».proof.Proof.Attn.Algebra
public import proofs.«01_k».proof.Proof.Gen.Pre_finite_args
public import Idealize.ShloMosaic.Lib.Pointwise
public import Idealize.ShloMosaic.Lib.ReduceAll

set_option maxRecDepth 16384
noncomputable section
@[expose] public section
namespace Cert.Attn
open Cert.Pre_finite_args Cert.Pre_finite_args.Gen Idealize.ShloMosaic

theorem ofBits_inf : Ideal.ofBits .f32 0x7F800000#32 = ⊤ := by simp [Ideal.ofBits, Ideal.ieee]

/-- An absolute value below infinity is that of a real. -/
theorem tame_of_abs {x : EReal} (h : max x (-x) < ⊤) : Tame x := by
  induction x using EReal.rec with
  | bot => simp at h
  | coe r => exact ⟨r, rfl⟩
  | top => simp at h

/-- One bit of the comparison. -/
theorem tame_of_bit {x : EReal} (h : Ideal.cmp .olt (max x (-x)) (Ideal.ofBits .f32 0x7F800000#32) = 1#1) : Tame x := by
  rw [ofBits_inf] at h
  refine tame_of_abs ?_
  by_contra hn
  simp [Ideal.cmp, hn] at h

theorem and_one {a b : BitVec 1} (h : IntOp.andi a b = 1#1) : a = 1#1 ∧ b = 1#1 := by
  revert h; revert a b; decide

instance : Subsingleton S_.Idx := ⟨fun a b => funext fun i => i.elim0⟩

/-- The precondition, entry by entry. -/
theorem tame_args (q k v : FVec Ideal S4x4x8192x128 .bf16) (p : FVec Ideal S4x64 .f32) (g : FVec Ideal S128 .f32)
    (h : Cert.Pre_finite_args.fn (F := Ideal) q k v p g = fun _ => 1#1) :
    (∀ i, Tame (q i)) ∧ (∀ i, Tame (k i)) ∧ (∀ i, Tame (v i)) ∧ ∀ i, Tame (p i) := by
  have h0 := congrFun h (Shape.Idx.first h_S_)
  unfold Cert.Pre_finite_args.fn Cert.Pre_finite_args.fn_part1 at h0
  obtain ⟨h0, hp⟩ := and_one h0
  obtain ⟨h0, hv⟩ := and_one h0
  obtain ⟨hq, hk⟩ := and_one h0
  refine ⟨fun i => ?_, fun i => ?_, fun i => ?_, fun i => ?_⟩
  · exact tame_of_bit (Host.reduce_andi_all _ _ _ _ _ hq i)
  · exact tame_of_bit (Host.reduce_andi_all _ _ _ _ _ hk i)
  · exact tame_of_bit (Host.reduce_andi_all _ _ _ _ _ hv i)
  · exact tame_of_bit (Host.reduce_andi_all _ _ _ _ _ hp i)

end Cert.Attn
-- ==== Proof.Attn.Claims.lean ====
/- The claims about differential attention: both programs leave the same array. -/
module

public import proofs.«01_k».proof.Defs
public import proofs.«01_k».proof.Proof.Attn.Array
public import proofs.«01_k».proof.Proof.Attn.Ref
public import proofs.«01_k».proof.Proof.Attn.Pre

set_option maxRecDepth 16384
noncomputable section
@[expose] public section
namespace Cert.Attn
open Idealize.ShloMosaic Idealize.ShloMosaic.TcCoe Idealize.SL.Sem

/-- The constant of the factor is a real. -/
theorem ofBits_init : Tame (Ideal.ofBits .f32 0x3E4CCCCD#32) := by
  unfold Tame
  simp only [Ideal.ofBits, Ideal.ieee]
  rw [if_neg (by decide), if_neg (by decide)]
  exact ⟨_, rfl⟩

theorem score0_eq (q k : HB) (b h : Fin 4) (s : Fin 8192) : (fun j => score0 (hrow q b h s) (hrow k b h j)) = Ref.sc q k b h 0 s := by
  funext j
  unfold score0 Ref.sc hrow
  refine Finset.sum_congr rfl fun x _ => ?_
  congr 3 <;> exact Fin.ext (by simp)

theorem score1_eq (q k : HB) (b h : Fin 4) (s : Fin 8192) : (fun j => score1 (hrow q b h s) (hrow k b h j)) = Ref.sc q k b h 1 s := by
  funext j
  unfold score1 Ref.sc hrow
  refine Finset.sum_congr rfl fun x _ => ?_
  congr 3

/-- The reference's result is the array the kernel leaves, on real arguments. -/
theorem arrays_eq (q k v : HB) (p : FVec Ideal Cert.KernelIdeal.S4x64 .f32) (g : FVec Ideal Cert.KernelIdeal.S128 .f32)
    (hq : ∀ i, Tame (q i)) (hk : ∀ i, Tame (k i)) (hv : ∀ i, Tame (v i)) (hp : ∀ i, Tame (p i)) :
    Cert.ReferenceIdeal.Read.val_main_v57 (F := Ideal) q k v p g = karr q k v p g := by
  funext i
  have l0 : (i 0).val < 32768 := (i 0).isLt
  have l1 : (i 1).val < 512 := (i 1).isLt
  have a0 : (i 0).val = (⟨(i 0).val / 8192, by omega⟩ : Fin 4).val * 8192 + (⟨(i 0).val % 8192, by omega⟩ : Fin 8192).val := by
    show _ = (i 0).val / 8192 * 8192 + (i 0).val % 8192; omega
  have a1 : (i 1).val = (⟨(i 1).val / 128, by omega⟩ : Fin 4).val * 128 + (⟨(i 1).val % 128, by omega⟩ : Fin 128).val := by
    show _ = (i 1).val / 128 * 128 + (i 1).val % 128; omega
  rw [Ref.r57 q k v p g i _ _ _ _ a0 a1, karr_at q k v p g i _ _ _ _ a0 a1]
  unfold kval
  refine congrArg (fun o => normed o _ _) ?_
  funext e
  rw [score0_eq, score1_eq]
  refine (mix_eq _ _ _ _ ?_ ?_ ?_ ?_).symm
  · intro j; exact Tame.sum fun x => (hq _).mul (hk _)
  · intro j; exact Tame.sum fun x => (hq _).mul (hk _)
  · intro j; exact hv _
  · exact ((Tame.sum fun x => (hp _).mul (hp _)).exp.sub (Tame.sum fun x => (hp _).mul (hp _)).exp).add ofBits_init

/-- The reference's frame. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Differential attention: the kernel and the reference leave the same array. -/
theorem algebraic : Cert.algebraic_KernelIdeal_ReferenceIdeal_pre_finite_args := by
  intro m g m' g' hpre hargs
  refine ⟨fun c => (Cert.KernelIdeal.Gen.dats m 0 c).arrAt 5 Cert.KernelIdeal.cfg0.N,
    Cert.KernelIdeal.Value.run_blocks (F := Ideal) m g, ?_⟩
  refine (θ_run Cert.ReferenceIdeal.defs _ _).mono (fun r h c => ⟨(h c).1.trans ?_, (h c).2⟩)
    (Cert.ReferenceIdeal.Value.run (F := Ideal) m' g')
  obtain ⟨hq, hk, hv, hp⟩ := tame_args _ _ _ _ _ (hpre c)
  obtain ⟨e0, e1, e2, e3, e4⟩ := hargs c
  rw [Cert.ReferenceIdeal.Read.val_main_v57_eq, e0, e1, e2, e3, e4]
  exact (arrays_eq _ _ _ _ _ hq hk hv hp).trans (final m c).symm

end Cert.Attn
-- ==== Proof.Proj.Claims.lean ====
/- The input projection of the layer: the kernel's tiles of 1024 rows by 1024 columns make up the whole product of the
   activations with the weights. -/
module

public import proofs.«01_k».proof.Defs
public import proofs.«01_k».proof.Proof.Gen.Kernel2Ideal.Value
public import proofs.«01_k».proof.Proof.Gen.Reference2Ideal.Read
public import Idealize.ShloMosaic.Lib.Pipeline.ValueKit

set_option maxRecDepth 16384
noncomputable section
@[expose] public section
namespace Cert.Proj
open Cert.Kernel2Ideal Cert.Kernel2Ideal.Gen Idealize.ShloMosaic Idealize.ShloMosaic.TcCoe Idealize.SL.Sem
open Idealize.ShloMosaic.Pipeline (Dat)

/-- The product of the activations with the weights, entry by entry. -/
def proj (X : FVec Ideal S32768x2048 .f32) (W : FVec Ideal S2048x6144 .f32) : FVec Ideal S32768x6144 .f32 :=
  fun i => ∑ k : Fin 2048, X (ix2 (i 0) k) * W (ix2 k (i 1))

/-- The blocks of every grid point: 32 groups of rows, six groups of columns. -/
theorem idx : ∀ t : Fin cfg0.N, win0_0.index t = ![t.val / 6, 0] ∧ win0_1.index t = ![0, t.val % 6]
    ∧ win0_2.index t = ![t.val / 6, t.val % 6] :=
  (by decide +kernel : ∀ t : Fin grid0.N, _)

/-- The tile a grid point computes, at row `r` and column `s`. -/
theorem tile_apply (x : Vec Ideal S1024x2048 .f32) (w : Vec Ideal S2048x1024 .bf16) (r s : Fin 1024) :
    k0_pay1 (F := Ideal) x w (ix2 r s) = ∑ k : Fin 2048, x (ix2 r k) * w (ix2 k s) := by
  pointwise [k0_pay1]

variable (m : (ℓ : Loc nD τ sig) → Buf (Elt Ideal) ℓ)

/-- The result array after the run. -/
theorem final (c : Dev nD) : (dats m 0 c).arrAt 2 (cfgs 0).N
    = proj (m ((c : Thread nD τ).loc main_arg0)) (m ((c : Thread nD τ).loc main_arg1)) := by
  refine (dats m 0 c).arrAt_eq_of_covers 2 _ (by decide +kernel) fun t _ y => ?_
  blk_simp
  rw [after0_2]
  frame_out
  idx_vars y
  rw [tile_apply]
  unfold proj
  blk_point [iblk, V, idx t]

/-- The reference's product is the same sum. -/
theorem ref_eq (X : FVec Ideal S32768x2048 .f32) (W : FVec Ideal S2048x6144 .f32) :
    Cert.Reference2Ideal.Read.val_main_v0 (F := Ideal) X W = proj X W := by
  funext i
  idx_vars i
  pointwise [Cert.Reference2Ideal.Read.val_main_v0]
  rfl

/-- The reference's frame. -/
theorem frame_ref : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The input projection: the kernel and the reference leave the same array. -/
theorem algebraic : Cert.algebraic_Kernel2Ideal_Reference2Ideal := by
  intro m g m' g' _ hargs
  refine ⟨fun c => (dats m 0 c).arrAt 2 cfg0.N, Cert.Kernel2Ideal.Value.run_blocks (F := Ideal) m g, ?_⟩
  refine (θ_run Cert.Reference2Ideal.defs _ _).mono (fun r h c => ⟨(h c).1.trans ?_, (h c).2⟩)
    (Cert.Reference2Ideal.Value.run (F := Ideal) m' g')
  obtain ⟨e0, e1⟩ := hargs c
  rw [Cert.Reference2Ideal.Read.val_main_v0_eq, e0, e1]
  exact (ref_eq _ _).trans (final m c).symm

end Cert.Proj
-- ==== Proof.Expert.Body.lean ====
/- The experts: what one grid point's body computes, entry by entry. -/
module

public import proofs.«01_k».proof.Proof.Gen.Kernel3Ideal.Value
public import Idealize.ShloMosaic.Lib.IdealHost
public import Idealize.ShloMosaic.Lib.Pointwise
public import Idealize.ShloMosaic.Lib.Pipeline.ValueKit

set_option maxRecDepth 16384
noncomputable section
@[expose] public section
namespace Cert.Expert
open Cert.Kernel3Ideal Cert.Kernel3Ideal.Gen Idealize.ShloMosaic Idealize.ShloMosaic.TcCoe Idealize.SL.Sem

/-- One hidden unit: the gated product of a token's row `x` with the unit's two columns of weights. -/
def hid (x a b : Fin 2048 → EReal) : EReal :=
  (∑ k, x k * a k) * Ideal.logistic (∑ k, x k * a k) * ∑ k, x k * b k

/-- The part of the result that half of the hidden units give, at row `r` and lane `d`. -/
theorem part_apply (x : Vec Ideal S1x512x2048 .bf16) (a b : Vec Ideal S1x2048x1024 .bf16) (w : Vec Ideal S1x1024x2048 .bf16)
    (r : Fin 512) (d : Fin 2048) :
    k0_pay1 (F := Ideal) x a b w (ix2 r d)
      = ∑ f : Fin 1024, hid (fun k => x (ix3 0 r k)) (fun k => a (ix3 0 k f)) (fun k => b (ix3 0 k f)) * w (ix3 0 f d) := by
  pointwise [k0_pay1]
  rfl

/-- The first half is stored as it is. -/
theorem first_apply (x : Vec Ideal S1x512x2048 .bf16) (a b : Vec Ideal S1x2048x1024 .bf16) (w : Vec Ideal S1x1024x2048 .bf16)
    (z : Fin 1) (r : Fin 512) (d : Fin 2048) :
    k0_pay2 (F := Ideal) x a b w (ix3 z r d) = k0_pay1 (F := Ideal) x a b w (ix2 r d) := by
  pointwise [k0_pay2]

/-- The second half is added to what the first one left. -/
theorem add_apply (x : Vec Ideal S1x512x2048 .bf16) (a b : Vec Ideal S1x2048x1024 .bf16) (w : Vec Ideal S1x1024x2048 .bf16)
    (o : Vec Ideal S1x512x2048 .f32) (z : Fin 1) (r : Fin 512) (d : Fin 2048) :
    k0_pay3 (F := Ideal) x a b w o (ix3 z r d) = o (ix3 0 r d) + k0_pay1 (F := Ideal) x a b w (ix2 r d) := by
  pointwise [k0_pay3]

/-- The sum of the halves is multiplied by the token's gate. -/
theorem gate_apply (o : Vec Ideal S1x512x2048 .f32) (g : Vec Ideal S1x512x1 .f32) (z : Fin 1) (r : Fin 512) (d : Fin 2048) :
    k0_pay4 (F := Ideal) o g (ix3 z r d) = o (ix3 0 r d) * g (ix3 0 r 0) := by
  pointwise [k0_pay4]

end Cert.Expert
-- ==== Proof.Expert.Array.lean ====
/- The experts: the run leaves, for expert `e`, token `r` and lane `d`, the gated sum over all 2048 hidden units. -/
module

public import proofs.«01_k».proof.Proof.Expert.Body

set_option maxRecDepth 16384
noncomputable section
@[expose] public section
namespace Cert.Expert
open Cert.Kernel3Ideal Cert.Kernel3Ideal.Gen Idealize.ShloMosaic Idealize.ShloMosaic.TcCoe Idealize.SL.Sem
open Idealize.ShloMosaic.Pipeline (Dat)

/-- The experts' output at expert `e`, token `r` and lane `d`. -/
def ffn (X : FVec Ideal S16x4096x2048 .bf16) (G : FVec Ideal S16x4096 .f32) (A B W : FVec Ideal S16x2048x2048 .f32)
    (e : Fin 16) (r : Fin 4096) (d : Fin 2048) : EReal :=
  (∑ f : Fin 2048, hid (fun k => X (ix3 e r k)) (fun k => A (ix3 e k f)) (fun k => B (ix3 e k f)) * W (ix3 e f d)) * G (ix2 e r)

/-- The array of the experts' outputs. -/
def arr (X : FVec Ideal S16x4096x2048 .bf16) (G : FVec Ideal S16x4096 .f32) (A B W : FVec Ideal S16x2048x2048 .f32) :
    FVec Ideal S16x4096x2048 .f32 := fun i => ffn X G A B W (i 0) (i 1) (i 2)

/-- The blocks of every grid point: 16 experts, eight groups of tokens, two halves of the hidden units. -/
theorem idx : ∀ t : Fin cfg0.N, win0_0.index t = ![t.val / 16, t.val / 2 % 8, 0] ∧ win0_1.index t = ![t.val / 16, t.val / 2 % 8, 0]
    ∧ win0_2.index t = ![t.val / 16, 0, t.val % 2] ∧ win0_3.index t = ![t.val / 16, 0, t.val % 2]
    ∧ win0_4.index t = ![t.val / 16, t.val % 2, 0] ∧ win0_5.index t = ![t.val / 16, t.val / 2 % 8, 0] :=
  (by decide +kernel : ∀ t : Fin grid0.N, _)

/-- Only the second half of the hidden units writes its block back. -/
theorem flush_odd : ∀ t : Fin cfg0.N, (cfg0.win 5).flush t = true → t.val % 2 = 1 :=
  (by decide +kernel : ∀ t : Fin grid0.N, _)

variable (m : (ℓ : Loc nD τ sig) → Buf (Elt Ideal) ℓ) (c : Dev nD) (t : Fin cfg0.N)

/-- Expert of a grid point. -/
def te (t : Fin cfg0.N) : Fin 16 := ⟨t.val / 16, by have : t.val < 256 := t.isLt; omega⟩
/-- Token of a row of a grid point's block. -/
def tr (t : Fin cfg0.N) (r : Fin 512) : Fin 4096 := ⟨t.val / 2 % 8 * 512 + r.val, by omega⟩
/-- Hidden unit of a lane of a grid point's block. -/
def tf (t : Fin cfg0.N) (f : Fin 1024) : Fin 2048 := ⟨t.val % 2 * 1024 + f.val, by omega⟩

theorem read0 (r : Fin 512) (k : Fin 2048) :
    iblk m c 0 t (ix3 0 r k) = m ((c : Thread nD τ).loc main_arg0) (ix3 (te t) (tr t r) k) := by
  unfold te tr; blk_ext [iblk, V, idx t]
theorem read1 (r : Fin 512) :
    iblk m c 1 t (ix3 0 r 0) = m ((c : Thread nD τ).loc main_arg1) (ix2 (te t) (tr t r)) := by
  unfold te tr; blk_ext! [iblk, idx t]
theorem read2 (k : Fin 2048) (f : Fin 1024) :
    iblk m c 2 t (ix3 0 k f) = m ((c : Thread nD τ).loc main_arg2) (ix3 (te t) k (tf t f)) := by
  unfold te tf; blk_ext! [iblk, idx t]
theorem read3 (k : Fin 2048) (f : Fin 1024) :
    iblk m c 3 t (ix3 0 k f) = m ((c : Thread nD τ).loc main_arg3) (ix3 (te t) k (tf t f)) := by
  unfold te tf; blk_ext! [iblk, idx t]
theorem read4 (f : Fin 1024) (d : Fin 2048) :
    iblk m c 4 t (ix3 0 f d) = m ((c : Thread nD τ).loc main_arg4) (ix3 (te t) (tf t f) d) := by
  unfold te tf; blk_ext! [iblk, idx t]

/-- One half's part, over the argument arrays. -/
theorem part_at (r : Fin 512) (d : Fin 2048) :
    k0_pay1 (F := Ideal) (iblk m c 0 t) (iblk m c 2 t) (iblk m c 3 t) (iblk m c 4 t) (ix2 r d)
      = ∑ f : Fin 1024, hid (fun k => m ((c : Thread nD τ).loc main_arg0) (ix3 (te t) (tr t r) k))
          (fun k => m ((c : Thread nD τ).loc main_arg2) (ix3 (te t) k (tf t f)))
          (fun k => m ((c : Thread nD τ).loc main_arg3) (ix3 (te t) k (tf t f)))
          * m ((c : Thread nD τ).loc main_arg4) (ix3 (te t) (tf t f) d) := by
  refine (part_apply _ _ _ _ r d).trans ?_
  refine Finset.sum_congr rfl fun f _ => ?_
  congr 1
  · unfold hid
    simp only [read0, read2, read3]
  · exact read4 m c t f d

/-- What the first half leaves in the block. -/
theorem first_at (h : t.val % 2 = 0) (z : Fin 1) (r : Fin 512) (d : Fin 2048) :
    outsAt0 m c t.val t.isLt (ix3 z r d)
      = k0_pay1 (F := Ideal) (iblk m c 0 t) (iblk m c 2 t) (iblk m c 3 t) (iblk m c 4 t) (ix2 r d) := by
  rw [outsAt0_A m c t h (by omega) (by omega)]
  frame_out
  exact first_apply _ _ _ _ z r d

/-- What the second half leaves in the block. -/
theorem second_at (h : t.val % 2 = 1) (z : Fin 1) (r : Fin 512) (d : Fin 2048) :
    outsAt0 m c t.val t.isLt (ix3 z r d)
      = (outsAt0 m c (t.val - 1) (Nat.lt_of_le_of_lt (Nat.sub_le _ _) t.isLt) (ix3 0 r d)
          + k0_pay1 (F := Ideal) (iblk m c 0 t) (iblk m c 2 t) (iblk m c 3 t) (iblk m c 4 t) (ix2 r d))
        * iblk m c 1 t (ix3 0 r 0) := by
  rw [outsAt0_B m c t (by omega) h h]
  frame_out
  refine (gate_apply _ _ z r d).trans ?_
  congr 1
  exact add_apply _ _ _ _ _ 0 r d

end Cert.Expert
-- ==== Proof.Expert.Claims.lean ====
/- The experts: the two halves put together, the reference's sum, and the claims. -/
module

public import proofs.«01_k».proof.Defs
public import proofs.«01_k».proof.Proof.Expert.Array
public import proofs.«01_k».proof.Proof.Gen.Reference3Ideal.Read

set_option maxRecDepth 16384
noncomputable section
@[expose] public section
namespace Cert.Expert
open Cert.Kernel3Ideal Cert.Kernel3Ideal.Gen Idealize.ShloMosaic Idealize.ShloMosaic.TcCoe Idealize.SL.Sem
open Idealize.ShloMosaic.Pipeline (Dat)

/-- A sum over the hidden units is the sum of its two halves. -/
theorem halves (F : Fin 2048 → EReal) :
    (∑ f : Fin 1024, F ⟨f.val, by omega⟩) + (∑ f : Fin 1024, F ⟨1024 + f.val, by omega⟩) = ∑ f, F f :=
  (Fin.sum_univ_add (a := 1024) (b := 1024) F).symm

variable (m : (ℓ : Loc nD τ sig) → Buf (Elt Ideal) ℓ)

/-- What hidden unit `f` of expert `e` gives to entry `d` of token `r`, before the gate. -/
def unit (c : Dev nD) (e : Fin 16) (r : Fin 4096) (d f : Fin 2048) : EReal :=
  hid (fun k => m ((c : Thread nD τ).loc main_arg0) (ix3 e r k)) (fun k => m ((c : Thread nD τ).loc main_arg2) (ix3 e k f))
    (fun k => m ((c : Thread nD τ).loc main_arg3) (ix3 e k f)) * m ((c : Thread nD τ).loc main_arg4) (ix3 e f d)

theorem part_unit (c : Dev nD) (t : Fin cfg0.N) (r : Fin 512) (d : Fin 2048) :
    k0_pay1 (F := Ideal) (iblk m c 0 t) (iblk m c 2 t) (iblk m c 3 t) (iblk m c 4 t) (ix2 r d)
      = ∑ f : Fin 1024, unit m c (te t) (tr t r) d (tf t f) := part_at m c t r d

/-- The first half of a run, told at its second point. -/
theorem first_half (c : Dev nD) (t : Fin cfg0.N) (h : t.val % 2 = 1) (r : Fin 512) (d : Fin 2048) :
    outsAt0 m c (t.val - 1) (Nat.lt_of_le_of_lt (Nat.sub_le _ _) t.isLt) (ix3 0 r d)
      = ∑ f : Fin 1024, unit m c (te t) (tr t r) d ⟨f.val, by omega⟩ := by
  have hp : t.val - 1 < cfg0.N := Nat.lt_of_le_of_lt (Nat.sub_le _ _) t.isLt
  have p0 : (⟨t.val - 1, hp⟩ : Fin cfg0.N).val % 2 = 0 := by show (t.val - 1) % 2 = 0; omega
  refine (first_at m c ⟨t.val - 1, hp⟩ p0 0 r d).trans ((part_unit m c ⟨t.val - 1, hp⟩ r d).trans ?_)
  have ee : te ⟨t.val - 1, hp⟩ = te t := Fin.ext (by show (t.val - 1) / 16 = t.val / 16; omega)
  have er : tr ⟨t.val - 1, hp⟩ r = tr t r := Fin.ext (by
    show (t.val - 1) / 2 % 8 * 512 + r.val = t.val / 2 % 8 * 512 + r.val; omega)
  refine Finset.sum_congr rfl fun f _ => ?_
  have ef : tf ⟨t.val - 1, hp⟩ f = ⟨f.val, by omega⟩ := Fin.ext (by
    show (t.val - 1) % 2 * 1024 + f.val = f.val; omega)
  rw [ee, er, ef]

/-- The second half of a run. -/
theorem second_half (c : Dev nD) (t : Fin cfg0.N) (h : t.val % 2 = 1) (r : Fin 512) (d : Fin 2048) :
    k0_pay1 (F := Ideal) (iblk m c 0 t) (iblk m c 2 t) (iblk m c 3 t) (iblk m c 4 t) (ix2 r d)
      = ∑ f : Fin 1024, unit m c (te t) (tr t r) d ⟨1024 + f.val, by omega⟩ := by
  refine (part_unit m c t r d).trans (Finset.sum_congr rfl fun f _ => ?_)
  have ef : tf t f = ⟨1024 + f.val, by omega⟩ := Fin.ext (by
    show t.val % 2 * 1024 + f.val = 1024 + f.val; omega)
  rw [ef]

/-- The block a run of two points writes back. -/
theorem block_at (c : Dev nD) (t : Fin cfg0.N) (h : t.val % 2 = 1) (z : Fin 1) (r : Fin 512) (d : Fin 2048) :
    outsAt0 m c t.val t.isLt (ix3 z r d)
      = ffn (m ((c : Thread nD τ).loc main_arg0)) (m ((c : Thread nD τ).loc main_arg1)) (m ((c : Thread nD τ).loc main_arg2))
          (m ((c : Thread nD τ).loc main_arg3)) (m ((c : Thread nD τ).loc main_arg4)) (te t) (tr t r) d := by
  rw [second_at m c t h z r d, first_half m c t h r d, second_half m c t h r d, halves, read1]
  rfl

/-- The array read at a place whose coordinates are known. -/
theorem arr_at (X : FVec Ideal S16x4096x2048 .bf16) (G : FVec Ideal S16x4096 .f32) (A B W : FVec Ideal S16x2048x2048 .f32)
    (i : S16x4096x2048.Idx) (e : Fin 16) (r : Fin 4096) (d : Fin 2048) (h0 : (i 0).val = e.val) (h1 : (i 1).val = r.val)
    (h2 : (i 2).val = d.val) : arr X G A B W i = ffn X G A B W e r d := by
  have e0 : i 0 = e := Fin.ext h0
  have e1 : i 1 = r := Fin.ext h1
  have e2 : i 2 = d := Fin.ext h2
  unfold arr
  rw [e0, e1, e2]

/-- The result array after the run. -/
theorem final (c : Dev nD) : (dats m 0 c).arrAt 5 (cfgs 0).N
    = arr (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  blk_simp
  rw [after0_5]
  idx_vars y
  refine (block_at m c t (flush_odd t hf) y0 y1 y2).trans (arr_at _ _ _ _ _ _ _ _ _ ?_ ?_ ?_).symm
  · blk_simp [idx t]
    have := y0.isLt
    show _ = t.val / 16; omega
  · blk_simp [idx t]
    rfl
  · blk_simp [idx t]

section ref
open Cert.Reference3Ideal.Read

variable (X : FVec Ideal S16x4096x2048 .bf16) (G : FVec Ideal S16x4096 .f32) (A B W : FVec Ideal S16x2048x2048 .f32)

theorem r1 (e : Fin 16) (r : Fin 4096) (f : Fin 2048) :
    val_main_v1 (F := Ideal) X A (ix3 e r f) = ∑ k : Fin 2048, X (ix3 e r k) * A (ix3 e k f) := by
  pointwise [val_main_v1, val_main_v0]
theorem r3 (e : Fin 16) (r : Fin 4096) (f : Fin 2048) :
    val_main_v3 (F := Ideal) X B (ix3 e r f) = ∑ k : Fin 2048, X (ix3 e r k) * B (ix3 e k f) := by
  pointwise [val_main_v3, val_main_v0]

/-- The reference spells the logistic function out. -/
theorem r_logistic (i : S16x4096x2048.Idx) :
    val_main_call0_v5 (F := Ideal) X A i = Ideal.logistic (val_main_v1 (F := Ideal) X A i) := by
  rw [val_main_call0_v5_apply, val_main_call0_v4_apply, val_main_call0_cst_0_apply, val_main_call0_v3_apply,
    val_main_call0_v2_apply, val_main_call0_cst_apply, val_main_call0_v1_apply, val_main_call0_v0_apply]
  show Ideal.div (Ideal.ofBits .f32 0x3F800000#32) (Ideal.ofBits .f32 0x3F800000#32 + _) = _
  rw [Ideal.ofBits_one_f32]
  rfl

/-- A hidden unit of the reference. -/
theorem r4 (e : Fin 16) (r : Fin 4096) (f : Fin 2048) :
    val_main_v4 (F := Ideal) X A B (ix3 e r f)
      = hid (fun k => X (ix3 e r k)) (fun k => A (ix3 e k f)) (fun k => B (ix3 e k f)) := by
  rw [val_main_v4_apply, val_main_v2_apply, r_logistic, r1, r3]
  rfl

theorem r5 (e : Fin 16) (r : Fin 4096) (d : Fin 2048) :
    val_main_v5 (F := Ideal) X A B W (ix3 e r d)
      = ∑ f : Fin 2048, hid (fun k => X (ix3 e r k)) (fun k => A (ix3 e k f)) (fun k => B (ix3 e k f)) * W (ix3 e f d) := by
  pointwise [val_main_v5]
  simp only [r4]

/-- The reference's array is the same. -/
theorem ref_eq : val_main_v8 (F := Ideal) X G A B W = arr X G A B W := by
  funext i
  idx_vars i
  rw [val_main_v8_apply]
  refine (congrArg (fun s => FloatOps.mulf s _) (r5 X A B W _ _ _)).trans ?_
  unfold arr ffn
  show _ * _ = _ * _
  congr 1
  pointwise [val_main_v7, val_main_v6]

end ref

/-- The reference's frame. -/
theorem frame_ref : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The experts: the kernel and the reference leave the same array. -/
theorem algebraic : Cert.algebraic_Kernel3Ideal_Reference3Ideal := by
  intro m g m' g' _ hargs
  refine ⟨fun c => (dats m 0 c).arrAt 5 cfg0.N, Cert.Kernel3Ideal.Value.run_blocks (F := Ideal) m g, ?_⟩
  refine (θ_run Cert.Reference3Ideal.defs _ _).mono (fun r h c => ⟨(h c).1.trans ?_, (h c).2⟩)
    (Cert.Reference3Ideal.Value.run (F := Ideal) m' g')
  obtain ⟨e0, e1, e2, e3, e4⟩ := hargs c
  rw [Cert.Reference3Ideal.Read.val_main_v8_eq, e0, e1, e2, e3, e4]
  exact (ref_eq _ _ _ _ _).trans (final m c).symm

end Cert.Expert
-- ==== Proof.Merge.Body.lean ====
/- The gated merge: what the pieces of one grid point's body compute, entry by entry. -/
module

public import proofs.«01_k».proof.Proof.Gen.Kernel4Ideal.Value
public import Idealize.ShloMosaic.Lib.IdealHost
public import Idealize.ShloMosaic.Lib.Pointwise
public import Idealize.ShloMosaic.Lib.Pipeline.ValueKit

set_option maxRecDepth 16384
noncomputable section
@[expose] public section
namespace Cert.Merge
open Cert.Kernel4Ideal Cert.Kernel4Ideal.Gen Idealize.ShloMosaic Idealize.ShloMosaic.TcCoe Idealize.SL.Sem
open Idealize.ShloMosaic.Pipeline (Dat)

/-- One branch at one lane: the gate of the token's row `x`, times the branch's row `o` through the branch's column `v`. -/
def branch (x w : Fin 2048 → EReal) (b : EReal) (o v : Fin 512 → EReal) : EReal :=
  Ideal.logistic ((∑ k, x k * w k) + b) * ∑ j, o j * v j

/-- The four gated branches of a lane, added up. -/
def merged (x : Fin 2048 → EReal) (w : Fin 4 → Fin 2048 → EReal) (b : Fin 4 → EReal) (o v : Fin 4 → Fin 512 → EReal) : EReal :=
  branch x (w 0) (b 0) (o 0) (v 0) + branch x (w 1) (b 1) (o 1) (v 1) + branch x (w 2) (b 2) (o 2) (v 2)
    + branch x (w 3) (b 3) (o 3) (v 3)

theorem pay10_apply (x : Vec Ideal S512x2048 .bf16) (g : Vec Ideal S1x2048x256 .bf16) (b : Vec Ideal S1x1x256 .f32)
    (o : Vec Ideal S1x512x512 .bf16) (w : Vec Ideal S1x512x256 .bf16) (r : Fin 512) (f : Fin 256) :
    k0_pay10 (F := Ideal) x g b o w (ix2 r f) = branch (fun k => x (ix2 r k)) (fun k => g (ix3 0 k f)) (b (ix3 0 0 f))
      (fun j => o (ix3 0 r j)) (fun j => w (ix3 0 j f)) := by
  pointwise [k0_pay10]
  rfl

theorem pay11_apply (x : Vec Ideal S512x2048 .bf16) (g : Vec Ideal S1x2048x256 .bf16) (b : Vec Ideal S1x1x256 .f32)
    (r : Fin 512) (f : Fin 256) :
    k0_pay11 (F := Ideal) x g b (ix2 r f) = Ideal.logistic ((∑ k : Fin 2048, x (ix2 r k) * g (ix3 0 k f)) + b (ix3 0 0 f)) := by
  pointwise [k0_pay11]

theorem pay14_apply (x : Vec Ideal S512x2048 .bf16) (g : Vec Ideal S1x2048x256 .bf16) (b : Vec Ideal S1x1x256 .f32)
    (r : Fin 512) (f : Fin 256) :
    k0_pay14 (F := Ideal) x g b (ix2 r f) = Ideal.logistic ((∑ k : Fin 2048, x (ix2 r k) * g (ix3 0 k f)) + b (ix3 0 0 f)) := by
  pointwise [k0_pay14]

theorem pay12_apply (o : Vec Ideal S1x512x512 .bf16) (r j : Fin 512) : k0_pay12 (F := Ideal) o (ix2 r j) = o (ix3 0 r j) := by
  pointwise [k0_pay12]

theorem pay15_apply (o : Vec Ideal S1x512x512 .bf16) (r j : Fin 512) : k0_pay15 (F := Ideal) o (ix2 r j) = o (ix3 0 r j) := by
  pointwise [k0_pay15]

theorem pay13_apply (x : Vec Ideal S512x2048 .bf16) (a s : FVec Ideal S512x256 .f32) (o : FVec Ideal S512x512 .bf16)
    (w : Vec Ideal S1x512x256 .bf16) (g2 : Vec Ideal S1x2048x256 .bf16) (b2 : Vec Ideal S1x1x256 .f32)
    (o2 : Vec Ideal S1x512x512 .bf16) (w2 : Vec Ideal S1x512x256 .bf16) (r : Fin 512) (f : Fin 256) :
    k0_pay13 (F := Ideal) x a s o w g2 b2 o2 w2 (ix2 r f)
      = a (ix2 r f) + s (ix2 r f) * (∑ j : Fin 512, o (ix2 r j) * w (ix3 0 j f))
        + branch (fun k => x (ix2 r k)) (fun k => g2 (ix3 0 k f)) (b2 (ix3 0 0 f)) (fun j => o2 (ix3 0 r j)) (fun j => w2 (ix3 0 j f)) := by
  pointwise [k0_pay13]
  rfl

theorem pay1_apply (a s : FVec Ideal S512x256 .f32) (o : FVec Ideal S512x512 .bf16) (w : Vec Ideal S1x512x256 .bf16)
    (acc : Vec Ideal S512x2048 .f32) (wo : Vec Ideal S256x2048 .bf16) (r : Fin 512) (d : Fin 2048) :
    k0_pay1 (F := Ideal) a s o w acc wo (ix2 r d)
      = acc (ix2 r d) + ∑ f : Fin 256, (a (ix2 r f) + s (ix2 r f) * (∑ j : Fin 512, o (ix2 r j) * w (ix3 0 j f))) * wo (ix2 f d) := by
  pointwise [k0_pay1]

/-- One step of the body over what it keeps between points: the accumulator plus 256 merged lanes through the output weights. -/
def step (xb : Vec Ideal S512x2048 .bf16) (ob : Vec Ideal S4x512x512 .bf16) (g : Vec Ideal S4x2048x256 .bf16)
    (b : Vec Ideal S4x1x256 .f32) (w : Vec Ideal S4x512x256 .bf16) (acc : Vec Ideal S512x2048 .f32) (wo : Vec Ideal S256x2048 .bf16) :
    FVec Ideal S512x2048 .f32 :=
  k0_pay1
    (k0_pay13 xb
      (k0_pay10 xb (View.ld g (Rect.unit ![0, 0, 0] ![1, 2048, 256] inb_S4x2048x256_S1x2048x256_0_0_0))
        (View.ld b (Rect.unit ![0, 0, 0] ![1, 1, 256] inb_S4x1x256_S1x1x256_0_0_0))
        (View.ld ob (Rect.unit ![0, 0, 0] ![1, 512, 512] inb_S4x512x512_S1x512x512_0_0_0))
        (View.ld w (Rect.unit ![0, 0, 0] ![1, 512, 256] inb_S4x512x256_S1x512x256_0_0_0)))
      (k0_pay11 xb (View.ld g (Rect.unit ![1, 0, 0] ![1, 2048, 256] inb_S4x2048x256_S1x2048x256_1_0_0))
        (View.ld b (Rect.unit ![1, 0, 0] ![1, 1, 256] inb_S4x1x256_S1x1x256_1_0_0)))
      (k0_pay12 (View.ld ob (Rect.unit ![1, 0, 0] ![1, 512, 512] inb_S4x512x512_S1x512x512_1_0_0)))
      (View.ld w (Rect.unit ![1, 0, 0] ![1, 512, 256] inb_S4x512x256_S1x512x256_1_0_0))
      (View.ld g (Rect.unit ![2, 0, 0] ![1, 2048, 256] inb_S4x2048x256_S1x2048x256_2_0_0))
      (View.ld b (Rect.unit ![2, 0, 0] ![1, 1, 256] inb_S4x1x256_S1x1x256_2_0_0))
      (View.ld ob (Rect.unit ![2, 0, 0] ![1, 512, 512] inb_S4x512x512_S1x512x512_2_0_0))
      (View.ld w (Rect.unit ![2, 0, 0] ![1, 512, 256] inb_S4x512x256_S1x512x256_2_0_0)))
    (k0_pay14 xb (View.ld g (Rect.unit ![3, 0, 0] ![1, 2048, 256] inb_S4x2048x256_S1x2048x256_3_0_0))
      (View.ld b (Rect.unit ![3, 0, 0] ![1, 1, 256] inb_S4x1x256_S1x1x256_3_0_0)))
    (k0_pay15 (View.ld ob (Rect.unit ![3, 0, 0] ![1, 512, 512] inb_S4x512x512_S1x512x512_3_0_0)))
    (View.ld w (Rect.unit ![3, 0, 0] ![1, 512, 256] inb_S4x512x256_S1x512x256_3_0_0)) acc wo

/-- A load of slab `j` of a stack of four, read at row `r` and column `s`. -/
theorem slab {p q : Nat} {e : EltTy} (X : Vec Ideal ⟨3, ![4, p, q]⟩ e) (j : Fin 4)
    (inb : ∀ a, (![j.val, 0, 0] : Fin 3 → Nat) a + (![1, p, q] : Fin 3 → Nat) a ≤ (![4, p, q] : Fin 3 → Nat) a) (r : Fin p) (s : Fin q) :
    View.ld (Val := Elt Ideal) (e' := e) X (Rect.unit (s := ⟨3, ![4, p, q]⟩) ![j.val, 0, 0] ![1, p, q] inb) (ix3 0 r s) = X (ix3 j r s) := by
  refine congrArg X ?_
  funext a
  fin_cases a <;> apply Fin.ext <;> simp [Rect.emb]

/-- The branch from equal rows and columns. -/
theorem branch_of (x : Fin 2048 → EReal) {w w' : Fin 2048 → EReal} {b b' : EReal} {o o' v v' : Fin 512 → EReal}
    (hw : w = w') (hb : b = b') (ho : o = o') (hv : v = v') :
    Ideal.logistic ((∑ k, x k * w k) + b) * (∑ j, o j * v j) = branch x w' b' o' v' := by
  subst hw hb ho hv; rfl

/-- One step at row `r` and lane `d`. -/
theorem step_apply (xb : Vec Ideal S512x2048 .bf16) (ob : Vec Ideal S4x512x512 .bf16) (g : Vec Ideal S4x2048x256 .bf16)
    (b : Vec Ideal S4x1x256 .f32) (w : Vec Ideal S4x512x256 .bf16) (acc : Vec Ideal S512x2048 .f32) (wo : Vec Ideal S256x2048 .bf16)
    (r : Fin 512) (d : Fin 2048) :
    step xb ob g b w acc wo (ix2 r d) = acc (ix2 r d)
      + ∑ f : Fin 256, merged (fun k => xb (ix2 r k)) (fun n k => g (ix3 n k f)) (fun n => b (ix3 n 0 f)) (fun n j => ob (ix3 n r j))
          (fun n j => w (ix3 n j f)) * wo (ix2 f d) := by
  unfold step
  rw [pay1_apply]
  congr 1
  refine Finset.sum_congr rfl fun f _ => congrArg (· * wo (ix2 f d)) ?_
  rw [pay13_apply, pay10_apply, pay11_apply, pay14_apply]
  simp only [pay12_apply, pay15_apply]
  have g0 := fun k => slab (e := .bf16) g 0 inb_S4x2048x256_S1x2048x256_0_0_0 k f
  have g1 := fun k => slab (e := .bf16) g 1 inb_S4x2048x256_S1x2048x256_1_0_0 k f
  have g2 := fun k => slab (e := .bf16) g 2 inb_S4x2048x256_S1x2048x256_2_0_0 k f
  have g3 := fun k => slab (e := .bf16) g 3 inb_S4x2048x256_S1x2048x256_3_0_0 k f
  have b0 := slab (e := .f32) b 0 inb_S4x1x256_S1x1x256_0_0_0 0 f
  have b1 := slab (e := .f32) b 1 inb_S4x1x256_S1x1x256_1_0_0 0 f
  have b2 := slab (e := .f32) b 2 inb_S4x1x256_S1x1x256_2_0_0 0 f
  have b3 := slab (e := .f32) b 3 inb_S4x1x256_S1x1x256_3_0_0 0 f
  have w0 := fun k => slab (e := .bf16) w 0 inb_S4x512x256_S1x512x256_0_0_0 k f
  have w1 := fun k => slab (e := .bf16) w 1 inb_S4x512x256_S1x512x256_1_0_0 k f
  have w2 := fun k => slab (e := .bf16) w 2 inb_S4x512x256_S1x512x256_2_0_0 k f
  have w3 := fun k => slab (e := .bf16) w 3 inb_S4x512x256_S1x512x256_3_0_0 k f
  have o0 := fun k => slab (e := .bf16) ob 0 inb_S4x512x512_S1x512x512_0_0_0 r k
  have o1 := fun k => slab (e := .bf16) ob 1 inb_S4x512x512_S1x512x512_1_0_0 r k
  have o2 := fun k => slab (e := .bf16) ob 2 inb_S4x512x512_S1x512x512_2_0_0 r k
  have o3 := fun k => slab (e := .bf16) ob 3 inb_S4x512x512_S1x512x512_3_0_0 r k
  unfold merged
  refine congrArg₂ _ (congrArg₂ _ (congrArg₂ _ ?_ ?_) ?_) ?_
  · exact branch_of _ (funext g0) b0 (funext o0) (funext w0)
  · exact branch_of _ (funext g1) b1 (funext o1) (funext w1)
  · exact branch_of _ (funext g2) b2 (funext o2) (funext w2)
  · exact branch_of _ (funext g3) b3 (funext o3) (funext w3)

/-- The pieces a first point stores of the four branches. -/
def stack (o0 o1 o2 o3 : Vec Ideal S512x512 .f32) : Vec Ideal S4x512x512 .bf16 :=
  View.canon
    [⟨Rect.unit ![3, 0, 0] ![1, 512, 512] inb_S4x512x512_S1x512x512_3_0_0, k0_pay7 o3⟩,
      ⟨Rect.unit ![2, 0, 0] ![1, 512, 512] inb_S4x512x512_S1x512x512_2_0_0, k0_pay6 o2⟩,
      ⟨Rect.unit ![1, 0, 0] ![1, 512, 512] inb_S4x512x512_S1x512x512_1_0_0, k0_pay5 o1⟩,
      ⟨Rect.unit ![0, 0, 0] ![1, 512, 512] inb_S4x512x512_S1x512x512_0_0_0, k0_pay4 o0⟩]

theorem pay3_apply (x : Vec Ideal S512x2048 .f32) (r : Fin 512) (k : Fin 2048) : k0_pay3 (F := Ideal) x (ix2 r k) = x (ix2 r k) := by
  pointwise [k0_pay3]
theorem pay4_apply (x : Vec Ideal S512x512 .f32) (z : Fin 1) (r k : Fin 512) : k0_pay4 (F := Ideal) x (ix3 z r k) = x (ix2 r k) := by
  pointwise [k0_pay4]
theorem pay5_apply (x : Vec Ideal S512x512 .f32) (z : Fin 1) (r k : Fin 512) : k0_pay5 (F := Ideal) x (ix3 z r k) = x (ix2 r k) := by
  pointwise [k0_pay5]
theorem pay6_apply (x : Vec Ideal S512x512 .f32) (z : Fin 1) (r k : Fin 512) : k0_pay6 (F := Ideal) x (ix3 z r k) = x (ix2 r k) := by
  pointwise [k0_pay6]
theorem pay7_apply (x : Vec Ideal S512x512 .f32) (z : Fin 1) (r k : Fin 512) : k0_pay7 (F := Ideal) x (ix3 z r k) = x (ix2 r k) := by
  pointwise [k0_pay7]
theorem pay9_apply (r : Fin 512) (d : Fin 2048) : k0_pay9 (F := Ideal) (k0_pay8 (F := Ideal)) (ix2 r d) = (0 : EReal) := by
  pointwise [k0_pay9, k0_pay8]

/-- Slab `j` of a stack of four is where a store at offset `j` puts its row and column. -/
theorem slab_emb (j : Nat) (hj : j < 4)
    (inb : ∀ a, (![j, 0, 0] : Fin 3 → Nat) a + (![1, 512, 512] : Fin 3 → Nat) a ≤ S4x512x512.size a) (r k : Fin 512) :
    (Rect.unit (s := S4x512x512) ![j, 0, 0] ![1, 512, 512] inb).emb (ix3 (⟨0, by decide⟩ : Fin 1) r k) = ix3 (⟨j, hj⟩ : Fin 4) r k := by
  funext a
  apply Fin.ext
  rw [ValueKit.rect_emb_unit_val]
  fin_cases a <;> simp

/-- Another slab is outside of it. -/
theorem slab_out (j : Nat) (i : Fin 4) (hij : i.val ≠ j)
    (inb : ∀ a, (![j, 0, 0] : Fin 3 → Nat) a + (![1, 512, 512] : Fin 3 → Nat) a ≤ S4x512x512.size a) (r k : Fin 512) :
    (ix3 i r k : S4x512x512.Idx) ∉ (Rect.unit (s := S4x512x512) ![j, 0, 0] ![1, 512, 512] inb).set := by
  intro h
  have h0 : j ≤ i.val ∧ i.val < j + 1 := (Rect.mem_set_unit.mp h) 0
  omega

/-- A slab's own store is what is read there, -/
theorem hit (j : Nat) (hj : j < 4)
    (inb : ∀ a, (![j, 0, 0] : Fin 3 → Nat) a + (![1, 512, 512] : Fin 3 → Nat) a ≤ S4x512x512.size a)
    (w : Vec Ideal S1x512x512 .bf16) (L : List (View.Piece (Elt Ideal) S4x512x512 .bf16)) (r k : Fin 512) :
    View.canon ((⟨Rect.unit (s := S4x512x512) ![j, 0, 0] ![1, 512, 512] inb, w⟩ : View.Piece (Elt Ideal) S4x512x512 .bf16) :: L)
      (ix3 (⟨j, hj⟩ : Fin 4) r k) = w (ix3 (⟨0, by decide⟩ : Fin 1) r k) := by
  rw [← slab_emb j hj inb r k]
  exact View.canon_cons_emb (Rect.unit (s := S4x512x512) ![j, 0, 0] ![1, 512, 512] inb) w L _

/-- and the store of another slab is passed over. -/
theorem skip (j : Nat) (i : Fin 4) (hij : i.val ≠ j)
    (inb : ∀ a, (![j, 0, 0] : Fin 3 → Nat) a + (![1, 512, 512] : Fin 3 → Nat) a ≤ S4x512x512.size a)
    (w : Vec Ideal S1x512x512 .bf16) (L : List (View.Piece (Elt Ideal) S4x512x512 .bf16)) (r k : Fin 512) :
    View.canon ((⟨Rect.unit (s := S4x512x512) ![j, 0, 0] ![1, 512, 512] inb, w⟩ : View.Piece (Elt Ideal) S4x512x512 .bf16) :: L)
      (ix3 i r k) = View.canon L (ix3 i r k) :=
  View.canon_cons_of_not_mem _ L (slab_out j i hij inb r k)

theorem stack_apply0 (o0 o1 o2 o3 : Vec Ideal S512x512 .f32) (r k : Fin 512) :
    stack o0 o1 o2 o3 (ix3 0 r k) = o0 (ix2 r k) :=
  (skip 3 0 (by decide) inb_S4x512x512_S1x512x512_3_0_0 _ _ r k).trans <|
    (skip 2 0 (by decide) inb_S4x512x512_S1x512x512_2_0_0 _ _ r k).trans <|
    (skip 1 0 (by decide) inb_S4x512x512_S1x512x512_1_0_0 _ _ r k).trans <|
    (hit 0 (by decide) inb_S4x512x512_S1x512x512_0_0_0 _ _ r k).trans (pay4_apply o0 _ r k)
theorem stack_apply1 (o0 o1 o2 o3 : Vec Ideal S512x512 .f32) (r k : Fin 512) :
    stack o0 o1 o2 o3 (ix3 1 r k) = o1 (ix2 r k) :=
  (skip 3 1 (by decide) inb_S4x512x512_S1x512x512_3_0_0 _ _ r k).trans <|
    (skip 2 1 (by decide) inb_S4x512x512_S1x512x512_2_0_0 _ _ r k).trans <|
    (hit 1 (by decide) inb_S4x512x512_S1x512x512_1_0_0 _ _ r k).trans (pay5_apply o1 _ r k)
theorem stack_apply2 (o0 o1 o2 o3 : Vec Ideal S512x512 .f32) (r k : Fin 512) :
    stack o0 o1 o2 o3 (ix3 2 r k) = o2 (ix2 r k) :=
  (skip 3 2 (by decide) inb_S4x512x512_S1x512x512_3_0_0 _ _ r k).trans <|
    (hit 2 (by decide) inb_S4x512x512_S1x512x512_2_0_0 _ _ r k).trans (pay6_apply o2 _ r k)
theorem stack_apply3 (o0 o1 o2 o3 : Vec Ideal S512x512 .f32) (r k : Fin 512) :
    stack o0 o1 o2 o3 (ix3 3 r k) = o3 (ix2 r k) :=
  (hit 3 (by decide) inb_S4x512x512_S1x512x512_3_0_0 _ _ r k).trans (pay7_apply o3 _ r k)

/-- The layer norm's residual at one place. -/
def resid (x y : EReal) : EReal := Ideal.ofBits .f32 0x3FD744FD#32 * x + y
/-- The average of a row of 2048 numbers. -/
def mean (f : Fin 2048 → EReal) : EReal := Ideal.div (∑ k, f k) (Ideal.ofBits .f32 0x45000000#32)
/-- A row less its average. -/
def dev (f : Fin 2048 → EReal) (k : Fin 2048) : EReal := f k - mean f
/-- The layer norm of a row at lane `d`, with gain `g` and shift `b`. -/
def ln (f : Fin 2048 → EReal) (g b : EReal) (d : Fin 2048) : EReal :=
  dev f d * Ideal.rsqrt (mean (fun k => dev f k * dev f k) + Ideal.ofBits .f32 0x3727C5AC#32) * g + b

/-- The block a last point stores. -/
theorem pay2_apply (x y : Vec Ideal S512x2048 .f32) (g b : Vec Ideal S1x2048 .f32) (r : Fin 512) (d : Fin 2048) :
    k0_pay2 (F := Ideal) x y g b (ix2 r d)
      = ln (fun k => resid (x (ix2 r k)) (y (ix2 r k))) (g (ix2 0 d)) (b (ix2 0 d)) d := by
  pointwise [k0_pay2]
  unfold ln mean dev mean resid
  rfl

end Cert.Merge
-- ==== Proof.Merge.Scratch.lean ====
/- The gated merge: what the body keeps between grid points, case by case. -/
module

public import proofs.«01_k».proof.Proof.Merge.Body
public import Idealize.ShloMosaic.Lib.Pipeline.ReadBack

set_option maxRecDepth 16384
noncomputable section
@[expose] public section
namespace Cert.Merge
open Cert.Kernel4Ideal Cert.Kernel4Ideal.Gen Idealize.ShloMosaic Idealize.ShloMosaic.TcCoe Idealize.SL.Sem
open Idealize.ShloMosaic.Pipeline (Dat)
variable (m : (ℓ : Loc nD τ sig) → Buf (Elt Ideal) ℓ) (c : Dev nD) (t : Fin cfg0.N)

theorem xb_A (h : t.val % 8 = 0) : (outsAt0 m c t.val t.isLt).2.2.1 = k0_pay3 (F := Ideal) (iblk m c 0 t) := by
  rw [outsAt0_A m c t h (by omega)]
  frame_out

theorem ob_A (h : t.val % 8 = 0) :
    (outsAt0 m c t.val t.isLt).2.2.2 = stack (iblk m c 1 t) (iblk m c 2 t) (iblk m c 3 t) (iblk m c 4 t) := by
  rw [outsAt0_A m c t h (by omega)]
  frame_out

theorem xb_BC (h : ¬ t.val % 8 = 0) : (outsAt0 m c t.val t.isLt).2.2.1
    = (outsAt0 m c (t.val - 1) (Nat.lt_of_le_of_lt (Nat.sub_le _ _) t.isLt)).2.2.1 := by
  by_cases h' : t.val % 8 = 7
  · rw [outsAt0_C m c t h h']; rfl
  · rw [outsAt0_B m c t h h']; rfl

theorem ob_BC (h : ¬ t.val % 8 = 0) : (outsAt0 m c t.val t.isLt).2.2.2
    = (outsAt0 m c (t.val - 1) (Nat.lt_of_le_of_lt (Nat.sub_le _ _) t.isLt)).2.2.2 := by
  by_cases h' : t.val % 8 = 7
  · rw [outsAt0_C m c t h h']; rfl
  · rw [outsAt0_B m c t h h']; rfl

theorem acc_A (h : t.val % 8 = 0) : (outsAt0 m c t.val t.isLt).2.1
    = step (k0_pay3 (iblk m c 0 t)) (stack (iblk m c 1 t) (iblk m c 2 t) (iblk m c 3 t) (iblk m c 4 t)) (iblk m c 5 t) (iblk m c 6 t)
        (iblk m c 7 t) (k0_pay9 (F := Ideal) k0_pay8) (iblk m c 8 t) := by
  rw [outsAt0_A m c t h (by omega)]
  frame_out
  simp only [View.readCov_eq_canon']
  rfl

theorem acc_BC (h : ¬ t.val % 8 = 0) : (outsAt0 m c t.val t.isLt).2.1
    = step (outsAt0 m c (t.val - 1) (Nat.lt_of_le_of_lt (Nat.sub_le _ _) t.isLt)).2.2.1
        (outsAt0 m c (t.val - 1) (Nat.lt_of_le_of_lt (Nat.sub_le _ _) t.isLt)).2.2.2 (iblk m c 5 t) (iblk m c 6 t)
        (iblk m c 7 t) (outsAt0 m c (t.val - 1) (Nat.lt_of_le_of_lt (Nat.sub_le _ _) t.isLt)).2.1 (iblk m c 8 t) := by
  by_cases h' : t.val % 8 = 7
  · rw [outsAt0_C m c t h h']
    frame_out
    simp only [read_unread_whole]
    rfl
  · rw [outsAt0_B m c t h h']
    frame_out
    simp only [read_unread_whole]
    rfl

theorem out_C (h : t.val % 8 = 7) : (outsAt0 m c t.val t.isLt).1
    = k0_pay2 (F := Ideal) (iblk m c 0 t) (outsAt0 m c t.val t.isLt).2.1 (iblk m c 9 t) (iblk m c 10 t) := by
  rw [acc_BC m c t (by omega), outsAt0_C m c t (by omega) h]
  frame_out
  simp only [read_unread_whole]
  rfl

end Cert.Merge
-- ==== Proof.Merge.Array.lean ====
/- The gated merge: the run leaves, for every token, the layer norm of its residual sum with the merged branches. -/
module

public import proofs.«01_k».proof.Proof.Merge.Scratch

set_option maxRecDepth 16384
noncomputable section
@[expose] public section
namespace Cert.Merge
open Cert.Kernel4Ideal Cert.Kernel4Ideal.Gen Idealize.ShloMosaic Idealize.ShloMosaic.TcCoe Idealize.SL.Sem
open Idealize.ShloMosaic.Pipeline (Dat)

section spec
variable (X : FVec Ideal S32768x2048 .f32) (O0 O1 O2 O3 : FVec Ideal S32768x512 .f32) (WG : FVec Ideal S4x2048x2048 .f32)
  (BG : FVec Ideal S4x2048 .f32) (WB : FVec Ideal S4x512x2048 .f32) (WO : FVec Ideal S2048x2048 .f32) (g b : FVec Ideal S2048 .f32)

/-- The merged branches of token `R` at lane `f`. -/
def mix (R : Fin 32768) (f : Fin 2048) : EReal :=
  merged (fun k => X (ix2 R k)) (fun n k => WG (ix3 n k f)) (fun n => BG (ix2 n f))
    (fun n j => (![O0, O1, O2, O3] n : FVec Ideal S32768x512 .f32) (ix2 R j)) (fun n j => WB (ix3 n j f))

/-- What lane `f` gives to entry `d` of token `R`. -/
def unit (R : Fin 32768) (d f : Fin 2048) : EReal := mix X O0 O1 O2 O3 WG BG WB R f * WO (ix2 f d)

/-- The residual sum of token `R` at lane `d`. -/
def pre (R : Fin 32768) (d : Fin 2048) : EReal := resid (X (ix2 R d)) (∑ f, unit X O0 O1 O2 O3 WG BG WB WO R d f)

/-- The array of the layer's merged activations. -/
def arr : FVec Ideal S32768x2048 .f32 :=
  fun i => ln (pre X O0 O1 O2 O3 WG BG WB WO (i 0)) (g (ix1 (i 1))) (b (ix1 (i 1))) (i 1)

/-- The array read at a place whose coordinates are known. -/
theorem arr_at (i : S32768x2048.Idx) (R : Fin 32768) (d : Fin 2048) (h0 : (i 0).val = R.val) (h1 : (i 1).val = d.val) :
    arr X O0 O1 O2 O3 WG BG WB WO g b i = ln (pre X O0 O1 O2 O3 WG BG WB WO R) (g (ix1 d)) (b (ix1 d)) d := by
  have e0 : i 0 = R := Fin.ext h0
  have e1 : i 1 = d := Fin.ext h1
  unfold arr
  rw [e0, e1]

end spec

/-- The blocks of every grid point: 64 groups of tokens, eight groups of lanes. -/
theorem idx : ∀ t : Fin cfg0.N, win0_0.index t = ![t.val / 8, 0] ∧ win0_1.index t = ![t.val / 8, 0] ∧ win0_2.index t = ![t.val / 8, 0]
    ∧ win0_3.index t = ![t.val / 8, 0] ∧ win0_4.index t = ![t.val / 8, 0] ∧ win0_5.index t = ![0, 0, t.val % 8]
    ∧ win0_6.index t = ![0, 0, t.val % 8] ∧ win0_7.index t = ![0, 0, t.val % 8] ∧ win0_8.index t = ![t.val % 8, 0]
    ∧ win0_9.index t = ![0, 0] ∧ win0_10.index t = ![0, 0] ∧ win0_11.index t = ![t.val / 8, 0] :=
  (by decide +kernel : ∀ t : Fin grid0.N, _)

/-- Only the last group of lanes writes its block back. -/
theorem flush_last : ∀ t : Fin cfg0.N, (cfg0.win 11).flush t = true → t.val % 8 = 7 :=
  (by decide +kernel : ∀ t : Fin grid0.N, _)

/-- Token of a row of a grid point's block. -/
def tr (t : Fin cfg0.N) (r : Fin 512) : Fin 32768 := ⟨t.val / 8 * 512 + r.val, by have : t.val < 512 := t.isLt; omega⟩
/-- Lane of a column of a grid point's block. -/
def tf (t : Fin cfg0.N) (f : Fin 256) : Fin 2048 := ⟨t.val % 8 * 256 + f.val, by omega⟩

variable (m : (ℓ : Loc nD τ sig) → Buf (Elt Ideal) ℓ) (c : Dev nD) (t : Fin cfg0.N)

theorem read0 (r : Fin 512) (k : Fin 2048) :
    iblk m c 0 t (ix2 r k) = m ((c : Thread nD τ).loc main_arg0) (ix2 (tr t r) k) := by
  unfold tr; blk_ext [iblk, V, idx t]
theorem read1 (r k : Fin 512) : iblk m c 1 t (ix2 r k) = m ((c : Thread nD τ).loc main_arg1) (ix2 (tr t r) k) := by
  unfold tr; blk_ext [iblk, V, idx t]
theorem read2 (r k : Fin 512) : iblk m c 2 t (ix2 r k) = m ((c : Thread nD τ).loc main_arg2) (ix2 (tr t r) k) := by
  unfold tr; blk_ext [iblk, V, idx t]
theorem read3 (r k : Fin 512) : iblk m c 3 t (ix2 r k) = m ((c : Thread nD τ).loc main_arg3) (ix2 (tr t r) k) := by
  unfold tr; blk_ext [iblk, V, idx t]
theorem read4 (r k : Fin 512) : iblk m c 4 t (ix2 r k) = m ((c : Thread nD τ).loc main_arg4) (ix2 (tr t r) k) := by
  unfold tr; blk_ext [iblk, V, idx t]
theorem read5 (n : Fin 4) (k : Fin 2048) (f : Fin 256) :
    iblk m c 5 t (ix3 n k f) = m ((c : Thread nD τ).loc main_arg5) (ix3 n k (tf t f)) := by
  unfold tf; blk_ext! [iblk, idx t]
theorem read6 (n : Fin 4) (f : Fin 256) :
    iblk m c 6 t (ix3 n 0 f) = m ((c : Thread nD τ).loc main_arg6) (ix2 n (tf t f)) := by
  unfold tf; blk_ext! [iblk, idx t]
theorem read7 (n : Fin 4) (k : Fin 512) (f : Fin 256) :
    iblk m c 7 t (ix3 n k f) = m ((c : Thread nD τ).loc main_arg7) (ix3 n k (tf t f)) := by
  unfold tf; blk_ext! [iblk, idx t]
theorem read8 (f : Fin 256) (d : Fin 2048) :
    iblk m c 8 t (ix2 f d) = m ((c : Thread nD τ).loc main_arg8) (ix2 (tf t f) d) := by
  unfold tf; blk_ext! [iblk, idx t]
theorem read9 (d : Fin 2048) : iblk m c 9 t (ix2 0 d) = m ((c : Thread nD τ).loc main_arg9) (ix1 d) := by
  blk_ext! [iblk, idx t]
theorem read10 (d : Fin 2048) : iblk m c 10 t (ix2 0 d) = m ((c : Thread nD τ).loc main_arg10) (ix1 d) := by
  blk_ext! [iblk, idx t]

end Cert.Merge
-- ==== Proof.Merge.Run.lean ====
/- The gated merge: the eight points of a group of tokens, and the array after the run. -/
module

public import proofs.«01_k».proof.Proof.Merge.Array

set_option maxRecDepth 16384
noncomputable section
@[expose] public section
namespace Cert.Merge
open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The four branches' arrays. -/
def br (n : Fin 4) : FVec Ideal S32768x512 .f32 :=
  ![m ((c : Thread nD τ).loc main_arg1), m ((c : Thread nD τ).loc main_arg2), m ((c : Thread nD τ).loc main_arg3),
    m ((c : Thread nD τ).loc main_arg4)] n

/-- The tokens of a group do not change within its eight points. -/
theorem tr_prev (t : Fin cfg0.N) (h : ¬ t.val % 8 = 0) (r : Fin 512) :
    tr ⟨t.val - 1, Nat.lt_of_le_of_lt (Nat.sub_le _ _) t.isLt⟩ r = tr t r :=
  Fin.ext (by show (t.val - 1) / 8 * 512 + r.val = t.val / 8 * 512 + r.val; omega)

/-- The stack of a group's first point holds the branches' rows. -/
theorem stack_at (t : Fin cfg0.N) (n : Fin 4) (r k : Fin 512) :
    stack (iblk m c 1 t) (iblk m c 2 t) (iblk m c 3 t) (iblk m c 4 t) (ix3 n r k) = br m c n (ix2 (tr t r) k) := by
  match n with
  | ⟨0, _⟩ => exact (stack_apply0 _ _ _ _ r k).trans (read1 m c t r k)
  | ⟨1, _⟩ => exact (stack_apply1 _ _ _ _ r k).trans (read2 m c t r k)
  | ⟨2, _⟩ => exact (stack_apply2 _ _ _ _ r k).trans (read3 m c t r k)
  | ⟨3, _⟩ => exact (stack_apply3 _ _ _ _ r k).trans (read4 m c t r k)

/-- The scratch of activations holds the group's tokens at each of its points. -/
theorem xb_at : ∀ (n : Nat) (h : n < cfg0.N) (r : Fin 512) (k : Fin 2048),
    (outsAt0 m c n h).2.2.1 (ix2 r k) = m ((c : Thread nD τ).loc main_arg0) (ix2 (tr ⟨n, h⟩ r) k) := by
  intro n
  induction n with
  | zero => intro h r k; rw [xb_A m c ⟨0, h⟩ rfl, pay3_apply]; exact read0 m c _ r k
  | succ n ih =>
    intro h r k
    by_cases h0 : (n + 1) % 8 = 0
    · rw [xb_A m c ⟨n + 1, h⟩ h0, pay3_apply]; exact read0 m c _ r k
    · rw [xb_BC m c ⟨n + 1, h⟩ h0, ← tr_prev ⟨n + 1, h⟩ h0]
      exact ih (by omega) r k

/-- The scratch of branches holds the group's rows at each of its points. -/
theorem ob_at : ∀ (n : Nat) (h : n < cfg0.N) (a : Fin 4) (r k : Fin 512),
    (outsAt0 m c n h).2.2.2 (ix3 a r k) = br m c a (ix2 (tr ⟨n, h⟩ r) k) := by
  intro n
  induction n with
  | zero => intro h a r k; rw [ob_A m c ⟨0, h⟩ rfl]; exact stack_at m c _ a r k
  | succ n ih =>
    intro h a r k
    by_cases h0 : (n + 1) % 8 = 0
    · rw [ob_A m c ⟨n + 1, h⟩ h0]; exact stack_at m c _ a r k
    · rw [ob_BC m c ⟨n + 1, h⟩ h0, ← tr_prev ⟨n + 1, h⟩ h0]
      exact ih (by omega) a r k

/-- What lane `f` gives to entry `d` of token `R`, over the argument arrays. -/
def lane (R : Fin 32768) (d f : Fin 2048) : EReal :=
  unit (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) R d f

/-- The lanes a grid point adds to entry `d` of its row `r`. -/
def part (t : Fin cfg0.N) (p : Fin 512 × Fin 2048) : EReal := ∑ f : Fin 256, lane m c (tr t p.1) p.2 (tf t f)

/-- A step over scratches that hold the group's rows adds the point's lanes. -/
theorem step_at (t : Fin cfg0.N) (xb : Vec Ideal S512x2048 .bf16) (ob : Vec Ideal S4x512x512 .bf16) (acc : Vec Ideal S512x2048 .f32)
    (hx : ∀ (r : Fin 512) (k : Fin 2048), xb (ix2 r k) = m ((c : Thread nD τ).loc main_arg0) (ix2 (tr t r) k))
    (ho : ∀ (n : Fin 4) (r k : Fin 512), ob (ix3 n r k) = br m c n (ix2 (tr t r) k)) (r : Fin 512) (d : Fin 2048) :
    step xb ob (iblk m c 5 t) (iblk m c 6 t) (iblk m c 7 t) acc (iblk m c 8 t) (ix2 r d)
      = acc (ix2 r d) + part m c t (r, d) := by
  rw [step_apply]
  congr 1
  unfold part
  refine Finset.sum_congr rfl fun f _ => ?_
  unfold lane unit mix
  simp only [hx, ho]
  rw [read8]
  have e5 : (fun n k => iblk m c 5 t (ix3 n k f)) = fun (n : Fin 4) (k : Fin 2048) =>
    m ((c : Thread nD τ).loc main_arg5) (ix3 n k (tf t f)) := funext fun n => funext fun k => read5 m c t n k f
  have e6 : (fun n => iblk m c 6 t (ix3 n 0 f)) = fun (n : Fin 4) =>
    m ((c : Thread nD τ).loc main_arg6) (ix2 n (tf t f)) := funext fun n => read6 m c t n f
  have e7 : (fun n k => iblk m c 7 t (ix3 n k f)) = fun (n : Fin 4) (k : Fin 512) =>
    m ((c : Thread nD τ).loc main_arg7) (ix3 n k (tf t f)) := funext fun n => funext fun k => read7 m c t n k f
  exact congrArg (· * m ((c : Thread nD τ).loc main_arg8) (ix2 (tf t f) d))
    (congr (congr (congr (congrArg (merged _) e5) e6) rfl) e7)

/-- The accumulator read as a table of numbers. -/
def tab (n : Nat) (h : n < cfg0.N) (p : Fin 512 × Fin 2048) : EReal := (outsAt0 m c n h).2.1 (ix2 p.1 p.2)

theorem tab_first (t : Fin cfg0.N) (h : t.val % 8 = 0) (p : Fin 512 × Fin 2048) :
    tab m c t.val t.isLt p = 0 + part m c t p := by
  unfold tab
  rw [acc_A m c t h, step_at m c t _ _ _ (fun r k => (pay3_apply _ r k).trans (read0 m c t r k)) (stack_at m c t), pay9_apply]

theorem tab_next (t : Fin cfg0.N) (h : ¬ t.val % 8 = 0) (p : Fin 512 × Fin 2048) :
    tab m c t.val t.isLt p = tab m c (t.val - 1) (Nat.lt_of_le_of_lt (Nat.sub_le _ _) t.isLt) p + part m c t p := by
  unfold tab
  rw [acc_BC m c t h, step_at m c t _ _ _ (fun r k => (xb_at m c _ _ r k).trans (by rw [tr_prev t h r]))
    (fun n r k => (ob_at m c _ _ n r k).trans (by rw [tr_prev t h r]))]

/-- After the last point of a group the accumulator holds the sum over all the lanes. -/
theorem acc_at (t : Fin cfg0.N) (h : t.val % 8 = 7) (r : Fin 512) (d : Fin 2048) :
    (outsAt0 m c t.val t.isLt).2.1 (ix2 r d) = ∑ f, lane m c (tr t r) d f := by
  refine (Pipeline.eq_sum_fin_of_reset_step_apply_of_flush (tab m c) 8 (fun _ => 0) (part m c) (tab_first m c) (tab_next m c)
    t h (r, d)).trans ?_
  rw [zero_add]
  unfold part
  refine Fin.sum_mul_add_congr fun s k hl => ?_
  have er : tr ⟨8 * (t.val / 8) + s.val, Pipeline.run_point_lt_of_flush t h s⟩ r = tr t r := Fin.ext (by
    show (8 * (t.val / 8) + s.val) / 8 * 512 + r.val = t.val / 8 * 512 + r.val
    have := s.isLt; omega)
  have ef : tf ⟨8 * (t.val / 8) + s.val, Pipeline.run_point_lt_of_flush t h s⟩ k = ⟨s.val * 256 + k.val, hl⟩ := Fin.ext (by
    show (8 * (t.val / 8) + s.val) % 8 * 256 + k.val = s.val * 256 + k.val
    have := s.isLt; omega)
  show lane m c (tr _ r) d (tf _ k) = _
  rw [er, ef]

/-- The block a last point writes back. -/
theorem block_at (t : Fin cfg0.N) (h : t.val % 8 = 7) (r : Fin 512) (d : Fin 2048) :
    (outsAt0 m c t.val t.isLt).1 (ix2 r d)
      = ln (pre (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) (tr t r))
          (m ((c : Thread nD τ).loc main_arg9) (ix1 d)) (m ((c : Thread nD τ).loc main_arg10) (ix1 d)) d := by
  rw [out_C m c t h, pay2_apply, read9, read10]
  congr 1
  funext k
  rw [read0, acc_at m c t h r k]
  rfl

/-- The result array after the run. -/
theorem final : (dats m 0 c).arrAt 11 (cfgs 0).N
    = arr (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) := by
  refine (dats m 0 c).arrAt_eq_of_covers 11 _ (by decide +kernel) fun t hf y => ?_
  blk_simp
  rw [after0_11]
  idx_vars y
  refine (block_at m c t (flush_last t hf) y0 y1).trans (arr_at _ _ _ _ _ _ _ _ _ _ _ _ _ _ ?_ ?_).symm
  · blk_simp [idx t]
    rfl
  · blk_simp [idx t]

end Cert.Merge
-- ==== Proof.Merge.Claims.lean ====
/- The gated merge: the reference's array, and the claims. -/
module

public import proofs.«01_k».proof.Defs
public import proofs.«01_k».proof.Proof.Merge.Run
public import proofs.«01_k».proof.Proof.Gen.Reference4Ideal.Read

set_option maxRecDepth 16384
noncomputable section
@[expose] public section
namespace Cert.Merge
open Cert.Kernel4Ideal Cert.Kernel4Ideal.Gen Idealize.ShloMosaic Idealize.ShloMosaic.TcCoe Idealize.SL.Sem
open Idealize.ShloMosaic.Pipeline (Dat)

section ref
open Cert.Reference4Ideal.Read
variable (X : FVec Ideal S32768x2048 .f32) (O0 O1 O2 O3 : FVec Ideal S32768x512 .f32) (WG : FVec Ideal S4x2048x2048 .f32)
  (BG : FVec Ideal S4x2048 .f32) (WB : FVec Ideal S4x512x2048 .f32) (WO : FVec Ideal S2048x2048 .f32) (g b : FVec Ideal S2048 .f32)

theorem zero_bits : (FloatOps.ofBits .f32 0x00000000#32 : Ideal .f32) = (0 : EReal) := Ideal.ofBits_zero .f32

theorem gate0_dot (r : Fin 32768) (f : Fin 2048) :
    val_main_v2 (F := Ideal) X WG (ix2 r f) = ∑ k : Fin 2048, X (ix2 r k) * WG (ix3 0 k f) := by
  pointwise [val_main_v2, val_main_v1, val_main_v0]
theorem gate0_bias (r : Fin 32768) (f : Fin 2048) : val_main_v6 (F := Ideal) BG (ix2 r f) = BG (ix2 0 f) := by
  pointwise [val_main_v6, val_main_v5, val_main_v4, val_main_v3]
theorem gate0_logistic (i : S32768x2048.Idx) :
    val_main_v13 (F := Ideal) X WG BG i = Ideal.logistic (val_main_v7 (F := Ideal) X WG BG i) := by
  rw [val_main_v13_apply, val_main_v12_apply, val_main_cst_0_apply, val_main_v11_apply,
    val_main_v10_apply, val_main_cst_apply, val_main_v9_apply, val_main_v8_apply]
  show Ideal.div (Ideal.ofBits .f32 0x3F800000#32) (Ideal.ofBits .f32 0x3F800000#32 + _) = _
  rw [Ideal.ofBits_one_f32]
  rfl
theorem out0_dot (r : Fin 32768) (f : Fin 2048) :
    val_main_v16 (F := Ideal) O0 WB (ix2 r f) = ∑ j : Fin 512, O0 (ix2 r j) * WB (ix3 0 j f) := by
  pointwise [val_main_v16, val_main_v15, val_main_v14]
/-- Branch 0 of the reference. -/
theorem branch0 (r : Fin 32768) (f : Fin 2048) :
    val_main_v17 (F := Ideal) X O0 WG BG WB (ix2 r f)
      = branch (fun k => X (ix2 r k)) (fun k => WG (ix3 0 k f)) (BG (ix2 0 f)) (fun j => O0 (ix2 r j)) (fun j => WB (ix3 0 j f)) := by
  rw [val_main_v17_apply, gate0_logistic, val_main_v7_apply, gate0_dot, gate0_bias, out0_dot]
  rfl

theorem gate1_dot (r : Fin 32768) (f : Fin 2048) :
    val_main_v20 (F := Ideal) X WG (ix2 r f) = ∑ k : Fin 2048, X (ix2 r k) * WG (ix3 1 k f) := by
  pointwise [val_main_v20, val_main_v19, val_main_v18]
theorem gate1_bias (r : Fin 32768) (f : Fin 2048) : val_main_v24 (F := Ideal) BG (ix2 r f) = BG (ix2 1 f) := by
  pointwise [val_main_v24, val_main_v23, val_main_v22, val_main_v21]
theorem gate1_logistic (i : S32768x2048.Idx) :
    val_main_v31 (F := Ideal) X WG BG i = Ideal.logistic (val_main_v25 (F := Ideal) X WG BG i) := by
  rw [val_main_v31_apply, val_main_v30_apply, val_main_cst_2_apply, val_main_v29_apply,
    val_main_v28_apply, val_main_cst_1_apply, val_main_v27_apply, val_main_v26_apply]
  show Ideal.div (Ideal.ofBits .f32 0x3F800000#32) (Ideal.ofBits .f32 0x3F800000#32 + _) = _
  rw [Ideal.ofBits_one_f32]
  rfl
theorem out1_dot (r : Fin 32768) (f : Fin 2048) :
    val_main_v34 (F := Ideal) O1 WB (ix2 r f) = ∑ j : Fin 512, O1 (ix2 r j) * WB (ix3 1 j f) := by
  pointwise [val_main_v34, val_main_v33, val_main_v32]
/-- Branch 1 of the reference. -/
theorem branch1 (r : Fin 32768) (f : Fin 2048) :
    val_main_v35 (F := Ideal) X O1 WG BG WB (ix2 r f)
      = branch (fun k => X (ix2 r k)) (fun k => WG (ix3 1 k f)) (BG (ix2 1 f)) (fun j => O1 (ix2 r j)) (fun j => WB (ix3 1 j f)) := by
  rw [val_main_v35_apply, gate1_logistic, val_main_v25_apply, gate1_dot, gate1_bias, out1_dot]
  rfl

theorem gate2_dot (r : Fin 32768) (f : Fin 2048) :
    val_main_v39 (F := Ideal) X WG (ix2 r f) = ∑ k : Fin 2048, X (ix2 r k) * WG (ix3 2 k f) := by
  pointwise [val_main_v39, val_main_v38, val_main_v37]
theorem gate2_bias (r : Fin 32768) (f : Fin 2048) : val_main_v43 (F := Ideal) BG (ix2 r f) = BG (ix2 2 f) := by
  pointwise [val_main_v43, val_main_v42, val_main_v41, val_main_v40]
theorem gate2_logistic (i : S32768x2048.Idx) :
    val_main_v50 (F := Ideal) X WG BG i = Ideal.logistic (val_main_v44 (F := Ideal) X WG BG i) := by
  rw [val_main_v50_apply, val_main_v49_apply, val_main_cst_4_apply, val_main_v48_apply,
    val_main_v47_apply, val_main_cst_3_apply, val_main_v46_apply, val_main_v45_apply]
  show Ideal.div (Ideal.ofBits .f32 0x3F800000#32) (Ideal.ofBits .f32 0x3F800000#32 + _) = _
  rw [Ideal.ofBits_one_f32]
  rfl
theorem out2_dot (r : Fin 32768) (f : Fin 2048) :
    val_main_v53 (F := Ideal) O2 WB (ix2 r f) = ∑ j : Fin 512, O2 (ix2 r j) * WB (ix3 2 j f) := by
  pointwise [val_main_v53, val_main_v52, val_main_v51]
/-- Branch 2 of the reference. -/
theorem branch2 (r : Fin 32768) (f : Fin 2048) :
    val_main_v54 (F := Ideal) X O2 WG BG WB (ix2 r f)
      = branch (fun k => X (ix2 r k)) (fun k => WG (ix3 2 k f)) (BG (ix2 2 f)) (fun j => O2 (ix2 r j)) (fun j => WB (ix3 2 j f)) := by
  rw [val_main_v54_apply, gate2_logistic, val_main_v44_apply, gate2_dot, gate2_bias, out2_dot]
  rfl

theorem gate3_dot (r : Fin 32768) (f : Fin 2048) :
    val_main_v58 (F := Ideal) X WG (ix2 r f) = ∑ k : Fin 2048, X (ix2 r k) * WG (ix3 3 k f) := by
  pointwise [val_main_v58, val_main_v57, val_main_v56]
theorem gate3_bias (r : Fin 32768) (f : Fin 2048) : val_main_v62 (F := Ideal) BG (ix2 r f) = BG (ix2 3 f) := by
  pointwise [val_main_v62, val_main_v61, val_main_v60, val_main_v59]
theorem gate3_logistic (i : S32768x2048.Idx) :
    val_main_v69 (F := Ideal) X WG BG i = Ideal.logistic (val_main_v63 (F := Ideal) X WG BG i) := by
  rw [val_main_v69_apply, val_main_v68_apply, val_main_cst_6_apply, val_main_v67_apply,
    val_main_v66_apply, val_main_cst_5_apply, val_main_v65_apply, val_main_v64_apply]
  show Ideal.div (Ideal.ofBits .f32 0x3F800000#32) (Ideal.ofBits .f32 0x3F800000#32 + _) = _
  rw [Ideal.ofBits_one_f32]
  rfl
theorem out3_dot (r : Fin 32768) (f : Fin 2048) :
    val_main_v72 (F := Ideal) O3 WB (ix2 r f) = ∑ j : Fin 512, O3 (ix2 r j) * WB (ix3 3 j f) := by
  pointwise [val_main_v72, val_main_v71, val_main_v70]
/-- Branch 3 of the reference. -/
theorem branch3 (r : Fin 32768) (f : Fin 2048) :
    val_main_v73 (F := Ideal) X O3 WG BG WB (ix2 r f)
      = branch (fun k => X (ix2 r k)) (fun k => WG (ix3 3 k f)) (BG (ix2 3 f)) (fun j => O3 (ix2 r j)) (fun j => WB (ix3 3 j f)) := by
  rw [val_main_v73_apply, gate3_logistic, val_main_v63_apply, gate3_dot, gate3_bias, out3_dot]
  rfl

/-- The reference's merged branches. -/
theorem merged_at (r : Fin 32768) (f : Fin 2048) :
    val_main_v74 (F := Ideal) X O0 O1 O2 O3 WG BG WB (ix2 r f) = mix X O0 O1 O2 O3 WG BG WB r f := by
  rw [val_main_v74_apply, val_main_v55_apply, val_main_v36_apply, branch0, branch1, branch2, branch3]
  rfl

theorem r77 (r : Fin 32768) (d : Fin 2048) :
    val_main_v77 (F := Ideal) X O0 O1 O2 O3 WG BG WB WO (ix2 r d) = ∑ f, unit X O0 O1 O2 O3 WG BG WB WO r d f := by
  rw [val_main_v77_apply]
  refine Finset.sum_congr rfl fun f _ => ?_
  have e : lidx_main_v77 (ix2 r d) f = ix2 r f := by funext a; fin_cases a <;> rfl
  have e' : ridx_main_v77 (ix2 r d) f = ix2 f d := by funext a; fin_cases a <;> rfl
  rw [e, e', merged_at]
  rfl

theorem r78 (r : Fin 32768) (k : Fin 2048) : val_main_v78 (F := Ideal) X O0 O1 O2 O3 WG BG WB WO (ix2 r k) = pre X O0 O1 O2 O3 WG BG WB WO r k := by
  rw [val_main_v78_apply, val_main_v76_apply, val_main_v75_apply, val_main_cst_7_apply, r77]
  rfl
theorem r79 (r : Fin 32768) : val_main_v79 (F := Ideal) X O0 O1 O2 O3 WG BG WB WO (ix1 r) = ∑ k, pre X O0 O1 O2 O3 WG BG WB WO r k := by
  rw [val_main_v79_apply, val_main_cst_8_apply, zero_bits, zero_add]
  refine Finset.sum_congr rfl fun k _ => ?_
  have e : idx_main_v79 (ix1 r) k = ix2 r k := by funext a; fin_cases a <;> rfl
  rw [e, r78]
theorem r82 (r : Fin 32768) (z : Fin 1) : val_main_v82 (F := Ideal) X O0 O1 O2 O3 WG BG WB WO (ix2 r z) = mean (pre X O0 O1 O2 O3 WG BG WB WO r) := by
  have e : idx_main_v80 (ix2 r z) = ix1 r := by funext a; fin_cases a; rfl
  rw [val_main_v82_apply, val_main_v80_apply, val_main_v81_apply, val_main_cst_9_apply, e, r79]
  rfl
theorem r84 (r : Fin 32768) (k : Fin 2048) : val_main_v84 (F := Ideal) X O0 O1 O2 O3 WG BG WB WO (ix2 r k) = dev (pre X O0 O1 O2 O3 WG BG WB WO r) k := by
  have e : idx_main_v83 (ix2 r k) = ix2 r 0 := by funext a; fin_cases a <;> rfl
  rw [val_main_v84_apply, val_main_v83_apply, e, r78, r82]
  rfl
theorem r86 (r : Fin 32768) : val_main_v86 (F := Ideal) X O0 O1 O2 O3 WG BG WB WO (ix1 r) = ∑ k, dev (pre X O0 O1 O2 O3 WG BG WB WO r) k * dev (pre X O0 O1 O2 O3 WG BG WB WO r) k := by
  rw [val_main_v86_apply, val_main_cst_10_apply, zero_bits, zero_add]
  refine Finset.sum_congr rfl fun k _ => ?_
  have e : idx_main_v86 (ix1 r) k = ix2 r k := by funext a; fin_cases a <;> rfl
  rw [e, val_main_v85_apply, r84]
  rfl
theorem r94 (r : Fin 32768) (z : Fin 1) : val_main_v94 (F := Ideal) X O0 O1 O2 O3 WG BG WB WO (ix2 r z)
    = Ideal.rsqrt (mean (fun k => dev (pre X O0 O1 O2 O3 WG BG WB WO r) k * dev (pre X O0 O1 O2 O3 WG BG WB WO r) k) + Ideal.ofBits .f32 0x3727C5AC#32) := by
  have e : idx_main_v87 (ix2 r z) = ix1 r := by funext a; fin_cases a; rfl
  rw [val_main_v94_apply, val_main_v93_apply, val_main_v89_apply, val_main_v87_apply, val_main_v88_apply, val_main_cst_11_apply,
    val_main_v92_apply, val_main_cst_12_apply, e, r86]
  rfl
theorem r96 (r : Fin 32768) (d : Fin 2048) : val_main_v96 (F := Ideal) X O0 O1 O2 O3 WG BG WB WO (ix2 r d)
    = dev (pre X O0 O1 O2 O3 WG BG WB WO r) d
      * Ideal.rsqrt (mean (fun k => dev (pre X O0 O1 O2 O3 WG BG WB WO r) k * dev (pre X O0 O1 O2 O3 WG BG WB WO r) k) + Ideal.ofBits .f32 0x3727C5AC#32) := by
  have e : idx_main_v90 (ix2 r d) = ix2 r 0 := by funext a; fin_cases a <;> rfl
  have e' : idx_main_v95 (ix2 r d) = ix2 r 0 := by funext a; fin_cases a <;> rfl
  rw [val_main_v96_apply, val_main_v91_apply, val_main_v90_apply, val_main_v95_apply, e, e', r78, r82, r94]
  rfl
theorem r98 (r : Fin 32768) (d : Fin 2048) : val_main_v98 (F := Ideal) g (ix2 r d) = g (ix1 d) := by
  rw [val_main_v98_apply, val_main_v97_apply]
  congr 1
  funext a; fin_cases a; rfl
theorem r101 (r : Fin 32768) (d : Fin 2048) : val_main_v101 (F := Ideal) b (ix2 r d) = b (ix1 d) := by
  rw [val_main_v101_apply, val_main_v100_apply]
  congr 1
  funext a; fin_cases a; rfl

/-- The reference's array is the same. -/
theorem ref_eq : val_main_v102 (F := Ideal) X O0 O1 O2 O3 WG BG WB WO g b = arr X O0 O1 O2 O3 WG BG WB WO g b := by
  funext i
  idx_vars i
  refine Eq.trans ?_ (arr_at X O0 O1 O2 O3 WG BG WB WO g b _ i0 i1 rfl rfl).symm
  rw [val_main_v102_apply, val_main_v99_apply, r96, r98, r101]
  rfl

end ref

/-- The reference's frame. -/
theorem frame_ref : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The gated merge: the kernel and the reference leave the same array. -/
theorem algebraic : Cert.algebraic_Kernel4Ideal_Reference4Ideal := by
  intro m g m' g' _ hargs
  refine ⟨fun c => (dats m 0 c).arrAt 11 cfg0.N, Cert.Kernel4Ideal.Value.run_blocks (F := Ideal) m g, ?_⟩
  refine (θ_run Cert.Reference4Ideal.defs _ _).mono (fun r h c => ⟨(h c).1.trans ?_, (h c).2⟩)
    (Cert.Reference4Ideal.Value.run (F := Ideal) m' g')
  obtain ⟨e0, e1, e2, e3, e4, e5, e6, e7, e8, e9, e10⟩ := hargs c
  rw [Cert.Reference4Ideal.Read.val_main_v102_eq, e0, e1, e2, e3, e4, e5, e6, e7, e8, e9, e10]
  exact (ref_eq _ _ _ _ _ _ _ _ _ _ _).trans (final m c).symm

end Cert.Merge
-- ==== Proof.Norm.Row.lean ====
/- The layer norm of one row, and what the kernel's body computes for a block of rows. -/
module

public import proofs.«01_k».proof.Proof.Gen.Kernel5Ideal.Value
public import Idealize.ShloMosaic.Lib.Pipeline.ValueKit

set_option maxRecDepth 16384
noncomputable section
@[expose] public section
namespace Cert.Norm
open Cert.Kernel5Ideal Cert.Kernel5Ideal.Gen Idealize.ShloMosaic Idealize.ShloMosaic.TcCoe Idealize.SL.Sem
open Idealize.ShloMosaic.Pipeline (Dat)

/-- The residual sum at one place: the old activation scaled, and the new one. -/
def resid (x y : EReal) : EReal := Ideal.ofBits .f32 0x3FD744FD#32 * x + y

/-- The average of a row of 2048 numbers. -/
def mean (f : Fin 2048 → EReal) : EReal := Ideal.div (∑ k, f k) (Ideal.ofBits .f32 0x45000000#32)

/-- A row less its average. -/
def dev (f : Fin 2048 → EReal) (k : Fin 2048) : EReal := f k - mean f

/-- The layer norm of a row at lane `d`, with gain `g` and shift `b`. -/
def ln (f : Fin 2048 → EReal) (g b : EReal) (d : Fin 2048) : EReal :=
  dev f d * Ideal.rsqrt (mean (fun k => dev f k * dev f k) + Ideal.ofBits .f32 0x3727C5AC#32) * g + b

/-- The sum along the lanes of a block, read at a row. -/
theorem lanes_apply (S : FVec Ideal S512x2048 .f32) (r : Fin 512) :
    (multiReduction .add [1] S512 S 0x00000000#32 reduces_S512x2048_S512 (.inl rfl) rfl : FVec Ideal S512 .f32) (ix1 r)
      = ∑ x, S (ix2 r x) := by
  pointwise

/-- The body's block at row `r`, lane `d`. -/
theorem pay_apply (x y : Vec Ideal S512x2048 .f32) (g b : Vec Ideal S1x2048 .f32) (r : Fin 512) (d : Fin 2048) :
    k0_pay1 (F := Ideal) x y g b (ix2 r d)
      = ln (fun k => resid (x (ix2 r k)) (y (ix2 r k))) (g (ix2 0 d)) (b (ix2 0 d)) d := by
  pointwise [k0_pay1]
  unfold ln mean dev mean resid
  rfl

end Cert.Norm
-- ==== Proof.Norm.Claims.lean ====
/- The last layer norm with its residual: the array the kernel leaves, the reference's array, and the claims. -/
module

public import proofs.«01_k».proof.Defs
public import proofs.«01_k».proof.Proof.Norm.Row
public import proofs.«01_k».proof.Proof.Gen.Reference5Ideal.Read

set_option maxRecDepth 16384
noncomputable section
@[expose] public section
namespace Cert.Norm
open Cert.Kernel5Ideal Cert.Kernel5Ideal.Gen Idealize.ShloMosaic Idealize.ShloMosaic.TcCoe Idealize.SL.Sem
open Idealize.ShloMosaic.Pipeline (Dat)

/-- The normed array, entry by entry. -/
def arr (X : FVec Ideal S32768x2048 .f32) (g b : FVec Ideal S2048 .f32) (Y : FVec Ideal S32768x2048 .f32) :
    FVec Ideal S32768x2048 .f32 :=
  fun i => ln (fun k => resid (X (ix2 (i 0) k)) (Y (ix2 (i 0) k))) (g (ix1 (i 1))) (b (ix1 (i 1))) (i 1)

theorem arr_at (X : FVec Ideal S32768x2048 .f32) (g b : FVec Ideal S2048 .f32) (Y : FVec Ideal S32768x2048 .f32)
    (i : S32768x2048.Idx) (r : Fin 32768) (d : Fin 2048) (h0 : (i 0).val = r.val) (h1 : (i 1).val = d.val) :
    arr X g b Y i = ln (fun k => resid (X (ix2 r k)) (Y (ix2 r k))) (g (ix1 d)) (b (ix1 d)) d := by
  have e0 : i 0 = r := Fin.ext h0
  have e1 : i 1 = d := Fin.ext h1
  unfold arr
  rw [e0, e1]

/-- The blocks of every grid point. -/
theorem idx : ∀ t : Fin cfg0.N, win0_0.index t = ![t.val, 0] ∧ win0_1.index t = ![t.val, 0]
    ∧ win0_2.index t = ![0, 0] ∧ win0_3.index t = ![0, 0] ∧ win0_4.index t = ![t.val, 0] :=
  (by decide +kernel : ∀ t : Fin grid0.N, _)

section final
variable (m : (ℓ : Loc nD τ sig) → Buf (Elt Ideal) ℓ) (c : Dev nD) (t : Fin cfg0.N)

/-- Row of a grid point's block in the array. -/
def tr (r : Fin 512) : Fin 32768 := ⟨t.val * 512 + r.val, by have : t.val < 64 := t.isLt; omega⟩

theorem read0 (r : Fin 512) (k : Fin 2048) :
    iblk m c 0 t (ix2 r k) = m ((c : Thread nD τ).loc main_arg0) (ix2 (tr t r) k) := by
  unfold tr
  blk_ext [iblk, V, idx t]
theorem read1 (r : Fin 512) (k : Fin 2048) :
    iblk m c 1 t (ix2 r k) = m ((c : Thread nD τ).loc main_arg3) (ix2 (tr t r) k) := by
  unfold tr
  blk_ext [iblk, V, idx t]
theorem read2 (z : Fin 1) (k : Fin 2048) :
    iblk m c 2 t (ix2 z k) = m ((c : Thread nD τ).loc main_arg1) (ix1 k) := by
  blk_ext! [iblk, idx t]
theorem read3 (z : Fin 1) (k : Fin 2048) :
    iblk m c 3 t (ix2 z k) = m ((c : Thread nD τ).loc main_arg2) (ix1 k) := by
  blk_ext! [iblk, idx t]

/-- The block a grid point computes, from the arrays. -/
theorem block_at (r : Fin 512) (d : Fin 2048) :
    k0_pay1 (F := Ideal) (iblk m c 0 t) (iblk m c 1 t) (iblk m c 2 t) (iblk m c 3 t) (ix2 r d)
      = ln (fun k => resid (m ((c : Thread nD τ).loc main_arg0) (ix2 (tr t r) k)) (m ((c : Thread nD τ).loc main_arg3) (ix2 (tr t r) k)))
          (m ((c : Thread nD τ).loc main_arg1) (ix1 d)) (m ((c : Thread nD τ).loc main_arg2) (ix1 d)) d := by
  rw [pay_apply]
  simp only [read0, read1, read2, read3]

/-- The result array after the run. -/
theorem final : (dats m 0 c).arrAt 4 (cfgs 0).N
    = arr (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf y => ?_
  blk_simp
  rw [after0_4]
  frame_out
  idx_vars y
  refine (block_at m c t y0 y1).trans (arr_at _ _ _ _ _ _ _ ?_ ?_).symm
  · blk_simp [idx t]
    rfl
  · blk_simp [idx t]

end final

section ref
open Cert.Reference5Ideal.Read
variable (x : FVec Ideal S32768x2048 .f32) (g b : FVec Ideal S2048 .f32) (y : FVec Ideal S32768x2048 .f32)

/-- Row `r` of the residual sum. -/
def row (r : Fin 32768) (k : Fin 2048) : EReal := resid (x (ix2 r k)) (y (ix2 r k))

theorem zero_bits : (FloatOps.ofBits .f32 0x00000000#32 : Ideal .f32) = (0 : EReal) := Ideal.ofBits_zero .f32

theorem r2 (r : Fin 32768) (k : Fin 2048) : val_main_v2 (F := Ideal) x y (ix2 r k) = row x y r k := by
  rw [val_main_v2_apply, val_main_v1_apply, val_main_v0_apply, val_main_cst_apply]
  rfl
theorem r3 (r : Fin 32768) : val_main_v3 (F := Ideal) x y (ix1 r) = ∑ k, row x y r k := by
  rw [val_main_v3_apply, val_main_cst_0_apply, zero_bits, zero_add]
  refine Finset.sum_congr rfl fun k _ => ?_
  rw [← r2]
  congr 1
  funext a; fin_cases a <;> rfl
theorem r6 (r : Fin 32768) (z : Fin 1) : val_main_v6 (F := Ideal) x y (ix2 r z) = mean (row x y r) := by
  have e : idx_main_v4 (ix2 r z) = ix1 r := by funext a; fin_cases a; rfl
  rw [val_main_v6_apply, val_main_v4_apply, val_main_v5_apply, val_main_cst_1_apply, e, r3]
  rfl
theorem r8 (r : Fin 32768) (k : Fin 2048) : val_main_v8 (F := Ideal) x y (ix2 r k) = dev (row x y r) k := by
  have e : idx_main_v7 (ix2 r k) = ix2 r 0 := by funext a; fin_cases a <;> rfl
  rw [val_main_v8_apply, val_main_v7_apply, e, r2, r6]
  rfl
theorem r10 (r : Fin 32768) : val_main_v10 (F := Ideal) x y (ix1 r) = ∑ k, dev (row x y r) k * dev (row x y r) k := by
  rw [val_main_v10_apply, val_main_cst_2_apply, zero_bits, zero_add]
  refine Finset.sum_congr rfl fun k _ => ?_
  have e : idx_main_v10 (ix1 r) k = ix2 r k := by funext a; fin_cases a <;> rfl
  rw [e, val_main_v9_apply, r8]
  rfl
theorem r18 (r : Fin 32768) (z : Fin 1) : val_main_v18 (F := Ideal) x y (ix2 r z)
    = Ideal.rsqrt (mean (fun k => dev (row x y r) k * dev (row x y r) k) + Ideal.ofBits .f32 0x3727C5AC#32) := by
  have e : idx_main_v11 (ix2 r z) = ix1 r := by funext a; fin_cases a; rfl
  rw [val_main_v18_apply, val_main_v17_apply, val_main_v13_apply, val_main_v11_apply, val_main_v12_apply, val_main_cst_3_apply,
    val_main_v16_apply, val_main_cst_4_apply, e, r10]
  rfl
theorem r20 (r : Fin 32768) (d : Fin 2048) : val_main_v20 (F := Ideal) x y (ix2 r d)
    = dev (row x y r) d * Ideal.rsqrt (mean (fun k => dev (row x y r) k * dev (row x y r) k) + Ideal.ofBits .f32 0x3727C5AC#32) := by
  have e : idx_main_v14 (ix2 r d) = ix2 r 0 := by funext a; fin_cases a <;> rfl
  have e' : idx_main_v19 (ix2 r d) = ix2 r 0 := by funext a; fin_cases a <;> rfl
  rw [val_main_v20_apply, val_main_v15_apply, val_main_v14_apply, val_main_v19_apply, e, e', r2, r6, r18]
  rfl
theorem r22 (r : Fin 32768) (d : Fin 2048) : val_main_v22 (F := Ideal) g (ix2 r d) = g (ix1 d) := by
  rw [val_main_v22_apply, val_main_v21_apply]
  congr 1
  funext a; fin_cases a; rfl
theorem r25 (r : Fin 32768) (d : Fin 2048) : val_main_v25 (F := Ideal) b (ix2 r d) = b (ix1 d) := by
  rw [val_main_v25_apply, val_main_v24_apply]
  congr 1
  funext a; fin_cases a; rfl

/-- The reference's array is the same. -/
theorem ref_eq : val_main_v26 (F := Ideal) x g b y = arr x g b y := by
  funext i
  idx_vars i
  rw [val_main_v26_apply, val_main_v23_apply, r20, r22, r25]
  rfl

end ref

/-- The reference's frame. -/
theorem frame_ref : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The last layer norm: the kernel and the reference leave the same array. -/
theorem algebraic : Cert.algebraic_Kernel5Ideal_Reference5Ideal := by
  intro m g m' g' _ hargs
  refine ⟨fun c => (dats m 0 c).arrAt 4 cfg0.N, Cert.Kernel5Ideal.Value.run_blocks (F := Ideal) m g, ?_⟩
  refine (θ_run Cert.Reference5Ideal.defs _ _).mono (fun r h c => ⟨(h c).1.trans ?_, (h c).2⟩)
    (Cert.Reference5Ideal.Value.run (F := Ideal) m' g')
  obtain ⟨e0, e1, e2, e3⟩ := hargs c
  rw [Cert.Reference5Ideal.Read.val_main_v26_eq, e0, e1, e2, e3]
  exact (ref_eq _ _ _ _).trans (final m c).symm

end Cert.Norm
-- ==== Proof.Mem.Run.lean ====
/- The run of the memory attention's program: what its two calls leave in the result array. -/
module

public import proofs.«01_k».proof.Defs
public import proofs.«01_k».proof.Proof.Gen.Kernel6Ideal.Frame

set_option maxRecDepth 16384
noncomputable section
@[expose] public section
namespace Cert.Mem
open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program runs, leaves in its result what the second call's grid points write back over the array the first call
    and the host reshape left, and keeps its arguments. -/
theorem run : θ_run defs (onTc (τ := τ) (main (F := F))) ⟨m, fun _ => 0, ρ⟩ (fun r => ∀ c : Dev nD,
      r.2.mem ((c.tc : Thread nD τ).loc main_v4) = (dat1 (V3 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz c =>
      ⟨(h c _ (mem_uc main_v4 (by decide))).trans (W4_arr m ρ c 2),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.Mem
-- ==== Proof.Mem.Body.lean ====
/- The memory attention's body: what a grid point leaves in its block of 512 rows, head by head. -/
module

public import proofs.«01_k».proof.Defs
public import proofs.«01_k».proof.Proof.Gen.Kernel6Ideal.Frame
public import Idealize.ShloMosaic.Lib.Pipeline.ValueKit

set_option maxRecDepth 16384
noncomputable section
@[expose] public section
namespace Cert.Mem
open Cert.Kernel6Ideal Cert.Kernel6Ideal.Gen Idealize.ShloMosaic Idealize.ShloMosaic.TcCoe Idealize.SL.Sem
open Idealize.ShloMosaic.Pipeline (Dat)

theorem negInf_bits : Ideal.ofBits .f32 0xFF800000#32 = ⊥ := by simp [Ideal.ofBits, Ideal.ieee]

/-- The softmax of the 256 scores at one of them, shifted by their maximum. -/
def soft (s : Fin 256 → EReal) (j : Fin 256) : EReal :=
  Ideal.div (Ideal.exp (s j - Finset.univ.fold max ⊥ s)) (∑ i, Ideal.exp (s i - Finset.univ.fold max ⊥ s))

/-- The scaled score of a query against a key, both of 128 numbers. -/
def score (q k : Fin 128 → EReal) : EReal := (∑ e : Fin 128, q e * k e) * Ideal.ofBits .f32 0x3DB504F3#32

/-- Lane `d` of the average of the values, weighted by the softmax of the scores. -/
def attend (q : Fin 128 → EReal) (k v : Fin 256 → Fin 128 → EReal) (d : Fin 128) : EReal :=
  ∑ j : Fin 256, soft (fun i => score q (k i)) j * v j d

/-- Lane `d` of head `h` among the 512 lanes of the queries. -/
def lane (h : Fin 4) (d : Fin 128) : Fin 512 := ⟨h.val * 128 + d.val, by omega⟩
/-- Lane `d` of head `h` of the keys among the 1024 lanes of keys and values. -/
def klane (h : Fin 4) (d : Fin 128) : Fin 1024 := ⟨h.val * 128 + d.val, by omega⟩
/-- Lane `d` of head `h` of the values among the 1024 lanes of keys and values. -/
def vlane (h : Fin 4) (d : Fin 128) : Fin 1024 := ⟨512 + h.val * 128 + d.val, by omega⟩

/-- What a block of queries and a block of keys and values give at row `r` and lane `d` of head `h`. -/
def head (x : Vec Ideal S512x512 .f32) (y : Vec Ideal S1x256x1024 .f32) (h : Fin 4) (r : Fin 512) (d : Fin 128) : EReal :=
  attend (fun e => x (ix2 r (lane h e))) (fun i e => y (ix3 0 i (klane h e))) (fun i e => y (ix3 0 i (vlane h e))) d

theorem pay2_apply (y : Vec Ideal S1x256x1024 .f32) (i : Fin 256) (l : Fin 1024) :
    k1_pay2 (F := Ideal) y (ix2 i l) = y (ix3 0 i l) := by
  pointwise [k1_pay2]

theorem lane_zero (e : Fin 128) : lane 0 e = ⟨e.val, by omega⟩ := Fin.ext (by show 0 * 128 + e.val = e.val; omega)
theorem klane_zero (e : Fin 128) : klane 0 e = ⟨e.val, by omega⟩ := Fin.ext (by show 0 * 128 + e.val = e.val; omega)

/-- The lanes of head 0. -/
theorem head0_apply (x : Vec Ideal S512x512 .f32) (y : Vec Ideal S1x256x1024 .f32) (r : Fin 512) (d : Fin 128) :
    k1_pay3 (F := Ideal) x y (ix2 r d) = head x y 0 r d := by
  pointwise [k1_pay3]
  simp only [pay2_apply, negInf_bits]
  unfold head attend
  simp only [lane_zero, klane_zero]
  rfl

/-- The lanes of head 1. -/
theorem head1_apply (x : Vec Ideal S512x512 .f32) (y : Vec Ideal S1x256x1024 .f32) (r : Fin 512) (d : Fin 128) :
    k1_pay7 (F := Ideal) (k1_pay4 y) (k1_pay5 x y) (k1_pay6 x y) (ix2 r d) = head x y 1 r d := by
  pointwise [k1_pay7, k1_pay4, k1_pay6, k1_pay5]
  simp only [pay2_apply, negInf_bits]
  rfl

/-- The lanes of head 2. -/
theorem head2_apply (x : Vec Ideal S512x512 .f32) (y : Vec Ideal S1x256x1024 .f32) (r : Fin 512) (d : Fin 128) :
    k1_pay8 (F := Ideal) x (k1_pay2 y) (ix2 r d) = head x y 2 r d := by
  pointwise [k1_pay8]
  simp only [pay2_apply, negInf_bits]
  rfl

/-- The lanes of head 3. -/
theorem head3_apply (x : Vec Ideal S512x512 .f32) (y : Vec Ideal S1x256x1024 .f32) (r : Fin 512) (d : Fin 128) :
    k1_pay1 (F := Ideal) (k1_pay9 (k1_pay2 y)) (k1_pay10 x (k1_pay2 y)) (ix2 r d) = head x y 3 r d := by
  pointwise [k1_pay1, k1_pay9, k1_pay10]
  simp only [pay2_apply, negInf_bits]
  rfl

/-- The head a lane of the result belongs to. -/
def hd (l : Fin 512) : Fin 4 := ⟨l.val / 128, by omega⟩
/-- Its place within the head. -/
def within (l : Fin 512) : Fin 128 := ⟨l.val % 128, by omega⟩

/-- The whole block: every lane from its head. -/
def heads (x : Vec Ideal S512x512 .f32) (y : Vec Ideal S1x256x1024 .f32) : Vec Ideal S512x512 .f32 :=
  fun i => head x y (hd (i 1)) (i 0) (within (i 1))

theorem heads_at (x : Vec Ideal S512x512 .f32) (y : Vec Ideal S1x256x1024 .f32) (i : S512x512.Idx) (h : Fin 4) (r : Fin 512)
    (d : Fin 128) (h0 : (i 0).val = r.val) (h1 : (i 1).val = h.val * 128 + d.val) : heads x y i = head x y h r d := by
  have e0 : i 0 = r := Fin.ext h0
  have e1 : hd (i 1) = h := Fin.ext (by show (i 1).val / 128 = h.val; omega)
  have e2 : within (i 1) = d := Fin.ext (by show (i 1).val % 128 = d.val; omega)
  unfold heads
  rw [e0, e1, e2]

/-- The body's output block, from its two input blocks. -/
theorem out_apply (x : Vec Ideal S512x512 .f32) (y : Vec Ideal S1x256x1024 .f32) (i : S512x512.Idx) :
    out1_2 (F := Ideal) x y i = heads x y i := by
  unfold_out out1_2
  rw [View.ld_unit_zero (X := x) (by decide), View.ld_unit_zero (X := y) (by decide)]
  refine View.canon_apply_of_pieces (heads x y) _ (fun p hp j => ?_) i (cover1_2 _ _ _ _ i)
  simp only [List.mem_cons, List.mem_nil_iff, or_false] at hp
  rcases hp with rfl | rfl | rfl | rfl
  · idx_vars j
    exact (head3_apply x y j0 j1).trans (heads_at x y _ 3 j0 j1 (by show 0 + 1 * j0.val = j0.val; omega)
      (by show 384 + 1 * j1.val = 3 * 128 + j1.val; omega)).symm
  · idx_vars j
    exact (head2_apply x y j0 j1).trans (heads_at x y _ 2 j0 j1 (by show 0 + 1 * j0.val = j0.val; omega)
      (by show 256 + 1 * j1.val = 2 * 128 + j1.val; omega)).symm
  · idx_vars j
    exact (head1_apply x y j0 j1).trans (heads_at x y _ 1 j0 j1 (by show 0 + 1 * j0.val = j0.val; omega)
      (by show 128 + 1 * j1.val = 1 * 128 + j1.val; omega)).symm
  · idx_vars j
    exact (head0_apply x y j0 j1).trans (heads_at x y _ 0 j0 j1 (by show 0 + 1 * j0.val = j0.val; omega)
      (by show 0 + 1 * j1.val = 0 * 128 + j1.val; omega)).symm

end Cert.Mem
-- ==== Proof.Mem.Kv.lean ====
/- The first call of the memory attention's program: the product of the memory with the weights of its keys and values. -/
module

public import proofs.«01_k».proof.Defs
public import proofs.«01_k».proof.Proof.Gen.Kernel6Ideal.Frame
public import Idealize.ShloMosaic.Lib.Pipeline.ValueKit
public import Idealize.ShloMosaic.Lib.StableHlo.RunRead

set_option maxRecDepth 16384
noncomputable section
@[expose] public section
namespace Cert.Mem
open Cert.Kernel6Ideal Cert.Kernel6Ideal.Gen Idealize.ShloMosaic Idealize.ShloMosaic.TcCoe Idealize.SL.Sem
open Idealize.ShloMosaic.Pipeline (Dat)

/-- The product of the flattened memory with the weights, entry by entry. -/
def prod (X : FVec Ideal S1024x2048 .f32) (W : FVec Ideal S2048x1024 .bf16) : FVec Ideal S1024x1024 .f32 :=
  fun i => ∑ k : Fin 2048, X (ix2 (i 0) k) * W (ix2 k (i 1))

/-- The blocks of every grid point: two groups of rows, two groups of columns. -/
theorem idx0 : ∀ t : Fin cfg0.N, win0_0.index t = ![t.val / 2, 0] ∧ win0_1.index t = ![0, t.val % 2]
    ∧ win0_2.index t = ![t.val / 2, t.val % 2] :=
  (by decide +kernel : ∀ t : Fin grid0.N, _)

/-- The tile a grid point computes, at row `r` and column `s`. -/
theorem tile_apply (x : Vec Ideal S512x2048 .f32) (w : Vec Ideal S2048x512 .bf16) (r s : Fin 512) :
    k0_pay1 (F := Ideal) x w (ix2 r s) = ∑ k : Fin 2048, x (ix2 r k) * w (ix2 k s) := by
  pointwise [k0_pay1]

/-- Memory slot `j` of batch entry `b` among the 1024 rows of the flattened memory. -/
def slot (b : Fin 4) (j : Fin 256) : Fin 1024 := ⟨b.val * 256 + j.val, by omega⟩

/-- The product of the flattened memory, folded back by batch entry. -/
theorem flat (M : FVec Ideal S4x256x2048 .f32) (Y : FVec Ideal S2048x1024 .bf16) (b : Fin 4) (j : Fin 256) (l : Fin 1024) :
    shapeCast S4x256x1024 (prod (shapeCast S1024x2048 M shapeCasts_S4x256x2048_S1024x2048) Y) shapeCasts_S1024x1024_S4x256x1024
      (ix3 b j l) = ∑ k : Fin 2048, M (ix3 b j k) * Y (ix2 k l) := by
  refine (shapeCast_apply _ shapeCasts_S1024x1024_S4x256x1024 (ix3 b j l) (ix2 (slot b j) l) (by
    rewrite [Shape.rowMajor_val_two, Shape.rowMajor_val_three]; rfl)).trans ?_
  unfold prod
  refine Finset.sum_congr rfl fun k _ => ?_
  refine congrArg (· * Y (ix2 k l)) ?_
  exact shapeCast_apply _ shapeCasts_S4x256x2048_S1024x2048 (ix2 (slot b j) k) (ix3 b j k) (by
    rewrite [Shape.rowMajor_val_two, Shape.rowMajor_val_three]; rfl)

section any
variable (V : (c : Dev nD) → (b : Ref sig .tc) → Buf (Elt Ideal) ((c : Thread nD τ).loc b)) (c : Dev nD)

/-- The array the first call leaves, from what it finds. -/
theorem final0 : (dat0 V c).arrAt 2 cfg0.N = prod (V c main_v0) (V c main_v1) := by
  refine (dat0 V c).arrAt_eq_of_covers 2 _ (by decide +kernel) fun t _ y => ?_
  blk_simp
  rw [after0_2]
  frame_out
  idx_vars y
  rw [tile_apply]
  unfold prod
  blk_point [iblk0, idx0 t]

end any

section run
variable (m : (ℓ : Loc nD τ sig) → Buf (Elt Ideal) ℓ) (ρ : Dev nD → PrngReg) (c : Dev nD)

/-- The keys and values of memory slot `j` of batch entry `b`, lane `l`. -/
def kv (M : FVec Ideal S4x256x2048 .f32) (W : FVec Ideal S2048x1024 .f32) (b : Fin 4) (j : Fin 256) (l : Fin 1024) : EReal :=
  ∑ k : Fin 2048, M (ix3 b j k) * W (ix2 k l)

theorem V1_v0 : V1 m ρ c main_v0 = shapeCast S1024x2048 (m ((c : Thread nD τ).loc main_arg1)) shapeCasts_S4x256x2048_S1024x2048 := by
  after_reads_simp
  rfl
theorem V1_v1 (k : Fin 2048) (l : Fin 1024) :
    V1 m ρ c main_v1 (ix2 k l) = m ((c : Thread nD τ).loc main_arg2) (ix2 k l) := by
  after_reads_simp
  rfl

/-- What the second call finds as keys and values. -/
theorem V3_v3 (b : Fin 4) (j : Fin 256) (l : Fin 1024) :
    V3 m ρ c main_v3 (ix3 b j l) = kv (m ((c : Thread nD τ).loc main_arg1)) (m ((c : Thread nD τ).loc main_arg2)) b j l := by
  have e : V3 m ρ c main_v3 = shapeCast S4x256x1024 (W2 m ρ c (Proc.devRef .tc main_v2)) shapeCasts_S1024x1024_S4x256x1024 := by
    after_reads_simp
    rfl
  rw [e, show W2 m ρ c (Proc.devRef .tc main_v2) = (dat0 (V1 m ρ) c).arrAt 2 cfg0.N from W2_arr m ρ c 2, final0]
  rw [V1_v0]
  refine (flat _ _ b j l).trans (Finset.sum_congr rfl fun k _ => ?_)
  exact congrArg (HMul.hMul (α := EReal) (β := EReal) (γ := EReal) _) (V1_v1 m ρ c k l)

/-- The projected activations reach the second call unchanged. -/
theorem V3_arg0 : V3 m ρ c main_arg0 = m ((c : Thread nD τ).loc main_arg0) :=
  W3_args m ρ c main_arg0 (by decide)

end run
end Cert.Mem
-- ==== Proof.Mem.Final.lean ====
/- The second call of the memory attention's program: its blocks of 512 rows make up the whole result. -/
module

public import proofs.«01_k».proof.Defs
public import proofs.«01_k».proof.Proof.Mem.Body
public import proofs.«01_k».proof.Proof.Mem.Kv
public import Idealize.ShloMosaic.Lib.Pipeline.ValueKit

set_option maxRecDepth 16384
noncomputable section
@[expose] public section
namespace Cert.Mem
open Cert.Kernel6Ideal Cert.Kernel6Ideal.Gen Idealize.ShloMosaic Idealize.ShloMosaic.TcCoe Idealize.SL.Sem
open Idealize.ShloMosaic.Pipeline (Dat)

/-- The batch entry a row of tokens belongs to. -/
def bt (t : Fin 32768) : Fin 4 := ⟨t.val / 8192, by omega⟩
/-- The queries' lane `l` among the 6144 lanes of the projected activations. -/
def zl (l : Fin 512) : Fin 6144 := ⟨5632 + l.val, by omega⟩

/-- Token `t`, lane `d` of head `h` of the memory attention, from the projected activations and the keys and values. -/
def att (Z : FVec Ideal S32768x6144 .f32) (K : Fin 4 → Fin 256 → Fin 1024 → EReal) (t : Fin 32768) (h : Fin 4) (d : Fin 128) : EReal :=
  attend (fun e => Z (ix2 t (zl (lane h e)))) (fun j e => K (bt t) j (klane h e)) (fun j e => K (bt t) j (vlane h e)) d

/-- The whole result, entry by entry. -/
def arr (Z : FVec Ideal S32768x6144 .f32) (K : Fin 4 → Fin 256 → Fin 1024 → EReal) : FVec Ideal S32768x512 .f32 :=
  fun i => att Z K (i 0) (hd (i 1)) (within (i 1))

theorem arr_at (Z : FVec Ideal S32768x6144 .f32) (K : Fin 4 → Fin 256 → Fin 1024 → EReal) (i : S32768x512.Idx) (t : Fin 32768)
    (l : Fin 512) (h0 : (i 0).val = t.val) (h1 : (i 1).val = l.val) : arr Z K i = att Z K t (hd l) (within l) := by
  have e0 : i 0 = t := Fin.ext h0
  have e1 : i 1 = l := Fin.ext h1
  unfold arr
  rw [e0, e1]

/-- The blocks of every grid point. -/
theorem idx1 : ∀ t : Fin cfg1.N, win1_0.index t = ![t.val, 11] ∧ win1_1.index t = ![t.val / 16, 0, 0] ∧ win1_2.index t = ![t.val, 0] :=
  (by decide +kernel : ∀ t : Fin grid1.N, _)

section final
variable (V : (c : Dev nD) → (b : Ref sig .tc) → Buf (Elt Ideal) ((c : Thread nD τ).loc b)) (c : Dev nD) (t : Fin cfg1.N)

/-- Row of a grid point's block among the tokens. -/
def tr (r : Fin 512) : Fin 32768 := ⟨t.val * 512 + r.val, by have : t.val < 64 := t.isLt; omega⟩
/-- The batch entry of a grid point. -/
def tb : Fin 4 := ⟨t.val / 16, by have : t.val < 64 := t.isLt; omega⟩

theorem bt_tr (r : Fin 512) : bt (tr t r) = tb t := Fin.ext (by
  show (t.val * 512 + r.val) / 8192 = t.val / 16; omega)

theorem read0 (r l : Fin 512) : iblk1 V c 0 t (ix2 r l) = V c main_arg0 (ix2 (tr t r) (zl l)) := by
  unfold tr zl
  blk_ext [iblk1, idx1 t]
theorem read1 (j : Fin 256) (l : Fin 1024) : iblk1 V c 1 t (ix3 0 j l) = V c main_v3 (ix3 (tb t) j l) := by
  unfold tb
  blk_ext [iblk1, idx1 t]

/-- The block a grid point computes, from the arrays. -/
theorem block_at (r l : Fin 512) : out1_2 (F := Ideal) (iblk1 V c 0 t) (iblk1 V c 1 t) (ix2 r l)
    = att (V c main_arg0) (fun b j e => V c main_v3 (ix3 b j e)) (tr t r) (hd l) (within l) := by
  refine (out_apply _ _ (ix2 r l)).trans ?_
  show head (iblk1 V c 0 t) (iblk1 V c 1 t) (hd l) r (within l) = _
  unfold head att
  rw [bt_tr]
  simp only [read0, read1]

/-- The array the second call leaves, from what it finds. -/
theorem final1 : (dat1 V c).arrAt 2 cfg1.N = arr (V c main_arg0) (fun b j e => V c main_v3 (ix3 b j e)) := by
  refine (dat1 V c).arrAt_eq_of_covers 2 _ (by decide +kernel) fun t hf y => ?_
  blk_simp
  rw [after1_2]
  idx_vars y
  refine (block_at V c t y0 y1).trans (arr_at _ _ _ _ _ ?_ ?_).symm
  · blk_simp [idx1 t]
    rfl
  · blk_simp [idx1 t]

end final

/-- The result of the program, from its arguments. -/
theorem final (m : (ℓ : Loc nD τ sig) → Buf (Elt Ideal) ℓ) (ρ : Dev nD → PrngReg) (c : Dev nD) :
    (dat1 (V3 m ρ) c).arrAt 2 cfg1.N
      = arr (m ((c : Thread nD τ).loc main_arg0)) (kv (m ((c : Thread nD τ).loc main_arg1)) (m ((c : Thread nD τ).loc main_arg2))) := by
  rw [final1, V3_arg0]
  congr 1
  funext b j e
  exact V3_v3 m ρ c b j e

end Cert.Mem
-- ==== Proof.Mem.Ref.lean ====
module

public import proofs.«01_k».proof.Defs
public import proofs.«01_k».proof.Proof.Mem.Final
public import proofs.«01_k».proof.Proof.Gen.Reference6Ideal.Read

set_option maxRecDepth 16384
noncomputable section
@[expose] public section
namespace Cert.Mem.Ref
open Cert.Mem Idealize.ShloMosaic
open Cert.Reference6Ideal Cert.Reference6Ideal.Gen Cert.Reference6Ideal.Read
variable (z : FVec Ideal S32768x6144 .f32) (M : FVec Ideal S4x256x2048 .f32) (W : FVec Ideal S2048x1024 .f32)

/-- Row of token `l` of batch entry `b`. -/
def tok (b : Fin 4) (l : Fin 8192) : Fin 32768 := ⟨b.val * 8192 + l.val, by omega⟩

/-- The queries by batch entry, token, head and lane. -/
theorem r1 (b : Fin 4) (l : Fin 8192) (h : Fin 4) (d : Fin 128) :
    val_main_v1 (F := Ideal) z (ix4 b l h d) = z (ix2 (tok b l) (zl (lane h d))) := by
  have h0 : b.val < 4 := b.isLt
  have h1 : l.val < 8192 := l.isLt
  have h2 : h.val < 4 := h.isLt
  have h3 : d.val < 128 := d.isLt
  rw [val_main_v1_apply, val_main_v0_apply]
  congr 1
  funext a
  apply Fin.ext
  fin_cases a
  · show (((b.val * 8192 + l.val) * 4 + h.val) * 128 + d.val) / 512 = b.val * 8192 + l.val; omega
  · show 5632 + (((b.val * 8192 + l.val) * 4 + h.val) * 128 + d.val) % 512 = 5632 + (h.val * 128 + d.val); omega

/-- The product of the memory with the weights. -/
theorem r2 (b : Fin 4) (j : Fin 256) (l : Fin 1024) : val_main_v2 (F := Ideal) M W (ix3 b j l) = kv M W b j l := by
  pointwise [val_main_v2]
  rfl

/-- The keys by batch entry, slot, head and lane. -/
theorem r5 (b : Fin 4) (j : Fin 256) (h : Fin 4) (d : Fin 128) :
    val_main_v5 (F := Ideal) M W (ix4 b j h d) = kv M W b j (klane h d) := by
  have h0 : b.val < 4 := b.isLt
  have h1 : j.val < 256 := j.isLt
  have h2 : h.val < 4 := h.isLt
  have h3 : d.val < 128 := d.isLt
  have e : idx_main_v3 (idx_main_v5 (ix4 b j h d)) = ix3 b j (klane h d) := by
    funext a
    apply Fin.ext
    fin_cases a
    · show (((b.val * 256 + j.val) * 4 + h.val) * 128 + d.val) / 131072 = b.val; omega
    · show (((b.val * 256 + j.val) * 4 + h.val) * 128 + d.val) / 512 % 256 = j.val; omega
    · show (((b.val * 256 + j.val) * 4 + h.val) * 128 + d.val) % 512 = h.val * 128 + d.val; omega
  rw [val_main_v5_apply, val_main_v3_apply, e, r2]

/-- The values by batch entry, slot, head and lane. -/
theorem r6 (b : Fin 4) (j : Fin 256) (h : Fin 4) (d : Fin 128) :
    val_main_v6 (F := Ideal) M W (ix4 b j h d) = kv M W b j (vlane h d) := by
  have h0 : b.val < 4 := b.isLt
  have h1 : j.val < 256 := j.isLt
  have h2 : h.val < 4 := h.isLt
  have h3 : d.val < 128 := d.isLt
  have e : idx_main_v4 (idx_main_v6 (ix4 b j h d)) = ix3 b j (vlane h d) := by
    funext a
    apply Fin.ext
    fin_cases a
    · show (((b.val * 256 + j.val) * 4 + h.val) * 128 + d.val) / 131072 = b.val; omega
    · show (((b.val * 256 + j.val) * 4 + h.val) * 128 + d.val) / 512 % 256 = j.val; omega
    · show 512 + (((b.val * 256 + j.val) * 4 + h.val) * 128 + d.val) % 512 = 512 + h.val * 128 + d.val; omega
  rw [val_main_v6_apply, val_main_v4_apply, e, r2]

/-- The scores of one token of a head against the 256 slots. -/
def sc (b h : Fin 4) (l : Fin 8192) (j : Fin 256) : EReal :=
  score (fun e => z (ix2 (tok b l) (zl (lane h e)))) (fun e => kv M W b j (klane h e))

theorem r7 (b h : Fin 4) (l : Fin 8192) (j : Fin 256) : val_main_v7 (F := Ideal) z M W (ix4 b h l j)
    = ∑ e : Fin 128, z (ix2 (tok b l) (zl (lane h e))) * kv M W b j (klane h e) := by
  rw [val_main_v7_apply]
  refine Finset.sum_congr rfl fun e _ => ?_
  have e1 : lidx_main_v7 (ix4 b h l j) e = ix4 b l h e := by funext a; fin_cases a <;> rfl
  have e2 : ridx_main_v7 (ix4 b h l j) e = ix4 b j h e := by funext a; fin_cases a <;> rfl
  rw [e1, e2, r1, r5]

theorem r9 (b h : Fin 4) (l : Fin 8192) (j : Fin 256) : val_main_v9 (F := Ideal) z M W (ix4 b h l j) = sc z M W b h l j := by
  rw [val_main_v9_apply, r7, val_main_v8_apply, val_main_cst_apply]
  rfl

theorem max_apply (X : FVec Ideal S4x4x8192x256 .f32) (b h : Fin 4) (l : Fin 8192) :
    (Host.reduce FloatOps.maximumf X (val_main_cst_0 (F := Ideal)) reducesTo_S4x4x8192x256_S4x4x8192_d3 h_S_
        : FVec Ideal S4x4x8192 .f32) (ix3 b h l)
      = Finset.univ.fold max ⊥ fun j => X (ix4 b h l j) := by
  pointwise [val_main_cst_0]
  rw [negInf_bits]

/-- The maximum of the scores, compared once more with minus infinity. -/
theorem r12 (b h : Fin 4) (l : Fin 8192) :
    val_main_v12 (F := Ideal) z M W (ix3 b h l) = Finset.univ.fold max ⊥ (sc z M W b h l) := by
  have e : val_main_v10 (F := Ideal) z M W (ix3 b h l) = Finset.univ.fold max ⊥ (sc z M W b h l) := by
    unfold val_main_v10
    rw [max_apply]
    simp only [r9]
  rw [val_main_v12_apply, e, val_main_v11_apply, val_main_cst_1_apply]
  show max (Ideal.ofBits .f32 0xFF800000#32) _ = _
  rw [negInf_bits]
  exact max_eq_right bot_le

theorem r16 (b h : Fin 4) (l : Fin 8192) (j : Fin 256) : val_main_v16 (F := Ideal) z M W (ix4 b h l j)
    = Ideal.exp (sc z M W b h l j - Finset.univ.fold max ⊥ (sc z M W b h l)) := by
  have e : idx_main_v13 (idx_main_v14 (ix4 b h l j)) = ix3 b h l := by funext a; fin_cases a <;> rfl
  rw [val_main_v16_apply, val_main_v15_apply, r9, val_main_v14_apply, val_main_v13_apply, e, r12]
  rfl

theorem r17 (b h : Fin 4) (l : Fin 8192) : val_main_v17 (F := Ideal) z M W (ix3 b h l)
    = ∑ j, Ideal.exp (sc z M W b h l j - Finset.univ.fold max ⊥ (sc z M W b h l)) := by
  rw [val_main_v17_apply, val_main_cst_2_apply]
  have e0 : (FloatOps.ofBits .f32 0x00000000#32 : Ideal .f32) = (0 : EReal) := Ideal.ofBits_zero .f32
  rw [e0, zero_add]
  refine Finset.sum_congr rfl fun j _ => ?_
  have e : idx_main_v17 (ix3 b h l) j = ix4 b h l j := by funext a; fin_cases a <;> rfl
  rw [e, r16]

theorem r20 (b h : Fin 4) (l : Fin 8192) (j : Fin 256) :
    val_main_v20 (F := Ideal) z M W (ix4 b h l j) = soft (sc z M W b h l) j := by
  have e : idx_main_v18 (idx_main_v19 (ix4 b h l j)) = ix3 b h l := by funext a; fin_cases a <;> rfl
  rw [val_main_v20_apply, r16, val_main_v19_apply, val_main_v18_apply, e, r17]
  rfl

theorem r21 (b h : Fin 4) (d : Fin 128) (l : Fin 8192) : val_main_v21 (F := Ideal) z M W (ix4 b h d l)
    = ∑ j : Fin 256, soft (sc z M W b h l) j * kv M W b j (vlane h d) := by
  rw [val_main_v21_apply]
  refine Finset.sum_congr rfl fun j _ => ?_
  have e1 : lidx_main_v21 (ix4 b h d l) j = ix4 b j h d := by funext a; fin_cases a <;> rfl
  have e2 : ridx_main_v21 (ix4 b h d l) j = ix4 b h l j := by funext a; fin_cases a <;> rfl
  rw [e1, e2, r6, r20, mul_comm]

/-- The place of a token within its batch entry. -/
def pos (t : Fin 32768) : Fin 8192 := ⟨t.val % 8192, by omega⟩

/-- The reference's array is the same. -/
theorem ref_eq : val_main_v23 (F := Ideal) z M W = arr z (kv M W) := by
  funext i
  idx_vars i
  have h0 : i0.val < 32768 := i0.isLt
  have h1 : i1.val < 512 := i1.isLt
  have e : idx_main_v22 (idx_main_v23 (ix2 i0 i1)) = ix4 (bt i0) (hd i1) (within i1) (pos i0) := by
    funext a
    apply Fin.ext
    fin_cases a
    · show (i0.val * 512 + i1.val) / 4194304 = i0.val / 8192; omega
    · show (i0.val * 512 + i1.val) / 128 % 4 = i1.val / 128; omega
    · show (i0.val * 512 + i1.val) % 128 = i1.val % 128; omega
    · show (i0.val * 512 + i1.val) / 512 % 8192 = i0.val % 8192; omega
  have et : tok (bt i0) (pos i0) = i0 := Fin.ext (by show i0.val / 8192 * 8192 + i0.val % 8192 = i0.val; omega)
  rw [val_main_v23_apply, val_main_v22_apply, e, r21]
  unfold sc
  rw [et]
  rfl

end Cert.Mem.Ref
-- ==== Proof.Mem.Claims.lean ====
/- The memory attention: the frame of its reference and the equality of the two results. -/
module

public import proofs.«01_k».proof.Defs
public import proofs.«01_k».proof.Proof.Mem.Run
public import proofs.«01_k».proof.Proof.Mem.Final
public import proofs.«01_k».proof.Proof.Mem.Ref

set_option maxRecDepth 16384
noncomputable section
@[expose] public section
namespace Cert.Mem
open Cert.Kernel6Ideal Cert.Kernel6Ideal.Gen Idealize.ShloMosaic Idealize.ShloMosaic.TcCoe Idealize.SL.Sem

/-- The reference's frame. -/
theorem frame_ref : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The memory attention: the kernel and the reference leave the same array. -/
theorem algebraic : Cert.algebraic_Kernel6Ideal_Reference6Ideal := by
  intro m g m' g' _ hargs
  refine ⟨fun c => (dat1 (V3 m g) c).arrAt 2 cfg1.N, run (F := Ideal) m g, ?_⟩
  refine (θ_run Cert.Reference6Ideal.defs _ _).mono (fun r h c => ⟨(h c).1.trans ?_, (h c).2⟩)
    (Cert.Reference6Ideal.Value.run (F := Ideal) m' g')
  obtain ⟨e0, e1, e2⟩ := hargs c
  rw [Cert.Reference6Ideal.Read.val_main_v23_eq, e0, e1, e2]
  exact (Ref.ref_eq _ _ _).trans (final m g c).symm

end Cert.Mem
-- ==== Proof.Router.Claims.lean ====
/- The router of the experts: the kernel computes the affinities of 1024 tokens at a time, experts along the rows, and lays
   them out by groups of 128 tokens; the reference takes the softmax along the experts and transposes. -/
module

public import proofs.«01_k».proof.Defs
public import proofs.«01_k».proof.Proof.Gen.Kernel7Ideal.Value
public import proofs.«01_k».proof.Proof.Gen.Reference7Ideal.Read
public import Idealize.ShloMosaic.Lib.Pipeline.ValueKit

set_option maxRecDepth 16384
noncomputable section
@[expose] public section
namespace Cert.Router
open Cert.Kernel7Ideal Cert.Kernel7Ideal.Gen Idealize.ShloMosaic Idealize.ShloMosaic.TcCoe Idealize.SL.Sem
open Idealize.ShloMosaic.Pipeline (Dat)

theorem negInf_bits : Ideal.ofBits .f32 0xFF800000#32 = ⊥ := by simp [Ideal.ofBits, Ideal.ieee]

/-- The softmax of sixteen numbers at one of them, shifted by their maximum. -/
def soft (s : Fin 16 → EReal) (e : Fin 16) : EReal :=
  Ideal.div (Ideal.exp (s e - Finset.univ.fold max ⊥ s)) (∑ j, Ideal.exp (s j - Finset.univ.fold max ⊥ s))

/-- The affinities of a block of tokens, from the block of router weights and the block of activations. -/
theorem pay5_apply (w : Vec Ideal S16x2048 .bf16) (x : Vec Ideal S1024x2048 .f32) (e : Fin 16) (r : Fin 1024) :
    k0_pay5 (F := Ideal) w x (ix2 e r) = soft (fun j => ∑ k : Fin 2048, w (ix2 j k) * x (ix2 r k)) e := by
  pointwise [k0_pay5]
  rw [negInf_bits]
  rfl

/-- The body's output block at expert `e`, group `g` of tokens and token `l` of the group. -/
theorem out_apply (x : Vec Ideal S1024x2048 .f32) (w : Vec Ideal S16x2048 .bf16) (e : Fin 16) (g : Fin 8) (l : Fin 128)
    (h : g.val * 128 + l.val < 1024) :
    out0_2 (F := Ideal) x w (ix3 e g l) = soft (fun j => ∑ k : Fin 2048, w (ix2 j k) * x (ix2 ⟨g.val * 128 + l.val, h⟩ k)) e := by
  unfold_out out0_2
  rw [View.ld_unit_zero (X := x) (by decide), View.ld_unit_zero (X := w) (by decide)]
  refine (Cert.Kernel7Ideal.Value.canon2_eq (F := Ideal) w x (ix3 e g l)).trans ?_
  have hy : Cert.Kernel7Ideal.Value.ix2_0 (ix3 e g l) = ix2 e ⟨g.val * 128 + l.val, h⟩ := by
    funext a; fin_cases a <;> rfl
  show k0_pay5 (F := Ideal) w x (Cert.Kernel7Ideal.Value.ix2_0 (ix3 e g l)) = _
  rw [hy, pay5_apply]

/-- The affinity of token `t` to expert `e`. -/
def aff (X : FVec Ideal S32768x2048 .f32) (W : FVec Ideal S2048x16 .f32) (e : Fin 16) (t : Fin 32768) : EReal :=
  soft (fun j => ∑ k : Fin 2048, X (ix2 t k) * W (ix2 k j)) e

/-- The token a place of the result belongs to. -/
def tok (g : Fin 256) (l : Fin 128) : Fin 32768 := ⟨g.val * 128 + l.val, by omega⟩

/-- The affinities, entry by entry. -/
def arr (X : FVec Ideal S32768x2048 .f32) (W : FVec Ideal S2048x16 .f32) : FVec Ideal S16x256x128 .f32 :=
  fun i => aff X W (i 0) (tok (i 1) (i 2))

theorem arr_at (X : FVec Ideal S32768x2048 .f32) (W : FVec Ideal S2048x16 .f32) (i : S16x256x128.Idx) (e : Fin 16) (t : Fin 32768)
    (h0 : (i 0).val = e.val) (h1 : (i 1).val * 128 + (i 2).val = t.val) : arr X W i = aff X W e t := by
  have e0 : i 0 = e := Fin.ext h0
  have e1 : tok (i 1) (i 2) = t := Fin.ext h1
  unfold arr
  rw [e0, e1]

/-- The blocks of every grid point. -/
theorem idx : ∀ t : Fin cfg0.N, win0_0.index t = ![t.val, 0] ∧ win0_1.index t = ![0, 0] ∧ win0_2.index t = ![0, t.val, 0] :=
  (by decide +kernel : ∀ t : Fin grid0.N, _)

section final
variable (m : (ℓ : Loc nD τ sig) → Buf (Elt Ideal) ℓ) (c : Dev nD) (t : Fin cfg0.N)

/-- Row of a grid point's block in the array of tokens. -/
def tr (r : Fin 1024) : Fin 32768 := ⟨t.val * 1024 + r.val, by have : t.val < 32 := t.isLt; omega⟩

theorem read0 (r : Fin 1024) (k : Fin 2048) :
    iblk m c 0 t (ix2 r k) = m ((c : Thread nD τ).loc main_arg0) (ix2 (tr t r) k) := by
  unfold tr
  blk_ext [iblk, V, idx t]
theorem read1 (j : Fin 16) (k : Fin 2048) :
    iblk m c 1 t (ix2 j k) = m ((c : Thread nD τ).loc main_arg1) (ix2 k j) := by
  blk_ext! [iblk, idx t]

/-- The block a grid point computes, from the arrays. -/
theorem block_at (e : Fin 16) (g : Fin 8) (l : Fin 128) (h : g.val * 128 + l.val < 1024) :
    out0_2 (F := Ideal) (iblk m c 0 t) (iblk m c 1 t) (ix3 e g l)
      = aff (m ((c : Thread nD τ).loc main_arg0)) (m ((c : Thread nD τ).loc main_arg1)) e (tr t ⟨g.val * 128 + l.val, h⟩) := by
  refine (out_apply _ _ e g l h).trans ?_
  simp only [read0, read1]
  unfold aff
  congr 1
  funext j
  exact Finset.sum_congr rfl fun k _ => mul_comm _ _

/-- The result array after the run. -/
theorem final : (dats m 0 c).arrAt 2 (cfgs 0).N
    = arr (m ((c : Thread nD τ).loc main_arg0)) (m ((c : Thread nD τ).loc main_arg1)) := by
  refine (dats m 0 c).arrAt_eq_of_covers 2 _ (by decide +kernel) fun t hf y => ?_
  blk_simp
  rw [after0_2]
  idx_vars y
  have h : y1.val * 128 + y2.val < 1024 := by
    have : y1.val < 8 := y1.isLt
    have : y2.val < 128 := y2.isLt
    omega
  refine (block_at m c t y0 y1 y2 h).trans (arr_at _ _ _ _ _ ?_ ?_).symm
  · blk_simp [idx t]
  · blk_simp [idx t]
    show (t.val * 8 + y1.val) * 128 + y2.val = t.val * 1024 + (y1.val * 128 + y2.val)
    omega

end final

end Cert.Router
namespace Cert.Router.Ref
open Cert.Router Idealize.ShloMosaic
section ref
open Cert.Reference7Ideal Cert.Reference7Ideal.Gen Cert.Reference7Ideal.Read
variable (x : FVec Ideal S32768x2048 .f32) (w : FVec Ideal S2048x16 .f32)

theorem zero_bits : (FloatOps.ofBits .f32 0x00000000#32 : Ideal .f32) = (0 : EReal) := Ideal.ofBits_zero .f32

/-- The router's scores of token `t`. -/
def sc (t : Fin 32768) (j : Fin 16) : EReal := ∑ k : Fin 2048, x (ix2 t k) * w (ix2 k j)

theorem r0 (t : Fin 32768) (j : Fin 16) : val_main_v0 (F := Ideal) x w (ix2 t j) = sc x w t j := by
  pointwise [val_main_v0]
  rfl
theorem max_apply (X : FVec Ideal Cert.Reference7Ideal.S32768x16 .f32) (t : Fin 32768) :
    (Host.reduce FloatOps.maximumf X (val_main_cst (F := Ideal)) reducesTo_S32768x16_S32768_d1
        h_S_ : FVec Ideal Cert.Reference7Ideal.S32768 .f32) (ix1 t)
      = Finset.univ.fold max ⊥ fun j => X (ix2 t j) := by
  pointwise [val_main_cst]
  rw [negInf_bits]
/-- The maximum of a token's scores, compared once more with minus infinity. -/
theorem r3 (t : Fin 32768) : val_main_v3 (F := Ideal) x w (ix1 t) = Finset.univ.fold max ⊥ (sc x w t) := by
  have e : val_main_v1 (F := Ideal) x w (ix1 t) = Finset.univ.fold max ⊥ (sc x w t) := by
    unfold val_main_v1
    rw [max_apply]
    simp only [r0]
  rw [val_main_v3_apply, e, val_main_v2_apply, val_main_cst_0_apply]
  show max (Ideal.ofBits .f32 0xFF800000#32) _ = _
  rw [negInf_bits]
  exact max_eq_right bot_le
theorem r7 (t : Fin 32768) (j : Fin 16) :
    val_main_v7 (F := Ideal) x w (ix2 t j) = Ideal.exp (sc x w t j - Finset.univ.fold max ⊥ (sc x w t)) := by
  pointwise [val_main_v7, val_main_v6, val_main_v5, val_main_v4]
  rw [r0, r3]
theorem r8 (t : Fin 32768) :
    val_main_v8 (F := Ideal) x w (ix1 t) = ∑ j, Ideal.exp (sc x w t j - Finset.univ.fold max ⊥ (sc x w t)) := by
  pointwise [val_main_v8, val_main_cst_1]
  simp only [r7]
theorem r11 (t : Fin 32768) (j : Fin 16) : val_main_v11 (F := Ideal) x w (ix2 t j) = aff x w j t := by
  pointwise [val_main_v11, val_main_v10, val_main_v9]
  rw [r7, r8]
  rfl

/-- The reference's array is the same. -/
theorem ref_eq : val_main_v13 (F := Ideal) x w = arr x w := by
  funext i
  idx_vars i
  have e : idx_main_v13 (ix3 i0 i1 i2) = ix2 i0 (tok i1 i2) := by
    have h1 : i1.val < 256 := i1.isLt
    have h2 : i2.val < 128 := i2.isLt
    have h0 : i0.val < 16 := i0.isLt
    funext a
    apply Fin.ext
    fin_cases a
    · show ((i0.val * 256 + i1.val) * 128 + i2.val) / 32768 = i0.val; omega
    · show ((i0.val * 256 + i1.val) * 128 + i2.val) % 32768 = i1.val * 128 + i2.val; omega
  have e' : idx_main_v12 (ix2 i0 (tok i1 i2)) = ix2 (tok i1 i2) i0 := by funext a; fin_cases a <;> rfl
  rw [val_main_v13_apply, e, val_main_v12_apply, e', r11]
  rfl

end ref
end Cert.Router.Ref
namespace Cert.Router
open Cert.Kernel7Ideal Cert.Kernel7Ideal.Gen Idealize.ShloMosaic Idealize.ShloMosaic.TcCoe Idealize.SL.Sem

/-- The reference's frame. -/
theorem frame_ref : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The router: the kernel and the reference leave the same affinities. -/
theorem algebraic : Cert.algebraic_Kernel7Ideal_Reference7Ideal := by
  intro m g m' g' _ hargs
  refine ⟨fun c => (dats m 0 c).arrAt 2 cfg0.N, Cert.Kernel7Ideal.Value.run_blocks (F := Ideal) m g, ?_⟩
  refine (θ_run Cert.Reference7Ideal.defs _ _).mono (fun r h c => ⟨(h c).1.trans ?_, (h c).2⟩)
    (Cert.Reference7Ideal.Value.run (F := Ideal) m' g')
  obtain ⟨e0, e1⟩ := hargs c
  rw [Cert.Reference7Ideal.Read.val_main_v13_eq, e0, e1]
  exact (Ref.ref_eq _ _).trans (final m c).symm

end Cert.Router
-- ==== Proof.Rope.Body.lean ====
/- The rotary preparation of queries and keys: what the kernel's body computes for a block of rows of one head. -/
module

public import proofs.«01_k».proof.Proof.Gen.Kernel8Ideal.Value
public import Idealize.ShloMosaic.Lib.Pipeline.ValueKit
public import Idealize.ShloMosaic.Lib.Pointwise

set_option maxRecDepth 16384
noncomputable section
@[expose] public section
namespace Cert.Rope
open Cert.Kernel8Ideal Cert.Kernel8Ideal.Gen Idealize.ShloMosaic Idealize.ShloMosaic.TcCoe Idealize.SL.Sem

/-- The lane the rotation pairs lane `d` with. -/
def mate (d : Fin 128) : Fin 128 := if d.val % 64 < 8 then ⟨(d.val + 8) % 128, by omega⟩ else ⟨(d.val + 120) % 128, by omega⟩

/-- The lane test of the body, as words. -/
theorem lane_test : ∀ d : Fin 128, IntOp.cmpi CmpIPredicate.slt (IntOp.andi (BitVec.ofNat 32 d.val) 63#32) 8#32
    = if d.val % 64 < 8 then 1#1 else 0#1 := by decide +kernel

/-- The body's choice between the two rotations is the paired lane. -/
theorem select_mate (f : Fin 128 → EReal) (d : Fin 128) :
    Scalar.select (IntOp.cmpi CmpIPredicate.slt (IntOp.andi (BitVec.ofNat 32 d.val) 63#32) 8#32)
      (f ⟨(d.val + 128 - 120) % 128, by omega⟩) (f ⟨(d.val + 128 - 8) % 128, by omega⟩) = f (mate d) := by
  rw [lane_test]
  unfold mate Scalar.select
  by_cases h : d.val % 64 < 8
  · simp only [h, if_true]; rfl
  · simp only [h, if_false]; rfl

/-- A key at row `r`, lane `d`: the lane times its cosine plus the paired lane times its sine. -/
theorem pay7_apply (c s z : Vec Ideal S1024x128 .f32) (r : Fin 1024) (d : Fin 128) :
    k0_pay7 (F := Ideal) c s z (ix2 r d) = z (ix2 r d) * c (ix2 r d) + z (ix2 r (mate d)) * s (ix2 r d) := by
  pointwise [k0_pay7, k0_pay3, k0_pay4, k0_pay5]
  rw [← select_mate (fun e => z (ix2 r e)) d]

/-- A query at row `r`, lane `d`: the same, scaled. -/
theorem pay6_apply (c s z : Vec Ideal S1024x128 .f32) (u v : Fin 1) (r : Fin 1024) (d : Fin 128) :
    k0_pay6 (F := Ideal) c s z (ix4 u v r d)
      = (z (ix2 r d) * c (ix2 r d) + z (ix2 r (mate d)) * s (ix2 r d)) * Ideal.ofBits .f32 0x3E000000#32 := by
  pointwise [k0_pay6, k0_pay3, k0_pay4, k0_pay5]
  rw [← select_mate (fun e => z (ix2 r e)) d]

/-- A key's block. -/
theorem pay1_apply (c s z : Vec Ideal S1024x128 .f32) (u v : Fin 1) (r : Fin 1024) (d : Fin 128) :
    k0_pay1 (F := Ideal) (k0_pay7 c s z) (ix4 u v r d) = z (ix2 r d) * c (ix2 r d) + z (ix2 r (mate d)) * s (ix2 r d) := by
  rw [← pay7_apply]
  pointwise [k0_pay1]

/-- A value's block: the values as they are. -/
theorem pay2_apply (z : Vec Ideal S1024x128 .f32) (u v : Fin 1) (r : Fin 1024) (d : Fin 128) :
    k0_pay2 (F := Ideal) z (ix4 u v r d) = z (ix2 r d) := by
  pointwise [k0_pay2]

end Cert.Rope
-- ==== Proof.Rope.Table.lean ====
/- The rotary preparation: the tables of cosines and sines the kernel's host code lays out. -/
module

public import proofs.«01_k».proof.Proof.Rope.Body
public import Idealize.ShloMosaic.Lib.StableHlo.RunRead

set_option maxRecDepth 16384
noncomputable section
@[expose] public section
namespace Cert.Rope
open Cert.Kernel8Ideal Cert.Kernel8Ideal.Gen Idealize.ShloMosaic Idealize.ShloMosaic.TcCoe Idealize.SL.Sem
open Idealize.ShloMosaic.Pipeline (Dat)

/-- The position of a lane in its table of eight. -/
def oct (d : Fin 128) : Fin 8 := ⟨d.val % 8, by omega⟩

/-- The cosine of lane `d`: one beyond the sixteen turned lanes of each half. -/
def ctab (f : Fin 8 → EReal) (d : Fin 128) : EReal := if d.val % 64 < 16 then f (oct d) else 1
/-- The signed sine of lane `d`: zero beyond the sixteen turned lanes of each half. -/
def stab (f : Fin 8 → EReal) (d : Fin 128) : EReal :=
  if d.val % 64 < 8 then -f (oct d) else if d.val % 64 < 16 then f (oct d) else 0

/-- The turned lanes of a row. -/
def turn (z : Fin 128 → EReal) (c s : Fin 8 → EReal) (d : Fin 128) : EReal :=
  if d.val % 64 < 8 then z d * c (oct d) - z (mate d) * s (oct d)
  else if d.val % 64 < 16 then z d * c (oct d) + z (mate d) * s (oct d)
  else z d

/-- Products with the tables turn the lanes. -/
theorem turn_eq (z : Fin 128 → EReal) (c s : Fin 8 → EReal) (d : Fin 128) :
    z d * ctab c d + z (mate d) * stab s d = turn z c s d := by
  unfold ctab stab turn
  by_cases h : d.val % 64 < 8
  · have h' : d.val % 64 < 16 := by omega
    simp only [h, h', if_true, mul_neg]
    rfl
  · by_cases h' : d.val % 64 < 16
    · simp only [h, h', if_true, if_false]
    · simp only [h, h', if_false, mul_one, mul_zero, add_zero]

variable (m : (ℓ : Loc nD τ sig) → Buf (Elt Ideal) ℓ) (c : Dev nD) (t : Fin cfg0.N)

/-- The blocks of every grid point. -/
theorem idx : ∀ t : Fin cfg0.N, win0_0.index t = ![t.val / 32 * 8 + t.val % 8, 32 + t.val / 8 % 4]
    ∧ win0_1.index t = ![t.val / 32 * 8 + t.val % 8, 36 + t.val / 8 % 4]
    ∧ win0_2.index t = ![t.val / 32 * 8 + t.val % 8, 40 + t.val / 8 % 4]
    ∧ win0_3.index t = ![t.val % 8, 0] ∧ win0_4.index t = ![t.val % 8, 0]
    ∧ win0_5.index t = ![t.val / 32, t.val / 8 % 4, t.val % 8, 0]
    ∧ win0_6.index t = ![t.val / 32, t.val / 8 % 4, t.val % 8, 0]
    ∧ win0_7.index t = ![t.val / 32, t.val / 8 % 4, t.val % 8, 0] :=
  (by decide +kernel : ∀ t : Fin grid0.N, _)

/-- Row of a grid point's block among the positions. -/
def tp (r : Fin 1024) : Fin 8192 := ⟨t.val % 8 * 1024 + r.val, by omega⟩

/-- Two copies of three joined tables. -/
def twice (f g : FVec Ideal S8192x8 .f32) (h : FVec Ideal S8192x48 .f32) : FVec Ideal S8192x128 .f32 :=
  concatenate S8192x128 1
    [⟨S8192x64, (concatenate S8192x64 1 [⟨S8192x8, f⟩, ⟨S8192x8, g⟩, ⟨S8192x48, h⟩] concatenates_S8192x8_S8192x8_S8192x48_S8192x64_d1 : FVec Ideal S8192x64 .f32)⟩,
     ⟨S8192x64, (concatenate S8192x64 1 [⟨S8192x8, f⟩, ⟨S8192x8, g⟩, ⟨S8192x48, h⟩] concatenates_S8192x8_S8192x8_S8192x48_S8192x64_d1 : FVec Ideal S8192x64 .f32)⟩]
    concatenates_S8192x64_S8192x64_S8192x128_d1

/-- Two copies of three joined tables, read at a lane. -/
theorem twice_apply (f g : FVec Ideal S8192x8 .f32) (h : FVec Ideal S8192x48 .f32) (r : Fin 8192) (d : Fin 128) :
    twice f g h (ix2 r d)
    = if d.val % 64 < 8 then f (ix2 r (oct d)) else if d.val % 64 < 16 then g (ix2 r (oct d))
      else h (ix2 r ⟨(d.val % 64 + 32) % 48, by omega⟩) := by
  pointwise [twice]
  have hd := d.isLt
  have hf : ∀ a b : Fin 8, a.val = b.val → f (ix2 r a) = f (ix2 r b) := fun a b e => by rw [Fin.ext e]
  have hg : ∀ a b : Fin 8, a.val = b.val → g (ix2 r a) = g (ix2 r b) := fun a b e => by rw [Fin.ext e]
  have hh : ∀ a b : Fin 48, a.val = b.val → h (ix2 r a) = h (ix2 r b) := fun a b e => by rw [Fin.ext e]
  by_cases h1 : d.val % 64 < 8
  · rw [if_pos h1]
    split_ifs <;> first
      | (exfalso; omega)
      | (refine hf _ _ ?_; unfold oct; dsimp only; omega)
  · rw [if_neg h1]
    by_cases h2 : d.val % 64 < 16
    · rw [if_pos h2]
      split_ifs <;> first
        | (exfalso; omega)
        | (refine hg _ _ ?_; unfold oct; dsimp only; omega)
    · rw [if_neg h2]
      split_ifs <;> first
        | (exfalso; omega)
        | (refine hh _ _ ?_; dsimp only; omega)

/-- The table of cosines. -/
theorem V5 : V m c main_v5 = twice (m ((c : Thread nD τ).loc main_arg1)) (m ((c : Thread nD τ).loc main_arg1))
    (broadcastInDim S8192x48 ![] bcast_S_S8192x48 (constant (F := Ideal) S_ .f32 0x3F800000#32)) := by
  after_reads_simp
  rfl
/-- The table of signed sines. -/
theorem V6 : V m c main_v6 = twice (Host.negf (F := Ideal) (φ := .f32) (m ((c : Thread nD τ).loc main_arg2))) (m ((c : Thread nD τ).loc main_arg2))
    (broadcastInDim S8192x48 ![] bcast_S_S8192x48 (constant (F := Ideal) S_ .f32 0x00000000#32)) := by
  after_reads_simp
  rfl

theorem read3' (r : Fin 1024) (d : Fin 128) : iblk m c 3 t (ix2 r d) = V m c main_v5 (ix2 (tp t r) d) := by
  unfold tp
  generalize hV : V m c main_v5 = T
  blk_ext [iblk, hV, idx t]
theorem read4' (r : Fin 1024) (d : Fin 128) : iblk m c 4 t (ix2 r d) = V m c main_v6 (ix2 (tp t r) d) := by
  unfold tp
  generalize hV : V m c main_v6 = T
  blk_ext [iblk, hV, idx t]

theorem read3 (r : Fin 1024) (d : Fin 128) :
    iblk m c 3 t (ix2 r d) = ctab (fun j => m ((c : Thread nD τ).loc main_arg1) (ix2 (tp t r) j)) d := by
  rw [read3', V5, twice_apply]
  unfold ctab
  by_cases h : d.val % 64 < 8
  · have h' : d.val % 64 < 16 := by omega
    simp only [h, h', if_true]
  · simp only [h, if_false]
    by_cases h' : d.val % 64 < 16
    · simp only [h', if_true]
    · simp only [h', if_false]
      pointwise
theorem read4 (r : Fin 1024) (d : Fin 128) :
    iblk m c 4 t (ix2 r d) = stab (fun j => m ((c : Thread nD τ).loc main_arg2) (ix2 (tp t r) j)) d := by
  rw [read4', V6, twice_apply]
  unfold stab
  by_cases h : d.val % 64 < 8
  · simp only [h, if_true]
    pointwise
  · simp only [h, if_false]
    by_cases h' : d.val % 64 < 16
    · simp only [h', if_true]
    · simp only [h', if_false]
      pointwise

end Cert.Rope
-- ==== Proof.Rope.Final.lean ====
/- The rotary preparation: the arrays of turned queries, turned keys and values the kernel leaves. -/
module

public import proofs.«01_k».proof.Proof.Rope.Table

set_option maxRecDepth 16384
noncomputable section
@[expose] public section
namespace Cert.Rope
open Cert.Kernel8Ideal Cert.Kernel8Ideal.Gen Idealize.ShloMosaic Idealize.ShloMosaic.TcCoe Idealize.SL.Sem
open Idealize.ShloMosaic.Pipeline (Dat)

/-- The lanes of one head at one row: of the queries (`p = 0`), the keys (`p = 1`) or the values (`p = 2`). -/
def lanes (X : FVec Ideal S32768x6144 .f32) (p : Fin 3) (b h : Fin 4) (s : Fin 8192) (e : Fin 128) : EReal :=
  X (ix2 ⟨b.val * 8192 + s.val, by omega⟩ ⟨4096 + p.val * 512 + h.val * 128 + e.val, by omega⟩)

/-- The turned lanes of one head at one row. -/
def turned (X : FVec Ideal S32768x6144 .f32) (C S : FVec Ideal S8192x8 .f32) (p : Fin 3) (b h : Fin 4) (s : Fin 8192) (d : Fin 128) : EReal :=
  turn (lanes X p b h s) (fun j => C (ix2 s j)) (fun j => S (ix2 s j)) d

/-- The queries: turned and scaled. -/
def qarr (X : FVec Ideal S32768x6144 .f32) (C S : FVec Ideal S8192x8 .f32) : FVec Ideal S4x4x8192x128 .bf16 :=
  fun i => turned X C S 0 (i 0) (i 1) (i 2) (i 3) * Ideal.ofBits .f32 0x3E000000#32
/-- The keys: turned. -/
def karr (X : FVec Ideal S32768x6144 .f32) (C S : FVec Ideal S8192x8 .f32) : FVec Ideal S4x4x8192x128 .bf16 :=
  fun i => turned X C S 1 (i 0) (i 1) (i 2) (i 3)
/-- The values. -/
def varr (X : FVec Ideal S32768x6144 .f32) : FVec Ideal S4x4x8192x128 .bf16 := fun i => lanes X 2 (i 0) (i 1) (i 2) (i 3)

theorem qarr_at (X : FVec Ideal S32768x6144 .f32) (C S : FVec Ideal S8192x8 .f32) (i : S4x4x8192x128.Idx) (b h : Fin 4) (s : Fin 8192)
    (d : Fin 128) (h0 : (i 0).val = b.val) (h1 : (i 1).val = h.val) (h2 : (i 2).val = s.val) (h3 : (i 3).val = d.val) :
    qarr X C S i = turned X C S 0 b h s d * Ideal.ofBits .f32 0x3E000000#32 := by
  unfold qarr
  rw [show i 0 = b from Fin.ext h0, show i 1 = h from Fin.ext h1, show i 2 = s from Fin.ext h2, show i 3 = d from Fin.ext h3]
theorem karr_at (X : FVec Ideal S32768x6144 .f32) (C S : FVec Ideal S8192x8 .f32) (i : S4x4x8192x128.Idx) (b h : Fin 4) (s : Fin 8192)
    (d : Fin 128) (h0 : (i 0).val = b.val) (h1 : (i 1).val = h.val) (h2 : (i 2).val = s.val) (h3 : (i 3).val = d.val) :
    karr X C S i = turned X C S 1 b h s d := by
  unfold karr
  rw [show i 0 = b from Fin.ext h0, show i 1 = h from Fin.ext h1, show i 2 = s from Fin.ext h2, show i 3 = d from Fin.ext h3]
theorem varr_at (X : FVec Ideal S32768x6144 .f32) (i : S4x4x8192x128.Idx) (b h : Fin 4) (s : Fin 8192)
    (d : Fin 128) (h0 : (i 0).val = b.val) (h1 : (i 1).val = h.val) (h2 : (i 2).val = s.val) (h3 : (i 3).val = d.val) :
    varr X i = lanes X 2 b h s d := by
  unfold varr
  rw [show i 0 = b from Fin.ext h0, show i 1 = h from Fin.ext h1, show i 2 = s from Fin.ext h2, show i 3 = d from Fin.ext h3]

variable (m : (ℓ : Loc nD τ sig) → Buf (Elt Ideal) ℓ) (c : Dev nD) (t : Fin cfg0.N)

/-- The sequence of a grid point. -/
def tb : Fin 4 := ⟨t.val / 32, by have : t.val < 128 := t.isLt; omega⟩
/-- The head of a grid point. -/
def th : Fin 4 := ⟨t.val / 8 % 4, by omega⟩

theorem read0 (r : Fin 1024) (d : Fin 128) :
    iblk m c 0 t (ix2 r d) = lanes (m ((c : Thread nD τ).loc main_arg0)) 0 (tb t) (th t) (tp t r) d := by
  unfold lanes tb th tp
  blk_ext [iblk, V, idx t]
theorem read1 (r : Fin 1024) (d : Fin 128) :
    iblk m c 1 t (ix2 r d) = lanes (m ((c : Thread nD τ).loc main_arg0)) 1 (tb t) (th t) (tp t r) d := by
  unfold lanes tb th tp
  blk_ext [iblk, V, idx t]
theorem read2 (r : Fin 1024) (d : Fin 128) :
    iblk m c 2 t (ix2 r d) = lanes (m ((c : Thread nD τ).loc main_arg0)) 2 (tb t) (th t) (tp t r) d := by
  unfold lanes tb th tp
  blk_ext [iblk, V, idx t]

/-- The queries a grid point computes, from the arrays. -/
theorem block5 (u v : Fin 1) (r : Fin 1024) (d : Fin 128) :
    k0_pay6 (F := Ideal) (iblk m c 3 t) (iblk m c 4 t) (iblk m c 0 t) (ix4 u v r d)
      = turned (m ((c : Thread nD τ).loc main_arg0)) (m ((c : Thread nD τ).loc main_arg1)) (m ((c : Thread nD τ).loc main_arg2))
          0 (tb t) (th t) (tp t r) d * Ideal.ofBits .f32 0x3E000000#32 := by
  refine (pay6_apply _ _ _ u v r d).trans ?_
  rw [read0, read0, read3, read4, turn_eq]
  rfl
/-- The keys a grid point computes, from the arrays. -/
theorem block6 (u v : Fin 1) (r : Fin 1024) (d : Fin 128) :
    k0_pay1 (F := Ideal) (k0_pay7 (iblk m c 3 t) (iblk m c 4 t) (iblk m c 1 t)) (ix4 u v r d)
      = turned (m ((c : Thread nD τ).loc main_arg0)) (m ((c : Thread nD τ).loc main_arg1)) (m ((c : Thread nD τ).loc main_arg2))
          1 (tb t) (th t) (tp t r) d := by
  refine (pay1_apply _ _ _ u v r d).trans ?_
  rw [read1, read1, read3, read4, turn_eq]
  rfl
/-- The values a grid point copies, from the arrays. -/
theorem block7 (u v : Fin 1) (r : Fin 1024) (d : Fin 128) :
    k0_pay2 (F := Ideal) (iblk m c 2 t) (ix4 u v r d)
      = lanes (m ((c : Thread nD τ).loc main_arg0)) 2 (tb t) (th t) (tp t r) d := by
  rw [pay2_apply, read2]

/-- The array of queries after the run. -/
theorem final5 : (dats m 0 c).arrAt 5 (cfgs 0).N
    = qarr (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  frame_out
  idx_vars y
  have h0 : y0.val < 1 := y0.isLt
  have h1 : y1.val < 1 := y1.isLt
  refine (block5 m c t y0 y1 y2 y3).trans (qarr_at _ _ _ _ (tb t) (th t) (tp t y2) y3 ?_ ?_ ?_ ?_).symm
  all_goals blk_simp [idx t]
  all_goals first | rfl | done
/-- The array of keys after the run. -/
theorem final6 : (dats m 0 c).arrAt 6 (cfgs 0).N
    = karr (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  frame_out
  idx_vars y
  refine (block6 m c t y0 y1 y2 y3).trans (karr_at _ _ _ _ (tb t) (th t) (tp t y2) y3 ?_ ?_ ?_ ?_).symm
  all_goals blk_simp [idx t]
  all_goals first | rfl | done
/-- The array of values after the run. -/
theorem final7 : (dats m 0 c).arrAt 7 (cfgs 0).N = varr (m ((c : Thread nD τ).loc main_arg0)) := by
  refine (dats m 0 c).arrAt_eq_of_covers 7 _ (by decide +kernel) fun t hf y => ?_
  blk_simp
  rw [after0_7]
  frame_out
  idx_vars y
  refine (block7 m c t y0 y1 y2 y3).trans (varr_at _ _ (tb t) (th t) (tp t y2) y3 ?_ ?_ ?_ ?_).symm
  all_goals blk_simp [idx t]
  all_goals first | rfl | done

end Cert.Rope
-- ==== Proof.Rope.Turn.lean ====
/- The rotary preparation: the reference's turn of the lanes, and the lanes it turns. -/
module

public import proofs.«01_k».proof.Proof.Rope.Final
public import proofs.«01_k».proof.Proof.Gen.Reference8Ideal.Read

set_option maxRecDepth 16384
noncomputable section
@[expose] public section
namespace Cert.Rope.Ref
open Cert.Rope Idealize.ShloMosaic
section ref
open Cert.Reference8Ideal Cert.Reference8Ideal.Gen Cert.Reference8Ideal.Read

/-- Three pieces of a half's lanes joined. -/
def join (f g : FVec Ideal S4x8192x4x2x8 .f32) (h : FVec Ideal S4x8192x4x2x48 .f32) : FVec Ideal S4x8192x4x2x64 .f32 :=
  concatenate S4x8192x4x2x64 4 [⟨S4x8192x4x2x8, f⟩, ⟨S4x8192x4x2x8, g⟩, ⟨S4x8192x4x2x48, h⟩]
    concatenates_S4x8192x4x2x8_S4x8192x4x2x8_S4x8192x4x2x48_S4x8192x4x2x64_d4

/-- A table of positions spread over sequences, heads and halves. -/
def spread (T : FVec Ideal S8192x8 .f32) : FVec Ideal S4x8192x4x2x8 .f32 :=
  broadcastInDim S4x8192x4x2x8 ![0, 1, 2, 3, 4] bcast_S1x8192x1x1x8_S4x8192x4x2x8_0_1_2_3_4
    (broadcastInDim S1x8192x1x1x8 ![1, 4] bcast_S8192x8_S1x8192x1x1x8_1_4 T)

/-- The reference's turn of an array of halves. -/
def rotary (Y : FVec Ideal S4x8192x4x2x64 .f32) (C S : FVec Ideal S8192x8 .f32) : FVec Ideal S4x8192x4x2x64 .f32 :=
  join
    (subf (mulf (extractStridedSlice S4x8192x4x2x8 ![0, 0, 0, 0, 0] Y slices_S4x8192x4x2x64_S4x8192x4x2x8_0_0_0_0_0) (spread C))
      (mulf (extractStridedSlice S4x8192x4x2x8 ![0, 0, 0, 0, 8] Y slices_S4x8192x4x2x64_S4x8192x4x2x8_0_0_0_0_8) (spread S)))
    (addf (mulf (extractStridedSlice S4x8192x4x2x8 ![0, 0, 0, 0, 8] Y slices_S4x8192x4x2x64_S4x8192x4x2x8_0_0_0_0_8) (spread C))
      (mulf (extractStridedSlice S4x8192x4x2x8 ![0, 0, 0, 0, 0] Y slices_S4x8192x4x2x64_S4x8192x4x2x8_0_0_0_0_0) (spread S)))
    (extractStridedSlice S4x8192x4x2x48 ![0, 0, 0, 0, 16] Y slices_S4x8192x4x2x64_S4x8192x4x2x48_0_0_0_0_16)

variable (Y : FVec Ideal S4x8192x4x2x64 .f32) (C S : FVec Ideal S8192x8 .f32) (b : Fin 4) (s : Fin 8192) (h : Fin 4) (p : Fin 2)

theorem spread_apply (T : FVec Ideal S8192x8 .f32) (j : Fin 8) : spread T (ix5 b s h p j) = T (ix2 s j) := by
  pointwise [spread]
theorem cut0_apply (j : Fin 8) :
    extractStridedSlice S4x8192x4x2x8 ![0, 0, 0, 0, 0] Y slices_S4x8192x4x2x64_S4x8192x4x2x8_0_0_0_0_0 (ix5 b s h p j)
      = Y (ix5 b s h p ⟨j.val, by omega⟩) := by
  pointwise
theorem cut8_apply (j : Fin 8) :
    extractStridedSlice S4x8192x4x2x8 ![0, 0, 0, 0, 8] Y slices_S4x8192x4x2x64_S4x8192x4x2x8_0_0_0_0_8 (ix5 b s h p j)
      = Y (ix5 b s h p ⟨8 + j.val, by omega⟩) := by
  pointwise
theorem cut16_apply (j : Fin 48) :
    extractStridedSlice S4x8192x4x2x48 ![0, 0, 0, 0, 16] Y slices_S4x8192x4x2x64_S4x8192x4x2x48_0_0_0_0_16 (ix5 b s h p j)
      = Y (ix5 b s h p ⟨16 + j.val, by omega⟩) := by
  pointwise

theorem join_apply (f g : FVec Ideal S4x8192x4x2x8 .f32) (k : FVec Ideal S4x8192x4x2x48 .f32) (l : Fin 64) :
    join f g k (ix5 b s h p l) = if l.val < 8 then f (ix5 b s h p ⟨l.val % 8, by omega⟩)
      else if l.val < 16 then g (ix5 b s h p ⟨l.val % 8, by omega⟩) else k (ix5 b s h p ⟨(l.val + 32) % 48, by omega⟩) := by
  pointwise [join]
  have hl := l.isLt
  have hf : ∀ i j : Fin 8, i.val = j.val → f (ix5 b s h p i) = f (ix5 b s h p j) := fun i j e => by rw [Fin.ext e]
  have hg : ∀ i j : Fin 8, i.val = j.val → g (ix5 b s h p i) = g (ix5 b s h p j) := fun i j e => by rw [Fin.ext e]
  have hk : ∀ i j : Fin 48, i.val = j.val → k (ix5 b s h p i) = k (ix5 b s h p j) := fun i j e => by rw [Fin.ext e]
  by_cases h1 : l.val < 8
  · rw [if_pos h1]
    split_ifs <;> first
      | (exfalso; omega)
      | (refine hf _ _ ?_; dsimp only; omega)
  · rw [if_neg h1]
    by_cases h2 : l.val < 16
    · rw [if_pos h2]
      split_ifs <;> first
        | (exfalso; omega)
        | (refine hg _ _ ?_; dsimp only; omega)
    · rw [if_neg h2]
      split_ifs <;> first
        | (exfalso; omega)
        | (refine hk _ _ ?_; dsimp only; omega)

/-- A lane of a head as a lane of one of its halves. -/
def half (d : Fin 128) : Fin 2 := ⟨d.val / 64, by omega⟩
def inHalf (d : Fin 128) : Fin 64 := ⟨d.val % 64, by omega⟩

/-- The reference's turn at a lane of a head. -/
theorem rotary_apply (d : Fin 128) :
    rotary Y C S (ix5 b s h (half d) (inHalf d))
      = turn (fun e => Y (ix5 b s h (half e) (inHalf e))) (fun j => C (ix2 s j)) (fun j => S (ix2 s j)) d := by
  have hd := d.isLt
  have hY : ∀ (p q : Fin 2) (i j : Fin 64), p.val = q.val → i.val = j.val → Y (ix5 b s h p i) = Y (ix5 b s h q j) :=
    fun p q i j e e' => by rw [Fin.ext e, Fin.ext e']
  have hT : ∀ (T : FVec Ideal S8192x8 .f32) (i j : Fin 8), i.val = j.val → T (ix2 s i) = T (ix2 s j) :=
    fun T i j e => by rw [Fin.ext e]
  unfold rotary turn
  rw [join_apply]
  by_cases h1 : d.val % 64 < 8
  · have h1' : (inHalf d).val < 8 := h1
    rw [if_pos h1, if_pos h1']
    have em : mate d = ⟨(d.val + 8) % 128, by omega⟩ := if_pos h1
    show (_ * _ - _ * _ : EReal) = _
    rw [spread_apply, spread_apply, cut0_apply, cut8_apply, em]
    refine congrArg₂ (· - ·) (congrArg₂ (· * ·) (hY _ _ _ _ rfl ?_) (hT _ _ _ ?_)) (congrArg₂ (· * ·) (hY _ _ _ _ ?_ ?_) (hT _ _ _ ?_))
    · show d.val % 64 % 8 = d.val % 64; omega
    · show d.val % 64 % 8 = d.val % 8; omega
    · show d.val / 64 = (d.val + 8) % 128 / 64; omega
    · show 8 + d.val % 64 % 8 = (d.val + 8) % 128 % 64; omega
    · show d.val % 64 % 8 = d.val % 8; omega
  · have h1' : ¬(inHalf d).val < 8 := h1
    rw [if_neg h1, if_neg h1']
    by_cases h2 : d.val % 64 < 16
    · have h2' : (inHalf d).val < 16 := h2
      rw [if_pos h2, if_pos h2']
      have em : mate d = ⟨(d.val + 120) % 128, by omega⟩ := if_neg h1
      show (_ * _ + _ * _ : EReal) = _
      rw [spread_apply, spread_apply, cut0_apply, cut8_apply, em]
      refine congrArg₂ (· + ·) (congrArg₂ (· * ·) (hY _ _ _ _ rfl ?_) (hT _ _ _ ?_)) (congrArg₂ (· * ·) (hY _ _ _ _ ?_ ?_) (hT _ _ _ ?_))
      · show 8 + d.val % 64 % 8 = d.val % 64; omega
      · show d.val % 64 % 8 = d.val % 8; omega
      · show d.val / 64 = (d.val + 120) % 128 / 64; omega
      · show d.val % 64 % 8 = (d.val + 120) % 128 % 64; omega
      · show d.val % 64 % 8 = d.val % 8; omega
    · have h2' : ¬(inHalf d).val < 16 := h2
      rw [if_neg h2, if_neg h2', cut16_apply]
      refine hY _ _ _ _ rfl ?_
      show 16 + (d.val % 64 + 32) % 48 = d.val % 64
      omega

variable (x : FVec Ideal S32768x6144 .f32)

/-- The reference's queries, keys and values before the turn. -/
theorem lane5 (d : Fin 128) : val_main_v5 (F := Ideal) x (ix5 b s h (half d) (inHalf d)) = lanes x 0 b h s d := by
  have hb := b.isLt
  have hs := s.isLt
  have hh := h.isLt
  have hd := d.isLt
  have e : idx_main_v0 (idx_main_v1 (idx_main_v2 (idx_main_v5 (ix5 b s h (half d) (inHalf d)))))
      = ix2 ⟨b.val * 8192 + s.val, by omega⟩ ⟨4096 + (0 : Fin 3).val * 512 + h.val * 128 + d.val, by show 4096 + 0 * 512 + h.val * 128 + d.val < 6144; omega⟩ := by
    have e5 : idx_main_v5 (ix5 b s h (half d) (inHalf d)) = ix3 b s ⟨h.val * 128 + d.val, by omega⟩ := by
      funext a
      apply Fin.ext
      fin_cases a
      · show ((((b.val * 8192 + s.val) * 4 + h.val) * 2 + d.val / 64) * 64 + d.val % 64) / 4194304 = b.val; omega
      · show ((((b.val * 8192 + s.val) * 4 + h.val) * 2 + d.val / 64) * 64 + d.val % 64) / 512 % 8192 = s.val; omega
      · show ((((b.val * 8192 + s.val) * 4 + h.val) * 2 + d.val / 64) * 64 + d.val % 64) % 512 = h.val * 128 + d.val; omega
    rw [e5]
    funext a
    apply Fin.ext
    fin_cases a
    · show ((b.val * 8192 + s.val) * 1536 + (h.val * 128 + d.val)) / 1536 = b.val * 8192 + s.val; omega
    · show 4096 + ((b.val * 8192 + s.val) * 1536 + (h.val * 128 + d.val)) % 1536 = 4096 + 0 * 512 + h.val * 128 + d.val; omega
  rw [val_main_v5_apply, val_main_v2_apply, val_main_v1_apply, val_main_v0_apply, e]
  rfl
theorem lane24 (d : Fin 128) : val_main_v24 (F := Ideal) x (ix5 b s h (half d) (inHalf d)) = lanes x 1 b h s d := by
  have hb := b.isLt
  have hs := s.isLt
  have hh := h.isLt
  have hd := d.isLt
  have e : idx_main_v0 (idx_main_v1 (idx_main_v3 (idx_main_v24 (ix5 b s h (half d) (inHalf d)))))
      = ix2 ⟨b.val * 8192 + s.val, by omega⟩ ⟨4096 + (1 : Fin 3).val * 512 + h.val * 128 + d.val, by show 4096 + 1 * 512 + h.val * 128 + d.val < 6144; omega⟩ := by
    have e5 : idx_main_v24 (ix5 b s h (half d) (inHalf d)) = ix3 b s ⟨h.val * 128 + d.val, by omega⟩ := by
      funext a
      apply Fin.ext
      fin_cases a
      · show ((((b.val * 8192 + s.val) * 4 + h.val) * 2 + d.val / 64) * 64 + d.val % 64) / 4194304 = b.val; omega
      · show ((((b.val * 8192 + s.val) * 4 + h.val) * 2 + d.val / 64) * 64 + d.val % 64) / 512 % 8192 = s.val; omega
      · show ((((b.val * 8192 + s.val) * 4 + h.val) * 2 + d.val / 64) * 64 + d.val % 64) % 512 = h.val * 128 + d.val; omega
    rw [e5]
    funext a
    apply Fin.ext
    fin_cases a
    · show ((b.val * 8192 + s.val) * 1536 + (512 + (h.val * 128 + d.val))) / 1536 = b.val * 8192 + s.val; omega
    · show 4096 + ((b.val * 8192 + s.val) * 1536 + (512 + (h.val * 128 + d.val))) % 1536 = 4096 + 1 * 512 + h.val * 128 + d.val; omega
  rw [val_main_v24_apply, val_main_v3_apply, val_main_v1_apply, val_main_v0_apply, e]
  rfl
theorem lane47 (d : Fin 128) : val_main_v47 (F := Ideal) x (ix4 b s h d) = lanes x 2 b h s d := by
  have hb := b.isLt
  have hs := s.isLt
  have hh := h.isLt
  have hd := d.isLt
  have e : idx_main_v0 (idx_main_v1 (idx_main_v4 (idx_main_v47 (ix4 b s h d))))
      = ix2 ⟨b.val * 8192 + s.val, by omega⟩ ⟨4096 + (2 : Fin 3).val * 512 + h.val * 128 + d.val, by show 4096 + 2 * 512 + h.val * 128 + d.val < 6144; omega⟩ := by
    have e5 : idx_main_v47 (ix4 b s h d) = ix3 b s ⟨h.val * 128 + d.val, by omega⟩ := by
      funext a
      apply Fin.ext
      fin_cases a
      · show (((b.val * 8192 + s.val) * 4 + h.val) * 128 + d.val) / 4194304 = b.val; omega
      · show (((b.val * 8192 + s.val) * 4 + h.val) * 128 + d.val) / 512 % 8192 = s.val; omega
      · show (((b.val * 8192 + s.val) * 4 + h.val) * 128 + d.val) % 512 = h.val * 128 + d.val; omega
    rw [e5]
    funext a
    apply Fin.ext
    fin_cases a
    · show ((b.val * 8192 + s.val) * 1536 + (1024 + (h.val * 128 + d.val))) / 1536 = b.val * 8192 + s.val; omega
    · show 4096 + ((b.val * 8192 + s.val) * 1536 + (1024 + (h.val * 128 + d.val))) % 1536 = 4096 + 2 * 512 + h.val * 128 + d.val; omega
  rw [val_main_v47_apply, val_main_v4_apply, val_main_v1_apply, val_main_v0_apply, e]
  rfl

end ref
end Cert.Rope.Ref
-- ==== Proof.Rope.Claims.lean ====
/- The rotary preparation of the layer's attention: the kernel turns the lanes by two rotations and tables of signed sines;
   the reference cuts each half of a head into its turned and its plain lanes and joins them again. -/
module

public import proofs.«01_k».proof.Defs
public import proofs.«01_k».proof.Proof.Rope.Turn

set_option maxRecDepth 16384
noncomputable section
@[expose] public section
namespace Cert.Rope.Ref
open Cert.Rope Idealize.ShloMosaic
section ref
open Cert.Reference8Ideal Cert.Reference8Ideal.Gen Cert.Reference8Ideal.Read
variable (x : FVec Ideal S32768x6144 .f32) (C S : FVec Ideal S8192x8 .f32)

/-- The reference's turned queries. -/
theorem rot21 : val_main_v21 (F := Ideal) x C S = rotary (val_main_v5 (F := Ideal) x) C S := by
  unfold rotary join spread val_main_v21 val_main_v20 val_main_v19 val_main_v18 val_main_v17 val_main_v16 val_main_v15 val_main_v14
    val_main_v13 val_main_v12 val_main_v11 val_main_v10 val_main_v9 val_main_v8 val_main_v7 val_main_v6
  generalize val_main_v5 (F := Ideal) x = Y
  rfl
/-- The reference's turned keys. -/
theorem rot40 : val_main_v40 (F := Ideal) x C S = rotary (val_main_v24 (F := Ideal) x) C S := by
  unfold rotary join spread val_main_v40 val_main_v39 val_main_v38 val_main_v37 val_main_v36 val_main_v35 val_main_v34 val_main_v33
    val_main_v32 val_main_v31 val_main_v30 val_main_v29 val_main_v28 val_main_v27 val_main_v26 val_main_v25
  generalize val_main_v24 (F := Ideal) x = Y
  rfl

/-- The place of a lane before the heads are cut into halves and laid out. -/
theorem place41 (i0 i1 : Fin 4) (i2 : Fin 8192) (i3 : Fin 128) :
    idx_main_v41 (idx_main_v42 (ix4 i0 i1 i2 i3)) = ix5 i0 i2 i1 (half i3) (inHalf i3) := by
  have h0 := i0.isLt
  have h1 := i1.isLt
  have h2 := i2.isLt
  have h3 := i3.isLt
  funext a
  apply Fin.ext
  fin_cases a
  · show (((i0.val * 8192 + i2.val) * 4 + i1.val) * 128 + i3.val) / 4194304 = i0.val; omega
  · show (((i0.val * 8192 + i2.val) * 4 + i1.val) * 128 + i3.val) / 512 % 8192 = i2.val; omega
  · show (((i0.val * 8192 + i2.val) * 4 + i1.val) * 128 + i3.val) / 128 % 4 = i1.val; omega
  · show (((i0.val * 8192 + i2.val) * 4 + i1.val) * 128 + i3.val) / 64 % 2 = i3.val / 64; omega
  · show (((i0.val * 8192 + i2.val) * 4 + i1.val) * 128 + i3.val) % 64 = i3.val % 64; omega
theorem place44 (i0 i1 : Fin 4) (i2 : Fin 8192) (i3 : Fin 128) :
    idx_main_v44 (idx_main_v45 (ix4 i0 i1 i2 i3)) = ix5 i0 i2 i1 (half i3) (inHalf i3) := place41 i0 i1 i2 i3

/-- The reference's arrays are the same. -/
theorem q_eq : val_main_v43 (F := Ideal) x C S = qarr x C S := by
  funext i
  idx_vars i
  rw [val_main_v43_apply, val_main_v42_apply, val_main_v41_apply, place41, val_main_v23_apply, rot21, rotary_apply, val_main_v22_apply,
    val_main_cst_apply]
  rw [qarr_at x C S _ i0 i1 i2 i3 rfl rfl rfl rfl]
  simp only [lane5]
  unfold turned
  generalize turn (fun e => lanes x 0 i0 i1 i2 e) (fun j => C (ix2 i2 j)) (fun j => S (ix2 i2 j)) i3 = T
  rfl
theorem k_eq : val_main_v46 (F := Ideal) x C S = karr x C S := by
  funext i
  idx_vars i
  rw [val_main_v46_apply, val_main_v45_apply, val_main_v44_apply, place44, rot40, rotary_apply]
  rw [karr_at x C S _ i0 i1 i2 i3 rfl rfl rfl rfl]
  simp only [lane24]
  unfold turned
  generalize turn (fun e => lanes x 1 i0 i1 i2 e) (fun j => C (ix2 i2 j)) (fun j => S (ix2 i2 j)) i3 = T
  rfl
theorem v_eq : val_main_v49 (F := Ideal) x = varr x := by
  funext i
  idx_vars i
  have e : idx_main_v48 (ix4 i0 i1 i2 i3) = ix4 i0 i2 i1 i3 := by funext a; fin_cases a <;> rfl
  show val_main_v48 (F := Ideal) x (ix4 i0 i1 i2 i3) = _
  rw [val_main_v48_apply, e, lane47]
  rfl

end ref
end Cert.Rope.Ref
namespace Cert.Rope
open Cert.Kernel8Ideal Cert.Kernel8Ideal.Gen Idealize.ShloMosaic Idealize.ShloMosaic.TcCoe Idealize.SL.Sem

/-- The reference's frame. -/
theorem frame_ref : Cert.quiescent_Reference8Ideal := fun m ρ _ =>
  (θ_run Cert.Reference8Ideal.defs _ _).mono (fun r h => ⟨fun c => (h c).2.2.2, sem_eq_zero_of_no_sems (by decide) r.2⟩)
    (Cert.Reference8Ideal.Value.run (F := Ideal) m ρ)

/-- The rotary preparation: the kernel and the reference leave the same queries, keys and values. -/
theorem algebraic : Cert.algebraic_Kernel8Ideal_Reference8Ideal := by
  intro m g m' g' _ hargs
  refine ⟨fun c => (dats m 0 c).arrAt 5 cfg0.N, fun c => (dats m 0 c).arrAt 6 cfg0.N, fun c => (dats m 0 c).arrAt 7 cfg0.N,
    Cert.Kernel8Ideal.Value.run_blocks (F := Ideal) m g, ?_⟩
  refine (θ_run Cert.Reference8Ideal.defs _ _).mono
    (fun r h c => ⟨(h c).1.trans ?_, (h c).2.1.trans ?_, (h c).2.2.1.trans ?_, (h c).2.2.2⟩)
    (Cert.Reference8Ideal.Value.run (F := Ideal) m' g')
  · obtain ⟨e0, e1, e2⟩ := hargs c
    rw [Cert.Reference8Ideal.Read.val_main_v43_eq, e0, e1, e2]
    exact (Ref.q_eq _ _ _).trans (final5 m c).symm
  · obtain ⟨e0, e1, e2⟩ := hargs c
    rw [Cert.Reference8Ideal.Read.val_main_v46_eq, e0, e1, e2]
    exact (Ref.k_eq _ _ _).trans (final6 m c).symm
  · obtain ⟨e0, e1, e2⟩ := hargs c
    rw [Cert.Reference8Ideal.Read.val_main_v49_eq, e0]
    exact (Ref.v_eq _).trans (final7 m c).symm

end Cert.Rope
-- ==== Proof.Short.Body.lean ====
/- The short convolution along the sequence: what the kernel's body computes for one block of lanes. -/
module

public import proofs.«01_k».proof.Proof.Gen.Kernel9Ideal.Value
public import Idealize.ShloMosaic.Lib.Pipeline.ValueKit
public import Idealize.ShloMosaic.Lib.Pointwise
public import Idealize.ShloMosaic.Lib.KernelVsHost

set_option maxRecDepth 16384
noncomputable section
@[expose] public section
namespace Cert.Short
open Cert.Kernel9Ideal Cert.Kernel9Ideal.Gen Idealize.ShloMosaic Idealize.ShloMosaic.TcCoe Idealize.SL.Sem

/-- The row above row `s` of a sequence, zero above the first. -/
def above (f : Fin 8192 → EReal) (s : Fin 8192) : EReal := if s.val = 0 then 0 else f ⟨(s.val + 8191) % 8192, by omega⟩
/-- The row below row `s` of a sequence, zero below the last. -/
def below (f : Fin 8192 → EReal) (s : Fin 8192) : EReal := if s.val = 8191 then 0 else f ⟨(s.val + 1) % 8192, by omega⟩

/-- The convolution of a sequence with three taps, and its shift. -/
def conv (f : Fin 8192 → EReal) (w : Fin 3 → EReal) (b : EReal) (s : Fin 8192) : EReal :=
  above f s * w 0 + f s * w 1 + below f s * w 2 + b

/-- The rotation by one row, read at a place. -/
theorem rot1_apply (z : Vec Ideal S8192x128 .f32) (s : Fin 8192) (l : Fin 128) :
    dynamicRotate 0 1#32 none z rotates_S8192x128_d0 (ix2 s l) = z (ix2 ⟨(s.val + 8191) % 8192, by omega⟩ l) := by
  refine dynamicRotate_apply (0 : Fin 2) 1#32 z _ _ _ fun b => ?_
  fin_cases b
  · show (s.val + 8191) % 8192 = (s.val + 8192 - 1 % 8192) % 8192
    omega
  · rfl
/-- The rotation by all rows but one, read at a place. -/
theorem rot2_apply (z : Vec Ideal S8192x128 .f32) (s : Fin 8192) (l : Fin 128) :
    dynamicRotate 0 8191#32 none z rotates_S8192x128_d0 (ix2 s l) = z (ix2 ⟨(s.val + 1) % 8192, by omega⟩ l) := by
  refine dynamicRotate_apply (0 : Fin 2) 8191#32 z _ _ _ fun b => ?_
  fin_cases b
  · show (s.val + 1) % 8192 = (s.val + 8192 - 8191 % 8192) % 8192
    omega
  · rfl

/-- A comparison of row numbers as words. -/
theorem cmp_apply (s : Fin 8192) (n : Nat) (h : n < 8192) (x y : EReal) :
    Scalar.select (IntOp.cmpi CmpIPredicate.eq (BitVec.ofNat 32 s.val) (BitVec.ofNat 32 n)) x y = if s.val = n then x else y := by
  have e : (BitVec.ofNat 32 s.val = BitVec.ofNat 32 n) ↔ s.val = n := by
    rw [← BitVec.toNat_inj, BitVec.toNat_ofNat, BitVec.toNat_ofNat]
    have := s.isLt
    omega
  unfold Scalar.select IntOp.cmpi
  by_cases hs : s.val = n
  · simp [hs]
  · have he : (BitVec.ofNat 32 s.val == BitVec.ofNat 32 n) = false := beq_eq_false_iff_ne.mpr (e.not.mpr hs)
    simp [hs, he]

/-- The body's sum with the two rotations as given arrays. -/
theorem pay_of (z z1 z2 : FVec Ideal S8192x128 .f32) (w : Vec Ideal S3x128 .f32) (b : Vec Ideal S1x128 .f32) (u : Fin 1)
    (s : Fin 8192) (l : Fin 128)
    (h1 : dynamicRotate 0 1#32 none z rotates_S8192x128_d0 = z1) (h2 : dynamicRotate 0 8191#32 none z rotates_S8192x128_d0 = z2) :
    k0_pay1 (F := Ideal) z w b (ix3 u s l)
      = Scalar.select (IntOp.cmpi CmpIPredicate.eq (BitVec.ofNat 32 s.val) 0#32) 0 (z1 (ix2 s l)) * w (ix2 0 l) + z (ix2 s l) * w (ix2 1 l)
        + Scalar.select (IntOp.cmpi CmpIPredicate.eq (BitVec.ofNat 32 s.val) 8191#32) 0 (z2 (ix2 s l)) * w (ix2 2 l) + b (ix2 0 l) := by
  unfold k0_pay1
  simp only [h1, h2]
  pointwise

/-- The body's block at row `s`, lane `l`. -/
theorem pay_apply (z : Vec Ideal S8192x128 .f32) (w : Vec Ideal S3x128 .f32) (b : Vec Ideal S1x128 .f32) (u : Fin 1)
    (s : Fin 8192) (l : Fin 128) :
    k0_pay1 (F := Ideal) z w b (ix3 u s l) = conv (fun r => z (ix2 r l)) (fun j => w (ix2 j l)) (b (ix2 0 l)) s := by
  rw [pay_of z _ _ w b u s l rfl rfl, rot1_apply, rot2_apply]
  have e0 := cmp_apply s 0 (by decide)
  have e1 := cmp_apply s 8191 (by decide)
  rw [show (0#32 : BitVec 32) = BitVec.ofNat 32 0 from rfl, show (8191#32 : BitVec 32) = BitVec.ofNat 32 8191 from rfl, e0, e1]
  rfl

end Cert.Short
-- ==== Proof.Short.Claims.lean ====
/- The short convolution of the layer: the kernel convolves 128 lanes of one sequence at a time by rotating its rows; the
   reference pads the sequences with a row of zeros on either side and adds up three shifted products. -/
module

public import proofs.«01_k».proof.Defs
public import proofs.«01_k».proof.Proof.Short.Body
public import proofs.«01_k».proof.Proof.Gen.Reference9Ideal.Read

set_option maxRecDepth 16384
noncomputable section
@[expose] public section
namespace Cert.Short
open Cert.Kernel9Ideal Cert.Kernel9Ideal.Gen Idealize.ShloMosaic Idealize.ShloMosaic.TcCoe Idealize.SL.Sem
open Idealize.ShloMosaic.Pipeline (Dat)

/-- Lane `q` of sequence `b`. -/
def seqOf (X : FVec Ideal S32768x6144 .f32) (b : Fin 4) (q : Fin 1536) (r : Fin 8192) : EReal :=
  X (ix2 ⟨b.val * 8192 + r.val, by omega⟩ ⟨q.val, by omega⟩)

/-- The convolution of lane `q` of sequence `b` at row `s`. -/
def cell (X : FVec Ideal S32768x6144 .f32) (W : FVec Ideal S3x1536 .f32) (B : FVec Ideal S1536 .f32) (b : Fin 4) (s : Fin 8192)
    (q : Fin 1536) : EReal :=
  conv (seqOf X b q) (fun j => W (ix2 j q)) (B (ix1 q)) s

def rb (i : Fin 32768) : Fin 4 := ⟨i.val / 8192, by omega⟩
def rs (i : Fin 32768) : Fin 8192 := ⟨i.val % 8192, by omega⟩
def lane (p : Fin 3) (l : Fin 512) : Fin 1536 := ⟨p.val * 512 + l.val, by omega⟩

/-- The three parts of the convolved lanes, entry by entry. -/
def arr (X : FVec Ideal S32768x6144 .f32) (W : FVec Ideal S3x1536 .f32) (B : FVec Ideal S1536 .f32) : FVec Ideal S3x32768x512 .f32 :=
  fun i => cell X W B (rb (i 1)) (rs (i 1)) (lane (i 0) (i 2))

theorem arr_at (X : FVec Ideal S32768x6144 .f32) (W : FVec Ideal S3x1536 .f32) (B : FVec Ideal S1536 .f32) (i : S3x32768x512.Idx)
    (b : Fin 4) (s : Fin 8192) (q : Fin 1536) (h0 : (i 1).val = b.val * 8192 + s.val) (h1 : (i 0).val * 512 + (i 2).val = q.val) :
    arr X W B i = cell X W B b s q := by
  have e0 : rb (i 1) = b := Fin.ext (by show (i 1).val / 8192 = b.val; omega)
  have e1 : rs (i 1) = s := Fin.ext (by show (i 1).val % 8192 = s.val; omega)
  have e2 : lane (i 0) (i 2) = q := Fin.ext h1
  unfold arr
  rw [e0, e1, e2]

/-- The blocks of every grid point: four sequences, twelve groups of lanes. -/
theorem idx : ∀ t : Fin cfg0.N, win0_0.index t = ![t.val / 12, t.val % 12] ∧ win0_1.index t = ![0, t.val % 12]
    ∧ win0_2.index t = ![0, t.val % 12] ∧ win0_3.index t = ![t.val % 12 / 4, t.val / 12, t.val % 4] :=
  (by decide +kernel : ∀ t : Fin grid0.N, _)

section final
variable (m : (ℓ : Loc nD τ sig) → Buf (Elt Ideal) ℓ) (c : Dev nD) (t : Fin cfg0.N)

/-- The sequence of a grid point. -/
def tb : Fin 4 := ⟨t.val / 12, by have : t.val < 48 := t.isLt; omega⟩
/-- A lane of a grid point's block. -/
def tq (l : Fin 128) : Fin 1536 := ⟨t.val % 12 * 128 + l.val, by omega⟩

theorem read0 (r : Fin 8192) (l : Fin 128) :
    iblk m c 0 t (ix2 r l) = seqOf (m ((c : Thread nD τ).loc main_arg0)) (tb t) (tq t l) r := by
  unfold seqOf tb tq
  blk_ext [iblk, V, idx t]
theorem read1 (j : Fin 3) (l : Fin 128) :
    iblk m c 1 t (ix2 j l) = m ((c : Thread nD τ).loc main_arg1) (ix2 j (tq t l)) := by
  unfold tq
  blk_ext [iblk, V, idx t]
theorem read2 (l : Fin 128) :
    iblk m c 2 t (ix2 0 l) = m ((c : Thread nD τ).loc main_arg2) (ix1 (tq t l)) := by
  unfold tq
  blk_ext! [iblk, idx t]

/-- The block a grid point computes, from the arrays. -/
theorem block_at (u : Fin 1) (s : Fin 8192) (l : Fin 128) :
    k0_pay1 (F := Ideal) (iblk m c 0 t) (iblk m c 1 t) (iblk m c 2 t) (ix3 u s l)
      = cell (m ((c : Thread nD τ).loc main_arg0)) (m ((c : Thread nD τ).loc main_arg1)) (m ((c : Thread nD τ).loc main_arg2))
          (tb t) s (tq t l) := by
  refine (pay_apply _ _ _ u s l).trans ?_
  simp only [read0, read1, read2]
  rfl

/-- The result array after the run. -/
theorem final : (dats m 0 c).arrAt 3 (cfgs 0).N
    = arr (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  idx_vars y
  refine (block_at m c t y0 y1 y2).trans (arr_at _ _ _ _ _ _ _ ?_ ?_).symm
  · blk_simp [idx t]
    rfl
  · blk_simp [idx t]
    have h0 : y0.val < 1 := y0.isLt
    show t.val % 12 / 4 * 512 + (t.val % 4 * 128 + y2.val) = t.val % 12 * 128 + y2.val
    omega

end final

end Cert.Short
namespace Cert.Short.Ref
open Cert.Short Idealize.ShloMosaic
section ref
open Cert.Reference9Ideal Cert.Reference9Ideal.Gen Cert.Reference9Ideal.Read
variable (x : FVec Ideal S32768x6144 .f32) (w : FVec Ideal S3x1536 .f32) (v : FVec Ideal S1536 .f32)

/-- The reshaped lanes are the sequences. -/
theorem r1 (b : Fin 4) (s : Fin 8192) (q : Fin 1536) : val_main_v1 (F := Ideal) x (ix3 b s q) = seqOf x b q s := by
  have e : idx_main_v0 (idx_main_v1 (ix3 b s q)) = ix2 ⟨b.val * 8192 + s.val, by omega⟩ ⟨q.val, by omega⟩ := by
    have h0 : b.val < 4 := b.isLt
    have h1 : s.val < 8192 := s.isLt
    have h2 : q.val < 1536 := q.isLt
    funext a
    apply Fin.ext
    fin_cases a
    · show ((b.val * 8192 + s.val) * 1536 + q.val) / 1536 = b.val * 8192 + s.val; omega
    · show ((b.val * 8192 + s.val) * 1536 + q.val) % 1536 = q.val; omega
  rw [val_main_v1_apply, val_main_v0_apply, e]
  rfl

/-- The padded sequences inside. -/
theorem pad_in (b : Fin 4) (r : Fin 8194) (s : Fin 8192) (q : Fin 1536) (h : r.val = s.val + 1) :
    val_main_v2 (F := Ideal) x (ix3 b r q) = seqOf x b q s := by
  rw [← r1]
  unfold val_main_v2
  refine pad_apply_of_inside _ _ _ _ _ _ _ _ (ix3 b s q) fun a => ?_
  fin_cases a
  · show b.val = 0 + b.val * (0 + 1); omega
  · show r.val = 1 + s.val * (0 + 1); omega
  · show q.val = 0 + q.val * (0 + 1); omega

/-- The rows added on either side are zero. -/
theorem pad_out (b : Fin 4) (r : Fin 8194) (q : Fin 1536) (h : r.val = 0 ∨ r.val = 8193) :
    val_main_v2 (F := Ideal) x (ix3 b r q) = 0 := by
  unfold val_main_v2
  refine (pad_apply_of_not_inside _ _ _ _ _ _ _ _ (1 : Fin 3) ?_).trans ?_
  · show ¬(1 ≤ r.val ∧ (r.val - 1) % (0 + 1) = 0 ∧ (r.val - 1) / (0 + 1) < 8192)
    omega
  · rw [val_main_call0_v0_apply, val_main_c_apply]
    show (((0#32 : BitVec 32).toInt : ℝ) : EReal) = 0
    simp

theorem r3 (b : Fin 4) (s : Fin 8192) (q : Fin 1536) : val_main_v3 (F := Ideal) x (ix3 b s q) = above (seqOf x b q) s := by
  have e : idx_main_v3 (ix3 b s q) = ix3 b ⟨s.val, by omega⟩ q := by funext a; fin_cases a <;> rfl
  rw [val_main_v3_apply, e]
  unfold above
  split
  · next h => exact pad_out x b _ q (Or.inl h)
  · next h => exact pad_in x b _ _ q (by show s.val = (s.val + 8191) % 8192 + 1; omega)
theorem r9 (b : Fin 4) (s : Fin 8192) (q : Fin 1536) : val_main_v9 (F := Ideal) x (ix3 b s q) = seqOf x b q s := by
  have e : idx_main_v9 (ix3 b s q) = ix3 b ⟨1 + s.val, by omega⟩ q := by funext a; fin_cases a <;> rfl
  rw [val_main_v9_apply, e]
  exact pad_in x b _ _ q (by show 1 + s.val = s.val + 1; omega)
theorem r16 (b : Fin 4) (s : Fin 8192) (q : Fin 1536) : val_main_v16 (F := Ideal) x (ix3 b s q) = below (seqOf x b q) s := by
  have e : idx_main_v16 (ix3 b s q) = ix3 b ⟨2 + s.val, by omega⟩ q := by funext a; fin_cases a <;> rfl
  rw [val_main_v16_apply, e]
  unfold below
  split
  · next h => exact pad_out x b _ q (Or.inr (by show 2 + s.val = 8193; omega))
  · next h => exact pad_in x b _ _ q (by show 2 + s.val = (s.val + 1) % 8192 + 1; omega)

/-- The taps and the shift, spread over the sequences. -/
theorem w7 (b : Fin 4) (s : Fin 8192) (q : Fin 1536) : val_main_v7 (F := Ideal) w (ix3 b s q) = w (ix2 0 q) := by
  pointwise [val_main_v7, val_main_v6, val_main_v5, val_main_v4]
theorem w13 (b : Fin 4) (s : Fin 8192) (q : Fin 1536) : val_main_v13 (F := Ideal) w (ix3 b s q) = w (ix2 1 q) := by
  pointwise [val_main_v13, val_main_v12, val_main_v11, val_main_v10]
theorem w20 (b : Fin 4) (s : Fin 8192) (q : Fin 1536) : val_main_v20 (F := Ideal) w (ix3 b s q) = w (ix2 2 q) := by
  pointwise [val_main_v20, val_main_v19, val_main_v18, val_main_v17]
theorem v24 (b : Fin 4) (s : Fin 8192) (q : Fin 1536) : val_main_v24 (F := Ideal) v (ix3 b s q) = v (ix1 q) := by
  pointwise [val_main_v24, val_main_v23]

theorem r25 (b : Fin 4) (s : Fin 8192) (q : Fin 1536) : val_main_v25 (F := Ideal) x w v (ix3 b s q) = cell x w v b s q := by
  rw [val_main_v25_apply, val_main_v22_apply, val_main_v15_apply, val_main_v8_apply, val_main_v14_apply, val_main_v21_apply,
    r3, r9, r16, w7, w13, w20, v24]
  rfl

/-- The reference's array is the same. -/
theorem ref_eq : val_main_v27 (F := Ideal) x w v = arr x w v := by
  funext i
  idx_vars i
  have e : idx_main_v26 (idx_main_v27 (ix3 i0 i1 i2)) = ix3 (rb i1) (rs i1) (lane i0 i2) := by
    have h0 : i0.val < 3 := i0.isLt
    have h1 : i1.val < 32768 := i1.isLt
    have h2 : i2.val < 512 := i2.isLt
    funext a
    apply Fin.ext
    fin_cases a
    · show ((i1.val * 3 + i0.val) * 512 + i2.val) / 12582912 = i1.val / 8192; omega
    · show ((i1.val * 3 + i0.val) * 512 + i2.val) / 1536 % 8192 = i1.val % 8192; omega
    · show ((i1.val * 3 + i0.val) * 512 + i2.val) % 1536 = i0.val * 512 + i2.val; omega
  rw [val_main_v27_apply, val_main_v26_apply, e, r25]
  rfl

end ref
end Cert.Short.Ref
namespace Cert.Short
open Cert.Kernel9Ideal Cert.Kernel9Ideal.Gen Idealize.ShloMosaic Idealize.ShloMosaic.TcCoe Idealize.SL.Sem

/-- The reference's frame. -/
theorem frame_ref : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- The short convolution: the kernel and the reference leave the same lanes. -/
theorem algebraic : Cert.algebraic_Kernel9Ideal_Reference9Ideal := by
  intro m g m' g' _ hargs
  refine ⟨fun c => (dats m 0 c).arrAt 3 cfg0.N, Cert.Kernel9Ideal.Value.run_blocks (F := Ideal) m g, ?_⟩
  refine (θ_run Cert.Reference9Ideal.defs _ _).mono (fun r h c => ⟨(h c).1.trans ?_, (h c).2⟩)
    (Cert.Reference9Ideal.Value.run (F := Ideal) m' g')
  obtain ⟨e0, e1, e2⟩ := hargs c
  rw [Cert.Reference9Ideal.Read.val_main_v27_eq, e0, e1, e2]
  exact (Ref.ref_eq _ _ _).trans (final m c).symm

end Cert.Short
-- ==== Proof.InNorm.Claims.lean ====
/- The norm in front of the layer: the array the kernel leaves, the reference's array, and the claims. -/
module

public import proofs.«01_k».proof.Defs
public import proofs.«01_k».proof.Proof.Norm.Row
public import proofs.«01_k».proof.Proof.Gen.Kernel10Ideal.Value
public import proofs.«01_k».proof.Proof.Gen.Reference10Ideal.Read
public import Idealize.ShloMosaic.Lib.Pipeline.ValueKit

set_option maxRecDepth 16384
noncomputable section
@[expose] public section
namespace Cert.InNorm
open Cert.Kernel10Ideal Cert.Kernel10Ideal.Gen Idealize.ShloMosaic Idealize.ShloMosaic.TcCoe Idealize.SL.Sem
open Idealize.ShloMosaic.Pipeline (Dat)
open Cert.Norm (mean dev ln)

/-- The normed array, entry by entry. -/
def arr (X : FVec Ideal S32768x2048 .f32) (g b : FVec Ideal S2048 .f32) : FVec Ideal S32768x2048 .f32 :=
  fun i => ln (fun k => X (ix2 (i 0) k)) (g (ix1 (i 1))) (b (ix1 (i 1))) (i 1)

theorem arr_at (X : FVec Ideal S32768x2048 .f32) (g b : FVec Ideal S2048 .f32)
    (i : S32768x2048.Idx) (r : Fin 32768) (d : Fin 2048) (h0 : (i 0).val = r.val) (h1 : (i 1).val = d.val) :
    arr X g b i = ln (fun k => X (ix2 r k)) (g (ix1 d)) (b (ix1 d)) d := by
  have e0 : i 0 = r := Fin.ext h0
  have e1 : i 1 = d := Fin.ext h1
  unfold arr
  rw [e0, e1]

/-- The body's block at row `r`, lane `d`. -/
theorem pay_apply (x : Vec Ideal S512x2048 .f32) (g b : Vec Ideal S1x2048 .f32) (r : Fin 512) (d : Fin 2048) :
    k0_pay1 (F := Ideal) x g b (ix2 r d) = ln (fun k => x (ix2 r k)) (g (ix2 0 d)) (b (ix2 0 d)) d := by
  pointwise [k0_pay1]
  unfold ln dev mean
  rfl

/-- The blocks of every grid point. -/
theorem idx : ∀ t : Fin cfg0.N, win0_0.index t = ![t.val, 0] ∧ win0_1.index t = ![0, 0]
    ∧ win0_2.index t = ![0, 0] ∧ win0_3.index t = ![t.val, 0] :=
  (by decide +kernel : ∀ t : Fin grid0.N, _)

section final
variable (m : (ℓ : Loc nD τ sig) → Buf (Elt Ideal) ℓ) (c : Dev nD) (t : Fin cfg0.N)

/-- Row of a grid point's block in the array. -/
def tr (r : Fin 512) : Fin 32768 := ⟨t.val * 512 + r.val, by have : t.val < 64 := t.isLt; omega⟩

theorem read0 (r : Fin 512) (k : Fin 2048) :
    iblk m c 0 t (ix2 r k) = m ((c : Thread nD τ).loc main_arg0) (ix2 (tr t r) k) := by
  unfold tr
  blk_ext [iblk, V, idx t]
theorem read1 (z : Fin 1) (k : Fin 2048) :
    iblk m c 1 t (ix2 z k) = m ((c : Thread nD τ).loc main_arg1) (ix1 k) := by
  blk_ext! [iblk, idx t]
theorem read2 (z : Fin 1) (k : Fin 2048) :
    iblk m c 2 t (ix2 z k) = m ((c : Thread nD τ).loc main_arg2) (ix1 k) := by
  blk_ext! [iblk, idx t]

/-- The block a grid point computes, from the arrays. -/
theorem block_at (r : Fin 512) (d : Fin 2048) :
    k0_pay1 (F := Ideal) (iblk m c 0 t) (iblk m c 1 t) (iblk m c 2 t) (ix2 r d)
      = ln (fun k => m ((c : Thread nD τ).loc main_arg0) (ix2 (tr t r) k))
          (m ((c : Thread nD τ).loc main_arg1) (ix1 d)) (m ((c : Thread nD τ).loc main_arg2) (ix1 d)) d := by
  rw [pay_apply]
  simp only [read0, read1, read2]

/-- The result array after the run. -/
theorem final : (dats m 0 c).arrAt 3 (cfgs 0).N
    = arr (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  idx_vars y
  refine (block_at m c t y0 y1).trans (arr_at _ _ _ _ _ _ ?_ ?_).symm
  · blk_simp [idx t]
    rfl
  · blk_simp [idx t]

end final

section ref
open Cert.Reference10Ideal.Read
variable (x : FVec Ideal S32768x2048 .f32) (g b : FVec Ideal S2048 .f32)

/-- Row `r` of the array. -/
def row (r : Fin 32768) (k : Fin 2048) : EReal := x (ix2 r k)

theorem zero_bits : (FloatOps.ofBits .f32 0x00000000#32 : Ideal .f32) = (0 : EReal) := Ideal.ofBits_zero .f32

theorem r0 (r : Fin 32768) : val_main_v0 (F := Ideal) x (ix1 r) = ∑ k, row x r k := by
  rw [val_main_v0_apply, val_main_cst_apply, zero_bits, zero_add]
  refine Finset.sum_congr rfl fun k _ => ?_
  unfold row
  congr 1
  funext a; fin_cases a <;> rfl
theorem r3 (r : Fin 32768) (z : Fin 1) : val_main_v3 (F := Ideal) x (ix2 r z) = mean (row x r) := by
  have e : idx_main_v1 (ix2 r z) = ix1 r := by funext a; fin_cases a; rfl
  rw [val_main_v3_apply, val_main_v1_apply, val_main_v2_apply, val_main_cst_0_apply, e, r0]
  rfl
theorem r5 (r : Fin 32768) (k : Fin 2048) : val_main_v5 (F := Ideal) x (ix2 r k) = dev (row x r) k := by
  have e : idx_main_v4 (ix2 r k) = ix2 r 0 := by funext a; fin_cases a <;> rfl
  rw [val_main_v5_apply, val_main_v4_apply, e, r3]
  rfl
theorem r7 (r : Fin 32768) : val_main_v7 (F := Ideal) x (ix1 r) = ∑ k, dev (row x r) k * dev (row x r) k := by
  rw [val_main_v7_apply, val_main_cst_1_apply, zero_bits, zero_add]
  refine Finset.sum_congr rfl fun k _ => ?_
  have e : idx_main_v7 (ix1 r) k = ix2 r k := by funext a; fin_cases a <;> rfl
  rw [e, val_main_v6_apply, r5]
  rfl
theorem r15 (r : Fin 32768) (z : Fin 1) : val_main_v15 (F := Ideal) x (ix2 r z)
    = Ideal.rsqrt (mean (fun k => dev (row x r) k * dev (row x r) k) + Ideal.ofBits .f32 0x3727C5AC#32) := by
  have e : idx_main_v8 (ix2 r z) = ix1 r := by funext a; fin_cases a; rfl
  rw [val_main_v15_apply, val_main_v14_apply, val_main_v10_apply, val_main_v8_apply, val_main_v9_apply, val_main_cst_2_apply,
    val_main_v13_apply, val_main_cst_3_apply, e, r7]
  rfl
theorem r17 (r : Fin 32768) (d : Fin 2048) : val_main_v17 (F := Ideal) x (ix2 r d)
    = dev (row x r) d * Ideal.rsqrt (mean (fun k => dev (row x r) k * dev (row x r) k) + Ideal.ofBits .f32 0x3727C5AC#32) := by
  have e : idx_main_v11 (ix2 r d) = ix2 r 0 := by funext a; fin_cases a <;> rfl
  have e' : idx_main_v16 (ix2 r d) = ix2 r 0 := by funext a; fin_cases a <;> rfl
  rw [val_main_v17_apply, val_main_v12_apply, val_main_v11_apply, val_main_v16_apply, e, e', r3, r15]
  rfl
theorem r19 (r : Fin 32768) (d : Fin 2048) : val_main_v19 (F := Ideal) g (ix2 r d) = g (ix1 d) := by
  rw [val_main_v19_apply, val_main_v18_apply]
  congr 1
  funext a; fin_cases a; rfl
theorem r22 (r : Fin 32768) (d : Fin 2048) : val_main_v22 (F := Ideal) b (ix2 r d) = b (ix1 d) := by
  rw [val_main_v22_apply, val_main_v21_apply]
  congr 1
  funext a; fin_cases a; rfl

/-- The reference's array is the same. -/
theorem ref_eq : val_main_v23 (F := Ideal) x g b = arr x g b := by
  funext i
  idx_vars i
  rw [val_main_v23_apply, val_main_v20_apply, r17, r19, r22]
  rfl

end ref

/-- The reference's frame. -/
theorem frame_ref : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

/-- The norm in front of the layer: the kernel and the reference leave the same array. -/
theorem algebraic : Cert.algebraic_Kernel10Ideal_Reference10Ideal := by
  intro m g m' g' _ hargs
  refine ⟨fun c => (dats m 0 c).arrAt 3 cfg0.N, Cert.Kernel10Ideal.Value.run_blocks (F := Ideal) m g, ?_⟩
  refine (θ_run Cert.Reference10Ideal.defs _ _).mono (fun r h c => ⟨(h c).1.trans ?_, (h c).2⟩)
    (Cert.Reference10Ideal.Value.run (F := Ideal) m' g')
  obtain ⟨e0, e1, e2⟩ := hargs c
  rw [Cert.Reference10Ideal.Read.val_main_v23_eq, e0, e1, e2]
  exact (ref_eq _ _ _).trans (final m c).symm

end Cert.InNorm
-- ==== Proof.Long.Run.lean ====
/- The run of the long convolution's program: what its three calls leave in the result array. -/
module

public import proofs.«01_k».proof.Defs
public import proofs.«01_k».proof.Proof.Gen.Kernel11Ideal.Frame

set_option maxRecDepth 16384
noncomputable section
@[expose] public section
namespace Cert.Long
open Cert.Kernel11Ideal Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program runs, leaves in its result what the last call's grid points write back over what the two calls before
    it and the host operations left, and keeps its arguments. -/
theorem run : θ_run defs (onTc (τ := τ) (main (F := F))) ⟨m, fun _ => 0, ρ⟩ (fun r => ∀ c : Dev nD,
      r.2.mem ((c.tc : Thread nD τ).loc main_v32) = (dat2 (V5 m ρ) c).arrAt 7 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz c =>
      ⟨(h c _ (mem_uc main_v32 (by decide))).trans (W6_arr m ρ c 7),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.Long
-- ==== Proof.Long.Math.lean ====
/- The arithmetic of the long convolution's middle part, at one group of frequencies and one lane: real and imaginary
   parts of the transform, of its product with the filter's spectrum, and of the transform back. -/
module

public import proofs.«01_k».proof.Defs

noncomputable section
@[expose] public section
namespace Cert.Long
open Idealize.ShloMosaic

/-- The product of a row with a column. -/
def dotp {n : ℕ} (f g : Fin n → EReal) : EReal := ∑ i, f i * g i

section mid
variable (gr gi hr hi : Fin 128 → Fin 128 → EReal) (a b kr ki : Fin 128 → EReal)

/-- Real part of the transform of `a + i b` by `gr + i gi`. -/
def xre (m : Fin 128) : EReal := dotp (gr m) a - dotp (gi m) b
/-- Its imaginary part. -/
def xim (m : Fin 128) : EReal := dotp (gr m) b + dotp (gi m) a
/-- Real part of the product with the spectrum. -/
def yre (m : Fin 128) : EReal := xre gr gi a b m * kr m - xim gr gi a b m * ki m
/-- Its imaginary part. -/
def yim (m : Fin 128) : EReal := xre gr gi a b m * ki m + xim gr gi a b m * kr m
/-- Real part of the product transformed back by `hr - i hi`. -/
def bre (c : Fin 128) : EReal := dotp (hr c) (yre gr gi a b kr ki) + dotp (hi c) (yim gr gi a b kr ki)
/-- Its imaginary part. -/
def bim (c : Fin 128) : EReal := dotp (hr c) (yim gr gi a b kr ki) - dotp (hi c) (yre gr gi a b kr ki)

end mid

/-- Row `m` of the upper half of a stacked table. -/
def lo (m : Fin 128) : Fin 256 := ⟨m.val, by omega⟩
/-- Row `m` of its lower half. -/
def up (m : Fin 128) : Fin 256 := ⟨128 + m.val, by omega⟩

end Cert.Long
-- ==== Proof.Long.Stage.lean ====
/- The first call of the long convolution: the first stage of the transform. -/
module

public import proofs.«01_k».proof.Defs
public import proofs.«01_k».proof.Proof.Gen.Kernel11Ideal.Frame
public import proofs.«01_k».proof.Proof.Long.Math
public import Idealize.ShloMosaic.Lib.Pipeline.ValueKit

set_option maxRecDepth 16384
noncomputable section
@[expose] public section
namespace Cert.Long
open Cert.Kernel11Ideal Cert.Kernel11Ideal.Gen Idealize.ShloMosaic Idealize.ShloMosaic.TcCoe Idealize.SL.Sem
open Idealize.ShloMosaic.Pipeline (Dat)

/-- Row `m` of the stacked table against part 0 of the activations. -/
def stage (T : FVec Ideal S256x64 .bf16) (U : FVec Ideal S3x4x64x65536 .f32) (m : Fin 256) (b : Fin 4) (l : Fin 65536) : EReal :=
  dotp (fun r : Fin 64 => T (ix2 m r)) (fun r => U (ix4 0 b r l))
/-- The real part of the first stage. -/
def stageR (T : FVec Ideal S256x64 .bf16) (U : FVec Ideal S3x4x64x65536 .f32) : FVec Ideal S4x128x65536 .bf16 :=
  fun i => stage T U (lo (i 1)) (i 0) (i 2)
/-- The imaginary part. -/
def stageI (T : FVec Ideal S256x64 .bf16) (U : FVec Ideal S3x4x64x65536 .f32) : FVec Ideal S4x128x65536 .bf16 :=
  fun i => stage T U (up (i 1)) (i 0) (i 2)

/-- The blocks of every grid point. -/
theorem idx0 : ∀ t : Fin cfg0.N, win0_0.index t = ![0, t.val / 16, 0, t.val % 16] ∧ win0_1.index t = ![0, 0]
    ∧ win0_2.index t = ![t.val / 16, 0, t.val % 16] ∧ win0_3.index t = ![t.val / 16, 0, t.val % 16] :=
  (by decide +kernel : ∀ t : Fin grid0.N, _)

section tile
variable (x : Vec Ideal S1x1x64x4096 .f32) (f : Vec Ideal S256x64 .bf16)
theorem prod_apply (m : Fin 256) (s : Fin 4096) :
    k0_pay1 (F := Ideal) x f (ix2 m s) = dotp (fun r : Fin 64 => f (ix2 m r)) (fun r => x (ix4 0 0 r s)) := by
  pointwise [k0_pay1]
  rfl
theorem tileR_apply (i : Fin 1) (m : Fin 128) (s : Fin 4096) :
    k0_pay2 (F := Ideal) x f (ix3 i m s) = dotp (fun r : Fin 64 => f (ix2 (lo m) r)) (fun r => x (ix4 0 0 r s)) := by
  obtain rfl : i = 0 := Subsingleton.elim _ _
  pointwise [k0_pay2]
  rw [← prod_apply]
  rfl
theorem tileI_apply (i : Fin 1) (m : Fin 128) (s : Fin 4096) :
    k0_pay3 (F := Ideal) x f (ix3 i m s) = dotp (fun r : Fin 64 => f (ix2 (up m) r)) (fun r => x (ix4 0 0 r s)) := by
  obtain rfl : i = 0 := Subsingleton.elim _ _
  pointwise [k0_pay3]
  rw [← prod_apply]
  rfl
end tile

section final
variable (V : (c : Dev nD) → (b : Ref sig .tc) → Buf (Elt Ideal) ((c : Thread nD τ).loc b)) (c : Dev nD) (t : Fin cfg0.N)

/-- The batch entry of a grid point. -/
def b0 : Fin 4 := ⟨t.val / 16, by have : t.val < 64 := t.isLt; omega⟩
/-- Lane `s` of its block among all lanes. -/
def l0 (s : Fin 4096) : Fin 65536 := ⟨t.val % 16 * 4096 + s.val, by omega⟩

theorem read0_0 (r : Fin 64) (s : Fin 4096) : iblk0 V c 0 t (ix4 0 0 r s) = V c main_v21 (ix4 0 (b0 t) r (l0 t s)) := by
  unfold b0 l0
  blk_ext [iblk0, idx0 t]
theorem read0_1 (m : Fin 256) (r : Fin 64) : iblk0 V c 1 t (ix2 m r) = V c main_v4 (ix2 m r) := by
  blk_ext [iblk0, idx0 t]

theorem stageR_at (T : FVec Ideal S256x64 .bf16) (U : FVec Ideal S3x4x64x65536 .f32) (i : S4x128x65536.Idx) (b : Fin 4) (m : Fin 128)
    (l : Fin 65536) (h0 : (i 0).val = b.val) (h1 : (i 1).val = m.val) (h2 : (i 2).val = l.val) : stageR T U i = stage T U (lo m) b l := by
  have e0 : i 0 = b := Fin.ext h0
  have e1 : i 1 = m := Fin.ext h1
  have e2 : i 2 = l := Fin.ext h2
  unfold stageR
  rw [e0, e1, e2]
theorem stageI_at (T : FVec Ideal S256x64 .bf16) (U : FVec Ideal S3x4x64x65536 .f32) (i : S4x128x65536.Idx) (b : Fin 4) (m : Fin 128)
    (l : Fin 65536) (h0 : (i 0).val = b.val) (h1 : (i 1).val = m.val) (h2 : (i 2).val = l.val) : stageI T U i = stage T U (up m) b l := by
  have e0 : i 0 = b := Fin.ext h0
  have e1 : i 1 = m := Fin.ext h1
  have e2 : i 2 = l := Fin.ext h2
  unfold stageI
  rw [e0, e1, e2]

/-- The real array the first call leaves. -/
theorem final0R : (dat0 V c).arrAt 2 cfg0.N = stageR (V c main_v4) (V c main_v21) := by
  refine (dat0 V c).arrAt_eq_of_covers 2 _ (by decide +kernel) fun t hf y => ?_
  blk_simp
  rw [after0_2]
  frame_out
  idx_vars y
  refine Eq.trans ((tileR_apply _ _ _ y1 y2).trans ?_) (stageR_at _ _ _ (b0 t) y1 (l0 t y2) ?_ ?_ ?_).symm
  · unfold stage
    simp only [read0_0, read0_1]
  · blk_simp [idx0 t]
    rfl
  · blk_simp [idx0 t]
  · blk_simp [idx0 t]
    rfl
/-- The imaginary array. -/
theorem final0I : (dat0 V c).arrAt 3 cfg0.N = stageI (V c main_v4) (V c main_v21) := by
  refine (dat0 V c).arrAt_eq_of_covers 3 _ (by decide +kernel) fun t hf y => ?_
  blk_simp
  rw [after0_3]
  frame_out
  idx_vars y
  refine Eq.trans ((tileI_apply _ _ _ y1 y2).trans ?_) (stageI_at _ _ _ (b0 t) y1 (l0 t y2) ?_ ?_ ?_).symm
  · unfold stage
    simp only [read0_0, read0_1]
  · blk_simp [idx0 t]
    rfl
  · blk_simp [idx0 t]
  · blk_simp [idx0 t]
    rfl

end final
end Cert.Long
-- ==== Proof.Long.Mid.lean ====
/- The body of the middle call: what one of its eight unrolled steps computes. -/
module

public import proofs.«01_k».proof.Defs
public import proofs.«01_k».proof.Proof.Gen.Kernel11Ideal.Frame
public import proofs.«01_k».proof.Proof.Long.Math
public import Idealize.ShloMosaic.Lib.Pipeline.ValueKit

set_option maxRecDepth 16384
noncomputable section
@[expose] public section
namespace Cert.Long
open Cert.Kernel11Ideal Cert.Kernel11Ideal.Gen Idealize.ShloMosaic Idealize.ShloMosaic.TcCoe Idealize.SL.Sem

section step
variable (g : Vec Ideal S1x256x128 .bf16) (a b : Vec Ideal S1x1x128x512 .bf16) (kr ki : Vec Ideal S1x128x512 .f32)
  (h : Vec Ideal S1x256x128 .bf16)

/-- One step's real part. -/
def stepR : FVec Ideal S1x1x128x512 .bf16 := k1_pay15 (F := Ideal) (k1_pay14 g a b kr ki h)
/-- One step's imaginary part. -/
def stepI : FVec Ideal S1x1x128x512 .bf16 := k1_pay16 (F := Ideal) (k1_pay12 g a b kr ki h) (k1_pay13 g a b kr ki h)

theorem p_apply (r : Fin 256) (w : Fin 512) :
    k1_pay5 (F := Ideal) g a (ix2 r w) = dotp (fun c => g (ix3 0 r c)) (fun c => a (ix4 0 0 c w)) := by
  pointwise [k1_pay5, k1_pay4]
  rfl
theorem q_apply (r : Fin 256) (w : Fin 512) :
    k1_pay6 (F := Ideal) g b (ix2 r w) = dotp (fun c => g (ix3 0 r c)) (fun c => b (ix4 0 0 c w)) := by
  pointwise [k1_pay6, k1_pay4]
  rfl
theorem xre_apply (m : Fin 128) (w : Fin 512) : k1_pay7 (F := Ideal) g a b (ix2 m w)
    = xre (fun m c => g (ix3 0 (lo m) c)) (fun m c => g (ix3 0 (up m) c)) (fun c => a (ix4 0 0 c w)) (fun c => b (ix4 0 0 c w)) m := by
  pointwise [k1_pay7]
  unfold xre
  rw [← p_apply, ← q_apply]
  rfl
theorem xim_apply (m : Fin 128) (w : Fin 512) : k1_pay8 (F := Ideal) g a b (ix2 m w)
    = xim (fun m c => g (ix3 0 (lo m) c)) (fun m c => g (ix3 0 (up m) c)) (fun c => a (ix4 0 0 c w)) (fun c => b (ix4 0 0 c w)) m := by
  pointwise [k1_pay8]
  unfold xim
  rw [← p_apply, ← q_apply]
  rfl

/-- The spectrum's product, real part, at this step's loads. -/
def Yr (w : Fin 512) : Fin 128 → EReal :=
  yre (fun m c => g (ix3 0 (lo m) c)) (fun m c => g (ix3 0 (up m) c)) (fun c => a (ix4 0 0 c w)) (fun c => b (ix4 0 0 c w))
    (fun m => kr (ix3 0 m w)) (fun m => ki (ix3 0 m w))
/-- Its imaginary part. -/
def Yi (w : Fin 512) : Fin 128 → EReal :=
  yim (fun m c => g (ix3 0 (lo m) c)) (fun m c => g (ix3 0 (up m) c)) (fun c => a (ix4 0 0 c w)) (fun c => b (ix4 0 0 c w))
    (fun m => kr (ix3 0 m w)) (fun m => ki (ix3 0 m w))

theorem pr_apply (r : Fin 256) (w : Fin 512) :
    k1_pay12 (F := Ideal) g a b kr ki h (ix2 r w) = dotp (fun m => h (ix3 0 r m)) (Yr g a b kr ki w) := by
  pointwise [k1_pay12, k1_pay9, k1_pay10, k1_pay11]
  simp only [xre_apply, xim_apply]
  rfl
theorem pi_apply (r : Fin 256) (w : Fin 512) :
    k1_pay13 (F := Ideal) g a b kr ki h (ix2 r w) = dotp (fun m => h (ix3 0 r m)) (Yi g a b kr ki w) := by
  pointwise [k1_pay13, k1_pay9, k1_pay10, k1_pay11]
  simp only [xre_apply, xim_apply]
  rfl

theorem stepR_apply (c : Fin 128) (w : Fin 512) : stepR g a b kr ki h (ix4 0 0 c w)
    = dotp (fun m => h (ix3 0 (lo c) m)) (Yr g a b kr ki w) + dotp (fun m => h (ix3 0 (up c) m)) (Yi g a b kr ki w) := by
  unfold stepR
  pointwise [k1_pay15, k1_pay14]
  rw [← pr_apply g a b kr ki h, ← pi_apply g a b kr ki h]
  rfl
theorem stepI_apply (c : Fin 128) (w : Fin 512) : stepI g a b kr ki h (ix4 0 0 c w)
    = dotp (fun m => h (ix3 0 (lo c) m)) (Yi g a b kr ki w) - dotp (fun m => h (ix3 0 (up c) m)) (Yr g a b kr ki w) := by
  unfold stepI
  pointwise [k1_pay16]
  rw [← pr_apply g a b kr ki h, ← pi_apply g a b kr ki h]
  rfl

end step

end Cert.Long
-- ==== Proof.Long.Pieces.lean ====
/- The eight steps of the middle call's body are the same step. -/
module

public import proofs.«01_k».proof.Defs
public import proofs.«01_k».proof.Proof.Long.Mid

set_option maxRecDepth 16384
noncomputable section
@[expose] public section
namespace Cert.Long
open Cert.Kernel11Ideal Cert.Kernel11Ideal.Gen Idealize.ShloMosaic Idealize.ShloMosaic.TcCoe Idealize.SL.Sem

variable (g : Vec Ideal S1x256x128 .bf16) (a b : Vec Ideal S1x1x128x512 .bf16) (kr ki : Vec Ideal S1x128x512 .f32)
  (h : Vec Ideal S1x256x128 .bf16)

theorem r7 : k1_pay2 (F := Ideal) (k1_pay102 g a b kr ki) (k1_pay103 h) (k1_pay104 g a b kr ki h) = stepR g a b kr ki h := rfl
theorem r6 : k1_pay92 (F := Ideal) (k1_pay82 g) a b kr ki h = stepR g a b kr ki h := rfl
theorem r5 : k1_pay80 (F := Ideal) (k1_pay73 g a b) (k1_pay74 g a b) kr ki h = stepR g a b kr ki h := rfl
theorem r4 : k1_pay68 (F := Ideal) (k1_pay63 g a b kr ki) (k1_pay64 g a b kr ki) h = stepR g a b kr ki h := rfl
theorem r3 : k1_pay54 (F := Ideal) (k1_pay53 g a b kr ki h) = stepR g a b kr ki h := rfl
theorem r2 : k1_pay41 (F := Ideal) (k1_pay31 g a) (k1_pay32 g b) (k1_pay33 g a) kr ki h = stepR g a b kr ki h := rfl
theorem r1 : k1_pay28 (F := Ideal) (k1_pay20 g a b) (k1_pay21 g a b) (k1_pay22 kr) (k1_pay23 ki) (k1_pay24 g a b kr ki) h
    = stepR g a b kr ki h := rfl

theorem i7 : k1_pay3 (F := Ideal) (k1_pay102 g a b kr ki) (k1_pay103 h) (k1_pay104 g a b kr ki h) = stepI g a b kr ki h := rfl
theorem i6 : k1_pay94 (F := Ideal) (k1_pay93 (k1_pay82 g) a b kr ki h) = stepI g a b kr ki h := rfl
theorem i5 : k1_pay81 (F := Ideal) (k1_pay73 g a b) (k1_pay74 g a b) kr ki h = stepI g a b kr ki h := rfl
theorem i4 : k1_pay69 (F := Ideal) (k1_pay63 g a b kr ki) (k1_pay64 g a b kr ki) h = stepI g a b kr ki h := rfl
theorem i3 : k1_pay55 (F := Ideal) (k1_pay51 g a b kr ki h) (k1_pay52 g a b kr ki h) = stepI g a b kr ki h := rfl
theorem i2 : k1_pay42 (F := Ideal) (k1_pay31 g a) (k1_pay32 g b) (k1_pay33 g a) kr ki h = stepI g a b kr ki h := rfl
theorem i1 : k1_pay29 (F := Ideal) (k1_pay20 g a b) (k1_pay21 g a b) (k1_pay22 kr) (k1_pay23 ki) (k1_pay24 g a b kr ki) h
    = stepI g a b kr ki h := rfl

end Cert.Long
-- ==== Proof.Long.Body.lean ====
/- The body of the middle call: its two output blocks, from its six input blocks. -/
module

public import proofs.«01_k».proof.Defs
public import proofs.«01_k».proof.Proof.Long.Pieces

set_option maxRecDepth 16384
noncomputable section
@[expose] public section
namespace Cert.Long
open Cert.Kernel11Ideal Cert.Kernel11Ideal.Gen Idealize.ShloMosaic Idealize.ShloMosaic.TcCoe Idealize.SL.Sem
open Idealize.ShloMosaic.Pipeline (Dat)

section block
variable (x0 x1 : Vec Ideal S1x8x128x512 .bf16) (x2 x3 : Vec Ideal S8x256x128 .bf16) (x4 x5 : Vec Ideal S8x128x512 .f32)

/-- Real part of entry `(c, w)` of row `j` of the block. -/
def atR (j : Fin 8) (c : Fin 128) (w : Fin 512) : EReal :=
  bre (fun m c => x2 (ix3 j (lo m) c)) (fun m c => x2 (ix3 j (up m) c)) (fun c m => x3 (ix3 j (lo c) m)) (fun c m => x3 (ix3 j (up c) m))
    (fun c => x0 (ix4 0 j c w)) (fun c => x1 (ix4 0 j c w)) (fun m => x4 (ix3 j m w)) (fun m => x5 (ix3 j m w)) c
/-- Its imaginary part. -/
def atI (j : Fin 8) (c : Fin 128) (w : Fin 512) : EReal :=
  bim (fun m c => x2 (ix3 j (lo m) c)) (fun m c => x2 (ix3 j (up m) c)) (fun c m => x3 (ix3 j (lo c) m)) (fun c m => x3 (ix3 j (up c) m))
    (fun c => x0 (ix4 0 j c w)) (fun c => x1 (ix4 0 j c w)) (fun m => x4 (ix3 j m w)) (fun m => x5 (ix3 j m w)) c

/-- The whole block's real part. -/
def blkR : Vec Ideal S1x8x128x512 .bf16 := fun i => atR x0 x1 x2 x3 x4 x5 (i 1) (i 2) (i 3)
/-- Its imaginary part. -/
def blkI : Vec Ideal S1x8x128x512 .bf16 := fun i => atI x0 x1 x2 x3 x4 x5 (i 1) (i 2) (i 3)

theorem blkR_at (i : S1x8x128x512.Idx) (j : Fin 8) (c : Fin 128) (w : Fin 512) (h1 : (i 1).val = j.val) (h2 : (i 2).val = c.val)
    (h3 : (i 3).val = w.val) : blkR x0 x1 x2 x3 x4 x5 i = atR x0 x1 x2 x3 x4 x5 j c w := by
  have e1 : i 1 = j := Fin.ext h1
  have e2 : i 2 = c := Fin.ext h2
  have e3 : i 3 = w := Fin.ext h3
  unfold blkR
  rw [e1, e2, e3]
theorem blkI_at (i : S1x8x128x512.Idx) (j : Fin 8) (c : Fin 128) (w : Fin 512) (h1 : (i 1).val = j.val) (h2 : (i 2).val = c.val)
    (h3 : (i 3).val = w.val) : blkI x0 x1 x2 x3 x4 x5 i = atI x0 x1 x2 x3 x4 x5 j c w := by
  have e1 : i 1 = j := Fin.ext h1
  have e2 : i 2 = c := Fin.ext h2
  have e3 : i 3 = w := Fin.ext h3
  unfold blkI
  rw [e1, e2, e3]

/-- A load of row `n` of a block of tables. -/
theorem ldT (n : ℕ) (hn : n < 8) (x : Vec Ideal S8x256x128 .bf16) (h) (r : Fin 256) (c : Fin 128) :
    (View.ld x (Rect.unit (s := S8x256x128) ![n, 0, 0] S1x256x128.size h) : Vec Ideal S1x256x128 .bf16) (ix3 0 r c) = x (ix3 ⟨n, hn⟩ r c) := by
  refine congrArg x (funext fun a => Fin.ext ?_)
  fin_cases a
  · show n + 1 * 0 = n; omega
  · show 0 + 1 * r.val = r.val; omega
  · show 0 + 1 * c.val = c.val; omega
/-- A load of row `n` of a block of activations. -/
theorem ldA (n : ℕ) (hn : n < 8) (x : Vec Ideal S1x8x128x512 .bf16) (h) (c : Fin 128) (w : Fin 512) :
    (View.ld x (Rect.unit (s := S1x8x128x512) ![0, n, 0, 0] S1x1x128x512.size h) : Vec Ideal S1x1x128x512 .bf16) (ix4 0 0 c w)
      = x (ix4 0 ⟨n, hn⟩ c w) := by
  refine congrArg x (funext fun a => Fin.ext ?_)
  fin_cases a
  · rfl
  · show n + 1 * 0 = n; omega
  · show 0 + 1 * c.val = c.val; omega
  · show 0 + 1 * w.val = w.val; omega
/-- A load of row `n` of a block of the spectrum. -/
theorem ldK (n : ℕ) (hn : n < 8) (x : Vec Ideal S8x128x512 .f32) (h) (m : Fin 128) (w : Fin 512) :
    (View.ld x (Rect.unit (s := S8x128x512) ![n, 0, 0] S1x128x512.size h) : Vec Ideal S1x128x512 .f32) (ix3 0 m w) = x (ix3 ⟨n, hn⟩ m w) := by
  refine congrArg x (funext fun a => Fin.ext ?_)
  fin_cases a
  · show n + 1 * 0 = n; omega
  · show 0 + 1 * m.val = m.val; omega
  · show 0 + 1 * w.val = w.val; omega

/-- A step on the loads of row `j`, real part. -/
theorem loadR (j : Fin 8) (g : Vec Ideal S1x256x128 .bf16) (a b : Vec Ideal S1x1x128x512 .bf16) (kr ki : Vec Ideal S1x128x512 .f32)
    (h : Vec Ideal S1x256x128 .bf16) (hg : ∀ r c, g (ix3 0 r c) = x2 (ix3 j r c)) (ha : ∀ c w, a (ix4 0 0 c w) = x0 (ix4 0 j c w))
    (hb : ∀ c w, b (ix4 0 0 c w) = x1 (ix4 0 j c w)) (hr : ∀ c w, kr (ix3 0 c w) = x4 (ix3 j c w)) (hi : ∀ c w, ki (ix3 0 c w) = x5 (ix3 j c w))
    (hh : ∀ r c, h (ix3 0 r c) = x3 (ix3 j r c)) (p q : Fin 1) (c : Fin 128) (w : Fin 512) :
    stepR g a b kr ki h (ix4 p q c w) = atR x0 x1 x2 x3 x4 x5 j c w := by
  obtain rfl : p = 0 := Subsingleton.elim _ _
  obtain rfl : q = 0 := Subsingleton.elim _ _
  rw [stepR_apply]
  unfold Yr Yi atR bre
  simp only [hg, ha, hb, hr, hi, hh]
theorem rowR (n : ℕ) (hn : n < 8) (h0 h1 h2) (p q : Fin 1) (c : Fin 128) (w : Fin 512) :
    stepR (View.ld x2 (Rect.unit (s := S8x256x128) ![n, 0, 0] S1x256x128.size h0)) (View.ld x0 (Rect.unit (s := S1x8x128x512) ![0, n, 0, 0] S1x1x128x512.size h1))
      (View.ld x1 (Rect.unit (s := S1x8x128x512) ![0, n, 0, 0] S1x1x128x512.size h1)) (View.ld x4 (Rect.unit (s := S8x128x512) ![n, 0, 0] S1x128x512.size h2))
      (View.ld x5 (Rect.unit (s := S8x128x512) ![n, 0, 0] S1x128x512.size h2)) (View.ld x3 (Rect.unit (s := S8x256x128) ![n, 0, 0] S1x256x128.size h0))
      (ix4 p q c w) = atR x0 x1 x2 x3 x4 x5 ⟨n, hn⟩ c w :=
  loadR x0 x1 x2 x3 x4 x5 ⟨n, hn⟩ _ _ _ _ _ _ (ldT n hn x2 h0) (ldA n hn x0 h1) (ldA n hn x1 h1) (ldK n hn x4 h2) (ldK n hn x5 h2)
    (ldT n hn x3 h0) p q c w
/-- A step on the loads of row `j`, imaginary part. -/
theorem loadI (j : Fin 8) (g : Vec Ideal S1x256x128 .bf16) (a b : Vec Ideal S1x1x128x512 .bf16) (kr ki : Vec Ideal S1x128x512 .f32)
    (h : Vec Ideal S1x256x128 .bf16) (hg : ∀ r c, g (ix3 0 r c) = x2 (ix3 j r c)) (ha : ∀ c w, a (ix4 0 0 c w) = x0 (ix4 0 j c w))
    (hb : ∀ c w, b (ix4 0 0 c w) = x1 (ix4 0 j c w)) (hr : ∀ c w, kr (ix3 0 c w) = x4 (ix3 j c w)) (hi : ∀ c w, ki (ix3 0 c w) = x5 (ix3 j c w))
    (hh : ∀ r c, h (ix3 0 r c) = x3 (ix3 j r c)) (p q : Fin 1) (c : Fin 128) (w : Fin 512) :
    stepI g a b kr ki h (ix4 p q c w) = atI x0 x1 x2 x3 x4 x5 j c w := by
  obtain rfl : p = 0 := Subsingleton.elim _ _
  obtain rfl : q = 0 := Subsingleton.elim _ _
  rw [stepI_apply]
  unfold Yr Yi atI bim
  simp only [hg, ha, hb, hr, hi, hh]
theorem rowI (n : ℕ) (hn : n < 8) (h0 h1 h2) (p q : Fin 1) (c : Fin 128) (w : Fin 512) :
    stepI (View.ld x2 (Rect.unit (s := S8x256x128) ![n, 0, 0] S1x256x128.size h0)) (View.ld x0 (Rect.unit (s := S1x8x128x512) ![0, n, 0, 0] S1x1x128x512.size h1))
      (View.ld x1 (Rect.unit (s := S1x8x128x512) ![0, n, 0, 0] S1x1x128x512.size h1)) (View.ld x4 (Rect.unit (s := S8x128x512) ![n, 0, 0] S1x128x512.size h2))
      (View.ld x5 (Rect.unit (s := S8x128x512) ![n, 0, 0] S1x128x512.size h2)) (View.ld x3 (Rect.unit (s := S8x256x128) ![n, 0, 0] S1x256x128.size h0))
      (ix4 p q c w) = atI x0 x1 x2 x3 x4 x5 ⟨n, hn⟩ c w :=
  loadI x0 x1 x2 x3 x4 x5 ⟨n, hn⟩ _ _ _ _ _ _ (ldT n hn x2 h0) (ldA n hn x0 h1) (ldA n hn x1 h1) (ldK n hn x4 h2) (ldK n hn x5 h2)
    (ldT n hn x3 h0) p q c w

/-- The real output block. -/
theorem outR_apply (i : S1x8x128x512.Idx) : out1_6 (F := Ideal) x0 x1 x2 x3 x4 x5 i = blkR x0 x1 x2 x3 x4 x5 i := by
  unfold_out out1_6
  refine View.canon_apply_of_pieces (blkR x0 x1 x2 x3 x4 x5) _ (fun p hp y => ?_) i (cover1_6 _ _ _ _ _ _ _ _ i)
  simp only [List.mem_cons, List.mem_nil_iff, or_false] at hp
  rcases hp with rfl | rfl | rfl | rfl | rfl | rfl | rfl | rfl
  · idx_vars y
    exact (congrFun (r7 _ _ _ _ _ _) _).trans ((rowR x0 x1 x2 x3 x4 x5 7 (by decide) _ _ _ _ _ y2 y3).trans (blkR_at x0 x1 x2 x3 x4 x5 _ ⟨7, by decide⟩ y2 y3
      (by have h : y1.val < 1 := y1.isLt; show 7 + 1 * y1.val = 7; omega) (by show 0 + 1 * y2.val = y2.val; omega) (by show 0 + 1 * y3.val = y3.val; omega)).symm)
  · idx_vars y
    exact (congrFun (r6 _ _ _ _ _ _) _).trans ((rowR x0 x1 x2 x3 x4 x5 6 (by decide) _ _ _ _ _ y2 y3).trans (blkR_at x0 x1 x2 x3 x4 x5 _ ⟨6, by decide⟩ y2 y3
      (by have h : y1.val < 1 := y1.isLt; show 6 + 1 * y1.val = 6; omega) (by show 0 + 1 * y2.val = y2.val; omega) (by show 0 + 1 * y3.val = y3.val; omega)).symm)
  · idx_vars y
    exact (congrFun (r5 _ _ _ _ _ _) _).trans ((rowR x0 x1 x2 x3 x4 x5 5 (by decide) _ _ _ _ _ y2 y3).trans (blkR_at x0 x1 x2 x3 x4 x5 _ ⟨5, by decide⟩ y2 y3
      (by have h : y1.val < 1 := y1.isLt; show 5 + 1 * y1.val = 5; omega) (by show 0 + 1 * y2.val = y2.val; omega) (by show 0 + 1 * y3.val = y3.val; omega)).symm)
  · idx_vars y
    exact (congrFun (r4 _ _ _ _ _ _) _).trans ((rowR x0 x1 x2 x3 x4 x5 4 (by decide) _ _ _ _ _ y2 y3).trans (blkR_at x0 x1 x2 x3 x4 x5 _ ⟨4, by decide⟩ y2 y3
      (by have h : y1.val < 1 := y1.isLt; show 4 + 1 * y1.val = 4; omega) (by show 0 + 1 * y2.val = y2.val; omega) (by show 0 + 1 * y3.val = y3.val; omega)).symm)
  · idx_vars y
    exact (congrFun (r3 _ _ _ _ _ _) _).trans ((rowR x0 x1 x2 x3 x4 x5 3 (by decide) _ _ _ _ _ y2 y3).trans (blkR_at x0 x1 x2 x3 x4 x5 _ ⟨3, by decide⟩ y2 y3
      (by have h : y1.val < 1 := y1.isLt; show 3 + 1 * y1.val = 3; omega) (by show 0 + 1 * y2.val = y2.val; omega) (by show 0 + 1 * y3.val = y3.val; omega)).symm)
  · idx_vars y
    exact (congrFun (r2 _ _ _ _ _ _) _).trans ((rowR x0 x1 x2 x3 x4 x5 2 (by decide) _ _ _ _ _ y2 y3).trans (blkR_at x0 x1 x2 x3 x4 x5 _ ⟨2, by decide⟩ y2 y3
      (by have h : y1.val < 1 := y1.isLt; show 2 + 1 * y1.val = 2; omega) (by show 0 + 1 * y2.val = y2.val; omega) (by show 0 + 1 * y3.val = y3.val; omega)).symm)
  · idx_vars y
    exact (congrFun (r1 _ _ _ _ _ _) _).trans ((rowR x0 x1 x2 x3 x4 x5 1 (by decide) _ _ _ _ _ y2 y3).trans (blkR_at x0 x1 x2 x3 x4 x5 _ ⟨1, by decide⟩ y2 y3
      (by have h : y1.val < 1 := y1.isLt; show 1 + 1 * y1.val = 1; omega) (by show 0 + 1 * y2.val = y2.val; omega) (by show 0 + 1 * y3.val = y3.val; omega)).symm)
  · idx_vars y
    exact ((rowR x0 x1 x2 x3 x4 x5 0 (by decide) _ _ _ _ _ y2 y3).trans (blkR_at x0 x1 x2 x3 x4 x5 _ ⟨0, by decide⟩ y2 y3
      (by have h : y1.val < 1 := y1.isLt; show 0 + 1 * y1.val = 0; omega) (by show 0 + 1 * y2.val = y2.val; omega) (by show 0 + 1 * y3.val = y3.val; omega)).symm)

/-- The imaginary output block. -/
theorem outI_apply (i : S1x8x128x512.Idx) : out1_7 (F := Ideal) x0 x1 x2 x3 x4 x5 i = blkI x0 x1 x2 x3 x4 x5 i := by
  unfold_out out1_7
  refine View.canon_apply_of_pieces (blkI x0 x1 x2 x3 x4 x5) _ (fun p hp y => ?_) i (cover1_7 _ _ _ _ _ _ _ _ i)
  simp only [List.mem_cons, List.mem_nil_iff, or_false] at hp
  rcases hp with rfl | rfl | rfl | rfl | rfl | rfl | rfl | rfl
  · idx_vars y
    exact (congrFun (i7 _ _ _ _ _ _) _).trans ((rowI x0 x1 x2 x3 x4 x5 7 (by decide) _ _ _ _ _ y2 y3).trans (blkI_at x0 x1 x2 x3 x4 x5 _ ⟨7, by decide⟩ y2 y3
      (by have h : y1.val < 1 := y1.isLt; show 7 + 1 * y1.val = 7; omega) (by show 0 + 1 * y2.val = y2.val; omega) (by show 0 + 1 * y3.val = y3.val; omega)).symm)
  · idx_vars y
    exact (congrFun (i6 _ _ _ _ _ _) _).trans ((rowI x0 x1 x2 x3 x4 x5 6 (by decide) _ _ _ _ _ y2 y3).trans (blkI_at x0 x1 x2 x3 x4 x5 _ ⟨6, by decide⟩ y2 y3
      (by have h : y1.val < 1 := y1.isLt; show 6 + 1 * y1.val = 6; omega) (by show 0 + 1 * y2.val = y2.val; omega) (by show 0 + 1 * y3.val = y3.val; omega)).symm)
  · idx_vars y
    exact (congrFun (i5 _ _ _ _ _ _) _).trans ((rowI x0 x1 x2 x3 x4 x5 5 (by decide) _ _ _ _ _ y2 y3).trans (blkI_at x0 x1 x2 x3 x4 x5 _ ⟨5, by decide⟩ y2 y3
      (by have h : y1.val < 1 := y1.isLt; show 5 + 1 * y1.val = 5; omega) (by show 0 + 1 * y2.val = y2.val; omega) (by show 0 + 1 * y3.val = y3.val; omega)).symm)
  · idx_vars y
    exact (congrFun (i4 _ _ _ _ _ _) _).trans ((rowI x0 x1 x2 x3 x4 x5 4 (by decide) _ _ _ _ _ y2 y3).trans (blkI_at x0 x1 x2 x3 x4 x5 _ ⟨4, by decide⟩ y2 y3
      (by have h : y1.val < 1 := y1.isLt; show 4 + 1 * y1.val = 4; omega) (by show 0 + 1 * y2.val = y2.val; omega) (by show 0 + 1 * y3.val = y3.val; omega)).symm)
  · idx_vars y
    exact (congrFun (i3 _ _ _ _ _ _) _).trans ((rowI x0 x1 x2 x3 x4 x5 3 (by decide) _ _ _ _ _ y2 y3).trans (blkI_at x0 x1 x2 x3 x4 x5 _ ⟨3, by decide⟩ y2 y3
      (by have h : y1.val < 1 := y1.isLt; show 3 + 1 * y1.val = 3; omega) (by show 0 + 1 * y2.val = y2.val; omega) (by show 0 + 1 * y3.val = y3.val; omega)).symm)
  · idx_vars y
    exact (congrFun (i2 _ _ _ _ _ _) _).trans ((rowI x0 x1 x2 x3 x4 x5 2 (by decide) _ _ _ _ _ y2 y3).trans (blkI_at x0 x1 x2 x3 x4 x5 _ ⟨2, by decide⟩ y2 y3
      (by have h : y1.val < 1 := y1.isLt; show 2 + 1 * y1.val = 2; omega) (by show 0 + 1 * y2.val = y2.val; omega) (by show 0 + 1 * y3.val = y3.val; omega)).symm)
  · idx_vars y
    exact (congrFun (i1 _ _ _ _ _ _) _).trans ((rowI x0 x1 x2 x3 x4 x5 1 (by decide) _ _ _ _ _ y2 y3).trans (blkI_at x0 x1 x2 x3 x4 x5 _ ⟨1, by decide⟩ y2 y3
      (by have h : y1.val < 1 := y1.isLt; show 1 + 1 * y1.val = 1; omega) (by show 0 + 1 * y2.val = y2.val; omega) (by show 0 + 1 * y3.val = y3.val; omega)).symm)
  · idx_vars y
    exact ((rowI x0 x1 x2 x3 x4 x5 0 (by decide) _ _ _ _ _ y2 y3).trans (blkI_at x0 x1 x2 x3 x4 x5 _ ⟨0, by decide⟩ y2 y3
      (by have h : y1.val < 1 := y1.isLt; show 0 + 1 * y1.val = 0; omega) (by show 0 + 1 * y2.val = y2.val; omega) (by show 0 + 1 * y3.val = y3.val; omega)).symm)

end block
end Cert.Long
-- ==== Proof.Long.MidFinal.lean ====
/- The middle call of the long convolution: its blocks make up the two arrays. -/
module

public import proofs.«01_k».proof.Defs
public import proofs.«01_k».proof.Proof.Long.Body
public import Idealize.ShloMosaic.Lib.Pipeline.ValueKit

set_option maxRecDepth 16384
noncomputable section
@[expose] public section
namespace Cert.Long
open Cert.Kernel11Ideal Cert.Kernel11Ideal.Gen Idealize.ShloMosaic Idealize.ShloMosaic.TcCoe Idealize.SL.Sem
open Idealize.ShloMosaic.Pipeline (Dat)

section arr
variable (A A' : FVec Ideal S4x128x128x512 .bf16) (G H : FVec Ideal S128x256x128 .bf16) (K K' : FVec Ideal S128x128x512 .f32)
/-- Real part of entry `(b, k, c, w)`. -/
def midR (b : Fin 4) (k c : Fin 128) (w : Fin 512) : EReal :=
  bre (fun m c => G (ix3 k (lo m) c)) (fun m c => G (ix3 k (up m) c)) (fun c m => H (ix3 k (lo c) m)) (fun c m => H (ix3 k (up c) m))
    (fun c => A (ix4 b k c w)) (fun c => A' (ix4 b k c w)) (fun m => K (ix3 k m w)) (fun m => K' (ix3 k m w)) c
/-- Its imaginary part. -/
def midI (b : Fin 4) (k c : Fin 128) (w : Fin 512) : EReal :=
  bim (fun m c => G (ix3 k (lo m) c)) (fun m c => G (ix3 k (up m) c)) (fun c m => H (ix3 k (lo c) m)) (fun c m => H (ix3 k (up c) m))
    (fun c => A (ix4 b k c w)) (fun c => A' (ix4 b k c w)) (fun m => K (ix3 k m w)) (fun m => K' (ix3 k m w)) c
/-- The whole real array. -/
def midArrR : FVec Ideal S4x128x128x512 .bf16 := fun i => midR A A' G H K K' (i 0) (i 1) (i 2) (i 3)
/-- The whole imaginary array. -/
def midArrI : FVec Ideal S4x128x128x512 .bf16 := fun i => midI A A' G H K K' (i 0) (i 1) (i 2) (i 3)

theorem midArrR_at (i : S4x128x128x512.Idx) (b : Fin 4) (k c : Fin 128) (w : Fin 512) (h0 : (i 0).val = b.val) (h1 : (i 1).val = k.val)
    (h2 : (i 2).val = c.val) (h3 : (i 3).val = w.val) : midArrR A A' G H K K' i = midR A A' G H K K' b k c w := by
  have e0 : i 0 = b := Fin.ext h0
  have e1 : i 1 = k := Fin.ext h1
  have e2 : i 2 = c := Fin.ext h2
  have e3 : i 3 = w := Fin.ext h3
  unfold midArrR
  rw [e0, e1, e2, e3]
theorem midArrI_at (i : S4x128x128x512.Idx) (b : Fin 4) (k c : Fin 128) (w : Fin 512) (h0 : (i 0).val = b.val) (h1 : (i 1).val = k.val)
    (h2 : (i 2).val = c.val) (h3 : (i 3).val = w.val) : midArrI A A' G H K K' i = midI A A' G H K K' b k c w := by
  have e0 : i 0 = b := Fin.ext h0
  have e1 : i 1 = k := Fin.ext h1
  have e2 : i 2 = c := Fin.ext h2
  have e3 : i 3 = w := Fin.ext h3
  unfold midArrI
  rw [e0, e1, e2, e3]
end arr

/-- The blocks of every grid point. -/
theorem idx1 : ∀ t : Fin cfg1.N, win1_0.index t = ![t.val % 4, t.val / 4, 0, 0] ∧ win1_1.index t = ![t.val % 4, t.val / 4, 0, 0]
    ∧ win1_2.index t = ![t.val / 4, 0, 0] ∧ win1_3.index t = ![t.val / 4, 0, 0] ∧ win1_4.index t = ![t.val / 4, 0, 0]
    ∧ win1_5.index t = ![t.val / 4, 0, 0] ∧ win1_6.index t = ![t.val % 4, t.val / 4, 0, 0] ∧ win1_7.index t = ![t.val % 4, t.val / 4, 0, 0] :=
  (by decide +kernel : ∀ t : Fin grid1.N, _)

section final
variable (V : (c : Dev nD) → (b : Ref sig .tc) → Buf (Elt Ideal) ((c : Thread nD τ).loc b)) (c : Dev nD) (t : Fin cfg1.N)

/-- The batch entry of a grid point. -/
def b1 : Fin 4 := ⟨t.val % 4, by omega⟩
/-- Row `j` of its block among the groups of frequencies. -/
def k1 (j : Fin 8) : Fin 128 := ⟨t.val / 4 * 8 + j.val, by have : t.val < 64 := t.isLt; omega⟩

theorem read1_0 (j : Fin 8) (a : Fin 128) (w : Fin 512) : iblk1 V c 0 t (ix4 0 j a w) = V c main_v23 (ix4 (b1 t) (k1 t j) a w) := by
  unfold b1 k1
  blk_ext [iblk1, idx1 t]
theorem read1_1 (j : Fin 8) (a : Fin 128) (w : Fin 512) : iblk1 V c 1 t (ix4 0 j a w) = V c main_v24 (ix4 (b1 t) (k1 t j) a w) := by
  unfold b1 k1
  blk_ext [iblk1, idx1 t]
theorem read1_2 (j : Fin 8) (r : Fin 256) (a : Fin 128) : iblk1 V c 2 t (ix3 j r a) = V c main_v6 (ix3 (k1 t j) r a) := by
  unfold k1
  blk_ext [iblk1, idx1 t]
theorem read1_3 (j : Fin 8) (r : Fin 256) (a : Fin 128) : iblk1 V c 3 t (ix3 j r a) = V c main_v10 (ix3 (k1 t j) r a) := by
  unfold k1
  blk_ext [iblk1, idx1 t]
theorem read1_4 (j : Fin 8) (a : Fin 128) (w : Fin 512) : iblk1 V c 4 t (ix3 j a w) = V c main_arg1 (ix3 (k1 t j) a w) := by
  unfold k1
  blk_ext [iblk1, idx1 t]
theorem read1_5 (j : Fin 8) (a : Fin 128) (w : Fin 512) : iblk1 V c 5 t (ix3 j a w) = V c main_arg2 (ix3 (k1 t j) a w) := by
  unfold k1
  blk_ext [iblk1, idx1 t]

theorem blockR (i : Fin 1) (j : Fin 8) (a : Fin 128) (w : Fin 512) :
    out1_6 (F := Ideal) (iblk1 V c 0 t) (iblk1 V c 1 t) (iblk1 V c 2 t) (iblk1 V c 3 t) (iblk1 V c 4 t) (iblk1 V c 5 t) (ix4 i j a w)
      = midR (V c main_v23) (V c main_v24) (V c main_v6) (V c main_v10) (V c main_arg1) (V c main_arg2) (b1 t) (k1 t j) a w := by
  refine (outR_apply _ _ _ _ _ _ (ix4 i j a w)).trans ?_
  show atR (iblk1 V c 0 t) (iblk1 V c 1 t) (iblk1 V c 2 t) (iblk1 V c 3 t) (iblk1 V c 4 t) (iblk1 V c 5 t) j a w = _
  unfold atR midR
  simp only [read1_0, read1_1, read1_2, read1_3, read1_4, read1_5]
theorem blockI (i : Fin 1) (j : Fin 8) (a : Fin 128) (w : Fin 512) :
    out1_7 (F := Ideal) (iblk1 V c 0 t) (iblk1 V c 1 t) (iblk1 V c 2 t) (iblk1 V c 3 t) (iblk1 V c 4 t) (iblk1 V c 5 t) (ix4 i j a w)
      = midI (V c main_v23) (V c main_v24) (V c main_v6) (V c main_v10) (V c main_arg1) (V c main_arg2) (b1 t) (k1 t j) a w := by
  refine (outI_apply _ _ _ _ _ _ (ix4 i j a w)).trans ?_
  show atI (iblk1 V c 0 t) (iblk1 V c 1 t) (iblk1 V c 2 t) (iblk1 V c 3 t) (iblk1 V c 4 t) (iblk1 V c 5 t) j a w = _
  unfold atI midI
  simp only [read1_0, read1_1, read1_2, read1_3, read1_4, read1_5]

/-- The real array the middle call leaves. -/
theorem final1R : (dat1 V c).arrAt 6 cfg1.N
    = midArrR (V c main_v23) (V c main_v24) (V c main_v6) (V c main_v10) (V c main_arg1) (V c main_arg2) := by
  refine (dat1 V c).arrAt_eq_of_covers 6 _ (by decide +kernel) fun t hf y => ?_
  blk_simp
  rw [after1_6]
  idx_vars y
  refine (blockR V c t _ y1 y2 y3).trans (midArrR_at _ _ _ _ _ _ _ _ _ _ _ ?_ ?_ ?_ ?_).symm
  · blk_simp [idx1 t]
    rfl
  · blk_simp [idx1 t]
    rfl
  · blk_simp [idx1 t]
  · blk_simp [idx1 t]
/-- The imaginary array. -/
theorem final1I : (dat1 V c).arrAt 7 cfg1.N
    = midArrI (V c main_v23) (V c main_v24) (V c main_v6) (V c main_v10) (V c main_arg1) (V c main_arg2) := by
  refine (dat1 V c).arrAt_eq_of_covers 7 _ (by decide +kernel) fun t hf y => ?_
  blk_simp
  rw [after1_7]
  idx_vars y
  refine (blockI V c t _ y1 y2 y3).trans (midArrI_at _ _ _ _ _ _ _ _ _ _ _ ?_ ?_ ?_ ?_).symm
  · blk_simp [idx1 t]
    rfl
  · blk_simp [idx1 t]
    rfl
  · blk_simp [idx1 t]
  · blk_simp [idx1 t]

end final
end Cert.Long
-- ==== Proof.Long.Out.lean ====
/- The last call of the long convolution: the transform back, the skip and the gate. -/
module

public import proofs.«01_k».proof.Defs
public import proofs.«01_k».proof.Proof.Gen.Kernel11Ideal.Frame
public import proofs.«01_k».proof.Proof.Long.Math
public import Idealize.ShloMosaic.Lib.Pipeline.ValueKit

set_option maxRecDepth 16384
noncomputable section
@[expose] public section
namespace Cert.Long
open Cert.Kernel11Ideal Cert.Kernel11Ideal.Gen Idealize.ShloMosaic Idealize.ShloMosaic.TcCoe Idealize.SL.Sem
open Idealize.ShloMosaic.Pipeline (Dat)

/-- Entry `(b, r, l)` of the result, from the two arrays of the middle call, the two tables, the activations and the
    skip row (which repeats every 4096 lanes). -/
def last (B B' : FVec Ideal S4x128x65536 .bf16) (T T' : FVec Ideal S64x128 .bf16) (U : FVec Ideal S3x4x64x65536 .f32)
    (s : FVec Ideal S1x4096 .f32) (b : Fin 4) (r : Fin 64) (l : Fin 65536) : EReal :=
  U (ix4 1 b r l) * ((dotp (fun k : Fin 128 => T (ix2 r k)) (fun k => B (ix3 b k l)) - dotp (fun k : Fin 128 => T' (ix2 r k)) (fun k => B' (ix3 b k l)))
    + U (ix4 0 b r l) * s (ix2 0 ⟨l.val % 4096, by omega⟩))
/-- The whole result. -/
def lastArr (B B' : FVec Ideal S4x128x65536 .bf16) (T T' : FVec Ideal S64x128 .bf16) (U : FVec Ideal S3x4x64x65536 .f32)
    (s : FVec Ideal S1x4096 .f32) : FVec Ideal S4x64x65536 .f32 := fun i => last B B' T T' U s (i 0) (i 1) (i 2)

/-- The blocks of every grid point. -/
theorem idx2 : ∀ t : Fin cfg2.N, win2_0.index t = ![t.val / 16, 0, t.val % 16] ∧ win2_1.index t = ![t.val / 16, 0, t.val % 16]
    ∧ win2_2.index t = ![0, 0] ∧ win2_3.index t = ![0, 0] ∧ win2_4.index t = ![0, t.val / 16, 0, t.val % 16]
    ∧ win2_5.index t = ![1, t.val / 16, 0, t.val % 16] ∧ win2_6.index t = ![0, 0] ∧ win2_7.index t = ![t.val / 16, 0, t.val % 16] :=
  (by decide +kernel : ∀ t : Fin grid2.N, _)

theorem tile2_apply (e : Vec Ideal S64x128 .bf16) (p : Vec Ideal S1x128x4096 .bf16) (e' : Vec Ideal S64x128 .bf16) (p' : Vec Ideal S1x128x4096 .bf16)
    (g x : Vec Ideal S1x1x64x4096 .f32) (s : Vec Ideal S1x4096 .f32) (i : Fin 1) (r : Fin 64) (w : Fin 4096) :
    k2_pay1 (F := Ideal) e p e' p' g x s (ix3 i r w)
      = g (ix4 0 0 r w) * ((dotp (fun k : Fin 128 => e (ix2 r k)) (fun k => p (ix3 0 k w)) - dotp (fun k : Fin 128 => e' (ix2 r k)) (fun k => p' (ix3 0 k w)))
        + x (ix4 0 0 r w) * s (ix2 0 w)) := by
  obtain rfl : i = 0 := Subsingleton.elim _ _
  pointwise [k2_pay1]
  rfl

section final
variable (V : (c : Dev nD) → (b : Ref sig .tc) → Buf (Elt Ideal) ((c : Thread nD τ).loc b)) (c : Dev nD) (t : Fin cfg2.N)

/-- The batch entry of a grid point. -/
def b2 : Fin 4 := ⟨t.val / 16, by have : t.val < 64 := t.isLt; omega⟩
/-- Lane `s` of its block among all lanes. -/
def l2 (s : Fin 4096) : Fin 65536 := ⟨t.val % 16 * 4096 + s.val, by omega⟩

theorem read2_0 (k : Fin 128) (s : Fin 4096) : iblk2 V c 0 t (ix3 0 k s) = V c main_v30 (ix3 (b2 t) k (l2 t s)) := by
  unfold b2 l2
  blk_ext [iblk2, idx2 t]
theorem read2_1 (k : Fin 128) (s : Fin 4096) : iblk2 V c 1 t (ix3 0 k s) = V c main_v31 (ix3 (b2 t) k (l2 t s)) := by
  unfold b2 l2
  blk_ext [iblk2, idx2 t]
theorem read2_2 (r : Fin 64) (k : Fin 128) : iblk2 V c 2 t (ix2 r k) = V c main_v15 (ix2 r k) := by
  blk_ext [iblk2, idx2 t]
theorem read2_3 (r : Fin 64) (k : Fin 128) : iblk2 V c 3 t (ix2 r k) = V c main_v20 (ix2 r k) := by
  blk_ext [iblk2, idx2 t]
theorem read2_4 (r : Fin 64) (s : Fin 4096) : iblk2 V c 4 t (ix4 0 0 r s) = V c main_v21 (ix4 0 (b2 t) r (l2 t s)) := by
  unfold b2 l2
  blk_ext [iblk2, idx2 t]
theorem read2_5 (r : Fin 64) (s : Fin 4096) : iblk2 V c 5 t (ix4 0 0 r s) = V c main_v21 (ix4 1 (b2 t) r (l2 t s)) := by
  unfold b2 l2
  blk_ext [iblk2, idx2 t]
theorem read2_6 (s : Fin 4096) : iblk2 V c 6 t (ix2 0 s) = V c main_v29 (ix2 0 s) := by
  blk_ext [iblk2, idx2 t]

theorem lastArr_at (B B' : FVec Ideal S4x128x65536 .bf16) (T T' : FVec Ideal S64x128 .bf16) (U : FVec Ideal S3x4x64x65536 .f32)
    (s : FVec Ideal S1x4096 .f32) (i : S4x64x65536.Idx) (b : Fin 4) (r : Fin 64) (l : Fin 65536) (h0 : (i 0).val = b.val)
    (h1 : (i 1).val = r.val) (h2 : (i 2).val = l.val) : lastArr B B' T T' U s i = last B B' T T' U s b r l := by
  have e0 : i 0 = b := Fin.ext h0
  have e1 : i 1 = r := Fin.ext h1
  have e2 : i 2 = l := Fin.ext h2
  unfold lastArr
  rw [e0, e1, e2]

theorem skip_lane (s : Fin 4096) : (⟨(l2 t s).val % 4096, by omega⟩ : Fin 4096) = s :=
  Fin.ext (by show (t.val % 16 * 4096 + s.val) % 4096 = s.val; omega)

/-- The array the last call leaves. -/
theorem final2 : (dat2 V c).arrAt 7 cfg2.N
    = lastArr (V c main_v30) (V c main_v31) (V c main_v15) (V c main_v20) (V c main_v21) (V c main_v29) := by
  refine (dat2 V c).arrAt_eq_of_covers 7 _ (by decide +kernel) fun t hf y => ?_
  blk_simp
  rw [after2_7]
  frame_out
  idx_vars y
  refine Eq.trans ((tile2_apply _ _ _ _ _ _ _ _ y1 y2).trans ?_) (lastArr_at _ _ _ _ _ _ _ (b2 t) y1 (l2 t y2) ?_ ?_ ?_).symm
  · unfold last
    simp only [read2_0, read2_1, read2_2, read2_3, read2_4, read2_5, read2_6, skip_lane]
  · blk_simp [idx2 t]
    rfl
  · blk_simp [idx2 t]
  · blk_simp [idx2 t]
    rfl

end final
end Cert.Long
-- ==== Proof.Long.Tables.lean ====
/- The tables and the layout changes between the calls, entry by entry. -/
module

public import proofs.«01_k».proof.Defs
public import proofs.«01_k».proof.Proof.Gen.Kernel11Ideal.Frame
public import proofs.«01_k».proof.Proof.Long.Math
public import Idealize.ShloMosaic.Lib.Pipeline.ValueKit

set_option maxRecDepth 16384
noncomputable section
@[expose] public section
namespace Cert.Long
open Cert.Kernel11Ideal Cert.Kernel11Ideal.Gen Idealize.ShloMosaic Idealize.ShloMosaic.TcCoe Idealize.SL.Sem

/-- The negation of an entry. -/
def neg (x : Ideal .f32) : Ideal .f32 := FloatOps.hostNegf x
/-- An entry divided by the length 16384 of the transform. -/
def scaled (x : Ideal .f32) : Ideal .f32 := FloatOps.hostDivf x (FloatOps.ofBits .f32 0x46800000#32)
/-- Column `r` of the first half of the columns. -/
def low (r : Fin 64) : Fin 128 := ⟨r.val, by omega⟩
/-- Row of part `p` of the activations at batch entry `b`, group `r`, place `c`. -/
def row (b : Fin 4) (r : Fin 64) (c : Fin 128) : Fin 32768 := ⟨b.val * 8192 + r.val * 128 + c.val, by omega⟩
/-- Lane `w` of place `c`. -/
def fl (c : Fin 128) (w : Fin 512) : Fin 65536 := ⟨c.val * 512 + w.val, by omega⟩

section tables
variable (C S : FVec Ideal S128x128 .f32) (G H : FVec Ideal S128x128x128 .f32)

/-- The stacked table of the first stage. -/
def tabF : FVec Ideal S256x64 .bf16 :=
  truncf .bf16 (concatenate S256x64 0 [⟨S128x64, extractStridedSlice S128x64 ![0, 0] C slices_S128x128_S128x64_0_0⟩,
    ⟨S128x64, Host.negf (extractStridedSlice S128x64 ![0, 0] S slices_S128x128_S128x64_0_0)⟩] concatenates_S128x64_S128x64_S256x64_d0) bitsLt_bf16_f32
theorem tabF_lo (m : Fin 128) (r : Fin 64) : tabF C S (ix2 (lo m) r) = C (ix2 m (low r)) := by
  unfold tabF
  pointwise []
  rw [dif_pos (show (lo m).val < 128 from m.isLt)]
  rfl
theorem tabF_up (m : Fin 128) (r : Fin 64) : tabF C S (ix2 (up m) r) = neg (S (ix2 m (low r))) := by
  unfold tabF
  pointwise []
  rw [dif_neg (show ¬ (up m).val < 128 from by show ¬ 128 + m.val < 128; omega)]
  refine congrArg neg (congrArg S (funext fun a => Fin.ext ?_))
  fin_cases a
  · show 128 + m.val - 128 = m.val; omega
  · rfl

/-- The stacked table of the middle call's transform. -/
def tabG : FVec Ideal S128x256x128 .bf16 :=
  truncf .bf16 (concatenate S128x256x128 1 [⟨S128x128x128, G⟩, ⟨S128x128x128, H⟩] concatenates_S128x128x128_S128x128x128_S128x256x128_d1) bitsLt_bf16_f32
theorem tabG_lo (k m c : Fin 128) : tabG G H (ix3 k (lo m) c) = G (ix3 k m c) := by
  unfold tabG
  pointwise []
  rw [dif_pos (show (lo m).val < 128 from m.isLt)]
  rfl
theorem tabG_up (k m c : Fin 128) : tabG G H (ix3 k (up m) c) = H (ix3 k m c) := by
  unfold tabG
  pointwise []
  rw [dif_neg (show ¬ (up m).val < 128 from by show ¬ 128 + m.val < 128; omega)]
  refine congrArg H (funext fun a => Fin.ext ?_)
  fin_cases a
  · rfl
  · show 128 + m.val - 128 = m.val; omega
  · rfl

/-- The transposed table. -/
def flip (G : FVec Ideal S128x128x128 .f32) : FVec Ideal S128x128x128 .f32 :=
  transpose S128x128x128 [0, 2, 1] G transposes_S128x128x128_S128x128x128_0_2_1
theorem flip_apply (G : FVec Ideal S128x128x128 .f32) (k m c : Fin 128) : flip G (ix3 k m c) = G (ix3 k c m) := by
  unfold flip
  pointwise []

/-- The table of the last call. -/
def tabE : FVec Ideal S64x128 .bf16 :=
  truncf .bf16 (Host.divf (extractStridedSlice S64x128 ![0, 0] (transpose S128x128 [1, 0] C transposes_S128x128_S128x128_1_0) slices_S128x128_S64x128_0_0)
    (broadcastInDim S64x128 ![] bcast_S_S64x128 (constant S_ .f32 0x46800000#32))) bitsLt_bf16_f32
theorem tabE_apply (r : Fin 64) (k : Fin 128) : tabE C (ix2 r k) = scaled (C (ix2 k (low r))) := by
  unfold tabE
  pointwise []
  rfl

end tables

/-- The activations by part, batch entry, group and lane. -/
theorem acts (u : FVec Ideal S3x32768x512 .f32) (p : Fin 3) (b : Fin 4) (r : Fin 64) (c : Fin 128) (w : Fin 512) :
    shapeCast S3x4x64x65536 u shapeCasts_S3x32768x512_S3x4x64x65536 (ix4 p b r (fl c w)) = u (ix3 p (row b r c) w) :=
  shapeCast_apply _ shapeCasts_S3x32768x512_S3x4x64x65536 (ix4 p b r (fl c w)) (ix3 p (row b r c) w) (by
    rewrite [Shape.rowMajor_val_four, Shape.rowMajor_val_three]
    show (p.val * 32768 + (b.val * 8192 + r.val * 128 + c.val)) * 512 + w.val = ((p.val * 4 + b.val) * 64 + r.val) * 65536 + (c.val * 512 + w.val)
    omega)
theorem wide (x : FVec Ideal S4x128x65536 .bf16) (b : Fin 4) (k c : Fin 128) (w : Fin 512) :
    shapeCast S4x128x128x512 x shapeCasts_S4x128x65536_S4x128x128x512 (ix4 b k c w) = x (ix3 b k (fl c w)) :=
  shapeCast_apply _ shapeCasts_S4x128x65536_S4x128x128x512 (ix4 b k c w) (ix3 b k (fl c w)) (by
    rewrite [Shape.rowMajor_val_four, Shape.rowMajor_val_three]
    show (b.val * 128 + k.val) * 65536 + (c.val * 512 + w.val) = ((b.val * 128 + k.val) * 128 + c.val) * 512 + w.val
    omega)
theorem narrow (x : FVec Ideal S4x128x128x512 .bf16) (b : Fin 4) (k c : Fin 128) (w : Fin 512) :
    shapeCast S4x128x65536 x shapeCasts_S4x128x128x512_S4x128x65536 (ix3 b k (fl c w)) = x (ix4 b k c w) :=
  shapeCast_apply _ shapeCasts_S4x128x128x512_S4x128x65536 (ix3 b k (fl c w)) (ix4 b k c w) (by
    rewrite [Shape.rowMajor_val_four, Shape.rowMajor_val_three]
    show ((b.val * 128 + k.val) * 128 + c.val) * 512 + w.val = (b.val * 128 + k.val) * 65536 + (c.val * 512 + w.val)
    omega)

/-- The skip row of the last call: the 512 weights eight times. -/
def skipRow (s : FVec Ideal S512 .f32) : FVec Ideal S1x4096 .f32 :=
  shapeCast S1x4096 (shapeCast S4096 (broadcastInDim S8x512 ![0, 1] bcast_S1x512_S8x512_0_1 (shapeCast S1x512 s shapeCasts_S512_S1x512)) shapeCasts_S8x512_S4096)
    shapeCasts_S4096_S1x4096
theorem skip_at (s : FVec Ideal S512 .f32) (j : Fin 4096) : skipRow s (ix2 0 j) = s (ix1 ⟨j.val % 512, by omega⟩) := by
  unfold skipRow
  refine (shapeCast_apply _ shapeCasts_S4096_S1x4096 (ix2 0 j) (ix1 j) (by
    rewrite [Shape.rowMajor_val_one, Shape.rowMajor_val_two]
    show j.val = 0 * 4096 + j.val
    omega)).trans ?_
  refine (shapeCast_apply _ shapeCasts_S8x512_S4096 (ix1 j) (ix2 (⟨j.val / 512, by omega⟩ : Fin 8) (⟨j.val % 512, by omega⟩ : Fin 512)) (by
    rewrite [Shape.rowMajor_val_one, Shape.rowMajor_val_two]
    show j.val / 512 * 512 + j.val % 512 = j.val
    omega)).trans ?_
  pointwise []
theorem skip_lane_at (s : FVec Ideal S512 .f32) (c : Fin 128) (w : Fin 512) :
    skipRow s (ix2 0 ⟨(fl c w).val % 4096, by omega⟩) = s (ix1 w) := by
  refine (skip_at s _).trans (congrArg (fun k => s (ix1 k)) (Fin.ext ?_))
  show (c.val * 512 + w.val) % 4096 % 512 = w.val
  omega

end Cert.Long
-- ==== Proof.Long.Spec.lean ====
/- The long convolution's result, entry by entry, from the program's arguments. -/
module

public import proofs.«01_k».proof.Defs
public import proofs.«01_k».proof.Proof.Long.Tables

set_option maxRecDepth 16384
noncomputable section
@[expose] public section
namespace Cert.Long
open Cert.Kernel11Ideal Cert.Kernel11Ideal.Gen Idealize.ShloMosaic Idealize.ShloMosaic.TcCoe Idealize.SL.Sem

variable (u : FVec Ideal S3x32768x512 .f32) (K K' : FVec Ideal S128x128x512 .f32) (s : FVec Ideal S512 .f32)
  (C S : FVec Ideal S128x128 .f32) (G H : FVec Ideal S128x128x128 .f32)

/-- Part `p` of the activations at batch entry `b`, group `r`, place `c`, lane `w`. -/
def act (p : Fin 3) (b : Fin 4) (r : Fin 64) (c : Fin 128) (w : Fin 512) : EReal := u (ix3 p (row b r c) w)
/-- The first stage's real part. -/
def aR (b : Fin 4) (k c : Fin 128) (w : Fin 512) : EReal := dotp (fun r : Fin 64 => C (ix2 k (low r))) (fun r => act u 0 b r c w)
/-- Its imaginary part. -/
def aI (b : Fin 4) (k c : Fin 128) (w : Fin 512) : EReal := dotp (fun r : Fin 64 => neg (S (ix2 k (low r)))) (fun r => act u 0 b r c w)
/-- The middle part's real part. -/
def sR (b : Fin 4) (k c : Fin 128) (w : Fin 512) : EReal :=
  bre (fun m c => G (ix3 k m c)) (fun m c => H (ix3 k m c)) (fun c m => G (ix3 k m c)) (fun c m => H (ix3 k m c))
    (fun c => aR u C b k c w) (fun c => aI u S b k c w) (fun m => K (ix3 k m w)) (fun m => K' (ix3 k m w)) c
/-- Its imaginary part. -/
def sI (b : Fin 4) (k c : Fin 128) (w : Fin 512) : EReal :=
  bim (fun m c => G (ix3 k m c)) (fun m c => H (ix3 k m c)) (fun c m => G (ix3 k m c)) (fun c m => H (ix3 k m c))
    (fun c => aR u C b k c w) (fun c => aI u S b k c w) (fun m => K (ix3 k m w)) (fun m => K' (ix3 k m w)) c
/-- The result. -/
def res (b : Fin 4) (r : Fin 64) (c : Fin 128) (w : Fin 512) : EReal :=
  act u 1 b r c w * ((dotp (fun k : Fin 128 => scaled (C (ix2 k (low r)))) (fun k => sR u K K' C S G H b k c w)
      - dotp (fun k : Fin 128 => scaled (S (ix2 k (low r)))) (fun k => sI u K K' C S G H b k c w)) + act u 0 b r c w * s (ix1 w))

/-- The place of a lane of the flat result. -/
def pl (l : Fin 65536) : Fin 128 := ⟨l.val / 512, by omega⟩
/-- Its lane within the place. -/
def ln (l : Fin 65536) : Fin 512 := ⟨l.val % 512, by omega⟩
/-- The whole result. -/
def resArr : FVec Ideal S4x64x65536 .f32 := fun i => res u K K' s C S G H (i 0) (i 1) (pl (i 2)) (ln (i 2))

theorem fl_pl (l : Fin 65536) : fl (pl l) (ln l) = l := Fin.ext (by show l.val / 512 * 512 + l.val % 512 = l.val; omega)

end Cert.Long
-- ==== Proof.Long.Final.lean ====
/- The three calls together: what the program leaves, from its arguments. -/
module

public import proofs.«01_k».proof.Defs
public import proofs.«01_k».proof.Proof.Long.Stage
public import proofs.«01_k».proof.Proof.Long.MidFinal
public import proofs.«01_k».proof.Proof.Long.Out
public import proofs.«01_k».proof.Proof.Long.Spec
public import Idealize.ShloMosaic.Lib.StableHlo.RunRead

set_option maxRecDepth 16384
noncomputable section
@[expose] public section
namespace Cert.Long
open Cert.Kernel11Ideal Cert.Kernel11Ideal.Gen Idealize.ShloMosaic Idealize.ShloMosaic.TcCoe Idealize.SL.Sem
open Idealize.ShloMosaic.Pipeline (Dat)

section join
variable (u : FVec Ideal S3x32768x512 .f32) (K K' : FVec Ideal S128x128x512 .f32) (s : FVec Ideal S512 .f32)
  (C S : FVec Ideal S128x128 .f32) (G H : FVec Ideal S128x128x128 .f32)

/-- The activations as the calls find them. -/
def acts4 : FVec Ideal S3x4x64x65536 .f32 := shapeCast S3x4x64x65536 u shapeCasts_S3x32768x512_S3x4x64x65536
/-- The first stage's arrays as the middle call finds them. -/
def gR : FVec Ideal S4x128x128x512 .bf16 := shapeCast S4x128x128x512 (stageR (tabF C S) (acts4 u)) shapeCasts_S4x128x65536_S4x128x128x512
def gI : FVec Ideal S4x128x128x512 .bf16 := shapeCast S4x128x128x512 (stageI (tabF C S) (acts4 u)) shapeCasts_S4x128x65536_S4x128x128x512
/-- The middle part's arrays as the last call finds them. -/
def hR : FVec Ideal S4x128x65536 .bf16 :=
  shapeCast S4x128x65536 (midArrR (gR u C S) (gI u C S) (tabG G H) (tabG (flip G) (flip H)) K K') shapeCasts_S4x128x128x512_S4x128x65536
def hI : FVec Ideal S4x128x65536 .bf16 :=
  shapeCast S4x128x65536 (midArrI (gR u C S) (gI u C S) (tabG G H) (tabG (flip G) (flip H)) K K') shapeCasts_S4x128x128x512_S4x128x65536

theorem acts4_at (p : Fin 3) (b : Fin 4) (r : Fin 64) (c : Fin 128) (w : Fin 512) : acts4 u (ix4 p b r (fl c w)) = act u p b r c w :=
  acts u p b r c w
theorem gR_at (b : Fin 4) (k c : Fin 128) (w : Fin 512) : gR u C S (ix4 b k c w) = aR u C b k c w := by
  refine (wide _ b k c w).trans ?_
  show stage (tabF C S) (acts4 u) (lo k) b (fl c w) = _
  unfold stage aR
  simp only [tabF_lo, acts4_at]
theorem gI_at (b : Fin 4) (k c : Fin 128) (w : Fin 512) : gI u C S (ix4 b k c w) = aI u S b k c w := by
  refine (wide _ b k c w).trans ?_
  show stage (tabF C S) (acts4 u) (up k) b (fl c w) = _
  unfold stage aI
  simp only [tabF_up, acts4_at]
theorem hR_at (b : Fin 4) (k c : Fin 128) (w : Fin 512) : hR u K K' C S G H (ix3 b k (fl c w)) = sR u K K' C S G H b k c w := by
  refine (narrow _ b k c w).trans ?_
  show midR (gR u C S) (gI u C S) (tabG G H) (tabG (flip G) (flip H)) K K' b k c w = _
  unfold midR sR
  simp only [gR_at, gI_at, tabG_lo, tabG_up, flip_apply]
theorem hI_at (b : Fin 4) (k c : Fin 128) (w : Fin 512) : hI u K K' C S G H (ix3 b k (fl c w)) = sI u K K' C S G H b k c w := by
  refine (narrow _ b k c w).trans ?_
  show midI (gR u C S) (gI u C S) (tabG G H) (tabG (flip G) (flip H)) K K' b k c w = _
  unfold midI sI
  simp only [gR_at, gI_at, tabG_lo, tabG_up, flip_apply]

theorem last_eq : lastArr (hR u K K' C S G H) (hI u K K' C S G H) (tabE C) (tabE S) (acts4 u) (skipRow s) = resArr u K K' s C S G H := by
  funext i
  idx_vars i
  show last (hR u K K' C S G H) (hI u K K' C S G H) (tabE C) (tabE S) (acts4 u) (skipRow s) i0 i1 i2 = res u K K' s C S G H i0 i1 (pl i2) (ln i2)
  have h : ∀ (c : Fin 128) (w : Fin 512), last (hR u K K' C S G H) (hI u K K' C S G H) (tabE C) (tabE S) (acts4 u) (skipRow s) i0 i1 (fl c w)
      = res u K K' s C S G H i0 i1 c w := fun c w => by
    unfold last res
    simp only [hR_at, hI_at, acts4_at, tabE_apply, skip_lane_at]
  have e := h (pl i2) (ln i2)
  rw [fl_pl] at e
  exact e

end join

section run
variable (m : (ℓ : Loc nD τ sig) → Buf (Elt Ideal) ℓ) (ρ : Dev nD → PrngReg) (c : Dev nD)

theorem V1_v4 : V1 m ρ c main_v4 = tabF (m ((c : Thread nD τ).loc main_arg4)) (m ((c : Thread nD τ).loc main_arg5)) := by
  after_reads_simp
  rfl
theorem V1_v6 : V1 m ρ c main_v6 = tabG (m ((c : Thread nD τ).loc main_arg6)) (m ((c : Thread nD τ).loc main_arg7)) := by
  after_reads_simp
  rfl
theorem V1_v10 : V1 m ρ c main_v10 = tabG (flip (m ((c : Thread nD τ).loc main_arg6))) (flip (m ((c : Thread nD τ).loc main_arg7))) := by
  after_reads_simp
  rfl
theorem V1_v15 : V1 m ρ c main_v15 = tabE (m ((c : Thread nD τ).loc main_arg4)) := by
  after_reads_simp
  rfl
theorem V1_v20 : V1 m ρ c main_v20 = tabE (m ((c : Thread nD τ).loc main_arg5)) := by
  after_reads_simp
  rfl
theorem V1_v21 : V1 m ρ c main_v21 = acts4 (m ((c : Thread nD τ).loc main_arg0)) := by
  after_reads_simp
  rfl

/-- What the middle call finds. -/
theorem V3_v23 : V3 m ρ c main_v23 = gR (m ((c : Thread nD τ).loc main_arg0)) (m ((c : Thread nD τ).loc main_arg4)) (m ((c : Thread nD τ).loc main_arg5)) := by
  have e : V3 m ρ c main_v23 = shapeCast S4x128x128x512 (W2 m ρ c (Proc.devRef .tc main_v22_0)) shapeCasts_S4x128x65536_S4x128x128x512 := by
    after_reads_simp
    rfl
  rw [e, show W2 m ρ c (Proc.devRef .tc main_v22_0) = (dat0 (V1 m ρ) c).arrAt 2 cfg0.N from W2_arr m ρ c 2, final0R, V1_v4, V1_v21]
  rfl
theorem V3_v24 : V3 m ρ c main_v24 = gI (m ((c : Thread nD τ).loc main_arg0)) (m ((c : Thread nD τ).loc main_arg4)) (m ((c : Thread nD τ).loc main_arg5)) := by
  have e : V3 m ρ c main_v24 = shapeCast S4x128x128x512 (W2 m ρ c (Proc.devRef .tc main_v22_1)) shapeCasts_S4x128x65536_S4x128x128x512 := by
    after_reads_simp
    rfl
  rw [e, show W2 m ρ c (Proc.devRef .tc main_v22_1) = (dat0 (V1 m ρ) c).arrAt 3 cfg0.N from W2_arr m ρ c 3, final0I, V1_v4, V1_v21]
  rfl
theorem V3_v6 : V3 m ρ c main_v6 = tabG (m ((c : Thread nD τ).loc main_arg6)) (m ((c : Thread nD τ).loc main_arg7)) :=
  (W3_of m ρ c main_v6 (by decide)).trans ((W2_of m ρ c main_v6 (by decide)).trans (V1_v6 m ρ c))
theorem V3_v10 : V3 m ρ c main_v10 = tabG (flip (m ((c : Thread nD τ).loc main_arg6))) (flip (m ((c : Thread nD τ).loc main_arg7))) :=
  (W3_of m ρ c main_v10 (by decide)).trans ((W2_of m ρ c main_v10 (by decide)).trans (V1_v10 m ρ c))
theorem V3_arg1 : V3 m ρ c main_arg1 = m ((c : Thread nD τ).loc main_arg1) := W3_args m ρ c main_arg1 (by decide)
theorem V3_arg2 : V3 m ρ c main_arg2 = m ((c : Thread nD τ).loc main_arg2) := W3_args m ρ c main_arg2 (by decide)

/-- What the last call finds. -/
theorem V5_v30 : V5 m ρ c main_v30 = hR (m ((c : Thread nD τ).loc main_arg0)) (m ((c : Thread nD τ).loc main_arg1)) (m ((c : Thread nD τ).loc main_arg2))
    (m ((c : Thread nD τ).loc main_arg4)) (m ((c : Thread nD τ).loc main_arg5)) (m ((c : Thread nD τ).loc main_arg6)) (m ((c : Thread nD τ).loc main_arg7)) := by
  have e : V5 m ρ c main_v30 = shapeCast S4x128x65536 (W4 m ρ c (Proc.devRef .tc main_v25_0)) shapeCasts_S4x128x128x512_S4x128x65536 := by
    after_reads_simp
    rfl
  rw [e, show W4 m ρ c (Proc.devRef .tc main_v25_0) = (dat1 (V3 m ρ) c).arrAt 6 cfg1.N from W4_arr m ρ c 6, final1R, V3_v23, V3_v24, V3_v6,
    V3_v10, V3_arg1, V3_arg2]
  rfl
theorem V5_v31 : V5 m ρ c main_v31 = hI (m ((c : Thread nD τ).loc main_arg0)) (m ((c : Thread nD τ).loc main_arg1)) (m ((c : Thread nD τ).loc main_arg2))
    (m ((c : Thread nD τ).loc main_arg4)) (m ((c : Thread nD τ).loc main_arg5)) (m ((c : Thread nD τ).loc main_arg6)) (m ((c : Thread nD τ).loc main_arg7)) := by
  have e : V5 m ρ c main_v31 = shapeCast S4x128x65536 (W4 m ρ c (Proc.devRef .tc main_v25_1)) shapeCasts_S4x128x128x512_S4x128x65536 := by
    after_reads_simp
    rfl
  rw [e, show W4 m ρ c (Proc.devRef .tc main_v25_1) = (dat1 (V3 m ρ) c).arrAt 7 cfg1.N from W4_arr m ρ c 7, final1I, V3_v23, V3_v24, V3_v6,
    V3_v10, V3_arg1, V3_arg2]
  rfl
theorem V5_v29 : V5 m ρ c main_v29 = skipRow (m ((c : Thread nD τ).loc main_arg3)) := by
  have e : V5 m ρ c main_v29 = skipRow (W4 m ρ c (Proc.devRef .tc main_arg3)) := by
    after_reads_simp
    rfl
  rw [e, W4_args m ρ c main_arg3 (by decide)]
theorem V5_v15 : V5 m ρ c main_v15 = tabE (m ((c : Thread nD τ).loc main_arg4)) :=
  (W5_of m ρ c main_v15 (by decide)).trans ((W4_of m ρ c main_v15 (by decide)).trans ((W3_of m ρ c main_v15 (by decide)).trans
    ((W2_of m ρ c main_v15 (by decide)).trans (V1_v15 m ρ c))))
theorem V5_v20 : V5 m ρ c main_v20 = tabE (m ((c : Thread nD τ).loc main_arg5)) :=
  (W5_of m ρ c main_v20 (by decide)).trans ((W4_of m ρ c main_v20 (by decide)).trans ((W3_of m ρ c main_v20 (by decide)).trans
    ((W2_of m ρ c main_v20 (by decide)).trans (V1_v20 m ρ c))))
theorem V5_v21 : V5 m ρ c main_v21 = acts4 (m ((c : Thread nD τ).loc main_arg0)) :=
  (W5_of m ρ c main_v21 (by decide)).trans ((W4_of m ρ c main_v21 (by decide)).trans ((W3_of m ρ c main_v21 (by decide)).trans
    ((W2_of m ρ c main_v21 (by decide)).trans (V1_v21 m ρ c))))

/-- The result of the program, from its arguments. -/
theorem final : (dat2 (V5 m ρ) c).arrAt 7 cfg2.N = resArr (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))
    (m ((c : Thread nD τ).loc main_arg6)) (m ((c : Thread nD τ).loc main_arg7)) := by
  rw [final2, V5_v30, V5_v31, V5_v15, V5_v20, V5_v21, V5_v29]
  exact last_eq _ _ _ _ _ _ _ _

end run
end Cert.Long
-- ==== Proof.Long.Ref.lean ====
module

public import proofs.«01_k».proof.Defs
public import proofs.«01_k».proof.Proof.Long.Spec
public import proofs.«01_k».proof.Proof.Gen.Reference11Ideal.Read

set_option maxRecDepth 16384
noncomputable section
@[expose] public section
namespace Cert.Long.Ref
open Cert.Long Idealize.ShloMosaic
open Cert.Reference11Ideal Cert.Reference11Ideal.Gen Cert.Reference11Ideal.Read
variable (u : FVec Ideal S3x32768x512 .f32) (K K' : FVec Ideal S128x128x512 .f32) (s : FVec Ideal S512 .f32)
  (C S : FVec Ideal S128x128 .f32) (G H : FVec Ideal S128x128x128 .f32)

/-- The convolved part of the activations. -/
theorem r2 (b : Fin 4) (r : Fin 64) (c : Fin 128) (w : Fin 512) : val_main_v2 (F := Ideal) u (ix4 b r c w) = act u 0 b r c w := by
  have h0 : b.val < 4 := b.isLt
  have h1 : r.val < 64 := r.isLt
  have h2 : c.val < 128 := c.isLt
  have h3 : w.val < 512 := w.isLt
  have e1 : idx_main_v1 (idx_main_v2 (ix4 b r c w)) = ix5 0 b r c w := by
    funext a
    apply Fin.ext
    fin_cases a
    · rfl
    · show (((b.val * 64 + r.val) * 128 + c.val) * 512 + w.val) / 4194304 % 4 = b.val; omega
    · show (((b.val * 64 + r.val) * 128 + c.val) * 512 + w.val) / 65536 % 64 = r.val; omega
    · show (((b.val * 64 + r.val) * 128 + c.val) * 512 + w.val) / 512 % 128 = c.val; omega
    · show (((b.val * 64 + r.val) * 128 + c.val) * 512 + w.val) % 512 = w.val; omega
  have e0 : idx_main_v0 (ix5 0 b r c w) = ix3 0 (row b r c) w := by
    funext a
    apply Fin.ext
    fin_cases a
    · show ((((0 * 4 + b.val) * 64 + r.val) * 128 + c.val) * 512 + w.val) / 16777216 = 0; omega
    · show ((((0 * 4 + b.val) * 64 + r.val) * 128 + c.val) * 512 + w.val) / 512 % 32768 = b.val * 8192 + r.val * 128 + c.val; omega
    · show ((((0 * 4 + b.val) * 64 + r.val) * 128 + c.val) * 512 + w.val) % 512 = w.val; omega
  rw [val_main_v2_apply, val_main_v1_apply, e1, val_main_v0_apply, e0]
  rfl
/-- The gate. -/
theorem r4 (b : Fin 4) (r : Fin 64) (c : Fin 128) (w : Fin 512) : val_main_v4 (F := Ideal) u (ix4 b r c w) = act u 1 b r c w := by
  have h0 : b.val < 4 := b.isLt
  have h1 : r.val < 64 := r.isLt
  have h2 : c.val < 128 := c.isLt
  have h3 : w.val < 512 := w.isLt
  have e1 : idx_main_v3 (idx_main_v4 (ix4 b r c w)) = ix5 1 b r c w := by
    funext a
    apply Fin.ext
    fin_cases a
    · rfl
    · show (((b.val * 64 + r.val) * 128 + c.val) * 512 + w.val) / 4194304 % 4 = b.val; omega
    · show (((b.val * 64 + r.val) * 128 + c.val) * 512 + w.val) / 65536 % 64 = r.val; omega
    · show (((b.val * 64 + r.val) * 128 + c.val) * 512 + w.val) / 512 % 128 = c.val; omega
    · show (((b.val * 64 + r.val) * 128 + c.val) * 512 + w.val) % 512 = w.val; omega
  have e0 : idx_main_v0 (ix5 1 b r c w) = ix3 1 (row b r c) w := by
    funext a
    apply Fin.ext
    fin_cases a
    · show ((((1 * 4 + b.val) * 64 + r.val) * 128 + c.val) * 512 + w.val) / 16777216 = 1; omega
    · show ((((1 * 4 + b.val) * 64 + r.val) * 128 + c.val) * 512 + w.val) / 512 % 32768 = b.val * 8192 + r.val * 128 + c.val; omega
    · show ((((1 * 4 + b.val) * 64 + r.val) * 128 + c.val) * 512 + w.val) % 512 = w.val; omega
  rw [val_main_v4_apply, val_main_v3_apply, e1, val_main_v0_apply, e0]
  rfl

/-- The first stage. -/
theorem r7 (b : Fin 4) (k c : Fin 128) (w : Fin 512) : val_main_v7 (F := Ideal) u C (ix4 b k c w) = aR u C b k c w := by
  have e : idx_main_v7 (ix4 b k c w) = ix4 b c w k := by funext a; fin_cases a <;> rfl
  rw [val_main_v7_apply, e, val_main_v6_apply]
  unfold aR dotp
  refine Finset.sum_congr rfl fun r _ => ?_
  have e1 : lidx_main_v6 (ix4 b c w k) r = ix4 b r c w := by funext a; fin_cases a <;> rfl
  have e2 : idx_main_v5 (ridx_main_v6 (ix4 b c w k) r) = ix2 k (low r) := by funext a; fin_cases a <;> rfl
  rw [e1, r2, val_main_v5_apply, e2, mul_comm]
theorem r11 (b : Fin 4) (k c : Fin 128) (w : Fin 512) : val_main_v11 (F := Ideal) u S (ix4 b k c w) = aI u S b k c w := by
  have e : idx_main_v11 (ix4 b k c w) = ix4 b c w k := by funext a; fin_cases a <;> rfl
  rw [val_main_v11_apply, e, val_main_v10_apply]
  unfold aI dotp
  refine Finset.sum_congr rfl fun r _ => ?_
  have e1 : lidx_main_v10 (ix4 b c w k) r = ix4 b r c w := by funext a; fin_cases a <;> rfl
  have e2 : idx_main_v8 (ridx_main_v10 (ix4 b c w k) r) = ix2 k (low r) := by funext a; fin_cases a <;> rfl
  rw [e1, r2, val_main_v9_apply, val_main_v8_apply, e2, mul_comm]
  rfl

/-- The two parts of the first stage at one group of frequencies and one lane. -/
abbrev ca (b : Fin 4) (k : Fin 128) (w : Fin 512) : Fin 128 → EReal := fun c => aR u C b k c w
abbrev cb (b : Fin 4) (k : Fin 128) (w : Fin 512) : Fin 128 → EReal := fun c => aI u S b k c w
/-- The transform's tables of one group. -/
abbrev tg (k : Fin 128) : Fin 128 → Fin 128 → EReal := fun m c => G (ix3 k m c)

/-- The four products of the transform. -/
theorem r13 (b : Fin 4) (k m : Fin 128) (w : Fin 512) :
    val_main_v13 (F := Ideal) u C G (ix4 b k m w) = dotp (tg G k m) (ca u C b k w) := by
  have e : idx_main_v13 (ix4 b k m w) = ix4 k b w m := by funext a; fin_cases a <;> rfl
  rw [val_main_v13_apply, e, val_main_v12_apply]
  refine Finset.sum_congr rfl fun c _ => ?_
  have e1 : lidx_main_v12 (ix4 k b w m) c = ix4 b k c w := by funext a; fin_cases a <;> rfl
  have e2 : ridx_main_v12 (ix4 k b w m) c = ix3 k m c := by funext a; fin_cases a <;> rfl
  rw [e1, e2, r7, mul_comm]
theorem r15 (b : Fin 4) (k m : Fin 128) (w : Fin 512) :
    val_main_v15 (F := Ideal) u S H (ix4 b k m w) = dotp (tg H k m) (cb u S b k w) := by
  have e : idx_main_v15 (ix4 b k m w) = ix4 k b w m := by funext a; fin_cases a <;> rfl
  rw [val_main_v15_apply, e, val_main_v14_apply]
  refine Finset.sum_congr rfl fun c _ => ?_
  have e1 : lidx_main_v14 (ix4 k b w m) c = ix4 b k c w := by funext a; fin_cases a <;> rfl
  have e2 : ridx_main_v14 (ix4 k b w m) c = ix3 k m c := by funext a; fin_cases a <;> rfl
  rw [e1, e2, r11, mul_comm]
theorem r18 (b : Fin 4) (k m : Fin 128) (w : Fin 512) :
    val_main_v18 (F := Ideal) u S G (ix4 b k m w) = dotp (tg G k m) (cb u S b k w) := by
  have e : idx_main_v18 (ix4 b k m w) = ix4 k b w m := by funext a; fin_cases a <;> rfl
  rw [val_main_v18_apply, e, val_main_v17_apply]
  refine Finset.sum_congr rfl fun c _ => ?_
  have e1 : lidx_main_v17 (ix4 k b w m) c = ix4 b k c w := by funext a; fin_cases a <;> rfl
  have e2 : ridx_main_v17 (ix4 k b w m) c = ix3 k m c := by funext a; fin_cases a <;> rfl
  rw [e1, e2, r11, mul_comm]
theorem r20 (b : Fin 4) (k m : Fin 128) (w : Fin 512) :
    val_main_v20 (F := Ideal) u C H (ix4 b k m w) = dotp (tg H k m) (ca u C b k w) := by
  have e : idx_main_v20 (ix4 b k m w) = ix4 k b w m := by funext a; fin_cases a <;> rfl
  rw [val_main_v20_apply, e, val_main_v19_apply]
  refine Finset.sum_congr rfl fun c _ => ?_
  have e1 : lidx_main_v19 (ix4 k b w m) c = ix4 b k c w := by funext a; fin_cases a <;> rfl
  have e2 : ridx_main_v19 (ix4 k b w m) c = ix3 k m c := by funext a; fin_cases a <;> rfl
  rw [e1, e2, r7, mul_comm]

/-- The transform. -/
theorem r16 (b : Fin 4) (k m : Fin 128) (w : Fin 512) : val_main_v16 (F := Ideal) u C S G H (ix4 b k m w)
    = xre (tg G k) (tg H k) (ca u C b k w) (cb u S b k w) m := by
  rw [val_main_v16_apply, r13, r15]
  rfl
theorem r21 (b : Fin 4) (k m : Fin 128) (w : Fin 512) : val_main_v21 (F := Ideal) u C S G H (ix4 b k m w)
    = xim (tg G k) (tg H k) (ca u C b k w) (cb u S b k w) m := by
  rw [val_main_v21_apply, r18, r20]
  rfl

/-- The spectrum of the filter, the same for every batch entry. -/
theorem r23 (b : Fin 4) (k m : Fin 128) (w : Fin 512) : val_main_v23 (F := Ideal) K (ix4 b k m w) = K (ix3 k m w) := by
  have e : idx_main_v22 (idx_main_v23 (ix4 b k m w)) = ix3 k m w := by funext a; fin_cases a <;> rfl
  rw [val_main_v23_apply, val_main_v22_apply, e]
theorem r26 (b : Fin 4) (k m : Fin 128) (w : Fin 512) : val_main_v26 (F := Ideal) K' (ix4 b k m w) = K' (ix3 k m w) := by
  have e : idx_main_v25 (idx_main_v26 (ix4 b k m w)) = ix3 k m w := by funext a; fin_cases a <;> rfl
  rw [val_main_v26_apply, val_main_v25_apply, e]
theorem r30 (b : Fin 4) (k m : Fin 128) (w : Fin 512) : val_main_v30 (F := Ideal) K' (ix4 b k m w) = K' (ix3 k m w) := by
  have e : idx_main_v29 (idx_main_v30 (ix4 b k m w)) = ix3 k m w := by funext a; fin_cases a <;> rfl
  rw [val_main_v30_apply, val_main_v29_apply, e]
theorem r33 (b : Fin 4) (k m : Fin 128) (w : Fin 512) : val_main_v33 (F := Ideal) K (ix4 b k m w) = K (ix3 k m w) := by
  have e : idx_main_v32 (idx_main_v33 (ix4 b k m w)) = ix3 k m w := by funext a; fin_cases a <;> rfl
  rw [val_main_v33_apply, val_main_v32_apply, e]

/-- The product with the spectrum. -/
theorem r28 (b : Fin 4) (k m : Fin 128) (w : Fin 512) : val_main_v28 (F := Ideal) u K K' C S G H (ix4 b k m w)
    = yre (tg G k) (tg H k) (ca u C b k w) (cb u S b k w) (fun m => K (ix3 k m w)) (fun m => K' (ix3 k m w)) m := by
  rw [val_main_v28_apply, val_main_v24_apply, val_main_v27_apply, r16, r21, r23, r26]
  rfl
theorem r35 (b : Fin 4) (k m : Fin 128) (w : Fin 512) : val_main_v35 (F := Ideal) u K K' C S G H (ix4 b k m w)
    = yim (tg G k) (tg H k) (ca u C b k w) (cb u S b k w) (fun m => K (ix3 k m w)) (fun m => K' (ix3 k m w)) m := by
  rw [val_main_v35_apply, val_main_v31_apply, val_main_v34_apply, r16, r21, r30, r33]
  rfl

/-- The four products of the transform back. -/
theorem r37 (b : Fin 4) (k m : Fin 128) (w : Fin 512) :
    val_main_v37 (F := Ideal) u K K' C S G H (ix4 b k m w) = dotp (fun c => G (ix3 k c m)) (yre (tg G k) (tg H k) (ca u C b k w) (cb u S b k w) (fun m => K (ix3 k m w)) (fun m => K' (ix3 k m w))) := by
  have e : idx_main_v37 (ix4 b k m w) = ix4 k b w m := by funext a; fin_cases a <;> rfl
  rw [val_main_v37_apply, e, val_main_v36_apply]
  refine Finset.sum_congr rfl fun c _ => ?_
  have e1 : lidx_main_v36 (ix4 k b w m) c = ix4 b k c w := by funext a; fin_cases a <;> rfl
  have e2 : ridx_main_v36 (ix4 k b w m) c = ix3 k c m := by funext a; fin_cases a <;> rfl
  rw [e1, e2, r28, mul_comm]
theorem r39 (b : Fin 4) (k m : Fin 128) (w : Fin 512) :
    val_main_v39 (F := Ideal) u K K' C S G H (ix4 b k m w) = dotp (fun c => H (ix3 k c m)) (yim (tg G k) (tg H k) (ca u C b k w) (cb u S b k w) (fun m => K (ix3 k m w)) (fun m => K' (ix3 k m w))) := by
  have e : idx_main_v39 (ix4 b k m w) = ix4 k b w m := by funext a; fin_cases a <;> rfl
  rw [val_main_v39_apply, e, val_main_v38_apply]
  refine Finset.sum_congr rfl fun c _ => ?_
  have e1 : lidx_main_v38 (ix4 k b w m) c = ix4 b k c w := by funext a; fin_cases a <;> rfl
  have e2 : ridx_main_v38 (ix4 k b w m) c = ix3 k c m := by funext a; fin_cases a <;> rfl
  rw [e1, e2, r35, mul_comm]
theorem r42 (b : Fin 4) (k m : Fin 128) (w : Fin 512) :
    val_main_v42 (F := Ideal) u K K' C S G H (ix4 b k m w) = dotp (fun c => G (ix3 k c m)) (yim (tg G k) (tg H k) (ca u C b k w) (cb u S b k w) (fun m => K (ix3 k m w)) (fun m => K' (ix3 k m w))) := by
  have e : idx_main_v42 (ix4 b k m w) = ix4 k b w m := by funext a; fin_cases a <;> rfl
  rw [val_main_v42_apply, e, val_main_v41_apply]
  refine Finset.sum_congr rfl fun c _ => ?_
  have e1 : lidx_main_v41 (ix4 k b w m) c = ix4 b k c w := by funext a; fin_cases a <;> rfl
  have e2 : ridx_main_v41 (ix4 k b w m) c = ix3 k c m := by funext a; fin_cases a <;> rfl
  rw [e1, e2, r35, mul_comm]
theorem r44 (b : Fin 4) (k m : Fin 128) (w : Fin 512) :
    val_main_v44 (F := Ideal) u K K' C S G H (ix4 b k m w) = dotp (fun c => H (ix3 k c m)) (yre (tg G k) (tg H k) (ca u C b k w) (cb u S b k w) (fun m => K (ix3 k m w)) (fun m => K' (ix3 k m w))) := by
  have e : idx_main_v44 (ix4 b k m w) = ix4 k b w m := by funext a; fin_cases a <;> rfl
  rw [val_main_v44_apply, e, val_main_v43_apply]
  refine Finset.sum_congr rfl fun c _ => ?_
  have e1 : lidx_main_v43 (ix4 k b w m) c = ix4 b k c w := by funext a; fin_cases a <;> rfl
  have e2 : ridx_main_v43 (ix4 k b w m) c = ix3 k c m := by funext a; fin_cases a <;> rfl
  rw [e1, e2, r28, mul_comm]

/-- The transform back. -/
theorem r40 (b : Fin 4) (k c : Fin 128) (w : Fin 512) : val_main_v40 (F := Ideal) u K K' C S G H (ix4 b k c w) = sR u K K' C S G H b k c w := by
  rw [val_main_v40_apply, r37, r39]
  rfl
theorem r45 (b : Fin 4) (k c : Fin 128) (w : Fin 512) : val_main_v45 (F := Ideal) u K K' C S G H (ix4 b k c w) = sI u K K' C S G H b k c w := by
  rw [val_main_v45_apply, r42, r44]
  rfl

/-- The last stage. -/
theorem r50 (b : Fin 4) (r : Fin 64) (c : Fin 128) (w : Fin 512) : val_main_v50 (F := Ideal) u K K' C S G H (ix4 b r c w)
    = dotp (fun k : Fin 128 => scaled (C (ix2 k (low r)))) (fun k => sR u K K' C S G H b k c w) := by
  have e : idx_main_v50 (ix4 b r c w) = ix4 b c w r := by funext a; fin_cases a <;> rfl
  rw [val_main_v50_apply, e, val_main_v49_apply]
  refine Finset.sum_congr rfl fun k _ => ?_
  have e1 : lidx_main_v49 (ix4 b c w r) k = ix4 b k c w := by funext a; fin_cases a <;> rfl
  have e2 : idx_main_v46 (ridx_main_v49 (ix4 b c w r) k) = ix2 k (low r) := by funext a; fin_cases a <;> rfl
  rw [e1, r40, val_main_v48_apply, val_main_v46_apply, e2, val_main_v47_apply, val_main_cst_apply, mul_comm]
  rfl
theorem r55 (b : Fin 4) (r : Fin 64) (c : Fin 128) (w : Fin 512) : val_main_v55 (F := Ideal) u K K' C S G H (ix4 b r c w)
    = dotp (fun k : Fin 128 => scaled (S (ix2 k (low r)))) (fun k => sI u K K' C S G H b k c w) := by
  have e : idx_main_v55 (ix4 b r c w) = ix4 b c w r := by funext a; fin_cases a <;> rfl
  rw [val_main_v55_apply, e, val_main_v54_apply]
  refine Finset.sum_congr rfl fun k _ => ?_
  have e1 : lidx_main_v54 (ix4 b c w r) k = ix4 b k c w := by funext a; fin_cases a <;> rfl
  have e2 : idx_main_v51 (ridx_main_v54 (ix4 b c w r) k) = ix2 k (low r) := by funext a; fin_cases a <;> rfl
  rw [e1, r45, val_main_v53_apply, val_main_v51_apply, e2, val_main_v52_apply, val_main_cst_0_apply, mul_comm]
  rfl
theorem r58 (b : Fin 4) (r : Fin 64) (c : Fin 128) (w : Fin 512) : val_main_v58 (F := Ideal) s (ix4 b r c w) = s (ix1 w) := by
  have e : idx_main_v57 (idx_main_v58 (ix4 b r c w)) = ix1 w := by funext a; fin_cases a; rfl
  rw [val_main_v58_apply, val_main_v57_apply, e]
theorem r61 (b : Fin 4) (r : Fin 64) (c : Fin 128) (w : Fin 512) :
    val_main_v61 (F := Ideal) u K K' s C S G H (ix4 b r c w) = res u K K' s C S G H b r c w := by
  rw [val_main_v61_apply, val_main_v60_apply, val_main_v59_apply, val_main_v56_apply, r4, r2, r58, r50, r55]
  rfl

/-- The reference's array is the same. -/
theorem ref_eq : val_main_v62 (F := Ideal) u K K' s C S G H = resArr u K K' s C S G H := by
  funext i
  idx_vars i
  have h0 : i0.val < 4 := i0.isLt
  have h1 : i1.val < 64 := i1.isLt
  have h2 : i2.val < 65536 := i2.isLt
  have e : idx_main_v62 (ix3 i0 i1 i2) = ix4 i0 i1 (pl i2) (ln i2) := by
    funext a
    apply Fin.ext
    fin_cases a
    · show ((i0.val * 64 + i1.val) * 65536 + i2.val) / 4194304 = i0.val; omega
    · show ((i0.val * 64 + i1.val) * 65536 + i2.val) / 65536 % 64 = i1.val; omega
    · show ((i0.val * 64 + i1.val) * 65536 + i2.val) / 512 % 128 = i2.val / 512; omega
    · show ((i0.val * 64 + i1.val) * 65536 + i2.val) % 512 = i2.val % 512; omega
  rw [val_main_v62_apply, e, r61]
  rfl

end Cert.Long.Ref
-- ==== Proof.Long.Claims.lean ====
/- The long convolution: the frame of its reference and the equality of the two results. -/
module

public import proofs.«01_k».proof.Defs
public import proofs.«01_k».proof.Proof.Long.Run
public import proofs.«01_k».proof.Proof.Long.Final
public import proofs.«01_k».proof.Proof.Long.Ref

set_option maxRecDepth 16384
noncomputable section
@[expose] public section
namespace Cert.Long
open Cert.Kernel11Ideal Cert.Kernel11Ideal.Gen Idealize.ShloMosaic Idealize.ShloMosaic.TcCoe Idealize.SL.Sem

/-- The reference's frame. -/
theorem frame_ref : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

/-- The long convolution: the kernel and the reference leave the same array. -/
theorem algebraic : Cert.algebraic_Kernel11Ideal_Reference11Ideal := by
  intro m g m' g' _ hargs
  refine ⟨fun c => (dat2 (V5 m g) c).arrAt 7 cfg2.N, run (F := Ideal) m g, ?_⟩
  refine (θ_run Cert.Reference11Ideal.defs _ _).mono (fun r h c => ⟨(h c).1.trans ?_, (h c).2⟩)
    (Cert.Reference11Ideal.Value.run (F := Ideal) m' g')
  obtain ⟨e0, e1, e2, e3, e4, e5, e6, e7⟩ := hargs c
  rw [Cert.Reference11Ideal.Read.val_main_v62_eq, e0, e1, e2, e3, e4, e5, e6, e7]
  exact (Ref.ref_eq _ _ _ _ _ _ _ _).trans (final m g c).symm

end Cert.Long
-- ==== Proof.Long2.Run.lean ====
/- The run of the second long convolution's program: what its three calls leave in the result array. -/
module

public import proofs.«01_k».proof.Defs
public import proofs.«01_k».proof.Proof.Gen.Kernel12Ideal.Frame

set_option maxRecDepth 16384
noncomputable section
@[expose] public section
namespace Cert.Long2
open Cert.Kernel12Ideal Cert.Kernel12Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program runs, leaves in its result what the last call's grid points write back over what the two calls before
    it and the host operations left, and keeps its arguments. -/
theorem run : θ_run defs (onTc (τ := τ) (main (F := F))) ⟨m, fun _ => 0, ρ⟩ (fun r => ∀ c : Dev nD,
      r.2.mem ((c.tc : Thread nD τ).loc main_v33) = (dat2 (V5 m ρ) c).arrAt 7 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz c =>
      ⟨(h c _ (mem_uc main_v33 (by decide))).trans (W6_arr m ρ c 7),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

end Cert.Long2
-- ==== Proof.Long2.Stage.lean ====
/- The first call of the second long convolution: the first stage of the transform. -/
module

public import proofs.«01_k».proof.Defs
public import proofs.«01_k».proof.Proof.Gen.Kernel12Ideal.Frame
public import proofs.«01_k».proof.Proof.Long.Math
public import Idealize.ShloMosaic.Lib.Pipeline.ValueKit

set_option maxRecDepth 16384
noncomputable section
@[expose] public section
namespace Cert.Long2
open Cert.Long (dotp xre xim yre yim bre bim lo up)
open Cert.Kernel12Ideal Cert.Kernel12Ideal.Gen Idealize.ShloMosaic Idealize.ShloMosaic.TcCoe Idealize.SL.Sem
open Idealize.ShloMosaic.Pipeline (Dat)

/-- Row `m` of the stacked table against the activations. -/
def stage (T : FVec Ideal S256x64 .bf16) (U : FVec Ideal S1x4x64x65536 .f32) (m : Fin 256) (b : Fin 4) (l : Fin 65536) : EReal :=
  dotp (fun r : Fin 64 => T (ix2 m r)) (fun r => U (ix4 0 b r l))
/-- The real part of the first stage. -/
def stageR (T : FVec Ideal S256x64 .bf16) (U : FVec Ideal S1x4x64x65536 .f32) : FVec Ideal S4x128x65536 .bf16 :=
  fun i => stage T U (lo (i 1)) (i 0) (i 2)
/-- The imaginary part. -/
def stageI (T : FVec Ideal S256x64 .bf16) (U : FVec Ideal S1x4x64x65536 .f32) : FVec Ideal S4x128x65536 .bf16 :=
  fun i => stage T U (up (i 1)) (i 0) (i 2)

/-- The blocks of every grid point. -/
theorem idx0 : ∀ t : Fin cfg0.N, win0_0.index t = ![0, t.val / 16, 0, t.val % 16] ∧ win0_1.index t = ![0, 0]
    ∧ win0_2.index t = ![t.val / 16, 0, t.val % 16] ∧ win0_3.index t = ![t.val / 16, 0, t.val % 16] :=
  (by decide +kernel : ∀ t : Fin grid0.N, _)

section tile
variable (x : Vec Ideal S1x1x64x4096 .f32) (f : Vec Ideal S256x64 .bf16)
theorem prod_apply (m : Fin 256) (s : Fin 4096) :
    k0_pay1 (F := Ideal) x f (ix2 m s) = dotp (fun r : Fin 64 => f (ix2 m r)) (fun r => x (ix4 0 0 r s)) := by
  pointwise [k0_pay1]
  rfl
theorem tileR_apply (i : Fin 1) (m : Fin 128) (s : Fin 4096) :
    k0_pay2 (F := Ideal) x f (ix3 i m s) = dotp (fun r : Fin 64 => f (ix2 (lo m) r)) (fun r => x (ix4 0 0 r s)) := by
  obtain rfl : i = 0 := Subsingleton.elim _ _
  pointwise [k0_pay2]
  rw [← prod_apply]
  rfl
theorem tileI_apply (i : Fin 1) (m : Fin 128) (s : Fin 4096) :
    k0_pay3 (F := Ideal) x f (ix3 i m s) = dotp (fun r : Fin 64 => f (ix2 (up m) r)) (fun r => x (ix4 0 0 r s)) := by
  obtain rfl : i = 0 := Subsingleton.elim _ _
  pointwise [k0_pay3]
  rw [← prod_apply]
  rfl
end tile

section final
variable (V : (c : Dev nD) → (b : Ref sig .tc) → Buf (Elt Ideal) ((c : Thread nD τ).loc b)) (c : Dev nD) (t : Fin cfg0.N)

/-- The batch entry of a grid point. -/
def b0 : Fin 4 := ⟨t.val / 16, by have : t.val < 64 := t.isLt; omega⟩
/-- Lane `s` of its block among all lanes. -/
def l0 (s : Fin 4096) : Fin 65536 := ⟨t.val % 16 * 4096 + s.val, by omega⟩

theorem read0_0 (r : Fin 64) (s : Fin 4096) : iblk0 V c 0 t (ix4 0 0 r s) = V c main_v22 (ix4 0 (b0 t) r (l0 t s)) := by
  unfold b0 l0
  blk_ext [iblk0, idx0 t]
theorem read0_1 (m : Fin 256) (r : Fin 64) : iblk0 V c 1 t (ix2 m r) = V c main_v4 (ix2 m r) := by
  blk_ext [iblk0, idx0 t]

theorem stageR_at (T : FVec Ideal S256x64 .bf16) (U : FVec Ideal S1x4x64x65536 .f32) (i : S4x128x65536.Idx) (b : Fin 4) (m : Fin 128)
    (l : Fin 65536) (h0 : (i 0).val = b.val) (h1 : (i 1).val = m.val) (h2 : (i 2).val = l.val) : stageR T U i = stage T U (lo m) b l := by
  have e0 : i 0 = b := Fin.ext h0
  have e1 : i 1 = m := Fin.ext h1
  have e2 : i 2 = l := Fin.ext h2
  unfold stageR
  rw [e0, e1, e2]
theorem stageI_at (T : FVec Ideal S256x64 .bf16) (U : FVec Ideal S1x4x64x65536 .f32) (i : S4x128x65536.Idx) (b : Fin 4) (m : Fin 128)
    (l : Fin 65536) (h0 : (i 0).val = b.val) (h1 : (i 1).val = m.val) (h2 : (i 2).val = l.val) : stageI T U i = stage T U (up m) b l := by
  have e0 : i 0 = b := Fin.ext h0
  have e1 : i 1 = m := Fin.ext h1
  have e2 : i 2 = l := Fin.ext h2
  unfold stageI
  rw [e0, e1, e2]

/-- The real array the first call leaves. -/
theorem final0R : (dat0 V c).arrAt 2 cfg0.N = stageR (V c main_v4) (V c main_v22) := by
  refine (dat0 V c).arrAt_eq_of_covers 2 _ (by decide +kernel) fun t hf y => ?_
  blk_simp
  rw [after0_2]
  frame_out
  idx_vars y
  refine Eq.trans ((tileR_apply _ _ _ y1 y2).trans ?_) (stageR_at _ _ _ (b0 t) y1 (l0 t y2) ?_ ?_ ?_).symm
  · unfold stage
    simp only [read0_0, read0_1]
  · blk_simp [idx0 t]
    rfl
  · blk_simp [idx0 t]
  · blk_simp [idx0 t]
    rfl
/-- The imaginary array. -/
theorem final0I : (dat0 V c).arrAt 3 cfg0.N = stageI (V c main_v4) (V c main_v22) := by
  refine (dat0 V c).arrAt_eq_of_covers 3 _ (by decide +kernel) fun t hf y => ?_
  blk_simp
  rw [after0_3]
  frame_out
  idx_vars y
  refine Eq.trans ((tileI_apply _ _ _ y1 y2).trans ?_) (stageI_at _ _ _ (b0 t) y1 (l0 t y2) ?_ ?_ ?_).symm
  · unfold stage
    simp only [read0_0, read0_1]
  · blk_simp [idx0 t]
    rfl
  · blk_simp [idx0 t]
  · blk_simp [idx0 t]
    rfl

end final
end Cert.Long2
-- ==== Proof.Long2.Mid.lean ====
/- The body of the middle call: what one of its eight unrolled steps computes. -/
module

public import proofs.«01_k».proof.Defs
public import proofs.«01_k».proof.Proof.Gen.Kernel12Ideal.Frame
public import proofs.«01_k».proof.Proof.Long.Math
public import Idealize.ShloMosaic.Lib.Pipeline.ValueKit

set_option maxRecDepth 16384
noncomputable section
@[expose] public section
namespace Cert.Long2
open Cert.Long (dotp xre xim yre yim bre bim lo up)
open Cert.Kernel12Ideal Cert.Kernel12Ideal.Gen Idealize.ShloMosaic Idealize.ShloMosaic.TcCoe Idealize.SL.Sem

section step
variable (g : Vec Ideal S1x256x128 .bf16) (a b : Vec Ideal S1x1x128x512 .bf16) (kr ki : Vec Ideal S1x128x512 .f32)
  (h : Vec Ideal S1x256x128 .bf16)

/-- One step's real part. -/
def stepR : FVec Ideal S1x1x128x512 .bf16 := k1_pay15 (F := Ideal) (k1_pay14 g a b kr ki h)
/-- One step's imaginary part. -/
def stepI : FVec Ideal S1x1x128x512 .bf16 := k1_pay16 (F := Ideal) (k1_pay12 g a b kr ki h) (k1_pay13 g a b kr ki h)

theorem p_apply (r : Fin 256) (w : Fin 512) :
    k1_pay5 (F := Ideal) g a (ix2 r w) = dotp (fun c => g (ix3 0 r c)) (fun c => a (ix4 0 0 c w)) := by
  pointwise [k1_pay5, k1_pay4]
  rfl
theorem q_apply (r : Fin 256) (w : Fin 512) :
    k1_pay6 (F := Ideal) g b (ix2 r w) = dotp (fun c => g (ix3 0 r c)) (fun c => b (ix4 0 0 c w)) := by
  pointwise [k1_pay6, k1_pay4]
  rfl
theorem xre_apply (m : Fin 128) (w : Fin 512) : k1_pay7 (F := Ideal) g a b (ix2 m w)
    = xre (fun m c => g (ix3 0 (lo m) c)) (fun m c => g (ix3 0 (up m) c)) (fun c => a (ix4 0 0 c w)) (fun c => b (ix4 0 0 c w)) m := by
  pointwise [k1_pay7]
  unfold xre
  rw [← p_apply, ← q_apply]
  rfl
theorem xim_apply (m : Fin 128) (w : Fin 512) : k1_pay8 (F := Ideal) g a b (ix2 m w)
    = xim (fun m c => g (ix3 0 (lo m) c)) (fun m c => g (ix3 0 (up m) c)) (fun c => a (ix4 0 0 c w)) (fun c => b (ix4 0 0 c w)) m := by
  pointwise [k1_pay8]
  unfold xim
  rw [← p_apply, ← q_apply]
  rfl

/-- The spectrum's product, real part, at this step's loads. -/
def Yr (w : Fin 512) : Fin 128 → EReal :=
  yre (fun m c => g (ix3 0 (lo m) c)) (fun m c => g (ix3 0 (up m) c)) (fun c => a (ix4 0 0 c w)) (fun c => b (ix4 0 0 c w))
    (fun m => kr (ix3 0 m w)) (fun m => ki (ix3 0 m w))
/-- Its imaginary part. -/
def Yi (w : Fin 512) : Fin 128 → EReal :=
  yim (fun m c => g (ix3 0 (lo m) c)) (fun m c => g (ix3 0 (up m) c)) (fun c => a (ix4 0 0 c w)) (fun c => b (ix4 0 0 c w))
    (fun m => kr (ix3 0 m w)) (fun m => ki (ix3 0 m w))

theorem pr_apply (r : Fin 256) (w : Fin 512) :
    k1_pay12 (F := Ideal) g a b kr ki h (ix2 r w) = dotp (fun m => h (ix3 0 r m)) (Yr g a b kr ki w) := by
  pointwise [k1_pay12, k1_pay9, k1_pay10, k1_pay11]
  simp only [xre_apply, xim_apply]
  rfl
theorem pi_apply (r : Fin 256) (w : Fin 512) :
    k1_pay13 (F := Ideal) g a b kr ki h (ix2 r w) = dotp (fun m => h (ix3 0 r m)) (Yi g a b kr ki w) := by
  pointwise [k1_pay13, k1_pay9, k1_pay10, k1_pay11]
  simp only [xre_apply, xim_apply]
  rfl

theorem stepR_apply (c : Fin 128) (w : Fin 512) : stepR g a b kr ki h (ix4 0 0 c w)
    = dotp (fun m => h (ix3 0 (lo c) m)) (Yr g a b kr ki w) + dotp (fun m => h (ix3 0 (up c) m)) (Yi g a b kr ki w) := by
  unfold stepR
  pointwise [k1_pay15, k1_pay14]
  rw [← pr_apply g a b kr ki h, ← pi_apply g a b kr ki h]
  rfl
theorem stepI_apply (c : Fin 128) (w : Fin 512) : stepI g a b kr ki h (ix4 0 0 c w)
    = dotp (fun m => h (ix3 0 (lo c) m)) (Yi g a b kr ki w) - dotp (fun m => h (ix3 0 (up c) m)) (Yr g a b kr ki w) := by
  unfold stepI
  pointwise [k1_pay16]
  rw [← pr_apply g a b kr ki h, ← pi_apply g a b kr ki h]
  rfl

end step

end Cert.Long2
-- ==== Proof.Long2.Pieces.lean ====
/- The eight steps of the middle call's body are the same step. -/
module

public import proofs.«01_k».proof.Defs
public import proofs.«01_k».proof.Proof.Long2.Mid

set_option maxRecDepth 16384
noncomputable section
@[expose] public section
namespace Cert.Long2
open Cert.Long (dotp xre xim yre yim bre bim lo up)
open Cert.Kernel12Ideal Cert.Kernel12Ideal.Gen Idealize.ShloMosaic Idealize.ShloMosaic.TcCoe Idealize.SL.Sem

variable (g : Vec Ideal S1x256x128 .bf16) (a b : Vec Ideal S1x1x128x512 .bf16) (kr ki : Vec Ideal S1x128x512 .f32)
  (h : Vec Ideal S1x256x128 .bf16)

theorem r7 : k1_pay2 (F := Ideal) (k1_pay102 g a b kr ki) (k1_pay103 h) (k1_pay104 g a b kr ki h) = stepR g a b kr ki h := rfl
theorem r6 : k1_pay92 (F := Ideal) (k1_pay82 g) a b kr ki h = stepR g a b kr ki h := rfl
theorem r5 : k1_pay80 (F := Ideal) (k1_pay73 g a b) (k1_pay74 g a b) kr ki h = stepR g a b kr ki h := rfl
theorem r4 : k1_pay68 (F := Ideal) (k1_pay63 g a b kr ki) (k1_pay64 g a b kr ki) h = stepR g a b kr ki h := rfl
theorem r3 : k1_pay54 (F := Ideal) (k1_pay53 g a b kr ki h) = stepR g a b kr ki h := rfl
theorem r2 : k1_pay41 (F := Ideal) (k1_pay31 g a) (k1_pay32 g b) (k1_pay33 g a) kr ki h = stepR g a b kr ki h := rfl
theorem r1 : k1_pay28 (F := Ideal) (k1_pay20 g a b) (k1_pay21 g a b) (k1_pay22 kr) (k1_pay23 ki) (k1_pay24 g a b kr ki) h
    = stepR g a b kr ki h := rfl

theorem i7 : k1_pay3 (F := Ideal) (k1_pay102 g a b kr ki) (k1_pay103 h) (k1_pay104 g a b kr ki h) = stepI g a b kr ki h := rfl
theorem i6 : k1_pay94 (F := Ideal) (k1_pay93 (k1_pay82 g) a b kr ki h) = stepI g a b kr ki h := rfl
theorem i5 : k1_pay81 (F := Ideal) (k1_pay73 g a b) (k1_pay74 g a b) kr ki h = stepI g a b kr ki h := rfl
theorem i4 : k1_pay69 (F := Ideal) (k1_pay63 g a b kr ki) (k1_pay64 g a b kr ki) h = stepI g a b kr ki h := rfl
theorem i3 : k1_pay55 (F := Ideal) (k1_pay51 g a b kr ki h) (k1_pay52 g a b kr ki h) = stepI g a b kr ki h := rfl
theorem i2 : k1_pay42 (F := Ideal) (k1_pay31 g a) (k1_pay32 g b) (k1_pay33 g a) kr ki h = stepI g a b kr ki h := rfl
theorem i1 : k1_pay29 (F := Ideal) (k1_pay20 g a b) (k1_pay21 g a b) (k1_pay22 kr) (k1_pay23 ki) (k1_pay24 g a b kr ki) h
    = stepI g a b kr ki h := rfl

end Cert.Long2
-- ==== Proof.Long2.Body.lean ====
/- The body of the middle call: its two output blocks, from its six input blocks. -/
module

public import proofs.«01_k».proof.Defs
public import proofs.«01_k».proof.Proof.Long2.Pieces

set_option maxRecDepth 16384
noncomputable section
@[expose] public section
namespace Cert.Long2
open Cert.Long (dotp xre xim yre yim bre bim lo up)
open Cert.Kernel12Ideal Cert.Kernel12Ideal.Gen Idealize.ShloMosaic Idealize.ShloMosaic.TcCoe Idealize.SL.Sem
open Idealize.ShloMosaic.Pipeline (Dat)

section block
variable (x0 x1 : Vec Ideal S1x8x128x512 .bf16) (x2 x3 : Vec Ideal S8x256x128 .bf16) (x4 x5 : Vec Ideal S8x128x512 .f32)

/-- Real part of entry `(c, w)` of row `j` of the block. -/
def atR (j : Fin 8) (c : Fin 128) (w : Fin 512) : EReal :=
  bre (fun m c => x2 (ix3 j (lo m) c)) (fun m c => x2 (ix3 j (up m) c)) (fun c m => x3 (ix3 j (lo c) m)) (fun c m => x3 (ix3 j (up c) m))
    (fun c => x0 (ix4 0 j c w)) (fun c => x1 (ix4 0 j c w)) (fun m => x4 (ix3 j m w)) (fun m => x5 (ix3 j m w)) c
/-- Its imaginary part. -/
def atI (j : Fin 8) (c : Fin 128) (w : Fin 512) : EReal :=
  bim (fun m c => x2 (ix3 j (lo m) c)) (fun m c => x2 (ix3 j (up m) c)) (fun c m => x3 (ix3 j (lo c) m)) (fun c m => x3 (ix3 j (up c) m))
    (fun c => x0 (ix4 0 j c w)) (fun c => x1 (ix4 0 j c w)) (fun m => x4 (ix3 j m w)) (fun m => x5 (ix3 j m w)) c

/-- The whole block's real part. -/
def blkR : Vec Ideal S1x8x128x512 .bf16 := fun i => atR x0 x1 x2 x3 x4 x5 (i 1) (i 2) (i 3)
/-- Its imaginary part. -/
def blkI : Vec Ideal S1x8x128x512 .bf16 := fun i => atI x0 x1 x2 x3 x4 x5 (i 1) (i 2) (i 3)

theorem blkR_at (i : S1x8x128x512.Idx) (j : Fin 8) (c : Fin 128) (w : Fin 512) (h1 : (i 1).val = j.val) (h2 : (i 2).val = c.val)
    (h3 : (i 3).val = w.val) : blkR x0 x1 x2 x3 x4 x5 i = atR x0 x1 x2 x3 x4 x5 j c w := by
  have e1 : i 1 = j := Fin.ext h1
  have e2 : i 2 = c := Fin.ext h2
  have e3 : i 3 = w := Fin.ext h3
  unfold blkR
  rw [e1, e2, e3]
theorem blkI_at (i : S1x8x128x512.Idx) (j : Fin 8) (c : Fin 128) (w : Fin 512) (h1 : (i 1).val = j.val) (h2 : (i 2).val = c.val)
    (h3 : (i 3).val = w.val) : blkI x0 x1 x2 x3 x4 x5 i = atI x0 x1 x2 x3 x4 x5 j c w := by
  have e1 : i 1 = j := Fin.ext h1
  have e2 : i 2 = c := Fin.ext h2
  have e3 : i 3 = w := Fin.ext h3
  unfold blkI
  rw [e1, e2, e3]

/-- A load of row `n` of a block of tables. -/
theorem ldT (n : ℕ) (hn : n < 8) (x : Vec Ideal S8x256x128 .bf16) (h) (r : Fin 256) (c : Fin 128) :
    (View.ld x (Rect.unit (s := S8x256x128) ![n, 0, 0] S1x256x128.size h) : Vec Ideal S1x256x128 .bf16) (ix3 0 r c) = x (ix3 ⟨n, hn⟩ r c) := by
  refine congrArg x (funext fun a => Fin.ext ?_)
  fin_cases a
  · show n + 1 * 0 = n; omega
  · show 0 + 1 * r.val = r.val; omega
  · show 0 + 1 * c.val = c.val; omega
/-- A load of row `n` of a block of activations. -/
theorem ldA (n : ℕ) (hn : n < 8) (x : Vec Ideal S1x8x128x512 .bf16) (h) (c : Fin 128) (w : Fin 512) :
    (View.ld x (Rect.unit (s := S1x8x128x512) ![0, n, 0, 0] S1x1x128x512.size h) : Vec Ideal S1x1x128x512 .bf16) (ix4 0 0 c w)
      = x (ix4 0 ⟨n, hn⟩ c w) := by
  refine congrArg x (funext fun a => Fin.ext ?_)
  fin_cases a
  · rfl
  · show n + 1 * 0 = n; omega
  · show 0 + 1 * c.val = c.val; omega
  · show 0 + 1 * w.val = w.val; omega
/-- A load of row `n` of a block of the spectrum. -/
theorem ldK (n : ℕ) (hn : n < 8) (x : Vec Ideal S8x128x512 .f32) (h) (m : Fin 128) (w : Fin 512) :
    (View.ld x (Rect.unit (s := S8x128x512) ![n, 0, 0] S1x128x512.size h) : Vec Ideal S1x128x512 .f32) (ix3 0 m w) = x (ix3 ⟨n, hn⟩ m w) := by
  refine congrArg x (funext fun a => Fin.ext ?_)
  fin_cases a
  · show n + 1 * 0 = n; omega
  · show 0 + 1 * m.val = m.val; omega
  · show 0 + 1 * w.val = w.val; omega

/-- A step on the loads of row `j`, real part. -/
theorem loadR (j : Fin 8) (g : Vec Ideal S1x256x128 .bf16) (a b : Vec Ideal S1x1x128x512 .bf16) (kr ki : Vec Ideal S1x128x512 .f32)
    (h : Vec Ideal S1x256x128 .bf16) (hg : ∀ r c, g (ix3 0 r c) = x2 (ix3 j r c)) (ha : ∀ c w, a (ix4 0 0 c w) = x0 (ix4 0 j c w))
    (hb : ∀ c w, b (ix4 0 0 c w) = x1 (ix4 0 j c w)) (hr : ∀ c w, kr (ix3 0 c w) = x4 (ix3 j c w)) (hi : ∀ c w, ki (ix3 0 c w) = x5 (ix3 j c w))
    (hh : ∀ r c, h (ix3 0 r c) = x3 (ix3 j r c)) (p q : Fin 1) (c : Fin 128) (w : Fin 512) :
    stepR g a b kr ki h (ix4 p q c w) = atR x0 x1 x2 x3 x4 x5 j c w := by
  obtain rfl : p = 0 := Subsingleton.elim _ _
  obtain rfl : q = 0 := Subsingleton.elim _ _
  rw [stepR_apply]
  unfold Yr Yi atR bre
  simp only [hg, ha, hb, hr, hi, hh]
theorem rowR (n : ℕ) (hn : n < 8) (h0 h1 h2) (p q : Fin 1) (c : Fin 128) (w : Fin 512) :
    stepR (View.ld x2 (Rect.unit (s := S8x256x128) ![n, 0, 0] S1x256x128.size h0)) (View.ld x0 (Rect.unit (s := S1x8x128x512) ![0, n, 0, 0] S1x1x128x512.size h1))
      (View.ld x1 (Rect.unit (s := S1x8x128x512) ![0, n, 0, 0] S1x1x128x512.size h1)) (View.ld x4 (Rect.unit (s := S8x128x512) ![n, 0, 0] S1x128x512.size h2))
      (View.ld x5 (Rect.unit (s := S8x128x512) ![n, 0, 0] S1x128x512.size h2)) (View.ld x3 (Rect.unit (s := S8x256x128) ![n, 0, 0] S1x256x128.size h0))
      (ix4 p q c w) = atR x0 x1 x2 x3 x4 x5 ⟨n, hn⟩ c w :=
  loadR x0 x1 x2 x3 x4 x5 ⟨n, hn⟩ _ _ _ _ _ _ (ldT n hn x2 h0) (ldA n hn x0 h1) (ldA n hn x1 h1) (ldK n hn x4 h2) (ldK n hn x5 h2)
    (ldT n hn x3 h0) p q c w
/-- A step on the loads of row `j`, imaginary part. -/
theorem loadI (j : Fin 8) (g : Vec Ideal S1x256x128 .bf16) (a b : Vec Ideal S1x1x128x512 .bf16) (kr ki : Vec Ideal S1x128x512 .f32)
    (h : Vec Ideal S1x256x128 .bf16) (hg : ∀ r c, g (ix3 0 r c) = x2 (ix3 j r c)) (ha : ∀ c w, a (ix4 0 0 c w) = x0 (ix4 0 j c w))
    (hb : ∀ c w, b (ix4 0 0 c w) = x1 (ix4 0 j c w)) (hr : ∀ c w, kr (ix3 0 c w) = x4 (ix3 j c w)) (hi : ∀ c w, ki (ix3 0 c w) = x5 (ix3 j c w))
    (hh : ∀ r c, h (ix3 0 r c) = x3 (ix3 j r c)) (p q : Fin 1) (c : Fin 128) (w : Fin 512) :
    stepI g a b kr ki h (ix4 p q c w) = atI x0 x1 x2 x3 x4 x5 j c w := by
  obtain rfl : p = 0 := Subsingleton.elim _ _
  obtain rfl : q = 0 := Subsingleton.elim _ _
  rw [stepI_apply]
  unfold Yr Yi atI bim
  simp only [hg, ha, hb, hr, hi, hh]
theorem rowI (n : ℕ) (hn : n < 8) (h0 h1 h2) (p q : Fin 1) (c : Fin 128) (w : Fin 512) :
    stepI (View.ld x2 (Rect.unit (s := S8x256x128) ![n, 0, 0] S1x256x128.size h0)) (View.ld x0 (Rect.unit (s := S1x8x128x512) ![0, n, 0, 0] S1x1x128x512.size h1))
      (View.ld x1 (Rect.unit (s := S1x8x128x512) ![0, n, 0, 0] S1x1x128x512.size h1)) (View.ld x4 (Rect.unit (s := S8x128x512) ![n, 0, 0] S1x128x512.size h2))
      (View.ld x5 (Rect.unit (s := S8x128x512) ![n, 0, 0] S1x128x512.size h2)) (View.ld x3 (Rect.unit (s := S8x256x128) ![n, 0, 0] S1x256x128.size h0))
      (ix4 p q c w) = atI x0 x1 x2 x3 x4 x5 ⟨n, hn⟩ c w :=
  loadI x0 x1 x2 x3 x4 x5 ⟨n, hn⟩ _ _ _ _ _ _ (ldT n hn x2 h0) (ldA n hn x0 h1) (ldA n hn x1 h1) (ldK n hn x4 h2) (ldK n hn x5 h2)
    (ldT n hn x3 h0) p q c w

/-- The real output block. -/
theorem outR_apply (i : S1x8x128x512.Idx) : out1_6 (F := Ideal) x0 x1 x2 x3 x4 x5 i = blkR x0 x1 x2 x3 x4 x5 i := by
  unfold_out out1_6
  refine View.canon_apply_of_pieces (blkR x0 x1 x2 x3 x4 x5) _ (fun p hp y => ?_) i (cover1_6 _ _ _ _ _ _ _ _ i)
  simp only [List.mem_cons, List.mem_nil_iff, or_false] at hp
  rcases hp with rfl | rfl | rfl | rfl | rfl | rfl | rfl | rfl
  · idx_vars y
    exact (congrFun (r7 _ _ _ _ _ _) _).trans ((rowR x0 x1 x2 x3 x4 x5 7 (by decide) _ _ _ _ _ y2 y3).trans (blkR_at x0 x1 x2 x3 x4 x5 _ ⟨7, by decide⟩ y2 y3
      (by have h : y1.val < 1 := y1.isLt; show 7 + 1 * y1.val = 7; omega) (by show 0 + 1 * y2.val = y2.val; omega) (by show 0 + 1 * y3.val = y3.val; omega)).symm)
  · idx_vars y
    exact (congrFun (r6 _ _ _ _ _ _) _).trans ((rowR x0 x1 x2 x3 x4 x5 6 (by decide) _ _ _ _ _ y2 y3).trans (blkR_at x0 x1 x2 x3 x4 x5 _ ⟨6, by decide⟩ y2 y3
      (by have h : y1.val < 1 := y1.isLt; show 6 + 1 * y1.val = 6; omega) (by show 0 + 1 * y2.val = y2.val; omega) (by show 0 + 1 * y3.val = y3.val; omega)).symm)
  · idx_vars y
    exact (congrFun (r5 _ _ _ _ _ _) _).trans ((rowR x0 x1 x2 x3 x4 x5 5 (by decide) _ _ _ _ _ y2 y3).trans (blkR_at x0 x1 x2 x3 x4 x5 _ ⟨5, by decide⟩ y2 y3
      (by have h : y1.val < 1 := y1.isLt; show 5 + 1 * y1.val = 5; omega) (by show 0 + 1 * y2.val = y2.val; omega) (by show 0 + 1 * y3.val = y3.val; omega)).symm)
  · idx_vars y
    exact (congrFun (r4 _ _ _ _ _ _) _).trans ((rowR x0 x1 x2 x3 x4 x5 4 (by decide) _ _ _ _ _ y2 y3).trans (blkR_at x0 x1 x2 x3 x4 x5 _ ⟨4, by decide⟩ y2 y3
      (by have h : y1.val < 1 := y1.isLt; show 4 + 1 * y1.val = 4; omega) (by show 0 + 1 * y2.val = y2.val; omega) (by show 0 + 1 * y3.val = y3.val; omega)).symm)
  · idx_vars y
    exact (congrFun (r3 _ _ _ _ _ _) _).trans ((rowR x0 x1 x2 x3 x4 x5 3 (by decide) _ _ _ _ _ y2 y3).trans (blkR_at x0 x1 x2 x3 x4 x5 _ ⟨3, by decide⟩ y2 y3
      (by have h : y1.val < 1 := y1.isLt; show 3 + 1 * y1.val = 3; omega) (by show 0 + 1 * y2.val = y2.val; omega) (by show 0 + 1 * y3.val = y3.val; omega)).symm)
  · idx_vars y
    exact (congrFun (r2 _ _ _ _ _ _) _).trans ((rowR x0 x1 x2 x3 x4 x5 2 (by decide) _ _ _ _ _ y2 y3).trans (blkR_at x0 x1 x2 x3 x4 x5 _ ⟨2, by decide⟩ y2 y3
      (by have h : y1.val < 1 := y1.isLt; show 2 + 1 * y1.val = 2; omega) (by show 0 + 1 * y2.val = y2.val; omega) (by show 0 + 1 * y3.val = y3.val; omega)).symm)
  · idx_vars y
    exact (congrFun (r1 _ _ _ _ _ _) _).trans ((rowR x0 x1 x2 x3 x4 x5 1 (by decide) _ _ _ _ _ y2 y3).trans (blkR_at x0 x1 x2 x3 x4 x5 _ ⟨1, by decide⟩ y2 y3
      (by have h : y1.val < 1 := y1.isLt; show 1 + 1 * y1.val = 1; omega) (by show 0 + 1 * y2.val = y2.val; omega) (by show 0 + 1 * y3.val = y3.val; omega)).symm)
  · idx_vars y
    exact ((rowR x0 x1 x2 x3 x4 x5 0 (by decide) _ _ _ _ _ y2 y3).trans (blkR_at x0 x1 x2 x3 x4 x5 _ ⟨0, by decide⟩ y2 y3
      (by have h : y1.val < 1 := y1.isLt; show 0 + 1 * y1.val = 0; omega) (by show 0 + 1 * y2.val = y2.val; omega) (by show 0 + 1 * y3.val = y3.val; omega)).symm)

/-- The imaginary output block. -/
theorem outI_apply (i : S1x8x128x512.Idx) : out1_7 (F := Ideal) x0 x1 x2 x3 x4 x5 i = blkI x0 x1 x2 x3 x4 x5 i := by
  unfold_out out1_7
  refine View.canon_apply_of_pieces (blkI x0 x1 x2 x3 x4 x5) _ (fun p hp y => ?_) i (cover1_7 _ _ _ _ _ _ _ _ i)
  simp only [List.mem_cons, List.mem_nil_iff, or_false] at hp
  rcases hp with rfl | rfl | rfl | rfl | rfl | rfl | rfl | rfl
  · idx_vars y
    exact (congrFun (i7 _ _ _ _ _ _) _).trans ((rowI x0 x1 x2 x3 x4 x5 7 (by decide) _ _ _ _ _ y2 y3).trans (blkI_at x0 x1 x2 x3 x4 x5 _ ⟨7, by decide⟩ y2 y3
      (by have h : y1.val < 1 := y1.isLt; show 7 + 1 * y1.val = 7; omega) (by show 0 + 1 * y2.val = y2.val; omega) (by show 0 + 1 * y3.val = y3.val; omega)).symm)
  · idx_vars y
    exact (congrFun (i6 _ _ _ _ _ _) _).trans ((rowI x0 x1 x2 x3 x4 x5 6 (by decide) _ _ _ _ _ y2 y3).trans (blkI_at x0 x1 x2 x3 x4 x5 _ ⟨6, by decide⟩ y2 y3
      (by have h : y1.val < 1 := y1.isLt; show 6 + 1 * y1.val = 6; omega) (by show 0 + 1 * y2.val = y2.val; omega) (by show 0 + 1 * y3.val = y3.val; omega)).symm)
  · idx_vars y
    exact (congrFun (i5 _ _ _ _ _ _) _).trans ((rowI x0 x1 x2 x3 x4 x5 5 (by decide) _ _ _ _ _ y2 y3).trans (blkI_at x0 x1 x2 x3 x4 x5 _ ⟨5, by decide⟩ y2 y3
      (by have h : y1.val < 1 := y1.isLt; show 5 + 1 * y1.val = 5; omega) (by show 0 + 1 * y2.val = y2.val; omega) (by show 0 + 1 * y3.val = y3.val; omega)).symm)
  · idx_vars y
    exact (congrFun (i4 _ _ _ _ _ _) _).trans ((rowI x0 x1 x2 x3 x4 x5 4 (by decide) _ _ _ _ _ y2 y3).trans (blkI_at x0 x1 x2 x3 x4 x5 _ ⟨4, by decide⟩ y2 y3
      (by have h : y1.val < 1 := y1.isLt; show 4 + 1 * y1.val = 4; omega) (by show 0 + 1 * y2.val = y2.val; omega) (by show 0 + 1 * y3.val = y3.val; omega)).symm)
  · idx_vars y
    exact (congrFun (i3 _ _ _ _ _ _) _).trans ((rowI x0 x1 x2 x3 x4 x5 3 (by decide) _ _ _ _ _ y2 y3).trans (blkI_at x0 x1 x2 x3 x4 x5 _ ⟨3, by decide⟩ y2 y3
      (by have h : y1.val < 1 := y1.isLt; show 3 + 1 * y1.val = 3; omega) (by show 0 + 1 * y2.val = y2.val; omega) (by show 0 + 1 * y3.val = y3.val; omega)).symm)
  · idx_vars y
    exact (congrFun (i2 _ _ _ _ _ _) _).trans ((rowI x0 x1 x2 x3 x4 x5 2 (by decide) _ _ _ _ _ y2 y3).trans (blkI_at x0 x1 x2 x3 x4 x5 _ ⟨2, by decide⟩ y2 y3
      (by have h : y1.val < 1 := y1.isLt; show 2 + 1 * y1.val = 2; omega) (by show 0 + 1 * y2.val = y2.val; omega) (by show 0 + 1 * y3.val = y3.val; omega)).symm)
  · idx_vars y
    exact (congrFun (i1 _ _ _ _ _ _) _).trans ((rowI x0 x1 x2 x3 x4 x5 1 (by decide) _ _ _ _ _ y2 y3).trans (blkI_at x0 x1 x2 x3 x4 x5 _ ⟨1, by decide⟩ y2 y3
      (by have h : y1.val < 1 := y1.isLt; show 1 + 1 * y1.val = 1; omega) (by show 0 + 1 * y2.val = y2.val; omega) (by show 0 + 1 * y3.val = y3.val; omega)).symm)
  · idx_vars y
    exact ((rowI x0 x1 x2 x3 x4 x5 0 (by decide) _ _ _ _ _ y2 y3).trans (blkI_at x0 x1 x2 x3 x4 x5 _ ⟨0, by decide⟩ y2 y3
      (by have h : y1.val < 1 := y1.isLt; show 0 + 1 * y1.val = 0; omega) (by show 0 + 1 * y2.val = y2.val; omega) (by show 0 + 1 * y3.val = y3.val; omega)).symm)

end block
end Cert.Long2
-- ==== Proof.Long2.MidFinal.lean ====
/- The middle call of the second long convolution: its blocks make up the two arrays. -/
module

public import proofs.«01_k».proof.Defs
public import proofs.«01_k».proof.Proof.Long2.Body
public import Idealize.ShloMosaic.Lib.Pipeline.ValueKit

set_option maxRecDepth 16384
noncomputable section
@[expose] public section
namespace Cert.Long2
open Cert.Long (dotp xre xim yre yim bre bim lo up)
open Cert.Kernel12Ideal Cert.Kernel12Ideal.Gen Idealize.ShloMosaic Idealize.ShloMosaic.TcCoe Idealize.SL.Sem
open Idealize.ShloMosaic.Pipeline (Dat)

section arr
variable (A A' : FVec Ideal S4x128x128x512 .bf16) (G H : FVec Ideal S128x256x128 .bf16) (K K' : FVec Ideal S128x128x512 .f32)
/-- Real part of entry `(b, k, c, w)`. -/
def midR (b : Fin 4) (k c : Fin 128) (w : Fin 512) : EReal :=
  bre (fun m c => G (ix3 k (lo m) c)) (fun m c => G (ix3 k (up m) c)) (fun c m => H (ix3 k (lo c) m)) (fun c m => H (ix3 k (up c) m))
    (fun c => A (ix4 b k c w)) (fun c => A' (ix4 b k c w)) (fun m => K (ix3 k m w)) (fun m => K' (ix3 k m w)) c
/-- Its imaginary part. -/
def midI (b : Fin 4) (k c : Fin 128) (w : Fin 512) : EReal :=
  bim (fun m c => G (ix3 k (lo m) c)) (fun m c => G (ix3 k (up m) c)) (fun c m => H (ix3 k (lo c) m)) (fun c m => H (ix3 k (up c) m))
    (fun c => A (ix4 b k c w)) (fun c => A' (ix4 b k c w)) (fun m => K (ix3 k m w)) (fun m => K' (ix3 k m w)) c
/-- The whole real array. -/
def midArrR : FVec Ideal S4x128x128x512 .bf16 := fun i => midR A A' G H K K' (i 0) (i 1) (i 2) (i 3)
/-- The whole imaginary array. -/
def midArrI : FVec Ideal S4x128x128x512 .bf16 := fun i => midI A A' G H K K' (i 0) (i 1) (i 2) (i 3)

theorem midArrR_at (i : S4x128x128x512.Idx) (b : Fin 4) (k c : Fin 128) (w : Fin 512) (h0 : (i 0).val = b.val) (h1 : (i 1).val = k.val)
    (h2 : (i 2).val = c.val) (h3 : (i 3).val = w.val) : midArrR A A' G H K K' i = midR A A' G H K K' b k c w := by
  have e0 : i 0 = b := Fin.ext h0
  have e1 : i 1 = k := Fin.ext h1
  have e2 : i 2 = c := Fin.ext h2
  have e3 : i 3 = w := Fin.ext h3
  unfold midArrR
  rw [e0, e1, e2, e3]
theorem midArrI_at (i : S4x128x128x512.Idx) (b : Fin 4) (k c : Fin 128) (w : Fin 512) (h0 : (i 0).val = b.val) (h1 : (i 1).val = k.val)
    (h2 : (i 2).val = c.val) (h3 : (i 3).val = w.val) : midArrI A A' G H K K' i = midI A A' G H K K' b k c w := by
  have e0 : i 0 = b := Fin.ext h0
  have e1 : i 1 = k := Fin.ext h1
  have e2 : i 2 = c := Fin.ext h2
  have e3 : i 3 = w := Fin.ext h3
  unfold midArrI
  rw [e0, e1, e2, e3]
end arr

/-- The blocks of every grid point. -/
theorem idx1 : ∀ t : Fin cfg1.N, win1_0.index t = ![t.val % 4, t.val / 4, 0, 0] ∧ win1_1.index t = ![t.val % 4, t.val / 4, 0, 0]
    ∧ win1_2.index t = ![t.val / 4, 0, 0] ∧ win1_3.index t = ![t.val / 4, 0, 0] ∧ win1_4.index t = ![t.val / 4, 0, 0]
    ∧ win1_5.index t = ![t.val / 4, 0, 0] ∧ win1_6.index t = ![t.val % 4, t.val / 4, 0, 0] ∧ win1_7.index t = ![t.val % 4, t.val / 4, 0, 0] :=
  (by decide +kernel : ∀ t : Fin grid1.N, _)

section final
variable (V : (c : Dev nD) → (b : Ref sig .tc) → Buf (Elt Ideal) ((c : Thread nD τ).loc b)) (c : Dev nD) (t : Fin cfg1.N)

/-- The batch entry of a grid point. -/
def b1 : Fin 4 := ⟨t.val % 4, by omega⟩
/-- Row `j` of its block among the groups of frequencies. -/
def k1 (j : Fin 8) : Fin 128 := ⟨t.val / 4 * 8 + j.val, by have : t.val < 64 := t.isLt; omega⟩

theorem read1_0 (j : Fin 8) (a : Fin 128) (w : Fin 512) : iblk1 V c 0 t (ix4 0 j a w) = V c main_v24 (ix4 (b1 t) (k1 t j) a w) := by
  unfold b1 k1
  blk_ext [iblk1, idx1 t]
theorem read1_1 (j : Fin 8) (a : Fin 128) (w : Fin 512) : iblk1 V c 1 t (ix4 0 j a w) = V c main_v25 (ix4 (b1 t) (k1 t j) a w) := by
  unfold b1 k1
  blk_ext [iblk1, idx1 t]
theorem read1_2 (j : Fin 8) (r : Fin 256) (a : Fin 128) : iblk1 V c 2 t (ix3 j r a) = V c main_v6 (ix3 (k1 t j) r a) := by
  unfold k1
  blk_ext [iblk1, idx1 t]
theorem read1_3 (j : Fin 8) (r : Fin 256) (a : Fin 128) : iblk1 V c 3 t (ix3 j r a) = V c main_v10 (ix3 (k1 t j) r a) := by
  unfold k1
  blk_ext [iblk1, idx1 t]
theorem read1_4 (j : Fin 8) (a : Fin 128) (w : Fin 512) : iblk1 V c 4 t (ix3 j a w) = V c main_arg2 (ix3 (k1 t j) a w) := by
  unfold k1
  blk_ext [iblk1, idx1 t]
theorem read1_5 (j : Fin 8) (a : Fin 128) (w : Fin 512) : iblk1 V c 5 t (ix3 j a w) = V c main_arg3 (ix3 (k1 t j) a w) := by
  unfold k1
  blk_ext [iblk1, idx1 t]

theorem blockR (i : Fin 1) (j : Fin 8) (a : Fin 128) (w : Fin 512) :
    out1_6 (F := Ideal) (iblk1 V c 0 t) (iblk1 V c 1 t) (iblk1 V c 2 t) (iblk1 V c 3 t) (iblk1 V c 4 t) (iblk1 V c 5 t) (ix4 i j a w)
      = midR (V c main_v24) (V c main_v25) (V c main_v6) (V c main_v10) (V c main_arg2) (V c main_arg3) (b1 t) (k1 t j) a w := by
  refine (outR_apply _ _ _ _ _ _ (ix4 i j a w)).trans ?_
  show atR (iblk1 V c 0 t) (iblk1 V c 1 t) (iblk1 V c 2 t) (iblk1 V c 3 t) (iblk1 V c 4 t) (iblk1 V c 5 t) j a w = _
  unfold atR midR
  simp only [read1_0, read1_1, read1_2, read1_3, read1_4, read1_5]
theorem blockI (i : Fin 1) (j : Fin 8) (a : Fin 128) (w : Fin 512) :
    out1_7 (F := Ideal) (iblk1 V c 0 t) (iblk1 V c 1 t) (iblk1 V c 2 t) (iblk1 V c 3 t) (iblk1 V c 4 t) (iblk1 V c 5 t) (ix4 i j a w)
      = midI (V c main_v24) (V c main_v25) (V c main_v6) (V c main_v10) (V c main_arg2) (V c main_arg3) (b1 t) (k1 t j) a w := by
  refine (outI_apply _ _ _ _ _ _ (ix4 i j a w)).trans ?_
  show atI (iblk1 V c 0 t) (iblk1 V c 1 t) (iblk1 V c 2 t) (iblk1 V c 3 t) (iblk1 V c 4 t) (iblk1 V c 5 t) j a w = _
  unfold atI midI
  simp only [read1_0, read1_1, read1_2, read1_3, read1_4, read1_5]

/-- The real array the middle call leaves. -/
theorem final1R : (dat1 V c).arrAt 6 cfg1.N
    = midArrR (V c main_v24) (V c main_v25) (V c main_v6) (V c main_v10) (V c main_arg2) (V c main_arg3) := by
  refine (dat1 V c).arrAt_eq_of_covers 6 _ (by decide +kernel) fun t hf y => ?_
  blk_simp
  rw [after1_6]
  idx_vars y
  refine (blockR V c t _ y1 y2 y3).trans (midArrR_at _ _ _ _ _ _ _ _ _ _ _ ?_ ?_ ?_ ?_).symm
  · blk_simp [idx1 t]
    rfl
  · blk_simp [idx1 t]
    rfl
  · blk_simp [idx1 t]
  · blk_simp [idx1 t]
/-- The imaginary array. -/
theorem final1I : (dat1 V c).arrAt 7 cfg1.N
    = midArrI (V c main_v24) (V c main_v25) (V c main_v6) (V c main_v10) (V c main_arg2) (V c main_arg3) := by
  refine (dat1 V c).arrAt_eq_of_covers 7 _ (by decide +kernel) fun t hf y => ?_
  blk_simp
  rw [after1_7]
  idx_vars y
  refine (blockI V c t _ y1 y2 y3).trans (midArrI_at _ _ _ _ _ _ _ _ _ _ _ ?_ ?_ ?_ ?_).symm
  · blk_simp [idx1 t]
    rfl
  · blk_simp [idx1 t]
    rfl
  · blk_simp [idx1 t]
  · blk_simp [idx1 t]

end final
end Cert.Long2
-- ==== Proof.Long2.Out.lean ====
/- The last call of the second long convolution: the transform back, the skip and the gate. -/
module

public import proofs.«01_k».proof.Defs
public import proofs.«01_k».proof.Proof.Gen.Kernel12Ideal.Frame
public import proofs.«01_k».proof.Proof.Long.Math
public import Idealize.ShloMosaic.Lib.Pipeline.ValueKit

set_option maxRecDepth 16384
noncomputable section
@[expose] public section
namespace Cert.Long2
open Cert.Long (dotp xre xim yre yim bre bim lo up)
open Cert.Kernel12Ideal Cert.Kernel12Ideal.Gen Idealize.ShloMosaic Idealize.ShloMosaic.TcCoe Idealize.SL.Sem
open Idealize.ShloMosaic.Pipeline (Dat)

/-- Entry `(b, r, l)` of the result, from the two arrays of the middle call, the two tables, the gate, the activations and the
    skip row (which repeats every 4096 lanes). -/
def last (B B' : FVec Ideal S4x128x65536 .bf16) (T T' : FVec Ideal S64x128 .bf16) (U : FVec Ideal S3x4x64x65536 .f32) (X : FVec Ideal S1x4x64x65536 .f32)
    (s : FVec Ideal S1x4096 .f32) (b : Fin 4) (r : Fin 64) (l : Fin 65536) : EReal :=
  U (ix4 2 b r l) * ((dotp (fun k : Fin 128 => T (ix2 r k)) (fun k => B (ix3 b k l)) - dotp (fun k : Fin 128 => T' (ix2 r k)) (fun k => B' (ix3 b k l)))
    + X (ix4 0 b r l) * s (ix2 0 ⟨l.val % 4096, by omega⟩))
/-- The whole result. -/
def lastArr (B B' : FVec Ideal S4x128x65536 .bf16) (T T' : FVec Ideal S64x128 .bf16) (U : FVec Ideal S3x4x64x65536 .f32) (X : FVec Ideal S1x4x64x65536 .f32)
    (s : FVec Ideal S1x4096 .f32) : FVec Ideal S4x64x65536 .f32 := fun i => last B B' T T' U X s (i 0) (i 1) (i 2)

/-- The blocks of every grid point. -/
theorem idx2 : ∀ t : Fin cfg2.N, win2_0.index t = ![t.val / 16, 0, t.val % 16] ∧ win2_1.index t = ![t.val / 16, 0, t.val % 16]
    ∧ win2_2.index t = ![0, 0] ∧ win2_3.index t = ![0, 0] ∧ win2_4.index t = ![0, t.val / 16, 0, t.val % 16]
    ∧ win2_5.index t = ![2, t.val / 16, 0, t.val % 16] ∧ win2_6.index t = ![0, 0] ∧ win2_7.index t = ![t.val / 16, 0, t.val % 16] :=
  (by decide +kernel : ∀ t : Fin grid2.N, _)

theorem tile2_apply (e : Vec Ideal S64x128 .bf16) (p : Vec Ideal S1x128x4096 .bf16) (e' : Vec Ideal S64x128 .bf16) (p' : Vec Ideal S1x128x4096 .bf16)
    (g x : Vec Ideal S1x1x64x4096 .f32) (s : Vec Ideal S1x4096 .f32) (i : Fin 1) (r : Fin 64) (w : Fin 4096) :
    k2_pay1 (F := Ideal) e p e' p' g x s (ix3 i r w)
      = g (ix4 0 0 r w) * ((dotp (fun k : Fin 128 => e (ix2 r k)) (fun k => p (ix3 0 k w)) - dotp (fun k : Fin 128 => e' (ix2 r k)) (fun k => p' (ix3 0 k w)))
        + x (ix4 0 0 r w) * s (ix2 0 w)) := by
  obtain rfl : i = 0 := Subsingleton.elim _ _
  pointwise [k2_pay1]
  rfl

section final
variable (V : (c : Dev nD) → (b : Ref sig .tc) → Buf (Elt Ideal) ((c : Thread nD τ).loc b)) (c : Dev nD) (t : Fin cfg2.N)

/-- The batch entry of a grid point. -/
def b2 : Fin 4 := ⟨t.val / 16, by have : t.val < 64 := t.isLt; omega⟩
/-- Lane `s` of its block among all lanes. -/
def l2 (s : Fin 4096) : Fin 65536 := ⟨t.val % 16 * 4096 + s.val, by omega⟩

theorem read2_0 (k : Fin 128) (s : Fin 4096) : iblk2 V c 0 t (ix3 0 k s) = V c main_v31 (ix3 (b2 t) k (l2 t s)) := by
  unfold b2 l2
  blk_ext [iblk2, idx2 t]
theorem read2_1 (k : Fin 128) (s : Fin 4096) : iblk2 V c 1 t (ix3 0 k s) = V c main_v32 (ix3 (b2 t) k (l2 t s)) := by
  unfold b2 l2
  blk_ext [iblk2, idx2 t]
theorem read2_2 (r : Fin 64) (k : Fin 128) : iblk2 V c 2 t (ix2 r k) = V c main_v15 (ix2 r k) := by
  blk_ext [iblk2, idx2 t]
theorem read2_3 (r : Fin 64) (k : Fin 128) : iblk2 V c 3 t (ix2 r k) = V c main_v20 (ix2 r k) := by
  blk_ext [iblk2, idx2 t]
theorem read2_4 (r : Fin 64) (s : Fin 4096) : iblk2 V c 4 t (ix4 0 0 r s) = V c main_v22 (ix4 0 (b2 t) r (l2 t s)) := by
  unfold b2 l2
  blk_ext [iblk2, idx2 t]
theorem read2_5 (r : Fin 64) (s : Fin 4096) : iblk2 V c 5 t (ix4 0 0 r s) = V c main_v21 (ix4 2 (b2 t) r (l2 t s)) := by
  unfold b2 l2
  blk_ext [iblk2, idx2 t]
theorem read2_6 (s : Fin 4096) : iblk2 V c 6 t (ix2 0 s) = V c main_v30 (ix2 0 s) := by
  blk_ext [iblk2, idx2 t]

theorem lastArr_at (B B' : FVec Ideal S4x128x65536 .bf16) (T T' : FVec Ideal S64x128 .bf16) (U : FVec Ideal S3x4x64x65536 .f32) (X : FVec Ideal S1x4x64x65536 .f32)
    (s : FVec Ideal S1x4096 .f32) (i : S4x64x65536.Idx) (b : Fin 4) (r : Fin 64) (l : Fin 65536) (h0 : (i 0).val = b.val)
    (h1 : (i 1).val = r.val) (h2 : (i 2).val = l.val) : lastArr B B' T T' U X s i = last B B' T T' U X s b r l := by
  have e0 : i 0 = b := Fin.ext h0
  have e1 : i 1 = r := Fin.ext h1
  have e2 : i 2 = l := Fin.ext h2
  unfold lastArr
  rw [e0, e1, e2]

theorem skip_lane (s : Fin 4096) : (⟨(l2 t s).val % 4096, by omega⟩ : Fin 4096) = s :=
  Fin.ext (by show (t.val % 16 * 4096 + s.val) % 4096 = s.val; omega)

/-- The array the last call leaves. -/
theorem final2 : (dat2 V c).arrAt 7 cfg2.N
    = lastArr (V c main_v31) (V c main_v32) (V c main_v15) (V c main_v20) (V c main_v21) (V c main_v22) (V c main_v30) := by
  refine (dat2 V c).arrAt_eq_of_covers 7 _ (by decide +kernel) fun t hf y => ?_
  blk_simp
  rw [after2_7]
  frame_out
  idx_vars y
  refine Eq.trans ((tile2_apply _ _ _ _ _ _ _ _ y1 y2).trans ?_) (lastArr_at _ _ _ _ _ _ _ _ (b2 t) y1 (l2 t y2) ?_ ?_ ?_).symm
  · unfold last
    simp only [read2_0, read2_1, read2_2, read2_3, read2_4, read2_5, read2_6, skip_lane]
  · blk_simp [idx2 t]
    rfl
  · blk_simp [idx2 t]
  · blk_simp [idx2 t]
    rfl

end final
end Cert.Long2
-- ==== Proof.Long2.Tables.lean ====
/- The tables and the layout changes between the calls, entry by entry. -/
module

public import proofs.«01_k».proof.Defs
public import proofs.«01_k».proof.Proof.Gen.Kernel12Ideal.Frame
public import proofs.«01_k».proof.Proof.Long.Math
public import Idealize.ShloMosaic.Lib.Pipeline.ValueKit

set_option maxRecDepth 16384
noncomputable section
@[expose] public section
namespace Cert.Long2
open Cert.Long (dotp xre xim yre yim bre bim lo up)
open Cert.Kernel12Ideal Cert.Kernel12Ideal.Gen Idealize.ShloMosaic Idealize.ShloMosaic.TcCoe Idealize.SL.Sem

/-- The negation of an entry. -/
def neg (x : Ideal .f32) : Ideal .f32 := FloatOps.hostNegf x
/-- An entry divided by the length 16384 of the transform. -/
def scaled (x : Ideal .f32) : Ideal .f32 := FloatOps.hostDivf x (FloatOps.ofBits .f32 0x46800000#32)
/-- Column `r` of the first half of the columns. -/
def low (r : Fin 64) : Fin 128 := ⟨r.val, by omega⟩
/-- Row of part `p` of the activations at batch entry `b`, group `r`, place `c`. -/
def row (b : Fin 4) (r : Fin 64) (c : Fin 128) : Fin 32768 := ⟨b.val * 8192 + r.val * 128 + c.val, by omega⟩
/-- Lane `w` of place `c`. -/
def fl (c : Fin 128) (w : Fin 512) : Fin 65536 := ⟨c.val * 512 + w.val, by omega⟩

section tables
variable (C S : FVec Ideal S128x128 .f32) (G H : FVec Ideal S128x128x128 .f32)

/-- The stacked table of the first stage. -/
def tabF : FVec Ideal S256x64 .bf16 :=
  truncf .bf16 (concatenate S256x64 0 [⟨S128x64, extractStridedSlice S128x64 ![0, 0] C slices_S128x128_S128x64_0_0⟩,
    ⟨S128x64, Host.negf (extractStridedSlice S128x64 ![0, 0] S slices_S128x128_S128x64_0_0)⟩] concatenates_S128x64_S128x64_S256x64_d0) bitsLt_bf16_f32
theorem tabF_lo (m : Fin 128) (r : Fin 64) : tabF C S (ix2 (lo m) r) = C (ix2 m (low r)) := by
  unfold tabF
  pointwise []
  rw [dif_pos (show (lo m).val < 128 from m.isLt)]
  rfl
theorem tabF_up (m : Fin 128) (r : Fin 64) : tabF C S (ix2 (up m) r) = neg (S (ix2 m (low r))) := by
  unfold tabF
  pointwise []
  rw [dif_neg (show ¬ (up m).val < 128 from by show ¬ 128 + m.val < 128; omega)]
  refine congrArg neg (congrArg S (funext fun a => Fin.ext ?_))
  fin_cases a
  · show 128 + m.val - 128 = m.val; omega
  · rfl

/-- The stacked table of the middle call's transform. -/
def tabG : FVec Ideal S128x256x128 .bf16 :=
  truncf .bf16 (concatenate S128x256x128 1 [⟨S128x128x128, G⟩, ⟨S128x128x128, H⟩] concatenates_S128x128x128_S128x128x128_S128x256x128_d1) bitsLt_bf16_f32
theorem tabG_lo (k m c : Fin 128) : tabG G H (ix3 k (lo m) c) = G (ix3 k m c) := by
  unfold tabG
  pointwise []
  rw [dif_pos (show (lo m).val < 128 from m.isLt)]
  rfl
theorem tabG_up (k m c : Fin 128) : tabG G H (ix3 k (up m) c) = H (ix3 k m c) := by
  unfold tabG
  pointwise []
  rw [dif_neg (show ¬ (up m).val < 128 from by show ¬ 128 + m.val < 128; omega)]
  refine congrArg H (funext fun a => Fin.ext ?_)
  fin_cases a
  · rfl
  · show 128 + m.val - 128 = m.val; omega
  · rfl

/-- The transposed table. -/
def flip (G : FVec Ideal S128x128x128 .f32) : FVec Ideal S128x128x128 .f32 :=
  transpose S128x128x128 [0, 2, 1] G transposes_S128x128x128_S128x128x128_0_2_1
theorem flip_apply (G : FVec Ideal S128x128x128 .f32) (k m c : Fin 128) : flip G (ix3 k m c) = G (ix3 k c m) := by
  unfold flip
  pointwise []

/-- The table of the last call. -/
def tabE : FVec Ideal S64x128 .bf16 :=
  truncf .bf16 (Host.divf (extractStridedSlice S64x128 ![0, 0] (transpose S128x128 [1, 0] C transposes_S128x128_S128x128_1_0) slices_S128x128_S64x128_0_0)
    (broadcastInDim S64x128 ![] bcast_S_S64x128 (constant S_ .f32 0x46800000#32))) bitsLt_bf16_f32
theorem tabE_apply (r : Fin 64) (k : Fin 128) : tabE C (ix2 r k) = scaled (C (ix2 k (low r))) := by
  unfold tabE
  pointwise []
  rfl

end tables

/-- The activations by part, batch entry, group and lane. -/
theorem acts (u : FVec Ideal S3x32768x512 .f32) (p : Fin 3) (b : Fin 4) (r : Fin 64) (c : Fin 128) (w : Fin 512) :
    shapeCast S3x4x64x65536 u shapeCasts_S3x32768x512_S3x4x64x65536 (ix4 p b r (fl c w)) = u (ix3 p (row b r c) w) :=
  shapeCast_apply _ shapeCasts_S3x32768x512_S3x4x64x65536 (ix4 p b r (fl c w)) (ix3 p (row b r c) w) (by
    rewrite [Shape.rowMajor_val_four, Shape.rowMajor_val_three]
    show (p.val * 32768 + (b.val * 8192 + r.val * 128 + c.val)) * 512 + w.val = ((p.val * 4 + b.val) * 64 + r.val) * 65536 + (c.val * 512 + w.val)
    omega)
theorem wide (x : FVec Ideal S4x128x65536 .bf16) (b : Fin 4) (k c : Fin 128) (w : Fin 512) :
    shapeCast S4x128x128x512 x shapeCasts_S4x128x65536_S4x128x128x512 (ix4 b k c w) = x (ix3 b k (fl c w)) :=
  shapeCast_apply _ shapeCasts_S4x128x65536_S4x128x128x512 (ix4 b k c w) (ix3 b k (fl c w)) (by
    rewrite [Shape.rowMajor_val_four, Shape.rowMajor_val_three]
    show (b.val * 128 + k.val) * 65536 + (c.val * 512 + w.val) = ((b.val * 128 + k.val) * 128 + c.val) * 512 + w.val
    omega)
theorem narrow (x : FVec Ideal S4x128x128x512 .bf16) (b : Fin 4) (k c : Fin 128) (w : Fin 512) :
    shapeCast S4x128x65536 x shapeCasts_S4x128x128x512_S4x128x65536 (ix3 b k (fl c w)) = x (ix4 b k c w) :=
  shapeCast_apply _ shapeCasts_S4x128x128x512_S4x128x65536 (ix3 b k (fl c w)) (ix4 b k c w) (by
    rewrite [Shape.rowMajor_val_four, Shape.rowMajor_val_three]
    show ((b.val * 128 + k.val) * 128 + c.val) * 512 + w.val = (b.val * 128 + k.val) * 65536 + (c.val * 512 + w.val)
    omega)

/-- The skip row of the last call: the 512 weights eight times. -/
def skipRow (s : FVec Ideal S512 .f32) : FVec Ideal S1x4096 .f32 :=
  shapeCast S1x4096 (shapeCast S4096 (broadcastInDim S8x512 ![0, 1] bcast_S1x512_S8x512_0_1 (shapeCast S1x512 s shapeCasts_S512_S1x512)) shapeCasts_S8x512_S4096)
    shapeCasts_S4096_S1x4096
theorem skip_at (s : FVec Ideal S512 .f32) (j : Fin 4096) : skipRow s (ix2 0 j) = s (ix1 ⟨j.val % 512, by omega⟩) := by
  unfold skipRow
  refine (shapeCast_apply _ shapeCasts_S4096_S1x4096 (ix2 0 j) (ix1 j) (by
    rewrite [Shape.rowMajor_val_one, Shape.rowMajor_val_two]
    show j.val = 0 * 4096 + j.val
    omega)).trans ?_
  refine (shapeCast_apply _ shapeCasts_S8x512_S4096 (ix1 j) (ix2 (⟨j.val / 512, by omega⟩ : Fin 8) (⟨j.val % 512, by omega⟩ : Fin 512)) (by
    rewrite [Shape.rowMajor_val_one, Shape.rowMajor_val_two]
    show j.val / 512 * 512 + j.val % 512 = j.val
    omega)).trans ?_
  pointwise []
theorem skip_lane_at (s : FVec Ideal S512 .f32) (c : Fin 128) (w : Fin 512) :
    skipRow s (ix2 0 ⟨(fl c w).val % 4096, by omega⟩) = s (ix1 w) := by
  refine (skip_at s _).trans (congrArg (fun k => s (ix1 k)) (Fin.ext ?_))
  show (c.val * 512 + w.val) % 4096 % 512 = w.val
  omega

end Cert.Long2
-- ==== Proof.Long2.Spec.lean ====
/- The second long convolution's result, entry by entry, from the program's arguments. -/
module

public import proofs.«01_k».proof.Defs
public import proofs.«01_k».proof.Proof.Long2.Tables

set_option maxRecDepth 16384
noncomputable section
@[expose] public section
namespace Cert.Long2
open Cert.Long (dotp xre xim yre yim bre bim lo up)
open Cert.Kernel12Ideal Cert.Kernel12Ideal.Gen Idealize.ShloMosaic Idealize.ShloMosaic.TcCoe Idealize.SL.Sem

variable (u : FVec Ideal S3x32768x512 .f32) (y : FVec Ideal S4x64x65536 .f32) (K K' : FVec Ideal S128x128x512 .f32) (s : FVec Ideal S512 .f32)
  (C S : FVec Ideal S128x128 .f32) (G H : FVec Ideal S128x128x128 .f32)

/-- Part `p` of the activations at batch entry `b`, group `r`, place `c`, lane `w`. -/
def act (p : Fin 3) (b : Fin 4) (r : Fin 64) (c : Fin 128) (w : Fin 512) : EReal := u (ix3 p (row b r c) w)
/-- The first convolution's result at batch entry `b`, group `r`, place `c`, lane `w`. -/
def xin (b : Fin 4) (r : Fin 64) (c : Fin 128) (w : Fin 512) : EReal := y (ix3 b r (fl c w))
/-- The first stage's real part. -/
def aR (b : Fin 4) (k c : Fin 128) (w : Fin 512) : EReal := dotp (fun r : Fin 64 => C (ix2 k (low r))) (fun r => xin y b r c w)
/-- Its imaginary part. -/
def aI (b : Fin 4) (k c : Fin 128) (w : Fin 512) : EReal := dotp (fun r : Fin 64 => neg (S (ix2 k (low r)))) (fun r => xin y b r c w)
/-- The middle part's real part. -/
def sR (b : Fin 4) (k c : Fin 128) (w : Fin 512) : EReal :=
  bre (fun m c => G (ix3 k m c)) (fun m c => H (ix3 k m c)) (fun c m => G (ix3 k m c)) (fun c m => H (ix3 k m c))
    (fun c => aR y C b k c w) (fun c => aI y S b k c w) (fun m => K (ix3 k m w)) (fun m => K' (ix3 k m w)) c
/-- Its imaginary part. -/
def sI (b : Fin 4) (k c : Fin 128) (w : Fin 512) : EReal :=
  bim (fun m c => G (ix3 k m c)) (fun m c => H (ix3 k m c)) (fun c m => G (ix3 k m c)) (fun c m => H (ix3 k m c))
    (fun c => aR y C b k c w) (fun c => aI y S b k c w) (fun m => K (ix3 k m w)) (fun m => K' (ix3 k m w)) c
/-- The result. -/
def res (b : Fin 4) (r : Fin 64) (c : Fin 128) (w : Fin 512) : EReal :=
  act u 2 b r c w * ((dotp (fun k : Fin 128 => scaled (C (ix2 k (low r)))) (fun k => sR y K K' C S G H b k c w)
      - dotp (fun k : Fin 128 => scaled (S (ix2 k (low r)))) (fun k => sI y K K' C S G H b k c w)) + xin y b r c w * s (ix1 w))

/-- The place of a lane of the flat result. -/
def pl (l : Fin 65536) : Fin 128 := ⟨l.val / 512, by omega⟩
/-- Its lane within the place. -/
def ln (l : Fin 65536) : Fin 512 := ⟨l.val % 512, by omega⟩
/-- The whole result. -/
def resArr : FVec Ideal S4x64x65536 .f32 := fun i => res u y K K' s C S G H (i 0) (i 1) (pl (i 2)) (ln (i 2))

theorem fl_pl (l : Fin 65536) : fl (pl l) (ln l) = l := Fin.ext (by show l.val / 512 * 512 + l.val % 512 = l.val; omega)

end Cert.Long2
-- ==== Proof.Long2.Final.lean ====
/- The three calls together: what the program leaves, from its arguments. -/
module

public import proofs.«01_k».proof.Defs
public import proofs.«01_k».proof.Proof.Long2.Stage
public import proofs.«01_k».proof.Proof.Long2.MidFinal
public import proofs.«01_k».proof.Proof.Long2.Out
public import proofs.«01_k».proof.Proof.Long2.Spec
public import Idealize.ShloMosaic.Lib.StableHlo.RunRead

set_option maxRecDepth 16384
noncomputable section
@[expose] public section
namespace Cert.Long2
open Cert.Long (dotp xre xim yre yim bre bim lo up)
open Cert.Kernel12Ideal Cert.Kernel12Ideal.Gen Idealize.ShloMosaic Idealize.ShloMosaic.TcCoe Idealize.SL.Sem
open Idealize.ShloMosaic.Pipeline (Dat)

section join
variable (u : FVec Ideal S3x32768x512 .f32) (y : FVec Ideal S4x64x65536 .f32) (K K' : FVec Ideal S128x128x512 .f32) (s : FVec Ideal S512 .f32)
  (C S : FVec Ideal S128x128 .f32) (G H : FVec Ideal S128x128x128 .f32)

/-- The activations as the calls find them. -/
def acts4 : FVec Ideal S3x4x64x65536 .f32 := shapeCast S3x4x64x65536 u shapeCasts_S3x32768x512_S3x4x64x65536
/-- The first convolution's result as the calls find it. -/
def inp : FVec Ideal S1x4x64x65536 .f32 := broadcastInDim S1x4x64x65536 ![1, 2, 3] bcast_S4x64x65536_S1x4x64x65536_1_2_3 y
/-- The first stage's arrays as the middle call finds them. -/
def gR : FVec Ideal S4x128x128x512 .bf16 := shapeCast S4x128x128x512 (stageR (tabF C S) (inp y)) shapeCasts_S4x128x65536_S4x128x128x512
def gI : FVec Ideal S4x128x128x512 .bf16 := shapeCast S4x128x128x512 (stageI (tabF C S) (inp y)) shapeCasts_S4x128x65536_S4x128x128x512
/-- The middle part's arrays as the last call finds them. -/
def hR : FVec Ideal S4x128x65536 .bf16 :=
  shapeCast S4x128x65536 (midArrR (gR y C S) (gI y C S) (tabG G H) (tabG (flip G) (flip H)) K K') shapeCasts_S4x128x128x512_S4x128x65536
def hI : FVec Ideal S4x128x65536 .bf16 :=
  shapeCast S4x128x65536 (midArrI (gR y C S) (gI y C S) (tabG G H) (tabG (flip G) (flip H)) K K') shapeCasts_S4x128x128x512_S4x128x65536

theorem acts4_at (p : Fin 3) (b : Fin 4) (r : Fin 64) (c : Fin 128) (w : Fin 512) : acts4 u (ix4 p b r (fl c w)) = act u p b r c w :=
  acts u p b r c w
theorem inp_at (b : Fin 4) (r : Fin 64) (c : Fin 128) (w : Fin 512) : inp y (ix4 0 b r (fl c w)) = xin y b r c w := by
  unfold inp xin
  pointwise []
theorem gR_at (b : Fin 4) (k c : Fin 128) (w : Fin 512) : gR y C S (ix4 b k c w) = aR y C b k c w := by
  refine (wide _ b k c w).trans ?_
  show stage (tabF C S) (inp y) (lo k) b (fl c w) = _
  unfold stage aR
  simp only [tabF_lo, inp_at]
theorem gI_at (b : Fin 4) (k c : Fin 128) (w : Fin 512) : gI y C S (ix4 b k c w) = aI y S b k c w := by
  refine (wide _ b k c w).trans ?_
  show stage (tabF C S) (inp y) (up k) b (fl c w) = _
  unfold stage aI
  simp only [tabF_up, inp_at]
theorem hR_at (b : Fin 4) (k c : Fin 128) (w : Fin 512) : hR y K K' C S G H (ix3 b k (fl c w)) = sR y K K' C S G H b k c w := by
  refine (narrow _ b k c w).trans ?_
  show midR (gR y C S) (gI y C S) (tabG G H) (tabG (flip G) (flip H)) K K' b k c w = _
  unfold midR sR
  simp only [gR_at, gI_at, tabG_lo, tabG_up, flip_apply]
theorem hI_at (b : Fin 4) (k c : Fin 128) (w : Fin 512) : hI y K K' C S G H (ix3 b k (fl c w)) = sI y K K' C S G H b k c w := by
  refine (narrow _ b k c w).trans ?_
  show midI (gR y C S) (gI y C S) (tabG G H) (tabG (flip G) (flip H)) K K' b k c w = _
  unfold midI sI
  simp only [gR_at, gI_at, tabG_lo, tabG_up, flip_apply]

theorem last_eq : lastArr (hR y K K' C S G H) (hI y K K' C S G H) (tabE C) (tabE S) (acts4 u) (inp y) (skipRow s) = resArr u y K K' s C S G H := by
  funext i
  idx_vars i
  show last (hR y K K' C S G H) (hI y K K' C S G H) (tabE C) (tabE S) (acts4 u) (inp y) (skipRow s) i0 i1 i2 = res u y K K' s C S G H i0 i1 (pl i2) (ln i2)
  have h : ∀ (c : Fin 128) (w : Fin 512), last (hR y K K' C S G H) (hI y K K' C S G H) (tabE C) (tabE S) (acts4 u) (inp y) (skipRow s) i0 i1 (fl c w)
      = res u y K K' s C S G H i0 i1 c w := fun c w => by
    unfold last res
    simp only [hR_at, hI_at, acts4_at, inp_at, tabE_apply, skip_lane_at]
  have e := h (pl i2) (ln i2)
  rw [fl_pl] at e
  exact e

end join

section run
variable (m : (ℓ : Loc nD τ sig) → Buf (Elt Ideal) ℓ) (ρ : Dev nD → PrngReg) (c : Dev nD)

theorem V1_v4 : V1 m ρ c main_v4 = tabF (m ((c : Thread nD τ).loc main_arg5)) (m ((c : Thread nD τ).loc main_arg6)) := by
  after_reads_simp
  rfl
theorem V1_v6 : V1 m ρ c main_v6 = tabG (m ((c : Thread nD τ).loc main_arg7)) (m ((c : Thread nD τ).loc main_arg8)) := by
  after_reads_simp
  rfl
theorem V1_v10 : V1 m ρ c main_v10 = tabG (flip (m ((c : Thread nD τ).loc main_arg7))) (flip (m ((c : Thread nD τ).loc main_arg8))) := by
  after_reads_simp
  rfl
theorem V1_v15 : V1 m ρ c main_v15 = tabE (m ((c : Thread nD τ).loc main_arg5)) := by
  after_reads_simp
  rfl
theorem V1_v20 : V1 m ρ c main_v20 = tabE (m ((c : Thread nD τ).loc main_arg6)) := by
  after_reads_simp
  rfl
theorem V1_v21 : V1 m ρ c main_v21 = acts4 (m ((c : Thread nD τ).loc main_arg0)) := by
  after_reads_simp
  rfl

theorem V1_v22 : V1 m ρ c main_v22 = inp (m ((c : Thread nD τ).loc main_arg1)) := by
  after_reads_simp
  rfl

/-- What the middle call finds. -/
theorem V3_v24 : V3 m ρ c main_v24 = gR (m ((c : Thread nD τ).loc main_arg1)) (m ((c : Thread nD τ).loc main_arg5)) (m ((c : Thread nD τ).loc main_arg6)) := by
  have e : V3 m ρ c main_v24 = shapeCast S4x128x128x512 (W2 m ρ c (Proc.devRef .tc main_v23_0)) shapeCasts_S4x128x65536_S4x128x128x512 := by
    after_reads_simp
    rfl
  rw [e, show W2 m ρ c (Proc.devRef .tc main_v23_0) = (dat0 (V1 m ρ) c).arrAt 2 cfg0.N from W2_arr m ρ c 2, final0R, V1_v4, V1_v22]
  rfl
theorem V3_v25 : V3 m ρ c main_v25 = gI (m ((c : Thread nD τ).loc main_arg1)) (m ((c : Thread nD τ).loc main_arg5)) (m ((c : Thread nD τ).loc main_arg6)) := by
  have e : V3 m ρ c main_v25 = shapeCast S4x128x128x512 (W2 m ρ c (Proc.devRef .tc main_v23_1)) shapeCasts_S4x128x65536_S4x128x128x512 := by
    after_reads_simp
    rfl
  rw [e, show W2 m ρ c (Proc.devRef .tc main_v23_1) = (dat0 (V1 m ρ) c).arrAt 3 cfg0.N from W2_arr m ρ c 3, final0I, V1_v4, V1_v22]
  rfl
theorem V3_v6 : V3 m ρ c main_v6 = tabG (m ((c : Thread nD τ).loc main_arg7)) (m ((c : Thread nD τ).loc main_arg8)) :=
  (W3_of m ρ c main_v6 (by decide)).trans ((W2_of m ρ c main_v6 (by decide)).trans (V1_v6 m ρ c))
theorem V3_v10 : V3 m ρ c main_v10 = tabG (flip (m ((c : Thread nD τ).loc main_arg7))) (flip (m ((c : Thread nD τ).loc main_arg8))) :=
  (W3_of m ρ c main_v10 (by decide)).trans ((W2_of m ρ c main_v10 (by decide)).trans (V1_v10 m ρ c))
theorem V3_arg2 : V3 m ρ c main_arg2 = m ((c : Thread nD τ).loc main_arg2) := W3_args m ρ c main_arg2 (by decide)
theorem V3_arg3 : V3 m ρ c main_arg3 = m ((c : Thread nD τ).loc main_arg3) := W3_args m ρ c main_arg3 (by decide)

/-- What the last call finds. -/
theorem V5_v31 : V5 m ρ c main_v31 = hR (m ((c : Thread nD τ).loc main_arg1)) (m ((c : Thread nD τ).loc main_arg2)) (m ((c : Thread nD τ).loc main_arg3))
    (m ((c : Thread nD τ).loc main_arg5)) (m ((c : Thread nD τ).loc main_arg6)) (m ((c : Thread nD τ).loc main_arg7)) (m ((c : Thread nD τ).loc main_arg8)) := by
  have e : V5 m ρ c main_v31 = shapeCast S4x128x65536 (W4 m ρ c (Proc.devRef .tc main_v26_0)) shapeCasts_S4x128x128x512_S4x128x65536 := by
    after_reads_simp
    rfl
  rw [e, show W4 m ρ c (Proc.devRef .tc main_v26_0) = (dat1 (V3 m ρ) c).arrAt 6 cfg1.N from W4_arr m ρ c 6, final1R, V3_v24, V3_v25, V3_v6,
    V3_v10, V3_arg2, V3_arg3]
  rfl
theorem V5_v32 : V5 m ρ c main_v32 = hI (m ((c : Thread nD τ).loc main_arg1)) (m ((c : Thread nD τ).loc main_arg2)) (m ((c : Thread nD τ).loc main_arg3))
    (m ((c : Thread nD τ).loc main_arg5)) (m ((c : Thread nD τ).loc main_arg6)) (m ((c : Thread nD τ).loc main_arg7)) (m ((c : Thread nD τ).loc main_arg8)) := by
  have e : V5 m ρ c main_v32 = shapeCast S4x128x65536 (W4 m ρ c (Proc.devRef .tc main_v26_1)) shapeCasts_S4x128x128x512_S4x128x65536 := by
    after_reads_simp
    rfl
  rw [e, show W4 m ρ c (Proc.devRef .tc main_v26_1) = (dat1 (V3 m ρ) c).arrAt 7 cfg1.N from W4_arr m ρ c 7, final1I, V3_v24, V3_v25, V3_v6,
    V3_v10, V3_arg2, V3_arg3]
  rfl
theorem V5_v30 : V5 m ρ c main_v30 = skipRow (m ((c : Thread nD τ).loc main_arg4)) := by
  have e : V5 m ρ c main_v30 = skipRow (W4 m ρ c (Proc.devRef .tc main_arg4)) := by
    after_reads_simp
    rfl
  rw [e, W4_args m ρ c main_arg4 (by decide)]
theorem V5_v15 : V5 m ρ c main_v15 = tabE (m ((c : Thread nD τ).loc main_arg5)) :=
  (W5_of m ρ c main_v15 (by decide)).trans ((W4_of m ρ c main_v15 (by decide)).trans ((W3_of m ρ c main_v15 (by decide)).trans
    ((W2_of m ρ c main_v15 (by decide)).trans (V1_v15 m ρ c))))
theorem V5_v20 : V5 m ρ c main_v20 = tabE (m ((c : Thread nD τ).loc main_arg6)) :=
  (W5_of m ρ c main_v20 (by decide)).trans ((W4_of m ρ c main_v20 (by decide)).trans ((W3_of m ρ c main_v20 (by decide)).trans
    ((W2_of m ρ c main_v20 (by decide)).trans (V1_v20 m ρ c))))
theorem V5_v21 : V5 m ρ c main_v21 = acts4 (m ((c : Thread nD τ).loc main_arg0)) :=
  (W5_of m ρ c main_v21 (by decide)).trans ((W4_of m ρ c main_v21 (by decide)).trans ((W3_of m ρ c main_v21 (by decide)).trans
    ((W2_of m ρ c main_v21 (by decide)).trans (V1_v21 m ρ c))))

theorem V5_v22 : V5 m ρ c main_v22 = inp (m ((c : Thread nD τ).loc main_arg1)) :=
  (W5_of m ρ c main_v22 (by decide)).trans ((W4_of m ρ c main_v22 (by decide)).trans ((W3_of m ρ c main_v22 (by decide)).trans
    ((W2_of m ρ c main_v22 (by decide)).trans (V1_v22 m ρ c))))

/-- The result of the program, from its arguments. -/
theorem final : (dat2 (V5 m ρ) c).arrAt 7 cfg2.N = resArr (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) := by
  rw [final2, V5_v31, V5_v32, V5_v15, V5_v20, V5_v21, V5_v22, V5_v30]
  exact last_eq _ _ _ _ _ _ _ _ _

end run
end Cert.Long2
-- ==== Proof.Long2.Ref.lean ====
module

public import proofs.«01_k».proof.Defs
public import proofs.«01_k».proof.Proof.Long2.Spec
public import proofs.«01_k».proof.Proof.Gen.Reference12Ideal.Read

set_option maxRecDepth 16384
noncomputable section
@[expose] public section
namespace Cert.Long2.Ref
open Cert.Long (dotp xre xim yre yim bre bim lo up)
open Cert.Long2 Idealize.ShloMosaic
open Cert.Reference12Ideal Cert.Reference12Ideal.Gen Cert.Reference12Ideal.Read
variable (u : FVec Ideal S3x32768x512 .f32) (y : FVec Ideal S4x64x65536 .f32) (K K' : FVec Ideal S128x128x512 .f32) (s : FVec Ideal S512 .f32)
  (C S : FVec Ideal S128x128 .f32) (G H : FVec Ideal S128x128x128 .f32)

/-- The convolved part. -/
theorem r2 (b : Fin 4) (r : Fin 64) (c : Fin 128) (w : Fin 512) : val_main_v3 (F := Ideal) y (ix4 b r c w) = xin y b r c w := by
  have h0 : b.val < 4 := b.isLt
  have h1 : r.val < 64 := r.isLt
  have h2 : c.val < 128 := c.isLt
  have h3 : w.val < 512 := w.isLt
  have e : idx_main_v3 (ix4 b r c w) = ix3 b r (fl c w) := by
    funext a
    apply Fin.ext
    fin_cases a
    · show (((b.val * 64 + r.val) * 128 + c.val) * 512 + w.val) / 4194304 = b.val; omega
    · show (((b.val * 64 + r.val) * 128 + c.val) * 512 + w.val) / 65536 % 64 = r.val; omega
    · show (((b.val * 64 + r.val) * 128 + c.val) * 512 + w.val) % 65536 = c.val * 512 + w.val; omega
  rw [val_main_v3_apply, e]
  rfl
/-- The gate. -/
theorem r4 (b : Fin 4) (r : Fin 64) (c : Fin 128) (w : Fin 512) : val_main_v2 (F := Ideal) u (ix4 b r c w) = act u 2 b r c w := by
  have h0 : b.val < 4 := b.isLt
  have h1 : r.val < 64 := r.isLt
  have h2 : c.val < 128 := c.isLt
  have h3 : w.val < 512 := w.isLt
  have e1 : idx_main_v1 (idx_main_v2 (ix4 b r c w)) = ix5 2 b r c w := by
    funext a
    apply Fin.ext
    fin_cases a
    · rfl
    · show (((b.val * 64 + r.val) * 128 + c.val) * 512 + w.val) / 4194304 % 4 = b.val; omega
    · show (((b.val * 64 + r.val) * 128 + c.val) * 512 + w.val) / 65536 % 64 = r.val; omega
    · show (((b.val * 64 + r.val) * 128 + c.val) * 512 + w.val) / 512 % 128 = c.val; omega
    · show (((b.val * 64 + r.val) * 128 + c.val) * 512 + w.val) % 512 = w.val; omega
  have e0 : idx_main_v0 (ix5 2 b r c w) = ix3 2 (row b r c) w := by
    funext a
    apply Fin.ext
    fin_cases a
    · show ((((2 * 4 + b.val) * 64 + r.val) * 128 + c.val) * 512 + w.val) / 16777216 = 2; omega
    · show ((((2 * 4 + b.val) * 64 + r.val) * 128 + c.val) * 512 + w.val) / 512 % 32768 = b.val * 8192 + r.val * 128 + c.val; omega
    · show ((((2 * 4 + b.val) * 64 + r.val) * 128 + c.val) * 512 + w.val) % 512 = w.val; omega
  rw [val_main_v2_apply, val_main_v1_apply, e1, val_main_v0_apply, e0]
  rfl

/-- The first stage. -/
theorem r7 (b : Fin 4) (k c : Fin 128) (w : Fin 512) : val_main_v6 (F := Ideal) y C (ix4 b k c w) = aR y C b k c w := by
  have e : idx_main_v6 (ix4 b k c w) = ix4 b c w k := by funext a; fin_cases a <;> rfl
  rw [val_main_v6_apply, e, val_main_v5_apply]
  unfold aR dotp
  refine Finset.sum_congr rfl fun r _ => ?_
  have e1 : lidx_main_v5 (ix4 b c w k) r = ix4 b r c w := by funext a; fin_cases a <;> rfl
  have e2 : idx_main_v4 (ridx_main_v5 (ix4 b c w k) r) = ix2 k (low r) := by funext a; fin_cases a <;> rfl
  rw [e1, r2, val_main_v4_apply, e2, mul_comm]
theorem r11 (b : Fin 4) (k c : Fin 128) (w : Fin 512) : val_main_v10 (F := Ideal) y S (ix4 b k c w) = aI y S b k c w := by
  have e : idx_main_v10 (ix4 b k c w) = ix4 b c w k := by funext a; fin_cases a <;> rfl
  rw [val_main_v10_apply, e, val_main_v9_apply]
  unfold aI dotp
  refine Finset.sum_congr rfl fun r _ => ?_
  have e1 : lidx_main_v9 (ix4 b c w k) r = ix4 b r c w := by funext a; fin_cases a <;> rfl
  have e2 : idx_main_v7 (ridx_main_v9 (ix4 b c w k) r) = ix2 k (low r) := by funext a; fin_cases a <;> rfl
  rw [e1, r2, val_main_v8_apply, val_main_v7_apply, e2, mul_comm]
  rfl

/-- The two parts of the first stage at one group of frequencies and one lane. -/
abbrev ca (b : Fin 4) (k : Fin 128) (w : Fin 512) : Fin 128 → EReal := fun c => aR y C b k c w
abbrev cb (b : Fin 4) (k : Fin 128) (w : Fin 512) : Fin 128 → EReal := fun c => aI y S b k c w
/-- The transform's tables of one group. -/
abbrev tg (k : Fin 128) : Fin 128 → Fin 128 → EReal := fun m c => G (ix3 k m c)

/-- The four products of the transform. -/
theorem r13 (b : Fin 4) (k m : Fin 128) (w : Fin 512) :
    val_main_v12 (F := Ideal) y C G (ix4 b k m w) = dotp (tg G k m) (ca y C b k w) := by
  have e : idx_main_v12 (ix4 b k m w) = ix4 k b w m := by funext a; fin_cases a <;> rfl
  rw [val_main_v12_apply, e, val_main_v11_apply]
  refine Finset.sum_congr rfl fun c _ => ?_
  have e1 : lidx_main_v11 (ix4 k b w m) c = ix4 b k c w := by funext a; fin_cases a <;> rfl
  have e2 : ridx_main_v11 (ix4 k b w m) c = ix3 k m c := by funext a; fin_cases a <;> rfl
  rw [e1, e2, r7, mul_comm]
theorem r15 (b : Fin 4) (k m : Fin 128) (w : Fin 512) :
    val_main_v14 (F := Ideal) y S H (ix4 b k m w) = dotp (tg H k m) (cb y S b k w) := by
  have e : idx_main_v14 (ix4 b k m w) = ix4 k b w m := by funext a; fin_cases a <;> rfl
  rw [val_main_v14_apply, e, val_main_v13_apply]
  refine Finset.sum_congr rfl fun c _ => ?_
  have e1 : lidx_main_v13 (ix4 k b w m) c = ix4 b k c w := by funext a; fin_cases a <;> rfl
  have e2 : ridx_main_v13 (ix4 k b w m) c = ix3 k m c := by funext a; fin_cases a <;> rfl
  rw [e1, e2, r11, mul_comm]
theorem r18 (b : Fin 4) (k m : Fin 128) (w : Fin 512) :
    val_main_v17 (F := Ideal) y S G (ix4 b k m w) = dotp (tg G k m) (cb y S b k w) := by
  have e : idx_main_v17 (ix4 b k m w) = ix4 k b w m := by funext a; fin_cases a <;> rfl
  rw [val_main_v17_apply, e, val_main_v16_apply]
  refine Finset.sum_congr rfl fun c _ => ?_
  have e1 : lidx_main_v16 (ix4 k b w m) c = ix4 b k c w := by funext a; fin_cases a <;> rfl
  have e2 : ridx_main_v16 (ix4 k b w m) c = ix3 k m c := by funext a; fin_cases a <;> rfl
  rw [e1, e2, r11, mul_comm]
theorem r20 (b : Fin 4) (k m : Fin 128) (w : Fin 512) :
    val_main_v19 (F := Ideal) y C H (ix4 b k m w) = dotp (tg H k m) (ca y C b k w) := by
  have e : idx_main_v19 (ix4 b k m w) = ix4 k b w m := by funext a; fin_cases a <;> rfl
  rw [val_main_v19_apply, e, val_main_v18_apply]
  refine Finset.sum_congr rfl fun c _ => ?_
  have e1 : lidx_main_v18 (ix4 k b w m) c = ix4 b k c w := by funext a; fin_cases a <;> rfl
  have e2 : ridx_main_v18 (ix4 k b w m) c = ix3 k m c := by funext a; fin_cases a <;> rfl
  rw [e1, e2, r7, mul_comm]

/-- The transform. -/
theorem r16 (b : Fin 4) (k m : Fin 128) (w : Fin 512) : val_main_v15 (F := Ideal) y C S G H (ix4 b k m w)
    = xre (tg G k) (tg H k) (ca y C b k w) (cb y S b k w) m := by
  rw [val_main_v15_apply, r13, r15]
  rfl
theorem r21 (b : Fin 4) (k m : Fin 128) (w : Fin 512) : val_main_v20 (F := Ideal) y C S G H (ix4 b k m w)
    = xim (tg G k) (tg H k) (ca y C b k w) (cb y S b k w) m := by
  rw [val_main_v20_apply, r18, r20]
  rfl

/-- The spectrum of the filter, the same for every batch entry. -/
theorem r23 (b : Fin 4) (k m : Fin 128) (w : Fin 512) : val_main_v22 (F := Ideal) K (ix4 b k m w) = K (ix3 k m w) := by
  have e : idx_main_v21 (idx_main_v22 (ix4 b k m w)) = ix3 k m w := by funext a; fin_cases a <;> rfl
  rw [val_main_v22_apply, val_main_v21_apply, e]
theorem r26 (b : Fin 4) (k m : Fin 128) (w : Fin 512) : val_main_v25 (F := Ideal) K' (ix4 b k m w) = K' (ix3 k m w) := by
  have e : idx_main_v24 (idx_main_v25 (ix4 b k m w)) = ix3 k m w := by funext a; fin_cases a <;> rfl
  rw [val_main_v25_apply, val_main_v24_apply, e]
theorem r30 (b : Fin 4) (k m : Fin 128) (w : Fin 512) : val_main_v29 (F := Ideal) K' (ix4 b k m w) = K' (ix3 k m w) := by
  have e : idx_main_v28 (idx_main_v29 (ix4 b k m w)) = ix3 k m w := by funext a; fin_cases a <;> rfl
  rw [val_main_v29_apply, val_main_v28_apply, e]
theorem r33 (b : Fin 4) (k m : Fin 128) (w : Fin 512) : val_main_v32 (F := Ideal) K (ix4 b k m w) = K (ix3 k m w) := by
  have e : idx_main_v31 (idx_main_v32 (ix4 b k m w)) = ix3 k m w := by funext a; fin_cases a <;> rfl
  rw [val_main_v32_apply, val_main_v31_apply, e]

/-- The product with the spectrum. -/
theorem r28 (b : Fin 4) (k m : Fin 128) (w : Fin 512) : val_main_v27 (F := Ideal) y K K' C S G H (ix4 b k m w)
    = yre (tg G k) (tg H k) (ca y C b k w) (cb y S b k w) (fun m => K (ix3 k m w)) (fun m => K' (ix3 k m w)) m := by
  rw [val_main_v27_apply, val_main_v23_apply, val_main_v26_apply, r16, r21, r23, r26]
  rfl
theorem r35 (b : Fin 4) (k m : Fin 128) (w : Fin 512) : val_main_v34 (F := Ideal) y K K' C S G H (ix4 b k m w)
    = yim (tg G k) (tg H k) (ca y C b k w) (cb y S b k w) (fun m => K (ix3 k m w)) (fun m => K' (ix3 k m w)) m := by
  rw [val_main_v34_apply, val_main_v30_apply, val_main_v33_apply, r16, r21, r30, r33]
  rfl

/-- The four products of the transform back. -/
theorem r37 (b : Fin 4) (k m : Fin 128) (w : Fin 512) :
    val_main_v36 (F := Ideal) y K K' C S G H (ix4 b k m w) = dotp (fun c => G (ix3 k c m)) (yre (tg G k) (tg H k) (ca y C b k w) (cb y S b k w) (fun m => K (ix3 k m w)) (fun m => K' (ix3 k m w))) := by
  have e : idx_main_v36 (ix4 b k m w) = ix4 k b w m := by funext a; fin_cases a <;> rfl
  rw [val_main_v36_apply, e, val_main_v35_apply]
  refine Finset.sum_congr rfl fun c _ => ?_
  have e1 : lidx_main_v35 (ix4 k b w m) c = ix4 b k c w := by funext a; fin_cases a <;> rfl
  have e2 : ridx_main_v35 (ix4 k b w m) c = ix3 k c m := by funext a; fin_cases a <;> rfl
  rw [e1, e2, r28, mul_comm]
theorem r39 (b : Fin 4) (k m : Fin 128) (w : Fin 512) :
    val_main_v38 (F := Ideal) y K K' C S G H (ix4 b k m w) = dotp (fun c => H (ix3 k c m)) (yim (tg G k) (tg H k) (ca y C b k w) (cb y S b k w) (fun m => K (ix3 k m w)) (fun m => K' (ix3 k m w))) := by
  have e : idx_main_v38 (ix4 b k m w) = ix4 k b w m := by funext a; fin_cases a <;> rfl
  rw [val_main_v38_apply, e, val_main_v37_apply]
  refine Finset.sum_congr rfl fun c _ => ?_
  have e1 : lidx_main_v37 (ix4 k b w m) c = ix4 b k c w := by funext a; fin_cases a <;> rfl
  have e2 : ridx_main_v37 (ix4 k b w m) c = ix3 k c m := by funext a; fin_cases a <;> rfl
  rw [e1, e2, r35, mul_comm]
theorem r42 (b : Fin 4) (k m : Fin 128) (w : Fin 512) :
    val_main_v41 (F := Ideal) y K K' C S G H (ix4 b k m w) = dotp (fun c => G (ix3 k c m)) (yim (tg G k) (tg H k) (ca y C b k w) (cb y S b k w) (fun m => K (ix3 k m w)) (fun m => K' (ix3 k m w))) := by
  have e : idx_main_v41 (ix4 b k m w) = ix4 k b w m := by funext a; fin_cases a <;> rfl
  rw [val_main_v41_apply, e, val_main_v40_apply]
  refine Finset.sum_congr rfl fun c _ => ?_
  have e1 : lidx_main_v40 (ix4 k b w m) c = ix4 b k c w := by funext a; fin_cases a <;> rfl
  have e2 : ridx_main_v40 (ix4 k b w m) c = ix3 k c m := by funext a; fin_cases a <;> rfl
  rw [e1, e2, r35, mul_comm]
theorem r44 (b : Fin 4) (k m : Fin 128) (w : Fin 512) :
    val_main_v43 (F := Ideal) y K K' C S G H (ix4 b k m w) = dotp (fun c => H (ix3 k c m)) (yre (tg G k) (tg H k) (ca y C b k w) (cb y S b k w) (fun m => K (ix3 k m w)) (fun m => K' (ix3 k m w))) := by
  have e : idx_main_v43 (ix4 b k m w) = ix4 k b w m := by funext a; fin_cases a <;> rfl
  rw [val_main_v43_apply, e, val_main_v42_apply]
  refine Finset.sum_congr rfl fun c _ => ?_
  have e1 : lidx_main_v42 (ix4 k b w m) c = ix4 b k c w := by funext a; fin_cases a <;> rfl
  have e2 : ridx_main_v42 (ix4 k b w m) c = ix3 k c m := by funext a; fin_cases a <;> rfl
  rw [e1, e2, r28, mul_comm]

/-- The transform back. -/
theorem r40 (b : Fin 4) (k c : Fin 128) (w : Fin 512) : val_main_v39 (F := Ideal) y K K' C S G H (ix4 b k c w) = sR y K K' C S G H b k c w := by
  rw [val_main_v39_apply, r37, r39]
  rfl
theorem r45 (b : Fin 4) (k c : Fin 128) (w : Fin 512) : val_main_v44 (F := Ideal) y K K' C S G H (ix4 b k c w) = sI y K K' C S G H b k c w := by
  rw [val_main_v44_apply, r42, r44]
  rfl

/-- The last stage. -/
theorem r50 (b : Fin 4) (r : Fin 64) (c : Fin 128) (w : Fin 512) : val_main_v49 (F := Ideal) y K K' C S G H (ix4 b r c w)
    = dotp (fun k : Fin 128 => scaled (C (ix2 k (low r)))) (fun k => sR y K K' C S G H b k c w) := by
  have e : idx_main_v49 (ix4 b r c w) = ix4 b c w r := by funext a; fin_cases a <;> rfl
  rw [val_main_v49_apply, e, val_main_v48_apply]
  refine Finset.sum_congr rfl fun k _ => ?_
  have e1 : lidx_main_v48 (ix4 b c w r) k = ix4 b k c w := by funext a; fin_cases a <;> rfl
  have e2 : idx_main_v45 (ridx_main_v48 (ix4 b c w r) k) = ix2 k (low r) := by funext a; fin_cases a <;> rfl
  rw [e1, r40, val_main_v47_apply, val_main_v45_apply, e2, val_main_v46_apply, val_main_cst_apply, mul_comm]
  rfl
theorem r55 (b : Fin 4) (r : Fin 64) (c : Fin 128) (w : Fin 512) : val_main_v54 (F := Ideal) y K K' C S G H (ix4 b r c w)
    = dotp (fun k : Fin 128 => scaled (S (ix2 k (low r)))) (fun k => sI y K K' C S G H b k c w) := by
  have e : idx_main_v54 (ix4 b r c w) = ix4 b c w r := by funext a; fin_cases a <;> rfl
  rw [val_main_v54_apply, e, val_main_v53_apply]
  refine Finset.sum_congr rfl fun k _ => ?_
  have e1 : lidx_main_v53 (ix4 b c w r) k = ix4 b k c w := by funext a; fin_cases a <;> rfl
  have e2 : idx_main_v50 (ridx_main_v53 (ix4 b c w r) k) = ix2 k (low r) := by funext a; fin_cases a <;> rfl
  rw [e1, r45, val_main_v52_apply, val_main_v50_apply, e2, val_main_v51_apply, val_main_cst_0_apply, mul_comm]
  rfl
theorem r58 (b : Fin 4) (r : Fin 64) (c : Fin 128) (w : Fin 512) : val_main_v57 (F := Ideal) s (ix4 b r c w) = s (ix1 w) := by
  have e : idx_main_v56 (idx_main_v57 (ix4 b r c w)) = ix1 w := by funext a; fin_cases a; rfl
  rw [val_main_v57_apply, val_main_v56_apply, e]
theorem r61 (b : Fin 4) (r : Fin 64) (c : Fin 128) (w : Fin 512) :
    val_main_v60 (F := Ideal) u y K K' s C S G H (ix4 b r c w) = res u y K K' s C S G H b r c w := by
  rw [val_main_v60_apply, val_main_v59_apply, val_main_v58_apply, val_main_v55_apply, r4, r2, r58, r50, r55]
  rfl

/-- The reference's array is the same. -/
theorem ref_eq : val_main_v61 (F := Ideal) u y K K' s C S G H = resArr u y K K' s C S G H := by
  funext i
  idx_vars i
  have h0 : i0.val < 4 := i0.isLt
  have h1 : i1.val < 64 := i1.isLt
  have h2 : i2.val < 65536 := i2.isLt
  have e : idx_main_v61 (ix3 i0 i1 i2) = ix4 i0 i1 (pl i2) (ln i2) := by
    funext a
    apply Fin.ext
    fin_cases a
    · show ((i0.val * 64 + i1.val) * 65536 + i2.val) / 4194304 = i0.val; omega
    · show ((i0.val * 64 + i1.val) * 65536 + i2.val) / 65536 % 64 = i1.val; omega
    · show ((i0.val * 64 + i1.val) * 65536 + i2.val) / 512 % 128 = i2.val / 512; omega
    · show ((i0.val * 64 + i1.val) * 65536 + i2.val) % 512 = i2.val % 512; omega
  rw [val_main_v61_apply, e, r61]
  rfl

end Cert.Long2.Ref
-- ==== Proof.Long2.Claims.lean ====
/- The second long convolution: the frame of its reference and the equality of the two results. -/
module

public import proofs.«01_k».proof.Defs
public import proofs.«01_k».proof.Proof.Long2.Run
public import proofs.«01_k».proof.Proof.Long2.Final
public import proofs.«01_k».proof.Proof.Long2.Ref

set_option maxRecDepth 16384
noncomputable section
@[expose] public section
namespace Cert.Long2
open Cert.Long (dotp xre xim yre yim bre bim lo up)
open Cert.Kernel12Ideal Cert.Kernel12Ideal.Gen Idealize.ShloMosaic Idealize.ShloMosaic.TcCoe Idealize.SL.Sem

/-- The reference's frame. -/
theorem frame_ref : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

/-- The second long convolution: the kernel and the reference leave the same array. -/
theorem algebraic : Cert.algebraic_Kernel12Ideal_Reference12Ideal := by
  intro m g m' g' _ hargs
  refine ⟨fun c => (dat2 (V5 m g) c).arrAt 7 cfg2.N, run (F := Ideal) m g, ?_⟩
  refine (θ_run Cert.Reference12Ideal.defs _ _).mono (fun r h c => ⟨(h c).1.trans ?_, (h c).2⟩)
    (Cert.Reference12Ideal.Value.run (F := Ideal) m' g')
  obtain ⟨e0, e1, e2, e3, e4, e5, e6, e7, e8⟩ := hargs c
  rw [Cert.Reference12Ideal.Read.val_main_v61_eq, e0, e1, e2, e3, e4, e5, e6, e7, e8]
  exact (Ref.ref_eq _ _ _ _ _ _ _ _ _).trans (final m g c).symm

end Cert.Long2
-- ==== Proof.Spectrum.Run.lean ====
/- The run of the spectrum's program: what its two calls leave in the result arrays. -/
module

public import proofs.«01_k».proof.Defs
public import proofs.«01_k».proof.Proof.Gen.Kernel13Ideal.Frame

set_option maxRecDepth 16384
noncomputable section
@[expose] public section
namespace Cert.Spectrum
open Cert.Kernel13Ideal Cert.Kernel13Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program runs, leaves in its results what the second call's grid points write back over what the first call
    and the host operations left, and keeps its arguments. -/
theorem run : θ_run defs (onTc (τ := τ) (main (F := F))) ⟨m, fun _ => 0, ρ⟩ (fun r => ∀ c : Dev nD,
      r.2.mem ((c.tc : Thread nD τ).loc main_v8_0) = (dat1 (V3 m ρ) c).arrAt 8 cfg1.N
      ∧ r.2.mem ((c.tc : Thread nD τ).loc main_v8_1) = (dat1 (V3 m ρ) c).arrAt 9 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz c =>
      ⟨(h c _ (mem_uc main_v8_0 (by decide))).trans (W4_arr m ρ c 8),
       (h c _ (mem_uc main_v8_1 (by decide))).trans (W4_arr m ρ c 9),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.Spectrum
-- ==== Proof.Spectrum.Stage.lean ====
/- The first call of the filters' spectrum: the first stage of the transform. -/
module

public import proofs.«01_k».proof.Defs
public import proofs.«01_k».proof.Proof.Gen.Kernel13Ideal.Frame
public import proofs.«01_k».proof.Proof.Long.Math
public import Idealize.ShloMosaic.Lib.Pipeline.ValueKit

set_option maxRecDepth 16384
noncomputable section
@[expose] public section
namespace Cert.Spectrum
open Cert.Long (dotp lo up)
open Cert.Kernel13Ideal Cert.Kernel13Ideal.Gen Idealize.ShloMosaic Idealize.ShloMosaic.TcCoe Idealize.SL.Sem
open Idealize.ShloMosaic.Pipeline (Dat)

/-- Row `m` of the stacked table against the filters. -/
def stage (T : FVec Ideal S256x64 .f32) (U : FVec Ideal S1x1x64x262144 .f32) (m : Fin 256) (b : Fin 1) (l : Fin 262144) : EReal :=
  dotp (fun r : Fin 64 => T (ix2 m r)) (fun r => U (ix4 0 b r l))
/-- The real part of the first stage. -/
def stageR (T : FVec Ideal S256x64 .f32) (U : FVec Ideal S1x1x64x262144 .f32) : FVec Ideal S1x128x262144 .f32 :=
  fun i => stage T U (lo (i 1)) (i 0) (i 2)
/-- The imaginary part. -/
def stageI (T : FVec Ideal S256x64 .f32) (U : FVec Ideal S1x1x64x262144 .f32) : FVec Ideal S1x128x262144 .f32 :=
  fun i => stage T U (up (i 1)) (i 0) (i 2)

/-- The blocks of every grid point. -/
theorem idx0 : ∀ t : Fin cfg0.N, win0_0.index t = ![0, 0, 0, t.val] ∧ win0_1.index t = ![0, 0]
    ∧ win0_2.index t = ![0, 0, t.val] ∧ win0_3.index t = ![0, 0, t.val] :=
  (by decide +kernel : ∀ t : Fin grid0.N, _)

section tile
variable (x : Vec Ideal S1x1x64x4096 .f32) (f : Vec Ideal S256x64 .f32)
theorem prod_apply (m : Fin 256) (s : Fin 4096) :
    k0_pay1 (F := Ideal) x f (ix2 m s) = dotp (fun r : Fin 64 => f (ix2 m r)) (fun r => x (ix4 0 0 r s)) := by
  pointwise [k0_pay1]
  rfl
theorem tileR_apply (i : Fin 1) (m : Fin 128) (s : Fin 4096) :
    k0_pay2 (F := Ideal) x f (ix3 i m s) = dotp (fun r : Fin 64 => f (ix2 (lo m) r)) (fun r => x (ix4 0 0 r s)) := by
  obtain rfl : i = 0 := Subsingleton.elim _ _
  pointwise [k0_pay2]
  rw [← prod_apply]
  rfl
theorem tileI_apply (i : Fin 1) (m : Fin 128) (s : Fin 4096) :
    k0_pay3 (F := Ideal) x f (ix3 i m s) = dotp (fun r : Fin 64 => f (ix2 (up m) r)) (fun r => x (ix4 0 0 r s)) := by
  obtain rfl : i = 0 := Subsingleton.elim _ _
  pointwise [k0_pay3]
  rw [← prod_apply]
  rfl
end tile

section final
variable (V : (c : Dev nD) → (b : Ref sig .tc) → Buf (Elt Ideal) ((c : Thread nD τ).loc b)) (c : Dev nD) (t : Fin cfg0.N)

/-- Lane `s` of its block among all lanes. -/
def l0 (s : Fin 4096) : Fin 262144 := ⟨t.val * 4096 + s.val, by have : t.val < 64 := t.isLt; omega⟩

theorem read0_0 (r : Fin 64) (s : Fin 4096) : iblk0 V c 0 t (ix4 0 0 r s) = V c main_v4 (ix4 0 0 r (l0 t s)) := by
  unfold l0
  blk_ext [iblk0, idx0 t]
theorem read0_1 (m : Fin 256) (r : Fin 64) : iblk0 V c 1 t (ix2 m r) = V c main_v3 (ix2 m r) := by
  blk_ext [iblk0, idx0 t]

theorem stageR_at (T : FVec Ideal S256x64 .f32) (U : FVec Ideal S1x1x64x262144 .f32) (i : S1x128x262144.Idx) (b : Fin 1) (m : Fin 128)
    (l : Fin 262144) (h0 : (i 0).val = b.val) (h1 : (i 1).val = m.val) (h2 : (i 2).val = l.val) : stageR T U i = stage T U (lo m) b l := by
  have e0 : i 0 = b := Fin.ext h0
  have e1 : i 1 = m := Fin.ext h1
  have e2 : i 2 = l := Fin.ext h2
  unfold stageR
  rw [e0, e1, e2]
theorem stageI_at (T : FVec Ideal S256x64 .f32) (U : FVec Ideal S1x1x64x262144 .f32) (i : S1x128x262144.Idx) (b : Fin 1) (m : Fin 128)
    (l : Fin 262144) (h0 : (i 0).val = b.val) (h1 : (i 1).val = m.val) (h2 : (i 2).val = l.val) : stageI T U i = stage T U (up m) b l := by
  have e0 : i 0 = b := Fin.ext h0
  have e1 : i 1 = m := Fin.ext h1
  have e2 : i 2 = l := Fin.ext h2
  unfold stageI
  rw [e0, e1, e2]

/-- The real array the first call leaves. -/
theorem final0R : (dat0 V c).arrAt 2 cfg0.N = stageR (V c main_v3) (V c main_v4) := by
  refine (dat0 V c).arrAt_eq_of_covers 2 _ (by decide +kernel) fun t hf y => ?_
  blk_simp
  rw [after0_2]
  frame_out
  idx_vars y
  refine Eq.trans ((tileR_apply _ _ _ y1 y2).trans ?_) (stageR_at _ _ _ 0 y1 (l0 t y2) ?_ ?_ ?_).symm
  · unfold stage
    simp only [read0_0, read0_1]
  · blk_simp [idx0 t]
    rfl
  · blk_simp [idx0 t]
  · blk_simp [idx0 t]
    rfl
/-- The imaginary array. -/
theorem final0I : (dat0 V c).arrAt 3 cfg0.N = stageI (V c main_v3) (V c main_v4) := by
  refine (dat0 V c).arrAt_eq_of_covers 3 _ (by decide +kernel) fun t hf y => ?_
  blk_simp
  rw [after0_3]
  frame_out
  idx_vars y
  refine Eq.trans ((tileI_apply _ _ _ y1 y2).trans ?_) (stageI_at _ _ _ 0 y1 (l0 t y2) ?_ ?_ ?_).symm
  · unfold stage
    simp only [read0_0, read0_1]
  · blk_simp [idx0 t]
    rfl
  · blk_simp [idx0 t]
  · blk_simp [idx0 t]
    rfl

end final

end Cert.Spectrum
-- ==== Proof.Spectrum.Step.lean ====
/- The body of the spectrum's call: what one of its four unrolled steps computes, and that the four are the same step. -/
module

public import proofs.«01_k».proof.Defs
public import proofs.«01_k».proof.Proof.Gen.Kernel13Ideal.Frame
public import proofs.«01_k».proof.Proof.Long.Math
public import Idealize.ShloMosaic.Lib.Pipeline.ValueKit

set_option maxRecDepth 16384
noncomputable section
@[expose] public section
namespace Cert.Spectrum
open Cert.Long (dotp lo up)
open Cert.Kernel13Ideal Cert.Kernel13Ideal.Gen Idealize.ShloMosaic Idealize.ShloMosaic.TcCoe Idealize.SL.Sem

/-- The reciprocal of a filter's norm, which is the sum of the norms of its two directions. -/
def recip (a b : EReal) : EReal := Ideal.div (Ideal.ofBits .f32 0x3F800000#32) (a + b)

section math
variable (g h : Fin 128 → Fin 128 → EReal) (p q r s : Fin 128 → EReal) (a b : EReal)
/-- Real part of the spectrum at frequency `m`, from the forward transform `p + i q` and the backward one `r + i s`. -/
def kre (m : Fin 128) : EReal := (dotp (g m) (fun c => p c + r c) - dotp (h m) (fun c => q c + s c)) * recip a b
/-- Its imaginary part. -/
def kim (m : Fin 128) : EReal := (dotp (g m) (fun c => q c - s c) + dotp (h m) (fun c => p c - r c)) * recip a b
end math

section step
variable (nf nb : Vec Ideal S1x256 .f32) (g h : Vec Ideal S1x128x128 .f32) (p q r s : Vec Ideal S1x128x256 .f32)

/-- One step's real part. -/
def stepR : FVec Ideal S1x1x128x256 .f32 := k1_pay9 (F := Ideal) (k1_pay3 nf nb) (k1_pay4 g) (k1_pay5 h) (k1_pay6 p r) (k1_pay7 q s)
/-- One step's imaginary part. -/
def stepI : FVec Ideal S1x1x128x256 .f32 := k1_pay10 (F := Ideal) (k1_pay3 nf nb) (k1_pay4 g) (k1_pay5 h) (k1_pay8 p r) q s

theorem stepR_apply (m : Fin 128) (w : Fin 256) : stepR nf nb g h p q r s (ix4 0 0 m w)
    = kre (fun m c => g (ix3 0 m c)) (fun m c => h (ix3 0 m c)) (fun c => p (ix3 0 c w)) (fun c => q (ix3 0 c w)) (fun c => r (ix3 0 c w))
        (fun c => s (ix3 0 c w)) (nf (ix2 0 w)) (nb (ix2 0 w)) m := by
  unfold stepR
  pointwise [k1_pay9, k1_pay3, k1_pay4, k1_pay5, k1_pay6, k1_pay7]
  unfold kre dotp recip
  rw [Ideal.ofBits_one_f32]
theorem stepI_apply (m : Fin 128) (w : Fin 256) : stepI nf nb g h p q r s (ix4 0 0 m w)
    = kim (fun m c => g (ix3 0 m c)) (fun m c => h (ix3 0 m c)) (fun c => p (ix3 0 c w)) (fun c => q (ix3 0 c w)) (fun c => r (ix3 0 c w))
        (fun c => s (ix3 0 c w)) (nf (ix2 0 w)) (nb (ix2 0 w)) m := by
  unfold stepI
  pointwise [k1_pay10, k1_pay3, k1_pay4, k1_pay5, k1_pay8]
  unfold kim dotp recip
  rw [Ideal.ofBits_one_f32]

theorem r3 : k1_pay1 (F := Ideal) (k1_pay3 nf nb) (k1_pay23 g) (k1_pay24 h) (k1_pay25 p r) (k1_pay26 q s) = stepR nf nb g h p q r s := rfl
theorem r2 : k1_pay21 (F := Ideal) (k1_pay3 nf nb) (k1_pay20 g h p r q s) = stepR nf nb g h p q r s := rfl
theorem r1 : k1_pay14 (F := Ideal) (k1_pay3 nf nb) (k1_pay11 g) (k1_pay12 h) (k1_pay13 p r) q s = stepR nf nb g h p q r s := rfl
theorem i3 : k1_pay2 (F := Ideal) (k1_pay3 nf nb) (k1_pay23 g) (k1_pay24 h) p r q s = stepI nf nb g h p q r s := rfl
theorem i2 : k1_pay22 (F := Ideal) (k1_pay3 nf nb) (k1_pay16 g) (k1_pay17 h) (k1_pay18 p r) (k1_pay19 q s) = stepI nf nb g h p q r s := rfl
theorem i1 : k1_pay15 (F := Ideal) (k1_pay3 nf nb) (k1_pay11 g) (k1_pay12 h) p r q s = stepI nf nb g h p q r s := rfl

end step

end Cert.Spectrum
-- ==== Proof.Spectrum.Body.lean ====
/- The spectrum's call: its four steps make up the two output blocks. -/
module

public import proofs.«01_k».proof.Defs
public import proofs.«01_k».proof.Proof.Spectrum.Step
public import Idealize.ShloMosaic.Lib.Pipeline.ValueKit

set_option maxRecDepth 16384
noncomputable section
@[expose] public section
namespace Cert.Spectrum
open Cert.Long (dotp lo up)
open Cert.Kernel13Ideal Cert.Kernel13Ideal.Gen Idealize.ShloMosaic Idealize.ShloMosaic.TcCoe Idealize.SL.Sem

section block
variable (x0 x1 x2 x3 : Vec Ideal S4x128x256 .f32) (x4 x5 : Vec Ideal S4x128x128 .f32) (x6 x7 : Vec Ideal S1x256 .f32)

/-- Real part of entry `(m, w)` of row `j` of the block. -/
def atR (j : Fin 4) (m : Fin 128) (w : Fin 256) : EReal :=
  kre (fun m c => x4 (ix3 j m c)) (fun m c => x5 (ix3 j m c)) (fun c => x0 (ix3 j c w)) (fun c => x1 (ix3 j c w)) (fun c => x2 (ix3 j c w))
    (fun c => x3 (ix3 j c w)) (x6 (ix2 0 w)) (x7 (ix2 0 w)) m
/-- The whole block. -/
def blkR : Vec Ideal S1x4x128x256 .f32 := fun i => atR x0 x1 x2 x3 x4 x5 x6 x7 (i 1) (i 2) (i 3)
theorem blkR_at (i : S1x4x128x256.Idx) (j : Fin 4) (m : Fin 128) (w : Fin 256) (h1 : (i 1).val = j.val) (h2 : (i 2).val = m.val)
    (h3 : (i 3).val = w.val) : blkR x0 x1 x2 x3 x4 x5 x6 x7 i = atR x0 x1 x2 x3 x4 x5 x6 x7 j m w := by
  have e1 : i 1 = j := Fin.ext h1
  have e2 : i 2 = m := Fin.ext h2
  have e3 : i 3 = w := Fin.ext h3
  unfold blkR
  rw [e1, e2, e3]

/-- Imaginary part of entry `(m, w)` of row `j` of the block. -/
def atI (j : Fin 4) (m : Fin 128) (w : Fin 256) : EReal :=
  kim (fun m c => x4 (ix3 j m c)) (fun m c => x5 (ix3 j m c)) (fun c => x0 (ix3 j c w)) (fun c => x1 (ix3 j c w)) (fun c => x2 (ix3 j c w))
    (fun c => x3 (ix3 j c w)) (x6 (ix2 0 w)) (x7 (ix2 0 w)) m
/-- The whole block. -/
def blkI : Vec Ideal S1x4x128x256 .f32 := fun i => atI x0 x1 x2 x3 x4 x5 x6 x7 (i 1) (i 2) (i 3)
theorem blkI_at (i : S1x4x128x256.Idx) (j : Fin 4) (m : Fin 128) (w : Fin 256) (h1 : (i 1).val = j.val) (h2 : (i 2).val = m.val)
    (h3 : (i 3).val = w.val) : blkI x0 x1 x2 x3 x4 x5 x6 x7 i = atI x0 x1 x2 x3 x4 x5 x6 x7 j m w := by
  have e1 : i 1 = j := Fin.ext h1
  have e2 : i 2 = m := Fin.ext h2
  have e3 : i 3 = w := Fin.ext h3
  unfold blkI
  rw [e1, e2, e3]

/-- A load of row `n` of a block of tables. -/
theorem ldT (n : ℕ) (hn : n < 4) (x : Vec Ideal S4x128x128 .f32) (h) (r c : Fin 128) :
    (View.ld x (Rect.unit (s := S4x128x128) ![n, 0, 0] S1x128x128.size h) : Vec Ideal S1x128x128 .f32) (ix3 0 r c) = x (ix3 ⟨n, hn⟩ r c) := by
  refine congrArg x (funext fun a => Fin.ext ?_)
  fin_cases a
  · show n + 1 * 0 = n; omega
  · show 0 + 1 * r.val = r.val; omega
  · show 0 + 1 * c.val = c.val; omega
/-- A load of row `n` of a block of the first stage's arrays. -/
theorem ldA (n : ℕ) (hn : n < 4) (x : Vec Ideal S4x128x256 .f32) (h) (c : Fin 128) (w : Fin 256) :
    (View.ld x (Rect.unit (s := S4x128x256) ![n, 0, 0] S1x128x256.size h) : Vec Ideal S1x128x256 .f32) (ix3 0 c w) = x (ix3 ⟨n, hn⟩ c w) := by
  refine congrArg x (funext fun a => Fin.ext ?_)
  fin_cases a
  · show n + 1 * 0 = n; omega
  · show 0 + 1 * c.val = c.val; omega
  · show 0 + 1 * w.val = w.val; omega
/-- A load of a block of norms. -/
theorem ldN (x : Vec Ideal S1x256 .f32) (h) (w : Fin 256) :
    (View.ld x (Rect.unit (s := S1x256) ![0, 0] S1x256.size h) : Vec Ideal S1x256 .f32) (ix2 0 w) = x (ix2 0 w) := by
  refine congrArg x (funext fun a => Fin.ext ?_)
  fin_cases a
  · rfl
  · show 0 + 1 * w.val = w.val; omega

theorem loadR (j : Fin 4) (nf nb : Vec Ideal S1x256 .f32) (g h : Vec Ideal S1x128x128 .f32) (p q r s : Vec Ideal S1x128x256 .f32)
    (hn : ∀ w, nf (ix2 0 w) = x6 (ix2 0 w)) (hb : ∀ w, nb (ix2 0 w) = x7 (ix2 0 w))
    (hg : ∀ m c, g (ix3 0 m c) = x4 (ix3 j m c)) (hh : ∀ m c, h (ix3 0 m c) = x5 (ix3 j m c)) (hp : ∀ c w, p (ix3 0 c w) = x0 (ix3 j c w))
    (hq : ∀ c w, q (ix3 0 c w) = x1 (ix3 j c w)) (hr : ∀ c w, r (ix3 0 c w) = x2 (ix3 j c w)) (hs : ∀ c w, s (ix3 0 c w) = x3 (ix3 j c w))
    (a b : Fin 1) (m : Fin 128) (w : Fin 256) : stepR nf nb g h p q r s (ix4 a b m w) = atR x0 x1 x2 x3 x4 x5 x6 x7 j m w := by
  obtain rfl : a = 0 := Subsingleton.elim _ _
  obtain rfl : b = 0 := Subsingleton.elim _ _
  rw [stepR_apply]
  unfold atR
  simp only [hn, hb, hg, hh, hp, hq, hr, hs]
theorem rowR (n : ℕ) (hn : n < 4) (h0 h1 h2) (a b : Fin 1) (m : Fin 128) (w : Fin 256) :
    stepR (View.ld x6 (Rect.unit (s := S1x256) ![0, 0] S1x256.size h2)) (View.ld x7 (Rect.unit (s := S1x256) ![0, 0] S1x256.size h2))
      (View.ld x4 (Rect.unit (s := S4x128x128) ![n, 0, 0] S1x128x128.size h0)) (View.ld x5 (Rect.unit (s := S4x128x128) ![n, 0, 0] S1x128x128.size h0))
      (View.ld x0 (Rect.unit (s := S4x128x256) ![n, 0, 0] S1x128x256.size h1)) (View.ld x1 (Rect.unit (s := S4x128x256) ![n, 0, 0] S1x128x256.size h1))
      (View.ld x2 (Rect.unit (s := S4x128x256) ![n, 0, 0] S1x128x256.size h1)) (View.ld x3 (Rect.unit (s := S4x128x256) ![n, 0, 0] S1x128x256.size h1))
      (ix4 a b m w) = atR x0 x1 x2 x3 x4 x5 x6 x7 ⟨n, hn⟩ m w :=
  loadR x0 x1 x2 x3 x4 x5 x6 x7 ⟨n, hn⟩ _ _ _ _ _ _ _ _ (ldN x6 h2) (ldN x7 h2) (ldT n hn x4 h0) (ldT n hn x5 h0) (ldA n hn x0 h1)
    (ldA n hn x1 h1) (ldA n hn x2 h1) (ldA n hn x3 h1) a b m w

theorem loadI (j : Fin 4) (nf nb : Vec Ideal S1x256 .f32) (g h : Vec Ideal S1x128x128 .f32) (p q r s : Vec Ideal S1x128x256 .f32)
    (hn : ∀ w, nf (ix2 0 w) = x6 (ix2 0 w)) (hb : ∀ w, nb (ix2 0 w) = x7 (ix2 0 w))
    (hg : ∀ m c, g (ix3 0 m c) = x4 (ix3 j m c)) (hh : ∀ m c, h (ix3 0 m c) = x5 (ix3 j m c)) (hp : ∀ c w, p (ix3 0 c w) = x0 (ix3 j c w))
    (hq : ∀ c w, q (ix3 0 c w) = x1 (ix3 j c w)) (hr : ∀ c w, r (ix3 0 c w) = x2 (ix3 j c w)) (hs : ∀ c w, s (ix3 0 c w) = x3 (ix3 j c w))
    (a b : Fin 1) (m : Fin 128) (w : Fin 256) : stepI nf nb g h p q r s (ix4 a b m w) = atI x0 x1 x2 x3 x4 x5 x6 x7 j m w := by
  obtain rfl : a = 0 := Subsingleton.elim _ _
  obtain rfl : b = 0 := Subsingleton.elim _ _
  rw [stepI_apply]
  unfold atI
  simp only [hn, hb, hg, hh, hp, hq, hr, hs]
theorem rowI (n : ℕ) (hn : n < 4) (h0 h1 h2) (a b : Fin 1) (m : Fin 128) (w : Fin 256) :
    stepI (View.ld x6 (Rect.unit (s := S1x256) ![0, 0] S1x256.size h2)) (View.ld x7 (Rect.unit (s := S1x256) ![0, 0] S1x256.size h2))
      (View.ld x4 (Rect.unit (s := S4x128x128) ![n, 0, 0] S1x128x128.size h0)) (View.ld x5 (Rect.unit (s := S4x128x128) ![n, 0, 0] S1x128x128.size h0))
      (View.ld x0 (Rect.unit (s := S4x128x256) ![n, 0, 0] S1x128x256.size h1)) (View.ld x1 (Rect.unit (s := S4x128x256) ![n, 0, 0] S1x128x256.size h1))
      (View.ld x2 (Rect.unit (s := S4x128x256) ![n, 0, 0] S1x128x256.size h1)) (View.ld x3 (Rect.unit (s := S4x128x256) ![n, 0, 0] S1x128x256.size h1))
      (ix4 a b m w) = atI x0 x1 x2 x3 x4 x5 x6 x7 ⟨n, hn⟩ m w :=
  loadI x0 x1 x2 x3 x4 x5 x6 x7 ⟨n, hn⟩ _ _ _ _ _ _ _ _ (ldN x6 h2) (ldN x7 h2) (ldT n hn x4 h0) (ldT n hn x5 h0) (ldA n hn x0 h1)
    (ldA n hn x1 h1) (ldA n hn x2 h1) (ldA n hn x3 h1) a b m w

/-- The real output block. -/
theorem outR_apply (i : S1x4x128x256.Idx) : out1_8 (F := Ideal) x0 x1 x2 x3 x4 x5 x6 x7 i = blkR x0 x1 x2 x3 x4 x5 x6 x7 i := by
  unfold_out out1_8
  refine View.canon_apply_of_pieces (blkR x0 x1 x2 x3 x4 x5 x6 x7) _ (fun p hp y => ?_) i (cover1_8 _ _ _ _ i)
  simp only [List.mem_cons, List.mem_nil_iff, or_false] at hp
  rcases hp with rfl | rfl | rfl | rfl
  · idx_vars y
    exact (congrFun (r3 _ _ _ _ _ _ _ _) _).trans ((rowR x0 x1 x2 x3 x4 x5 x6 x7 3 (by decide) _ _ _ _ _ y2 y3).trans (blkR_at x0 x1 x2 x3 x4 x5 x6 x7 _ ⟨3, by decide⟩ y2 y3
      (by have h : y1.val < 1 := y1.isLt; show 3 + 1 * y1.val = 3; omega) (by show 0 + 1 * y2.val = y2.val; omega) (by show 0 + 1 * y3.val = y3.val; omega)).symm)
  · idx_vars y
    exact (congrFun (r2 _ _ _ _ _ _ _ _) _).trans ((rowR x0 x1 x2 x3 x4 x5 x6 x7 2 (by decide) _ _ _ _ _ y2 y3).trans (blkR_at x0 x1 x2 x3 x4 x5 x6 x7 _ ⟨2, by decide⟩ y2 y3
      (by have h : y1.val < 1 := y1.isLt; show 2 + 1 * y1.val = 2; omega) (by show 0 + 1 * y2.val = y2.val; omega) (by show 0 + 1 * y3.val = y3.val; omega)).symm)
  · idx_vars y
    exact (congrFun (r1 _ _ _ _ _ _ _ _) _).trans ((rowR x0 x1 x2 x3 x4 x5 x6 x7 1 (by decide) _ _ _ _ _ y2 y3).trans (blkR_at x0 x1 x2 x3 x4 x5 x6 x7 _ ⟨1, by decide⟩ y2 y3
      (by have h : y1.val < 1 := y1.isLt; show 1 + 1 * y1.val = 1; omega) (by show 0 + 1 * y2.val = y2.val; omega) (by show 0 + 1 * y3.val = y3.val; omega)).symm)
  · idx_vars y
    exact ((rowR x0 x1 x2 x3 x4 x5 x6 x7 0 (by decide) _ _ _ _ _ y2 y3).trans (blkR_at x0 x1 x2 x3 x4 x5 x6 x7 _ ⟨0, by decide⟩ y2 y3
      (by have h : y1.val < 1 := y1.isLt; show 0 + 1 * y1.val = 0; omega) (by show 0 + 1 * y2.val = y2.val; omega) (by show 0 + 1 * y3.val = y3.val; omega)).symm)

/-- The imaginary output block. -/
theorem outI_apply (i : S1x4x128x256.Idx) : out1_9 (F := Ideal) x0 x1 x2 x3 x4 x5 x6 x7 i = blkI x0 x1 x2 x3 x4 x5 x6 x7 i := by
  unfold_out out1_9
  refine View.canon_apply_of_pieces (blkI x0 x1 x2 x3 x4 x5 x6 x7) _ (fun p hp y => ?_) i (cover1_9 _ _ _ _ i)
  simp only [List.mem_cons, List.mem_nil_iff, or_false] at hp
  rcases hp with rfl | rfl | rfl | rfl
  · idx_vars y
    exact (congrFun (i3 _ _ _ _ _ _ _ _) _).trans ((rowI x0 x1 x2 x3 x4 x5 x6 x7 3 (by decide) _ _ _ _ _ y2 y3).trans (blkI_at x0 x1 x2 x3 x4 x5 x6 x7 _ ⟨3, by decide⟩ y2 y3
      (by have h : y1.val < 1 := y1.isLt; show 3 + 1 * y1.val = 3; omega) (by show 0 + 1 * y2.val = y2.val; omega) (by show 0 + 1 * y3.val = y3.val; omega)).symm)
  · idx_vars y
    exact (congrFun (i2 _ _ _ _ _ _ _ _) _).trans ((rowI x0 x1 x2 x3 x4 x5 x6 x7 2 (by decide) _ _ _ _ _ y2 y3).trans (blkI_at x0 x1 x2 x3 x4 x5 x6 x7 _ ⟨2, by decide⟩ y2 y3
      (by have h : y1.val < 1 := y1.isLt; show 2 + 1 * y1.val = 2; omega) (by show 0 + 1 * y2.val = y2.val; omega) (by show 0 + 1 * y3.val = y3.val; omega)).symm)
  · idx_vars y
    exact (congrFun (i1 _ _ _ _ _ _ _ _) _).trans ((rowI x0 x1 x2 x3 x4 x5 x6 x7 1 (by decide) _ _ _ _ _ y2 y3).trans (blkI_at x0 x1 x2 x3 x4 x5 x6 x7 _ ⟨1, by decide⟩ y2 y3
      (by have h : y1.val < 1 := y1.isLt; show 1 + 1 * y1.val = 1; omega) (by show 0 + 1 * y2.val = y2.val; omega) (by show 0 + 1 * y3.val = y3.val; omega)).symm)
  · idx_vars y
    exact ((rowI x0 x1 x2 x3 x4 x5 x6 x7 0 (by decide) _ _ _ _ _ y2 y3).trans (blkI_at x0 x1 x2 x3 x4 x5 x6 x7 _ ⟨0, by decide⟩ y2 y3
      (by have h : y1.val < 1 := y1.isLt; show 0 + 1 * y1.val = 0; omega) (by show 0 + 1 * y2.val = y2.val; omega) (by show 0 + 1 * y3.val = y3.val; omega)).symm)

end block

end Cert.Spectrum
-- ==== Proof.Spectrum.SpecFinal.lean ====
/- The spectrum's call: its blocks make up the two arrays. -/
module

public import proofs.«01_k».proof.Defs
public import proofs.«01_k».proof.Proof.Spectrum.Body
public import Idealize.ShloMosaic.Lib.Pipeline.ValueKit

set_option maxRecDepth 16384
noncomputable section
@[expose] public section
namespace Cert.Spectrum
open Cert.Long (dotp lo up)
open Cert.Kernel13Ideal Cert.Kernel13Ideal.Gen Idealize.ShloMosaic Idealize.ShloMosaic.TcCoe Idealize.SL.Sem
open Idealize.ShloMosaic.Pipeline (Dat)

/-- The column of filter `o`'s direction `d` at lane `w`. -/
def col (o d : Fin 2) (w : Fin 512) : Fin 2048 := ⟨(o.val * 2 + d.val) * 512 + w.val, by omega⟩

section arr
variable (A B : FVec Ideal S128x128x2048 .f32) (G H : FVec Ideal S128x128x128 .f32) (N : FVec Ideal S1x2048 .f32)

/-- Real part of the spectrum of filter `o` at group `k`, frequency `m`, lane `w`. -/
def spR (o : Fin 2) (k m : Fin 128) (w : Fin 512) : EReal :=
  kre (fun m c => G (ix3 k m c)) (fun m c => H (ix3 k m c)) (fun c => A (ix3 k c (col o 0 w))) (fun c => B (ix3 k c (col o 0 w)))
    (fun c => A (ix3 k c (col o 1 w))) (fun c => B (ix3 k c (col o 1 w))) (N (ix2 0 (col o 0 w))) (N (ix2 0 (col o 1 w))) m
/-- The whole array. -/
def spArrR : FVec Ideal S2x128x128x512 .f32 := fun i => spR A B G H N (i 0) (i 1) (i 2) (i 3)
theorem spArrR_at (i : S2x128x128x512.Idx) (o : Fin 2) (k m : Fin 128) (w : Fin 512) (h0 : (i 0).val = o.val) (h1 : (i 1).val = k.val)
    (h2 : (i 2).val = m.val) (h3 : (i 3).val = w.val) : spArrR A B G H N i = spR A B G H N o k m w := by
  have e0 : i 0 = o := Fin.ext h0
  have e1 : i 1 = k := Fin.ext h1
  have e2 : i 2 = m := Fin.ext h2
  have e3 : i 3 = w := Fin.ext h3
  unfold spArrR
  rw [e0, e1, e2, e3]

/-- Imaginary part of the spectrum of filter `o` at group `k`, frequency `m`, lane `w`. -/
def spI (o : Fin 2) (k m : Fin 128) (w : Fin 512) : EReal :=
  kim (fun m c => G (ix3 k m c)) (fun m c => H (ix3 k m c)) (fun c => A (ix3 k c (col o 0 w))) (fun c => B (ix3 k c (col o 0 w)))
    (fun c => A (ix3 k c (col o 1 w))) (fun c => B (ix3 k c (col o 1 w))) (N (ix2 0 (col o 0 w))) (N (ix2 0 (col o 1 w))) m
/-- The whole array. -/
def spArrI : FVec Ideal S2x128x128x512 .f32 := fun i => spI A B G H N (i 0) (i 1) (i 2) (i 3)
theorem spArrI_at (i : S2x128x128x512.Idx) (o : Fin 2) (k m : Fin 128) (w : Fin 512) (h0 : (i 0).val = o.val) (h1 : (i 1).val = k.val)
    (h2 : (i 2).val = m.val) (h3 : (i 3).val = w.val) : spArrI A B G H N i = spI A B G H N o k m w := by
  have e0 : i 0 = o := Fin.ext h0
  have e1 : i 1 = k := Fin.ext h1
  have e2 : i 2 = m := Fin.ext h2
  have e3 : i 3 = w := Fin.ext h3
  unfold spArrI
  rw [e0, e1, e2, e3]

end arr

/-- The blocks of every grid point. -/
theorem idx1 : ∀ t : Fin cfg1.N, win1_0.index t = ![t.val % 64 / 2, 0, t.val / 64 * 4 + t.val % 2]
    ∧ win1_1.index t = ![t.val % 64 / 2, 0, t.val / 64 * 4 + t.val % 2]
    ∧ win1_2.index t = ![t.val % 64 / 2, 0, t.val / 64 * 4 + 2 + t.val % 2] ∧ win1_3.index t = ![t.val % 64 / 2, 0, t.val / 64 * 4 + 2 + t.val % 2]
    ∧ win1_4.index t = ![t.val % 64 / 2, 0, 0] ∧ win1_5.index t = ![t.val % 64 / 2, 0, 0]
    ∧ win1_6.index t = ![0, t.val / 64 * 4 + t.val % 2] ∧ win1_7.index t = ![0, t.val / 64 * 4 + 2 + t.val % 2]
    ∧ win1_8.index t = ![t.val / 64, t.val % 64 / 2, 0, t.val % 2] ∧ win1_9.index t = ![t.val / 64, t.val % 64 / 2, 0, t.val % 2] :=
  (by decide +kernel : ∀ t : Fin grid1.N, _)

section final
variable (V : (c : Dev nD) → (b : Ref sig .tc) → Buf (Elt Ideal) ((c : Thread nD τ).loc b)) (c : Dev nD) (t : Fin cfg1.N)

/-- The filter of a grid point. -/
def o1 : Fin 2 := ⟨t.val / 64, by have : t.val < 128 := t.isLt; omega⟩
/-- Row `j` of its block among the groups of frequencies. -/
def k1 (j : Fin 4) : Fin 128 := ⟨t.val % 64 / 2 * 4 + j.val, by omega⟩
/-- Lane `s` of its block among all lanes. -/
def w1 (s : Fin 256) : Fin 512 := ⟨t.val % 2 * 256 + s.val, by omega⟩
/-- Column `s` of its block of the forward direction, and of the backward one. -/
def cf (s : Fin 256) : Fin 2048 := ⟨(t.val / 64 * 4 + t.val % 2) * 256 + s.val, by have : t.val < 128 := t.isLt; omega⟩
def cb (s : Fin 256) : Fin 2048 := ⟨(t.val / 64 * 4 + 2 + t.val % 2) * 256 + s.val, by have : t.val < 128 := t.isLt; omega⟩
theorem cf_eq (s : Fin 256) : cf t s = col (o1 t) 0 (w1 t s) :=
  Fin.ext (by show (t.val / 64 * 4 + t.val % 2) * 256 + s.val = (t.val / 64 * 2 + 0) * 512 + (t.val % 2 * 256 + s.val); omega)
theorem cb_eq (s : Fin 256) : cb t s = col (o1 t) 1 (w1 t s) :=
  Fin.ext (by show (t.val / 64 * 4 + 2 + t.val % 2) * 256 + s.val = (t.val / 64 * 2 + 1) * 512 + (t.val % 2 * 256 + s.val); omega)

theorem read1_0 (j : Fin 4) (a : Fin 128) (s : Fin 256) : iblk1 V c 0 t (ix3 j a s) = V c main_v6 (ix3 (k1 t j) a (cf t s)) := by
  unfold k1 cf
  blk_ext [iblk1, idx1 t]
theorem read1_1 (j : Fin 4) (a : Fin 128) (s : Fin 256) : iblk1 V c 1 t (ix3 j a s) = V c main_v7 (ix3 (k1 t j) a (cf t s)) := by
  unfold k1 cf
  blk_ext [iblk1, idx1 t]
theorem read1_2 (j : Fin 4) (a : Fin 128) (s : Fin 256) : iblk1 V c 2 t (ix3 j a s) = V c main_v6 (ix3 (k1 t j) a (cb t s)) := by
  unfold k1 cb
  blk_ext [iblk1, idx1 t]
theorem read1_3 (j : Fin 4) (a : Fin 128) (s : Fin 256) : iblk1 V c 3 t (ix3 j a s) = V c main_v7 (ix3 (k1 t j) a (cb t s)) := by
  unfold k1 cb
  blk_ext [iblk1, idx1 t]
theorem read1_4 (j : Fin 4) (r a : Fin 128) : iblk1 V c 4 t (ix3 j r a) = V c main_arg4 (ix3 (k1 t j) r a) := by
  unfold k1
  blk_ext [iblk1, idx1 t]
theorem read1_5 (j : Fin 4) (r a : Fin 128) : iblk1 V c 5 t (ix3 j r a) = V c main_arg5 (ix3 (k1 t j) r a) := by
  unfold k1
  blk_ext [iblk1, idx1 t]
theorem read1_6 (s : Fin 256) : iblk1 V c 6 t (ix2 0 s) = V c main_arg1 (ix2 0 (cf t s)) := by
  unfold cf
  blk_ext [iblk1, idx1 t]
theorem read1_7 (s : Fin 256) : iblk1 V c 7 t (ix2 0 s) = V c main_arg1 (ix2 0 (cb t s)) := by
  unfold cb
  blk_ext [iblk1, idx1 t]

theorem blockR (i : Fin 1) (j : Fin 4) (m : Fin 128) (s : Fin 256) :
    out1_8 (F := Ideal) (iblk1 V c 0 t) (iblk1 V c 1 t) (iblk1 V c 2 t) (iblk1 V c 3 t) (iblk1 V c 4 t) (iblk1 V c 5 t) (iblk1 V c 6 t) (iblk1 V c 7 t)
        (ix4 i j m s)
      = spR (V c main_v6) (V c main_v7) (V c main_arg4) (V c main_arg5) (V c main_arg1) (o1 t) (k1 t j) m (w1 t s) := by
  refine (outR_apply _ _ _ _ _ _ _ _ (ix4 i j m s)).trans ?_
  show atR (iblk1 V c 0 t) (iblk1 V c 1 t) (iblk1 V c 2 t) (iblk1 V c 3 t) (iblk1 V c 4 t) (iblk1 V c 5 t) (iblk1 V c 6 t) (iblk1 V c 7 t) j m s = _
  unfold atR spR
  simp only [read1_0, read1_1, read1_2, read1_3, read1_4, read1_5, read1_6, read1_7, cf_eq, cb_eq]

theorem blockI (i : Fin 1) (j : Fin 4) (m : Fin 128) (s : Fin 256) :
    out1_9 (F := Ideal) (iblk1 V c 0 t) (iblk1 V c 1 t) (iblk1 V c 2 t) (iblk1 V c 3 t) (iblk1 V c 4 t) (iblk1 V c 5 t) (iblk1 V c 6 t) (iblk1 V c 7 t)
        (ix4 i j m s)
      = spI (V c main_v6) (V c main_v7) (V c main_arg4) (V c main_arg5) (V c main_arg1) (o1 t) (k1 t j) m (w1 t s) := by
  refine (outI_apply _ _ _ _ _ _ _ _ (ix4 i j m s)).trans ?_
  show atI (iblk1 V c 0 t) (iblk1 V c 1 t) (iblk1 V c 2 t) (iblk1 V c 3 t) (iblk1 V c 4 t) (iblk1 V c 5 t) (iblk1 V c 6 t) (iblk1 V c 7 t) j m s = _
  unfold atI spI
  simp only [read1_0, read1_1, read1_2, read1_3, read1_4, read1_5, read1_6, read1_7, cf_eq, cb_eq]

/-- The real array the call leaves. -/
theorem final1R : (dat1 V c).arrAt 8 cfg1.N
    = spArrR (V c main_v6) (V c main_v7) (V c main_arg4) (V c main_arg5) (V c main_arg1) := by
  refine (dat1 V c).arrAt_eq_of_covers 8 _ (by decide +kernel) fun t hf y => ?_
  blk_simp
  rw [after1_8]
  idx_vars y
  refine (blockR V c t _ y1 y2 y3).trans (spArrR_at _ _ _ _ _ _ (o1 t) (k1 t y1) y2 (w1 t y3) ?_ ?_ ?_ ?_).symm
  · blk_simp [idx1 t]
    rfl
  · blk_simp [idx1 t]
    rfl
  · blk_simp [idx1 t]
  · blk_simp [idx1 t]
    rfl

/-- The imaginary array. -/
theorem final1I : (dat1 V c).arrAt 9 cfg1.N
    = spArrI (V c main_v6) (V c main_v7) (V c main_arg4) (V c main_arg5) (V c main_arg1) := by
  refine (dat1 V c).arrAt_eq_of_covers 9 _ (by decide +kernel) fun t hf y => ?_
  blk_simp
  rw [after1_9]
  idx_vars y
  refine (blockI V c t _ y1 y2 y3).trans (spArrI_at _ _ _ _ _ _ (o1 t) (k1 t y1) y2 (w1 t y3) ?_ ?_ ?_ ?_).symm
  · blk_simp [idx1 t]
    rfl
  · blk_simp [idx1 t]
    rfl
  · blk_simp [idx1 t]
  · blk_simp [idx1 t]
    rfl

end final

end Cert.Spectrum
-- ==== Proof.Spectrum.Final.lean ====
/- The two calls together: what the program leaves, from its arguments. -/
module

public import proofs.«01_k».proof.Defs
public import proofs.«01_k».proof.Proof.Spectrum.Stage
public import proofs.«01_k».proof.Proof.Spectrum.SpecFinal
public import Idealize.ShloMosaic.Lib.StableHlo.RunRead

set_option maxRecDepth 16384
noncomputable section
@[expose] public section
namespace Cert.Spectrum
open Cert.Long (dotp lo up)
open Cert.Kernel13Ideal Cert.Kernel13Ideal.Gen Idealize.ShloMosaic Idealize.ShloMosaic.TcCoe Idealize.SL.Sem
open Idealize.ShloMosaic.Pipeline (Dat)

/-- The negation of an entry. -/
def neg (x : Ideal .f32) : Ideal .f32 := FloatOps.hostNegf x
/-- Column `r` of the first half of the columns. -/
def low (r : Fin 64) : Fin 128 := ⟨r.val, by omega⟩
/-- Row of group `r`, place `c`, of the filters. -/
def row (r : Fin 64) (c : Fin 128) : Fin 8192 := ⟨r.val * 128 + c.val, by omega⟩
/-- Column `q` of place `c`. -/
def fl (c : Fin 128) (q : Fin 2048) : Fin 262144 := ⟨c.val * 2048 + q.val, by omega⟩

section join
variable (f : FVec Ideal S8192x2048 .f32) (N : FVec Ideal S1x2048 .f32) (C S : FVec Ideal S128x128 .f32) (G H : FVec Ideal S128x128x128 .f32)

/-- The first stage's real part. -/
def aR (k c : Fin 128) (q : Fin 2048) : EReal := dotp (fun r : Fin 64 => C (ix2 k (low r))) (fun r => f (ix2 (row r c) q))
/-- Its imaginary part. -/
def aI (k c : Fin 128) (q : Fin 2048) : EReal := dotp (fun r : Fin 64 => neg (S (ix2 k (low r)))) (fun r => f (ix2 (row r c) q))
/-- Real part of the spectrum of filter `o` at group `k`, frequency `m`, lane `w`. -/
def resR (o : Fin 2) (k m : Fin 128) (w : Fin 512) : EReal :=
  kre (fun m c => G (ix3 k m c)) (fun m c => H (ix3 k m c)) (fun c => aR f C k c (col o 0 w)) (fun c => aI f S k c (col o 0 w))
    (fun c => aR f C k c (col o 1 w)) (fun c => aI f S k c (col o 1 w)) (N (ix2 0 (col o 0 w))) (N (ix2 0 (col o 1 w))) m
/-- Its imaginary part. -/
def resI (o : Fin 2) (k m : Fin 128) (w : Fin 512) : EReal :=
  kim (fun m c => G (ix3 k m c)) (fun m c => H (ix3 k m c)) (fun c => aR f C k c (col o 0 w)) (fun c => aI f S k c (col o 0 w))
    (fun c => aR f C k c (col o 1 w)) (fun c => aI f S k c (col o 1 w)) (N (ix2 0 (col o 0 w))) (N (ix2 0 (col o 1 w))) m
/-- The whole real array. -/
def resArrR : FVec Ideal S2x128x128x512 .f32 := fun i => resR f N C S G H (i 0) (i 1) (i 2) (i 3)
/-- The whole imaginary array. -/
def resArrI : FVec Ideal S2x128x128x512 .f32 := fun i => resI f N C S G H (i 0) (i 1) (i 2) (i 3)

/-- The stacked table of the first stage. -/
def tabF : FVec Ideal S256x64 .f32 :=
  concatenate S256x64 0 [⟨S128x64, extractStridedSlice S128x64 ![0, 0] C slices_S128x128_S128x64_0_0⟩,
    ⟨S128x64, Host.negf (extractStridedSlice S128x64 ![0, 0] S slices_S128x128_S128x64_0_0)⟩] concatenates_S128x64_S128x64_S256x64_d0
theorem tabF_lo (m : Fin 128) (r : Fin 64) : tabF C S (ix2 (lo m) r) = C (ix2 m (low r)) := by
  unfold tabF
  pointwise []
  rw [dif_pos (show (lo m).val < 128 from m.isLt)]
  rfl
theorem tabF_up (m : Fin 128) (r : Fin 64) : tabF C S (ix2 (up m) r) = neg (S (ix2 m (low r))) := by
  unfold tabF
  pointwise []
  rw [dif_neg (show ¬ (up m).val < 128 from by show ¬ 128 + m.val < 128; omega)]
  refine congrArg neg (congrArg S (funext fun a => Fin.ext ?_))
  fin_cases a
  · show 128 + m.val - 128 = m.val; omega
  · rfl

/-- The filters as the first call finds them. -/
def filt : FVec Ideal S1x1x64x262144 .f32 := shapeCast S1x1x64x262144 f shapeCasts_S8192x2048_S1x1x64x262144
theorem filt_at (r : Fin 64) (c : Fin 128) (q : Fin 2048) : filt f (ix4 0 0 r (fl c q)) = f (ix2 (row r c) q) :=
  shapeCast_apply _ shapeCasts_S8192x2048_S1x1x64x262144 (ix4 0 0 r (fl c q)) (ix2 (row r c) q) (by
    rewrite [Shape.rowMajor_val_four, Shape.rowMajor_val_two]
    show (r.val * 128 + c.val) * 2048 + q.val = ((0 * 1 + 0) * 64 + r.val) * 262144 + (c.val * 2048 + q.val)
    omega)
theorem wide (x : FVec Ideal S1x128x262144 .f32) (k c : Fin 128) (q : Fin 2048) :
    shapeCast S128x128x2048 x shapeCasts_S1x128x262144_S128x128x2048 (ix3 k c q) = x (ix3 0 k (fl c q)) :=
  shapeCast_apply _ shapeCasts_S1x128x262144_S128x128x2048 (ix3 k c q) (ix3 0 k (fl c q)) (by
    rewrite [Shape.rowMajor_val_three, Shape.rowMajor_val_three]
    show (0 * 128 + k.val) * 262144 + (c.val * 2048 + q.val) = (k.val * 128 + c.val) * 2048 + q.val
    omega)

/-- The first stage's arrays as the second call finds them. -/
def gR : FVec Ideal S128x128x2048 .f32 := shapeCast S128x128x2048 (stageR (tabF C S) (filt f)) shapeCasts_S1x128x262144_S128x128x2048
def gI : FVec Ideal S128x128x2048 .f32 := shapeCast S128x128x2048 (stageI (tabF C S) (filt f)) shapeCasts_S1x128x262144_S128x128x2048
theorem gR_at (k c : Fin 128) (q : Fin 2048) : gR f C S (ix3 k c q) = aR f C k c q := by
  refine (wide _ k c q).trans ?_
  show stage (tabF C S) (filt f) (lo k) 0 (fl c q) = _
  unfold stage aR
  simp only [tabF_lo, filt_at]
theorem gI_at (k c : Fin 128) (q : Fin 2048) : gI f C S (ix3 k c q) = aI f S k c q := by
  refine (wide _ k c q).trans ?_
  show stage (tabF C S) (filt f) (up k) 0 (fl c q) = _
  unfold stage aI
  simp only [tabF_up, filt_at]

theorem last_R : spArrR (gR f C S) (gI f C S) G H N = resArrR f N C S G H := by
  funext i
  idx_vars i
  show spR (gR f C S) (gI f C S) G H N i0 i1 i2 i3 = resR f N C S G H i0 i1 i2 i3
  unfold spR resR
  simp only [gR_at, gI_at]
theorem last_I : spArrI (gR f C S) (gI f C S) G H N = resArrI f N C S G H := by
  funext i
  idx_vars i
  show spI (gR f C S) (gI f C S) G H N i0 i1 i2 i3 = resI f N C S G H i0 i1 i2 i3
  unfold spI resI
  simp only [gR_at, gI_at]

end join

section run
variable (m : (ℓ : Loc nD τ sig) → Buf (Elt Ideal) ℓ) (ρ : Dev nD → PrngReg) (c : Dev nD)

theorem V1_v3 : V1 m ρ c main_v3 = tabF (m ((c : Thread nD τ).loc main_arg2)) (m ((c : Thread nD τ).loc main_arg3)) := by
  after_reads_simp
  rfl
theorem V1_v4 : V1 m ρ c main_v4 = filt (m ((c : Thread nD τ).loc main_arg0)) := by
  after_reads_simp
  rfl

/-- What the second call finds. -/
theorem V3_v6 : V3 m ρ c main_v6 = gR (m ((c : Thread nD τ).loc main_arg0)) (m ((c : Thread nD τ).loc main_arg2)) (m ((c : Thread nD τ).loc main_arg3)) := by
  have e : V3 m ρ c main_v6 = shapeCast S128x128x2048 (W2 m ρ c (Proc.devRef .tc main_v5_0)) shapeCasts_S1x128x262144_S128x128x2048 := by
    after_reads_simp
    rfl
  rw [e, show W2 m ρ c (Proc.devRef .tc main_v5_0) = (dat0 (V1 m ρ) c).arrAt 2 cfg0.N from W2_arr m ρ c 2, final0R, V1_v3, V1_v4]
  rfl
theorem V3_v7 : V3 m ρ c main_v7 = gI (m ((c : Thread nD τ).loc main_arg0)) (m ((c : Thread nD τ).loc main_arg2)) (m ((c : Thread nD τ).loc main_arg3)) := by
  have e : V3 m ρ c main_v7 = shapeCast S128x128x2048 (W2 m ρ c (Proc.devRef .tc main_v5_1)) shapeCasts_S1x128x262144_S128x128x2048 := by
    after_reads_simp
    rfl
  rw [e, show W2 m ρ c (Proc.devRef .tc main_v5_1) = (dat0 (V1 m ρ) c).arrAt 3 cfg0.N from W2_arr m ρ c 3, final0I, V1_v3, V1_v4]
  rfl
theorem V3_arg1 : V3 m ρ c main_arg1 = m ((c : Thread nD τ).loc main_arg1) := W3_args m ρ c main_arg1 (by decide)
theorem V3_arg4 : V3 m ρ c main_arg4 = m ((c : Thread nD τ).loc main_arg4) := W3_args m ρ c main_arg4 (by decide)
theorem V3_arg5 : V3 m ρ c main_arg5 = m ((c : Thread nD τ).loc main_arg5) := W3_args m ρ c main_arg5 (by decide)

/-- The real result of the program, from its arguments. -/
theorem finalR : (dat1 (V3 m ρ) c).arrAt 8 cfg1.N = resArrR (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) := by
  rw [final1R, V3_v6, V3_v7, V3_arg1, V3_arg4, V3_arg5]
  exact last_R _ _ _ _ _ _
/-- The imaginary one. -/
theorem finalI : (dat1 (V3 m ρ) c).arrAt 9 cfg1.N = resArrI (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) := by
  rw [final1I, V3_v6, V3_v7, V3_arg1, V3_arg4, V3_arg5]
  exact last_I _ _ _ _ _ _

end run

end Cert.Spectrum
-- ==== Proof.Spectrum.Ref.lean ====
module

public import proofs.«01_k».proof.Defs
public import proofs.«01_k».proof.Proof.Spectrum.Final
public import proofs.«01_k».proof.Proof.Gen.Reference13Ideal.Read

set_option maxRecDepth 16384
noncomputable section
@[expose] public section
namespace Cert.Spectrum.Ref
open Cert.Long (dotp lo up)
open Idealize.ShloMosaic
open Cert.Spectrum Cert.Reference13Ideal Cert.Reference13Ideal.Gen Cert.Reference13Ideal.Read
variable (f : FVec Ideal S8192x2048 .f32) (N : FVec Ideal S1x2048 .f32) (C S : FVec Ideal S128x128 .f32) (G H : FVec Ideal S128x128x128 .f32)

/-- The forward direction of the filters. -/
theorem r2 (r : Fin 64) (c : Fin 128) (o : Fin 2) (w : Fin 512) : val_main_v2 (F := Ideal) f (ix4 r c o w) = f (ix2 (row r c) (col o 0 w)) := by
  have h0 : r.val < 64 := r.isLt
  have h1 : c.val < 128 := c.isLt
  have h2 : o.val < 2 := o.isLt
  have h3 : w.val < 512 := w.isLt
  have e1 : idx_main_v1 (idx_main_v2 (ix4 r c o w)) = ix5 r c o 0 w := by
    funext a
    apply Fin.ext
    fin_cases a
    · show (((r.val * 128 + c.val) * 2 + o.val) * 512 + w.val) / 131072 = r.val; omega
    · show (((r.val * 128 + c.val) * 2 + o.val) * 512 + w.val) / 1024 % 128 = c.val; omega
    · show (((r.val * 128 + c.val) * 2 + o.val) * 512 + w.val) / 512 % 2 = o.val; omega
    · rfl
    · show (((r.val * 128 + c.val) * 2 + o.val) * 512 + w.val) % 512 = w.val; omega
  have e0 : idx_main_v0 (ix5 r c o 0 w) = ix2 (row r c) (col o 0 w) := by
    funext a
    apply Fin.ext
    fin_cases a
    · show ((((r.val * 128 + c.val) * 2 + o.val) * 2 + 0) * 512 + w.val) / 2048 = r.val * 128 + c.val; omega
    · show ((((r.val * 128 + c.val) * 2 + o.val) * 2 + 0) * 512 + w.val) % 2048 = (o.val * 2 + 0) * 512 + w.val; omega
  rw [val_main_v2_apply, val_main_v1_apply, e1, val_main_v0_apply, e0]

/-- The backward direction. -/
theorem r4 (r : Fin 64) (c : Fin 128) (o : Fin 2) (w : Fin 512) : val_main_v4 (F := Ideal) f (ix4 r c o w) = f (ix2 (row r c) (col o 1 w)) := by
  have h0 : r.val < 64 := r.isLt
  have h1 : c.val < 128 := c.isLt
  have h2 : o.val < 2 := o.isLt
  have h3 : w.val < 512 := w.isLt
  have e1 : idx_main_v3 (idx_main_v4 (ix4 r c o w)) = ix5 r c o 1 w := by
    funext a
    apply Fin.ext
    fin_cases a
    · show (((r.val * 128 + c.val) * 2 + o.val) * 512 + w.val) / 131072 = r.val; omega
    · show (((r.val * 128 + c.val) * 2 + o.val) * 512 + w.val) / 1024 % 128 = c.val; omega
    · show (((r.val * 128 + c.val) * 2 + o.val) * 512 + w.val) / 512 % 2 = o.val; omega
    · rfl
    · show (((r.val * 128 + c.val) * 2 + o.val) * 512 + w.val) % 512 = w.val; omega
  have e0 : idx_main_v0 (ix5 r c o 1 w) = ix2 (row r c) (col o 1 w) := by
    funext a
    apply Fin.ext
    fin_cases a
    · show ((((r.val * 128 + c.val) * 2 + o.val) * 2 + 1) * 512 + w.val) / 2048 = r.val * 128 + c.val; omega
    · show ((((r.val * 128 + c.val) * 2 + o.val) * 2 + 1) * 512 + w.val) % 2048 = (o.val * 2 + 1) * 512 + w.val; omega
  rw [val_main_v4_apply, val_main_v3_apply, e1, val_main_v0_apply, e0]

/-- The first stage of both directions. -/
theorem r16 (o : Fin 2) (k c : Fin 128) (w : Fin 512) : val_main_v16 (F := Ideal) f C (ix4 o k c w) = aR f C k c (col o 0 w) := by
  have e : idx_main_v16 (ix4 o k c w) = ix4 c o w k := by funext a; fin_cases a <;> rfl
  rw [val_main_v16_apply, e, val_main_v15_apply]
  unfold aR dotp
  refine Finset.sum_congr rfl fun r _ => ?_
  have e1 : lidx_main_v15 (ix4 c o w k) r = ix4 r c o w := by funext a; fin_cases a <;> rfl
  have e2 : idx_main_v14 (ridx_main_v15 (ix4 c o w k) r) = ix2 k (low r) := by funext a; fin_cases a <;> rfl
  rw [e1, r2, val_main_v14_apply, e2, mul_comm]
theorem r20 (o : Fin 2) (k c : Fin 128) (w : Fin 512) : val_main_v20 (F := Ideal) f S (ix4 o k c w) = aI f S k c (col o 0 w) := by
  have e : idx_main_v20 (ix4 o k c w) = ix4 c o w k := by funext a; fin_cases a <;> rfl
  rw [val_main_v20_apply, e, val_main_v19_apply]
  unfold aI dotp
  refine Finset.sum_congr rfl fun r _ => ?_
  have e1 : lidx_main_v19 (ix4 c o w k) r = ix4 r c o w := by funext a; fin_cases a <;> rfl
  have e2 : idx_main_v18 (ridx_main_v19 (ix4 c o w k) r) = ix2 k (low r) := by funext a; fin_cases a <;> rfl
  rw [e1, r2, val_main_v18_apply, e2, val_main_v17_apply, mul_comm]
  rfl
theorem r23 (o : Fin 2) (k c : Fin 128) (w : Fin 512) : val_main_v23 (F := Ideal) f C (ix4 o k c w) = aR f C k c (col o 1 w) := by
  have e : idx_main_v23 (ix4 o k c w) = ix4 c o w k := by funext a; fin_cases a <;> rfl
  rw [val_main_v23_apply, e, val_main_v22_apply]
  unfold aR dotp
  refine Finset.sum_congr rfl fun r _ => ?_
  have e1 : lidx_main_v22 (ix4 c o w k) r = ix4 r c o w := by funext a; fin_cases a <;> rfl
  have e2 : idx_main_v21 (ridx_main_v22 (ix4 c o w k) r) = ix2 k (low r) := by funext a; fin_cases a <;> rfl
  rw [e1, r4, val_main_v21_apply, e2, mul_comm]
theorem r27 (o : Fin 2) (k c : Fin 128) (w : Fin 512) : val_main_v27 (F := Ideal) f S (ix4 o k c w) = aI f S k c (col o 1 w) := by
  have e : idx_main_v27 (ix4 o k c w) = ix4 c o w k := by funext a; fin_cases a <;> rfl
  rw [val_main_v27_apply, e, val_main_v26_apply]
  unfold aI dotp
  refine Finset.sum_congr rfl fun r _ => ?_
  have e1 : lidx_main_v26 (ix4 c o w k) r = ix4 r c o w := by funext a; fin_cases a <;> rfl
  have e2 : idx_main_v25 (ridx_main_v26 (ix4 c o w k) r) = ix2 k (low r) := by funext a; fin_cases a <;> rfl
  rw [e1, r4, val_main_v25_apply, e2, val_main_v24_apply, mul_comm]
  rfl

/-- The norms of the two directions. -/
theorem r7 (o : Fin 2) (w : Fin 512) : val_main_v7 (F := Ideal) N (ix2 o w) = N (ix2 0 (col o 0 w)) := by
  have h2 : o.val < 2 := o.isLt
  have h3 : w.val < 512 := w.isLt
  have e1 : idx_main_v6 (idx_main_v7 (ix2 o w)) = ix3 o 0 w := by
    funext a
    apply Fin.ext
    fin_cases a
    · show (o.val * 512 + w.val) / 512 = o.val; omega
    · rfl
    · show (o.val * 512 + w.val) % 512 = w.val; omega
  have e0 : idx_main_v5 (ix3 o 0 w) = ix2 0 (col o 0 w) := by
    funext a
    apply Fin.ext
    fin_cases a
    · rfl
    · show ((o.val * 2 + 0) * 512 + w.val) % 2048 = (o.val * 2 + 0) * 512 + w.val; omega
  rw [val_main_v7_apply, val_main_v6_apply, e1, val_main_v5_apply, e0]
theorem r9 (o : Fin 2) (w : Fin 512) : val_main_v9 (F := Ideal) N (ix2 o w) = N (ix2 0 (col o 1 w)) := by
  have h2 : o.val < 2 := o.isLt
  have h3 : w.val < 512 := w.isLt
  have e1 : idx_main_v8 (idx_main_v9 (ix2 o w)) = ix3 o 1 w := by
    funext a
    apply Fin.ext
    fin_cases a
    · show (o.val * 512 + w.val) / 512 = o.val; omega
    · rfl
    · show (o.val * 512 + w.val) % 512 = w.val; omega
  have e0 : idx_main_v5 (ix3 o 1 w) = ix2 0 (col o 1 w) := by
    funext a
    apply Fin.ext
    fin_cases a
    · rfl
    · show ((o.val * 2 + 1) * 512 + w.val) % 2048 = (o.val * 2 + 1) * 512 + w.val; omega
  rw [val_main_v9_apply, val_main_v8_apply, e1, val_main_v5_apply, e0]
/-- The reciprocal of their sum. -/
theorem r12 (o : Fin 2) (w : Fin 512) : val_main_v12 (F := Ideal) N (ix2 o w) = recip (N (ix2 0 (col o 0 w))) (N (ix2 0 (col o 1 w))) := by
  rw [val_main_v12_apply, val_main_v10_apply, val_main_v11_apply, r7, r9]
  rfl
theorem r35 (o : Fin 2) (k m : Fin 128) (w : Fin 512) :
    val_main_v35 (F := Ideal) N (ix4 o k m w) = recip (N (ix2 0 (col o 0 w))) (N (ix2 0 (col o 1 w))) := by
  have e : idx_main_v13 (idx_main_v35 (ix4 o k m w)) = ix2 o w := by funext a; fin_cases a <;> rfl
  rw [val_main_v35_apply, val_main_v13_apply, e, r12]
theorem r44 (o : Fin 2) (k m : Fin 128) (w : Fin 512) :
    val_main_v44 (F := Ideal) N (ix4 o k m w) = recip (N (ix2 0 (col o 0 w))) (N (ix2 0 (col o 1 w))) := by
  have e : idx_main_v13 (idx_main_v44 (ix4 o k m w)) = ix2 o w := by funext a; fin_cases a <;> rfl
  rw [val_main_v44_apply, val_main_v13_apply, e, r12]

/-- The four products. -/
theorem r30 (o : Fin 2) (k m : Fin 128) (w : Fin 512) :
    val_main_v30 (F := Ideal) f C G (ix4 o k m w) = dotp (fun c => G (ix3 k m c)) (fun c => aR f C k c (col o 0 w) + aR f C k c (col o 1 w)) := by
  have e : idx_main_v30 (ix4 o k m w) = ix4 k o w m := by funext a; fin_cases a <;> rfl
  rw [val_main_v30_apply, e, val_main_v29_apply]
  refine Finset.sum_congr rfl fun c _ => ?_
  have e1 : lidx_main_v29 (ix4 k o w m) c = ix4 o k c w := by funext a; fin_cases a <;> rfl
  have e2 : ridx_main_v29 (ix4 k o w m) c = ix3 k m c := by funext a; fin_cases a <;> rfl
  rw [e1, e2, val_main_v28_apply, r16, r23, mul_comm]
  rfl
theorem r33 (o : Fin 2) (k m : Fin 128) (w : Fin 512) :
    val_main_v33 (F := Ideal) f S H (ix4 o k m w) = dotp (fun c => H (ix3 k m c)) (fun c => aI f S k c (col o 0 w) + aI f S k c (col o 1 w)) := by
  have e : idx_main_v33 (ix4 o k m w) = ix4 k o w m := by funext a; fin_cases a <;> rfl
  rw [val_main_v33_apply, e, val_main_v32_apply]
  refine Finset.sum_congr rfl fun c _ => ?_
  have e1 : lidx_main_v32 (ix4 k o w m) c = ix4 o k c w := by funext a; fin_cases a <;> rfl
  have e2 : ridx_main_v32 (ix4 k o w m) c = ix3 k m c := by funext a; fin_cases a <;> rfl
  rw [e1, e2, val_main_v31_apply, r20, r27, mul_comm]
  rfl
theorem r39 (o : Fin 2) (k m : Fin 128) (w : Fin 512) :
    val_main_v39 (F := Ideal) f S G (ix4 o k m w) = dotp (fun c => G (ix3 k m c)) (fun c => aI f S k c (col o 0 w) - aI f S k c (col o 1 w)) := by
  have e : idx_main_v39 (ix4 o k m w) = ix4 k o w m := by funext a; fin_cases a <;> rfl
  rw [val_main_v39_apply, e, val_main_v38_apply]
  refine Finset.sum_congr rfl fun c _ => ?_
  have e1 : lidx_main_v38 (ix4 k o w m) c = ix4 o k c w := by funext a; fin_cases a <;> rfl
  have e2 : ridx_main_v38 (ix4 k o w m) c = ix3 k m c := by funext a; fin_cases a <;> rfl
  rw [e1, e2, val_main_v37_apply, r20, r27, mul_comm]
  rfl
theorem r42 (o : Fin 2) (k m : Fin 128) (w : Fin 512) :
    val_main_v42 (F := Ideal) f C H (ix4 o k m w) = dotp (fun c => H (ix3 k m c)) (fun c => aR f C k c (col o 0 w) - aR f C k c (col o 1 w)) := by
  have e : idx_main_v42 (ix4 o k m w) = ix4 k o w m := by funext a; fin_cases a <;> rfl
  rw [val_main_v42_apply, e, val_main_v41_apply]
  refine Finset.sum_congr rfl fun c _ => ?_
  have e1 : lidx_main_v41 (ix4 k o w m) c = ix4 o k c w := by funext a; fin_cases a <;> rfl
  have e2 : ridx_main_v41 (ix4 k o w m) c = ix3 k m c := by funext a; fin_cases a <;> rfl
  rw [e1, e2, val_main_v40_apply, r16, r23, mul_comm]
  rfl

/-- The reference's two arrays. -/
theorem refR_eq : val_main_v36 (F := Ideal) f N C S G H = resArrR f N C S G H := by
  funext i
  idx_vars i
  rw [val_main_v36_apply, val_main_v34_apply, r30, r33, r35]
  rfl
theorem refI_eq : val_main_v45 (F := Ideal) f N C S G H = resArrI f N C S G H := by
  funext i
  idx_vars i
  rw [val_main_v45_apply, val_main_v43_apply, r39, r42, r44]
  rfl

end Cert.Spectrum.Ref
-- ==== Proof.Spectrum.Claims.lean ====
/- The spectrum of the long convolution's filters: the claims. -/
module

public import proofs.«01_k».proof.Defs
public import proofs.«01_k».proof.Proof.Spectrum.Run
public import proofs.«01_k».proof.Proof.Spectrum.Ref

set_option maxRecDepth 16384
noncomputable section
@[expose] public section
namespace Cert.Spectrum
open Cert.Long (dotp lo up)
open Cert.Kernel13Ideal Cert.Kernel13Ideal.Gen Idealize.ShloMosaic Idealize.ShloMosaic.TcCoe Idealize.SL.Sem

/-- The reference's frame. -/
theorem frame_ref : Cert.quiescent_Reference13Ideal := fun m ρ _ =>
  (θ_run Cert.Reference13Ideal.defs _ _).mono (fun r h => ⟨fun c => (h c).2.2, sem_eq_zero_of_no_sems (by decide) r.2⟩)
    (Cert.Reference13Ideal.Value.run (F := Ideal) m ρ)

/-- The spectrum: the kernel and the reference leave the same two arrays. -/
theorem algebraic : Cert.algebraic_Kernel13Ideal_Reference13Ideal := by
  intro m g m' g' _ hargs
  refine ⟨fun c => (dat1 (V3 m g) c).arrAt 8 cfg1.N, fun c => (dat1 (V3 m g) c).arrAt 9 cfg1.N, run (F := Ideal) m g, ?_⟩
  refine (θ_run Cert.Reference13Ideal.defs _ _).mono (fun r h c => ⟨(h c).1.trans ?_, (h c).2.1.trans ?_, (h c).2.2⟩)
    (Cert.Reference13Ideal.Value.run (F := Ideal) m' g')
  · obtain ⟨e0, e1, e2, e3, e4, e5⟩ := hargs c
    rw [Cert.Reference13Ideal.Read.val_main_v36_eq, e0, e1, e2, e3, e4, e5]
    exact (Ref.refR_eq _ _ _ _ _ _).trans (finalR m g c).symm
  · obtain ⟨e0, e1, e2, e3, e4, e5⟩ := hargs c
    rw [Cert.Reference13Ideal.Read.val_main_v45_eq, e0, e1, e2, e3, e4, e5]
    exact (Ref.refI_eq _ _ _ _ _ _).trans (finalI m g c).symm

end Cert.Spectrum
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Reference13Ideal.Run
public import proofs.«01_k».proof.Proof.Gen.Reference13Ideal.Read
public import proofs.«01_k».proof.Proof.Gen.Pre_finite_args
public import proofs.«01_k».proof.Proof.Attn.Claims
public import proofs.«01_k».proof.Proof.Proj.Claims
public import proofs.«01_k».proof.Proof.Expert.Claims
public import proofs.«01_k».proof.Proof.Merge.Claims
public import proofs.«01_k».proof.Proof.Norm.Claims
public import proofs.«01_k».proof.Proof.Mem.Claims
public import proofs.«01_k».proof.Proof.Router.Claims
public import proofs.«01_k».proof.Proof.Rope.Claims
public import proofs.«01_k».proof.Proof.Short.Claims
public import proofs.«01_k».proof.Proof.InNorm.Claims
public import proofs.«01_k».proof.Proof.Long.Claims
public import proofs.«01_k».proof.Proof.Long2.Claims
public import proofs.«01_k».proof.Proof.Spectrum.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Pre_finite_args.Gen.facts,
  fun m ρ _ => Cert.Kernel.Gen.frame m ρ, fun m ρ _ => Cert.KernelIdeal.Gen.frame m ρ, fun m ρ _ => Cert.KernelIdeal.Gen.frame m ρ,
  Cert.Attn.frame_ref, fun m ρ _ => Cert.Attn.frame_ref m ρ trivial,
  fun m ρ _ => Cert.Kernel2.Gen.frame m ρ, fun m ρ _ => Cert.Kernel2Ideal.Gen.frame m ρ, Cert.Proj.frame_ref,
  fun m ρ _ => Cert.Kernel3.Gen.frame m ρ, fun m ρ _ => Cert.Kernel3Ideal.Gen.frame m ρ, Cert.Expert.frame_ref,
  fun m ρ _ => Cert.Kernel4.Gen.frame m ρ, fun m ρ _ => Cert.Kernel4Ideal.Gen.frame m ρ, Cert.Merge.frame_ref,
  fun m ρ _ => Cert.Kernel5.Gen.frame m ρ, fun m ρ _ => Cert.Kernel5Ideal.Gen.frame m ρ, Cert.Norm.frame_ref,
  fun m ρ _ => Cert.Kernel6.Gen.frame m ρ, fun m ρ _ => Cert.Kernel6Ideal.Gen.frame m ρ, Cert.Mem.frame_ref,
  fun m ρ _ => Cert.Kernel7.Gen.frame m ρ, fun m ρ _ => Cert.Kernel7Ideal.Gen.frame m ρ, Cert.Router.frame_ref,
  fun m ρ _ => Cert.Kernel8.Gen.frame m ρ, fun m ρ _ => Cert.Kernel8Ideal.Gen.frame m ρ, Cert.Rope.frame_ref,
  fun m ρ _ => Cert.Kernel9.Gen.frame m ρ, fun m ρ _ => Cert.Kernel9Ideal.Gen.frame m ρ, Cert.Short.frame_ref,
  fun m ρ _ => Cert.Kernel10.Gen.frame m ρ, fun m ρ _ => Cert.Kernel10Ideal.Gen.frame m ρ, Cert.InNorm.frame_ref,
  fun m ρ _ => Cert.Kernel11.Gen.frame m ρ, fun m ρ _ => Cert.Kernel11Ideal.Gen.frame m ρ, Cert.Long.frame_ref,
  fun m ρ _ => Cert.Kernel12.Gen.frame m ρ, fun m ρ _ => Cert.Kernel12Ideal.Gen.frame m ρ, Cert.Long2.frame_ref,
  fun m ρ _ => Cert.Kernel13.Gen.frame m ρ, fun m ρ _ => Cert.Kernel13Ideal.Gen.frame m ρ, Cert.Spectrum.frame_ref,
  trivial, Cert.Attn.algebraic,
  trivial, Cert.Proj.algebraic,
  trivial, Cert.Expert.algebraic,
  trivial, Cert.Merge.algebraic,
  trivial, Cert.Norm.algebraic,
  trivial, Cert.Mem.algebraic,
  trivial, Cert.Router.algebraic,
  trivial, Cert.Rope.algebraic,
  trivial, Cert.Short.algebraic,
  trivial, Cert.InNorm.algebraic,
  trivial, Cert.Long.algebraic,
  trivial, Cert.Long2.algebraic,
  trivial, Cert.Spectrum.algebraic⟩

end Cert.Proof

end
